-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S1024x256 : Shape := ⟨2, ![1024, 256]⟩
abbrev S100000x128 : Shape := ⟨2, ![100000, 128]⟩
abbrev S256x128 : Shape := ⟨2, ![256, 128]⟩
abbrev S2x128 : Shape := ⟨2, ![2, 128]⟩
abbrev S128 : Shape := ⟨1, ![128]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel

variable [Facts]

def fn {F : FTy → Type} [FloatOps F] (main_arg0 : IVec S1024x256 32) (main_arg1 : IVec S1024x256 32) (main_arg2 : FVec F S100000x128 .f32) (main_arg3 : FVec F S256x128 .f32) (main_arg4 : FVec F S2x128 .f32) (main_arg5 : FVec F S128 .f32) (main_arg6 : FVec F S128 .f32) : IVec S_ 1 :=
  let main_c : IVec S_ 32 := constantI S_ 32 0#32
  let main_v0 : IVec S1024x256 32 := broadcastInDim S1024x256 ![] bcast_S_S1024x256 main_c
  let main_v1 : IVec S1024x256 1 := cmpi .sge main_arg0 main_v0
  let main_c_0 : IVec S_ 32 := constantI S_ 32 100000#32
  let main_v2 : IVec S1024x256 32 := broadcastInDim S1024x256 ![] bcast_S_S1024x256 main_c_0
  let main_v3 : IVec S1024x256 1 := cmpi .slt main_arg0 main_v2
  let main_v4 : IVec S1024x256 1 := andi main_v1 main_v3
  let main_c_1 : IVec S_ 1 := constantI S_ 1 1#1
  let main_v5 : IVec S_ 1 := (fun x v => Host.reduce IntOp.andi x v reducesTo_S1024x256_S_d0_1 h_S_) main_v4 main_c_1
  let main_c_2 : IVec S_ 32 := constantI S_ 32 0#32
  let main_v6 : IVec S1024x256 32 := broadcastInDim S1024x256 ![] bcast_S_S1024x256 main_c_2
  let main_v7 : IVec S1024x256 1 := cmpi .sge main_arg1 main_v6
  let main_c_3 : IVec S_ 32 := constantI S_ 32 2#32
  let main_v8 : IVec S1024x256 32 := broadcastInDim S1024x256 ![] bcast_S_S1024x256 main_c_3
  let main_v9 : IVec S1024x256 1 := cmpi .slt main_arg1 main_v8
  let main_v10 : IVec S1024x256 1 := andi main_v7 main_v9
  let main_c_4 : IVec S_ 1 := constantI S_ 1 1#1
  let main_v11 : IVec S_ 1 := (fun x v => Host.reduce IntOp.andi x v reducesTo_S1024x256_S_d0_1 h_S_) main_v10 main_c_4
  let main_v12 : IVec S_ 1 := andi main_v5 main_v11
  main_v12
-- ==== Pre_in_range_finite.lean ====
abbrev S1024x256 : Shape := ⟨2, ![1024, 256]⟩
abbrev S100000x128 : Shape := ⟨2, ![100000, 128]⟩
abbrev S256x128 : Shape := ⟨2, ![256, 128]⟩
abbrev S2x128 : Shape := ⟨2, ![2, 128]⟩
abbrev S128 : Shape := ⟨1, ![128]⟩
abbrev S_ : Shape := ⟨0, ![]⟩
abbrev S1x128 : Shape := ⟨2, ![1, 128]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  slices_S2x128_S1x128_0_0 : S2x128.Slices ![0, 0] S1x128
  shapeCasts_S1x128_S128 : S1x128.ShapeCasts S128
  bcast_S_S128 : S_.BroadcastsInDim S128 (![] : Fin 0 → Fin S128.rank)
  reducesTo_S128_S_d0 : S128.ReducesTo [0] S_

variable [Facts]

def fn_part1 {F : FTy → Type} [FloatOps F] (main_v12 : IVec S_ 1) (main_v15 : FVec F S128 .f32) (main_v16 : FVec F S128 .f32) : IVec S_ 1 :=
  let main_v17 : IVec S128 1 := cmpf .olt main_v15 main_v16
  let main_c_5 : IVec S_ 1 := constantI S_ 1 1#1
  let main_v18 : IVec S_ 1 := (fun x v => Host.reduce IntOp.andi x v reducesTo_S128_S_d0 h_S_) main_v17 main_c_5
  let main_v19 : IVec S_ 1 := andi main_v12 main_v18
  main_v19

def fn {F : FTy → Type} [FloatOps F] (main_arg0 : IVec S1024x256 32) (main_arg1 : IVec S1024x256 32) (main_arg2 : FVec F S100000x128 .f32) (main_arg3 : FVec F S256x128 .f32) (main_arg4 : FVec F S2x128 .f32) (main_arg5 : FVec F S128 .f32) (main_arg6 : FVec F S128 .f32) : IVec S_ 1 :=
  let main_c : IVec S_ 32 := constantI S_ 32 0#32
  let main_v0 : IVec S1024x256 32 := broadcastInDim S1024x256 ![] bcast_S_S1024x256 main_c
  let main_v1 : IVec S1024x256 1 := cmpi .sge main_arg0 main_v0
  let main_c_0 : IVec S_ 32 := constantI S_ 32 100000#32
  let main_v2 : IVec S1024x256 32 := broadcastInDim S1024x256 ![] bcast_S_S1024x256 main_c_0
  let main_v3 : IVec S1024x256 1 := cmpi .slt main_arg0 main_v2
  let main_v4 : IVec S1024x256 1 := andi main_v1 main_v3
  let main_c_1 : IVec S_ 1 := constantI S_ 1 1#1
  let main_v5 : IVec S_ 1 := (fun x v => Host.reduce IntOp.andi x v reducesTo_S1024x256_S_d0_1 h_S_) main_v4 main_c_1
  let main_c_2 : IVec S_ 32 := constantI S_ 32 0#32
  let main_v6 : IVec S1024x256 32 := broadcastInDim S1024x256 ![] bcast_S_S1024x256 main_c_2
  let main_v7 : IVec S1024x256 1 := cmpi .sge main_arg1 main_v6
  let main_c_3 : IVec S_ 32 := constantI S_ 32 2#32
  let main_v8 : IVec S1024x256 32 := broadcastInDim S1024x256 ![] bcast_S_S1024x256 main_c_3
  let main_v9 : IVec S1024x256 1 := cmpi .slt main_arg1 main_v8
  let main_v10 : IVec S1024x256 1 := andi main_v7 main_v9
  let main_c_4 : IVec S_ 1 := constantI S_ 1 1#1
  let main_v11 : IVec S_ 1 := (fun x v => Host.reduce IntOp.andi x v reducesTo_S1024x256_S_d0_1 h_S_) main_v10 main_c_4
  let main_v12 : IVec S_ 1 := andi main_v5 main_v11
  let main_v13 : FVec F S1x128 .f32 := (extractStridedSlice S1x128 ![0, 0] · slices_S2x128_S1x128_0_0) main_arg4
  let main_v14 : FVec F S128 .f32 := shapeCast S128 main_v13 shapeCasts_S1x128_S128
  let main_v15 : FVec F S128 .f32 := Host.absf main_v14
  let main_cst : FVec F S_ .f32 := constant S_ .f32 0x7F800000#32
  let main_v16 : FVec F S128 .f32 := broadcastInDim S128 ![] bcast_S_S128 main_cst
  fn_part1 (F := F) main_v12 main_v15 main_v16
-- ==== Kernel.lean ====
abbrev S1024x256 : Shape := ⟨2, ![1024, 256]⟩
abbrev S100000x128 : Shape := ⟨2, ![100000, 128]⟩
abbrev S256x128 : Shape := ⟨2, ![256, 128]⟩
abbrev S2x128 : Shape := ⟨2, ![2, 128]⟩
abbrev S128 : Shape := ⟨1, ![128]⟩
abbrev S262144 : Shape := ⟨1, ![262144]⟩
abbrev S1x128 : Shape := ⟨2, ![1, 128]⟩
abbrev S_ : Shape := ⟨0, ![]⟩
abbrev S32768 : Shape := ⟨1, ![32768]⟩
abbrev S128x256 : Shape := ⟨2, ![128, 256]⟩
abbrev S1x32768 : Shape := ⟨2, ![1, 32768]⟩
abbrev S32768x128 : Shape := ⟨2, ![32768, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1 : Shape := ⟨1, ![1]⟩
abbrev S1x128x128 : Shape := ⟨3, ![1, 128, 128]⟩
abbrev S128x128 : Shape := ⟨2, ![128, 128]⟩
abbrev S128x256x128 : Shape := ⟨3, ![128, 256, 128]⟩
abbrev S1024x256x128 : Shape := ⟨3, ![1024, 256, 128]⟩
abbrev S8x256x128 : Shape := ⟨3, ![8, 256, 128]⟩
abbrev S8x256 : Shape := ⟨2, ![8, 256]⟩
abbrev S8x256x1 : Shape := ⟨3, ![8, 256, 1]⟩
abbrev S1x256x128 : Shape := ⟨3, ![1, 256, 128]⟩

abbrev nBuf : Table → Nat
  | .hbm => 82
  | .local .tc .vmem => 80
  | .local .scVector .vmem => 16
  | _ => 0

abbrev bufTy : (tb : Table) → Fin (nBuf tb) → BufTy
  | .hbm, ⟨0, _⟩ => ⟨S1024x256, .i32⟩
  | .hbm, ⟨1, _⟩ => ⟨S1024x256, .i32⟩
  | .hbm, ⟨2, _⟩ => ⟨S100000x128, .f32⟩
  | .hbm, ⟨3, _⟩ => ⟨S256x128, .f32⟩
  | .hbm, ⟨4, _⟩ => ⟨S2x128, .f32⟩
  | .hbm, ⟨5, _⟩ => ⟨S128, .f32⟩
  | .hbm, ⟨6, _⟩ => ⟨S128, .f32⟩
  | .hbm, ⟨7, _⟩ => ⟨S262144, .i32⟩
  | .hbm, ⟨8, _⟩ => ⟨S1x128, .f32⟩
  | .hbm, ⟨9, _⟩ => ⟨S1x128, .f32⟩
  | .hbm, ⟨10, _⟩ => ⟨S_, .i32⟩
  | .hbm, ⟨11, _⟩ => ⟨S32768, .i32⟩
  | .hbm, ⟨12, _⟩ => ⟨S_, .i32⟩
  | .hbm, ⟨13, _⟩ => ⟨S_, .i32⟩
  | .hbm, ⟨14, _⟩ => ⟨S128x256, .i32⟩
  | .hbm, ⟨15, _⟩ => ⟨S1x32768, .i32⟩
  | .hbm, ⟨16, _⟩ => ⟨S32768x128, .f32⟩
  | .hbm, ⟨17, _⟩ => ⟨S128x256x128, .f32⟩
  | .hbm, ⟨18, _⟩ => ⟨S1024x256x128, .f32⟩
  | .hbm, ⟨19, _⟩ => ⟨S_, .i32⟩
  | .hbm, ⟨20, _⟩ => ⟨S32768, .i32⟩
  | .hbm, ⟨21, _⟩ => ⟨S_, .i32⟩
  | .hbm, ⟨22, _⟩ => ⟨S_, .i32⟩
  | .hbm, ⟨23, _⟩ => ⟨S128x256, .i32⟩
  | .hbm, ⟨24, _⟩ => ⟨S1x32768, .i32⟩
  | .hbm, ⟨25, _⟩ => ⟨S32768x128, .f32⟩
  | .hbm, ⟨26, _⟩ => ⟨S128x256x128, .f32⟩
  | .hbm, ⟨27, _⟩ => ⟨S1024x256x128, .f32⟩
  | .hbm, ⟨28, _⟩ => ⟨S_, .i32⟩
  | .hbm, ⟨29, _⟩ => ⟨S32768, .i32⟩
  | .hbm, ⟨30, _⟩ => ⟨S_, .i32⟩
  | .hbm, ⟨31, _⟩ => ⟨S_, .i32⟩
  | .hbm, ⟨32, _⟩ => ⟨S128x256, .i32⟩
  | .hbm, ⟨33, _⟩ => ⟨S1x32768, .i32⟩
  | .hbm, ⟨34, _⟩ => ⟨S32768x128, .f32⟩
  | .hbm, ⟨35, _⟩ => ⟨S128x256x128, .f32⟩
  | .hbm, ⟨36, _⟩ => ⟨S1024x256x128, .f32⟩
  | .hbm, ⟨37, _⟩ => ⟨S_, .i32⟩
  | .hbm, ⟨38, _⟩ => ⟨S32768, .i32⟩
  | .hbm, ⟨39, _⟩ => ⟨S_, .i32⟩
  | .hbm, ⟨40, _⟩ => ⟨S_, .i32⟩
  | .hbm, ⟨41, _⟩ => ⟨S128x256, .i32⟩
  | .hbm, ⟨42, _⟩ => ⟨S1x32768, .i32⟩
  | .hbm, ⟨43, _⟩ => ⟨S32768x128, .f32⟩
  | .hbm, ⟨44, _⟩ => ⟨S128x256x128, .f32⟩
  | .hbm, ⟨45, _⟩ => ⟨S1024x256x128, .f32⟩
  | .hbm, ⟨46, _⟩ => ⟨S_, .i32⟩
  | .hbm, ⟨47, _⟩ => ⟨S32768, .i32⟩
  | .hbm, ⟨48, _⟩ => ⟨S_, .i32⟩
  | .hbm, ⟨49, _⟩ => ⟨S_, .i32⟩
  | .hbm, ⟨50, _⟩ => ⟨S128x256, .i32⟩
  | .hbm, ⟨51, _⟩ => ⟨S1x32768, .i32⟩
  | .hbm, ⟨52, _⟩ => ⟨S32768x128, .f32⟩
  | .hbm, ⟨53, _⟩ => ⟨S128x256x128, .f32⟩
  | .hbm, ⟨54, _⟩ => ⟨S1024x256x128, .f32⟩
  | .hbm, ⟨55, _⟩ => ⟨S_, .i32⟩
  | .hbm, ⟨56, _⟩ => ⟨S32768, .i32⟩
  | .hbm, ⟨57, _⟩ => ⟨S_, .i32⟩
  | .hbm, ⟨58, _⟩ => ⟨S_, .i32⟩
  | .hbm, ⟨59, _⟩ => ⟨S128x256, .i32⟩
  | .hbm, ⟨60, _⟩ => ⟨S1x32768, .i32⟩
  | .hbm, ⟨61, _⟩ => ⟨S32768x128, .f32⟩
  | .hbm, ⟨62, _⟩ => ⟨S128x256x128, .f32⟩
  | .hbm, ⟨63, _⟩ => ⟨S1024x256x128, .f32⟩
  | .hbm, ⟨64, _⟩ => ⟨S_, .i32⟩
  | .hbm, ⟨65, _⟩ => ⟨S32768, .i32⟩
  | .hbm, ⟨66, _⟩ => ⟨S_, .i32⟩
  | .hbm, ⟨67, _⟩ => ⟨S_, .i32⟩
  | .hbm, ⟨68, _⟩ => ⟨S128x256, .i32⟩
  | .hbm, ⟨69, _⟩ => ⟨S1x32768, .i32⟩
  | .hbm, ⟨70, _⟩ => ⟨S32768x128, .f32⟩
  | .hbm, ⟨71, _⟩ => ⟨S128x256x128, .f32⟩
  | .hbm, ⟨72, _⟩ => ⟨S1024x256x128, .f32⟩
  | .hbm, ⟨73, _⟩ => ⟨S_, .i32⟩
  | .hbm, ⟨74, _⟩ => ⟨S32768, .i32⟩
  | .hbm, ⟨75, _⟩ => ⟨S_, .i32⟩
  | .hbm, ⟨76, _⟩ => ⟨S_, .i32⟩
  | .hbm, ⟨77, _⟩ => ⟨S128x256, .i32⟩
  | .hbm, ⟨78, _⟩ => ⟨S1x32768, .i32⟩
  | .hbm, ⟨79, _⟩ => ⟨S32768x128, .f32⟩
  | .hbm, ⟨80, _⟩ => ⟨S128x256x128, .f32⟩
  | .hbm, ⟨81, _⟩ => ⟨S1024x256x128, .f32⟩
  | .local .tc .vmem, ⟨0, _⟩ => ⟨S8x256x128, .f32⟩
  | .local .tc .vmem, ⟨1, _⟩ => ⟨S8x256x128, .f32⟩
  | .local .tc .vmem, ⟨2, _⟩ => ⟨S8x256, .i32⟩
  | .local .tc .vmem, ⟨3, _⟩ => ⟨S8x256, .i32⟩
  | .local .tc .vmem, ⟨4, _⟩ => ⟨S256x128, .f32⟩
  | .local .tc .vmem, ⟨5, _⟩ => ⟨S2x128, .f32⟩
  | .local .tc .vmem, ⟨6, _⟩ => ⟨S1x128, .f32⟩
  | .local .tc .vmem, ⟨7, _⟩ => ⟨S1x128, .f32⟩
  | .local .tc .vmem, ⟨8, _⟩ => ⟨S8x256x128, .f32⟩
  | .local .tc .vmem, ⟨9, _⟩ => ⟨S8x256x128, .f32⟩
  | .local .tc .vmem, ⟨10, _⟩ => ⟨S8x256x128, .f32⟩
  | .local .tc .vmem, ⟨11, _⟩ => ⟨S8x256x128, .f32⟩
  | .local .tc .vmem, ⟨12, _⟩ => ⟨S8x256, .i32⟩
  | .local .tc .vmem, ⟨13, _⟩ => ⟨S8x256, .i32⟩
  | .local .tc .vmem, ⟨14, _⟩ => ⟨S256x128, .f32⟩
  | .local .tc .vmem, ⟨15, _⟩ => ⟨S2x128, .f32⟩
  | .local .tc .vmem, ⟨16, _⟩ => ⟨S1x128, .f32⟩
  | .local .tc .vmem, ⟨17, _⟩ => ⟨S1x128, .f32⟩
  | .local .tc .vmem, ⟨18, _⟩ => ⟨S8x256x128, .f32⟩
  | .local .tc .vmem, ⟨19, _⟩ => ⟨S8x256x128, .f32⟩
  | .local .tc .vmem, ⟨20, _⟩ => ⟨S8x256x128, .f32⟩
  | .local .tc .vmem, ⟨21, _⟩ => ⟨S8x256x128, .f32⟩
  | .local .tc .vmem, ⟨22, _⟩ => ⟨S8x256, .i32⟩
  | .local .tc .vmem, ⟨23, _⟩ => ⟨S8x256, .i32⟩
  | .local .tc .vmem, ⟨24, _⟩ => ⟨S256x128, .f32⟩
  | .local .tc .vmem, ⟨25, _⟩ => ⟨S2x128, .f32⟩
  | .local .tc .vmem, ⟨26, _⟩ => ⟨S1x128, .f32⟩
  | .local .tc .vmem, ⟨27, _⟩ => ⟨S1x128, .f32⟩
  | .local .tc .vmem, ⟨28, _⟩ => ⟨S8x256x128, .f32⟩
  | .local .tc .vmem, ⟨29, _⟩ => ⟨S8x256x128, .f32⟩
  | .local .tc .vmem, ⟨30, _⟩ => ⟨S8x256x128, .f32⟩
  | .local .tc .vmem, ⟨31, _⟩ => ⟨S8x256x128, .f32⟩
  | .local .tc .vmem, ⟨32, _⟩ => ⟨S8x256, .i32⟩
  | .local .tc .vmem, ⟨33, _⟩ => ⟨S8x256, .i32⟩
  | .local .tc .vmem, ⟨34, _⟩ => ⟨S256x128, .f32⟩
  | .local .tc .vmem, ⟨35, _⟩ => ⟨S2x128, .f32⟩
  | .local .tc .vmem, ⟨36, _⟩ => ⟨S1x128, .f32⟩
  | .local .tc .vmem, ⟨37, _⟩ => ⟨S1x128, .f32⟩
  | .local .tc .vmem, ⟨38, _⟩ => ⟨S8x256x128, .f32⟩
  | .local .tc .vmem, ⟨39, _⟩ => ⟨S8x256x128, .f32⟩
  | .local .tc .vmem, ⟨40, _⟩ => ⟨S8x256x128, .f32⟩
  | .local .tc .vmem, ⟨41, _⟩ => ⟨S8x256x128, .f32⟩
  | .local .tc .vmem, ⟨42, _⟩ => ⟨S8x256, .i32⟩
  | .local .tc .vmem, ⟨43, _⟩ => ⟨S8x256, .i32⟩
  | .local .tc .vmem, ⟨44, _⟩ => ⟨S256x128, .f32⟩
  | .local .tc .vmem, ⟨45, _⟩ => ⟨S2x128, .f32⟩
  | .local .tc .vmem, ⟨46, _⟩ => ⟨S1x128, .f32⟩
  | .local .tc .vmem, ⟨47, _⟩ => ⟨S1x128, .f32⟩
  | .local .tc .vmem, ⟨48, _⟩ => ⟨S8x256x128, .f32⟩
  | .local .tc .vmem, ⟨49, _⟩ => ⟨S8x256x128, .f32⟩
  | .local .tc .vmem, ⟨50, _⟩ => ⟨S8x256x128, .f32⟩
  | .local .tc .vmem, ⟨51, _⟩ => ⟨S8x256x128, .f32⟩
  | .local .tc .vmem, ⟨52, _⟩ => ⟨S8x256, .i32⟩
  | .local .tc .vmem, ⟨53, _⟩ => ⟨S8x256, .i32⟩
  | .local .tc .vmem, ⟨54, _⟩ => ⟨S256x128, .f32⟩
  | .local .tc .vmem, ⟨55, _⟩ => ⟨S2x128, .f32⟩
  | .local .tc .vmem, ⟨56, _⟩ => ⟨S1x128, .f32⟩
  | .local .tc .vmem, ⟨57, _⟩ => ⟨S1x128, .f32⟩
  | .local .tc .vmem, ⟨58, _⟩ => ⟨S8x256x128, .f32⟩
  | .local .tc .vmem, ⟨59, _⟩ => ⟨S8x256x128, .f32⟩
  | .local .tc .vmem, ⟨60, _⟩ => ⟨S8x256x128, .f32⟩
  | .local .tc .vmem, ⟨61, _⟩ => ⟨S8x256x128, .f32⟩
  | .local .tc .vmem, ⟨62, _⟩ => ⟨S8x256, .i32⟩
  | .local .tc .vmem, ⟨63, _⟩ => ⟨S8x256, .i32⟩
  | .local .tc .vmem, ⟨64, _⟩ => ⟨S256x128, .f32⟩
  | .local .tc .vmem, ⟨65, _⟩ => ⟨S2x128, .f32⟩
  | .local .tc .vmem, ⟨66, _⟩ => ⟨S1x128, .f32⟩
  | .local .tc .vmem, ⟨67, _⟩ => ⟨S1x128, .f32⟩
  | .local .tc .vmem, ⟨68, _⟩ => ⟨S8x256x128, .f32⟩
  | .local .tc .vmem, ⟨69, _⟩ => ⟨S8x256x128, .f32⟩
  | .local .tc .vmem, ⟨70, _⟩ => ⟨S8x256x128, .f32⟩
  | .local .tc .vmem, ⟨71, _⟩ => ⟨S8x256x128, .f32⟩
  | .local .tc .vmem, ⟨72, _⟩ => ⟨S8x256, .i32⟩
  | .local .tc .vmem, ⟨73, _⟩ => ⟨S8x256, .i32⟩
  | .local .tc .vmem, ⟨74, _⟩ => ⟨S256x128, .f32⟩
  | .local .tc .vmem, ⟨75, _⟩ => ⟨S2x128, .f32⟩
  | .local .tc .vmem, ⟨76, _⟩ => ⟨S1x128, .f32⟩
  | .local .tc .vmem, ⟨77, _⟩ => ⟨S1x128, .f32⟩
  | .local .tc .vmem, ⟨78, _⟩ => ⟨S8x256x128, .f32⟩
  | .local .tc .vmem, ⟨79, _⟩ => ⟨S8x256x128, .f32⟩
  | .local .scVector .vmem, ⟨0, _⟩ => ⟨S2x1x128, .i32⟩
  | .local .scVector .vmem, ⟨1, _⟩ => ⟨S2x128x128, .f32⟩
  | .local .scVector .vmem, ⟨2, _⟩ => ⟨S2x1x128, .i32⟩
  | .local .scVector .vmem, ⟨3, _⟩ => ⟨S2x128x128, .f32⟩
  | .local .scVector .vmem, ⟨4, _⟩ => ⟨S2x1x128, .i32⟩
  | .local .scVector .vmem, ⟨5, _⟩ => ⟨S2x128x128, .f32⟩
  | .local .scVector .vmem, ⟨6, _⟩ => ⟨S2x1x128, .i32⟩
  | .local .scVector .vmem, ⟨7, _⟩ => ⟨S2x128x128, .f32⟩
  | .local .scVector .vmem, ⟨8, _⟩ => ⟨S2x1x128, .i32⟩
  | .local .scVector .vmem, ⟨9, _⟩ => ⟨S2x128x128, .f32⟩
  | .local .scVector .vmem, ⟨10, _⟩ => ⟨S2x1x128, .i32⟩
  | .local .scVector .vmem, ⟨11, _⟩ => ⟨S2x128x128, .f32⟩
  | .local .scVector .vmem, ⟨12, _⟩ => ⟨S2x1x128, .i32⟩
  | .local .scVector .vmem, ⟨13, _⟩ => ⟨S2x128x128, .f32⟩
  | .local .scVector .vmem, ⟨14, _⟩ => ⟨S2x1x128, .i32⟩
  | .local .scVector .vmem, ⟨15, _⟩ => ⟨S2x128x128, .f32⟩
  | _, _ => ⟨S1024x256, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 120 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => false
  | ⟨16, _⟩ => false
  | ⟨17, _⟩ => false
  | ⟨18, _⟩ => false
  | ⟨19, _⟩ => false
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => false
  | ⟨31, _⟩ => false
  | ⟨32, _⟩ => false
  | ⟨33, _⟩ => false
  | ⟨34, _⟩ => false
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => false
  | ⟨46, _⟩ => false
  | ⟨47, _⟩ => false
  | ⟨48, _⟩ => false
  | ⟨49, _⟩ => false
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => false
  | ⟨61, _⟩ => false
  | ⟨62, _⟩ => false
  | ⟨63, _⟩ => false
  | ⟨64, _⟩ => false
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => false
  | ⟨76, _⟩ => false
  | ⟨77, _⟩ => false
  | ⟨78, _⟩ => false
  | ⟨79, _⟩ => false
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => false
  | ⟨91, _⟩ => false
  | ⟨92, _⟩ => false
  | ⟨93, _⟩ => false
  | ⟨94, _⟩ => false
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => false
  | ⟨106, _⟩ => false
  | ⟨107, _⟩ => false
  | ⟨108, _⟩ => false
  | ⟨109, _⟩ => false
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTables nBuf rfl bufTy 4 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_c_0 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_c_3 : Ref sig .tc := ⟨.hbm, 21, rfl⟩
abbrev main_c_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_5 : Ref sig .tc := ⟨.hbm, 28, rfl⟩
abbrev main_v15 : Ref sig .tc := ⟨.hbm, 29, rfl⟩
abbrev main_c_6 : Ref sig .tc := ⟨.hbm, 30, rfl⟩
abbrev main_c_7 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_8 : Ref sig .tc := ⟨.hbm, 37, rfl⟩
abbrev main_v21 : Ref sig .tc := ⟨.hbm, 38, rfl⟩
abbrev main_c_9 : Ref sig .tc := ⟨.hbm, 39, rfl⟩
abbrev main_c_10 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_11 : Ref sig .tc := ⟨.hbm, 46, rfl⟩
abbrev main_v27 : Ref sig .tc := ⟨.hbm, 47, rfl⟩
abbrev main_c_12 : Ref sig .tc := ⟨.hbm, 48, rfl⟩
abbrev main_c_13 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_14 : Ref sig .tc := ⟨.hbm, 55, rfl⟩
abbrev main_v33 : Ref sig .tc := ⟨.hbm, 56, rfl⟩
abbrev main_c_15 : Ref sig .tc := ⟨.hbm, 57, rfl⟩
abbrev main_c_16 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_17 : Ref sig .tc := ⟨.hbm, 64, rfl⟩
abbrev main_v39 : Ref sig .tc := ⟨.hbm, 65, rfl⟩
abbrev main_c_18 : Ref sig .tc := ⟨.hbm, 66, rfl⟩
abbrev main_c_19 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_20 : Ref sig .tc := ⟨.hbm, 73, rfl⟩
abbrev main_v45 : Ref sig .tc := ⟨.hbm, 74, rfl⟩
abbrev main_c_21 : Ref sig .tc := ⟨.hbm, 75, rfl⟩
abbrev main_c_22 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_arg2_scv : Ref sig .scVector := ⟨.hbm, 2, rfl⟩
abbrev main_v5_scv : Ref sig .scVector := ⟨.hbm, 15, rfl⟩
abbrev main_v6_scv : Ref sig .scVector := ⟨.hbm, 16, rfl⟩
abbrev main_v11_scv : Ref sig .scVector := ⟨.hbm, 24, rfl⟩
abbrev main_v12_scv : Ref sig .scVector := ⟨.hbm, 25, rfl⟩
abbrev main_v17_scv : Ref sig .scVector := ⟨.hbm, 33, rfl⟩
abbrev main_v18_scv : Ref sig .scVector := ⟨.hbm, 34, rfl⟩
abbrev main_v23_scv : Ref sig .scVector := ⟨.hbm, 42, rfl⟩
abbrev main_v24_scv : Ref sig .scVector := ⟨.hbm, 43, rfl⟩
abbrev main_v29_scv : Ref sig .scVector := ⟨.hbm, 51, rfl⟩
abbrev main_v30_scv : Ref sig .scVector := ⟨.hbm, 52, rfl⟩
abbrev main_v35_scv : Ref sig .scVector := ⟨.hbm, 60, rfl⟩
abbrev main_v36_scv : Ref sig .scVector := ⟨.hbm, 61, rfl⟩
abbrev main_v41_scv : Ref sig .scVector := ⟨.hbm, 69, rfl⟩
abbrev main_v42_scv : Ref sig .scVector := ⟨.hbm, 70, rfl⟩
abbrev main_v47_scv : Ref sig .scVector := ⟨.hbm, 78, rfl⟩
abbrev main_v48_scv : Ref sig .scVector := ⟨.hbm, 79, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg6_1 : Ref sig .tc := ⟨.vmem, 9, rfl⟩
abbrev cc3_stg0_0 : Ref sig .tc := ⟨.vmem, 10, rfl⟩
abbrev cc3_stg0_1 : Ref sig .tc := ⟨.vmem, 11, rfl⟩
abbrev cc3_stg1_0 : Ref sig .tc := ⟨.vmem, 12, rfl⟩
abbrev cc3_stg1_1 : Ref sig .tc := ⟨.vmem, 13, rfl⟩
abbrev cc3_stg2_0 : Ref sig .tc := ⟨.vmem, 14, rfl⟩
abbrev cc3_stg3_0 : Ref sig .tc := ⟨.vmem, 15, rfl⟩
abbrev cc3_stg4_0 : Ref sig .tc := ⟨.vmem, 16, rfl⟩
abbrev cc3_stg5_0 : Ref sig .tc := ⟨.vmem, 17, rfl⟩
abbrev cc3_stg6_0 : Ref sig .tc := ⟨.vmem, 18, rfl⟩
abbrev cc3_stg6_1 : Ref sig .tc := ⟨.vmem, 19, rfl⟩
abbrev cc5_stg0_0 : Ref sig .tc := ⟨.vmem, 20, rfl⟩
abbrev cc5_stg0_1 : Ref sig .tc := ⟨.vmem, 21, rfl⟩
abbrev cc5_stg1_0 : Ref sig .tc := ⟨.vmem, 22, rfl⟩
abbrev cc5_stg1_1 : Ref sig .tc := ⟨.vmem, 23, rfl⟩
abbrev cc5_stg2_0 : Ref sig .tc := ⟨.vmem, 24, rfl⟩
abbrev cc5_stg3_0 : Ref sig .tc := ⟨.vmem, 25, rfl⟩
abbrev cc5_stg4_0 : Ref sig .tc := ⟨.vmem, 26, rfl⟩
abbrev cc5_stg5_0 : Ref sig .tc := ⟨.vmem, 27, rfl⟩
abbrev cc5_stg6_0 : Ref sig .tc := ⟨.vmem, 28, rfl⟩
abbrev cc5_stg6_1 : Ref sig .tc := ⟨.vmem, 29, rfl⟩
abbrev cc7_stg0_0 : Ref sig .tc := ⟨.vmem, 30, rfl⟩
abbrev cc7_stg0_1 : Ref sig .tc := ⟨.vmem, 31, rfl⟩
abbrev cc7_stg1_0 : Ref sig .tc := ⟨.vmem, 32, rfl⟩
abbrev cc7_stg1_1 : Ref sig .tc := ⟨.vmem, 33, rfl⟩
abbrev cc7_stg2_0 : Ref sig .tc := ⟨.vmem, 34, rfl⟩
abbrev cc7_stg3_0 : Ref sig .tc := ⟨.vmem, 35, rfl⟩
abbrev cc7_stg4_0 : Ref sig .tc := ⟨.vmem, 36, rfl⟩
abbrev cc7_stg5_0 : Ref sig .tc := ⟨.vmem, 37, rfl⟩
abbrev cc7_stg6_0 : Ref sig .tc := ⟨.vmem, 38, rfl⟩
abbrev cc7_stg6_1 : Ref sig .tc := ⟨.vmem, 39, rfl⟩
abbrev cc9_stg0_0 : Ref sig .tc := ⟨.vmem, 40, rfl⟩
abbrev cc9_stg0_1 : Ref sig .tc := ⟨.vmem, 41, rfl⟩
abbrev cc9_stg1_0 : Ref sig .tc := ⟨.vmem, 42, rfl⟩
abbrev cc9_stg1_1 : Ref sig .tc := ⟨.vmem, 43, rfl⟩
abbrev cc9_stg2_0 : Ref sig .tc := ⟨.vmem, 44, rfl⟩
abbrev cc9_stg3_0 : Ref sig .tc := ⟨.vmem, 45, rfl⟩
abbrev cc9_stg4_0 : Ref sig .tc := ⟨.vmem, 46, rfl⟩
abbrev cc9_stg5_0 : Ref sig .tc := ⟨.vmem, 47, rfl⟩
abbrev cc9_stg6_0 : Ref sig .tc := ⟨.vmem, 48, rfl⟩
abbrev cc9_stg6_1 : Ref sig .tc := ⟨.vmem, 49, rfl⟩
abbrev cc11_stg0_0 : Ref sig .tc := ⟨.vmem, 50, rfl⟩
abbrev cc11_stg0_1 : Ref sig .tc := ⟨.vmem, 51, rfl⟩
abbrev cc11_stg1_0 : Ref sig .tc := ⟨.vmem, 52, rfl⟩
abbrev cc11_stg1_1 : Ref sig .tc := ⟨.vmem, 53, rfl⟩
abbrev cc11_stg2_0 : Ref sig .tc := ⟨.vmem, 54, rfl⟩
abbrev cc11_stg3_0 : Ref sig .tc := ⟨.vmem, 55, rfl⟩
abbrev cc11_stg4_0 : Ref sig .tc := ⟨.vmem, 56, rfl⟩
abbrev cc11_stg5_0 : Ref sig .tc := ⟨.vmem, 57, rfl⟩
abbrev cc11_stg6_0 : Ref sig .tc := ⟨.vmem, 58, rfl⟩
abbrev cc11_stg6_1 : Ref sig .tc := ⟨.vmem, 59, rfl⟩
abbrev cc13_stg0_0 : Ref sig .tc := ⟨.vmem, 60, rfl⟩
abbrev cc13_stg0_1 : Ref sig .tc := ⟨.vmem, 61, rfl⟩
abbrev cc13_stg1_0 : Ref sig .tc := ⟨.vmem, 62, rfl⟩
abbrev cc13_stg1_1 : Ref sig .tc := ⟨.vmem, 63, rfl⟩
abbrev cc13_stg2_0 : Ref sig .tc := ⟨.vmem, 64, rfl⟩
abbrev cc13_stg3_0 : Ref sig .tc := ⟨.vmem, 65, rfl⟩
abbrev cc13_stg4_0 : Ref sig .tc := ⟨.vmem, 66, rfl⟩
abbrev cc13_stg5_0 : Ref sig .tc := ⟨.vmem, 67, rfl⟩
abbrev cc13_stg6_0 : Ref sig .tc := ⟨.vmem, 68, rfl⟩
abbrev cc13_stg6_1 : Ref sig .tc := ⟨.vmem, 69, rfl⟩
abbrev cc15_stg0_0 : Ref sig .tc := ⟨.vmem, 70, rfl⟩
abbrev cc15_stg0_1 : Ref sig .tc := ⟨.vmem, 71, rfl⟩
abbrev cc15_stg1_0 : Ref sig .tc := ⟨.vmem, 72, rfl⟩
abbrev cc15_stg1_1 : Ref sig .tc := ⟨.vmem, 73, rfl⟩
abbrev cc15_stg2_0 : Ref sig .tc := ⟨.vmem, 74, rfl⟩
abbrev cc15_stg3_0 : Ref sig .tc := ⟨.vmem, 75, rfl⟩
abbrev cc15_stg4_0 : Ref sig .tc := ⟨.vmem, 76, rfl⟩
abbrev cc15_stg5_0 : Ref sig .tc := ⟨.vmem, 77, rfl⟩
abbrev cc15_stg6_0 : Ref sig .tc := ⟨.vmem, 78, rfl⟩
abbrev cc15_stg6_1 : Ref sig .tc := ⟨.vmem, 79, rfl⟩
abbrev cc0_scoped0 : Ref sig .scVector := ⟨.vmem, 0, rfl⟩
abbrev cc0_scoped2 : Ref sig .scVector := ⟨.vmem, 1, rfl⟩
abbrev cc2_scoped0 : Ref sig .scVector := ⟨.vmem, 2, rfl⟩
abbrev cc2_scoped2 : Ref sig .scVector := ⟨.vmem, 3, rfl⟩
abbrev cc4_scoped0 : Ref sig .scVector := ⟨.vmem, 4, rfl⟩
abbrev cc4_scoped2 : Ref sig .scVector := ⟨.vmem, 5, rfl⟩
abbrev cc6_scoped0 : Ref sig .scVector := ⟨.vmem, 6, rfl⟩
abbrev cc6_scoped2 : Ref sig .scVector := ⟨.vmem, 7, rfl⟩
abbrev cc8_scoped0 : Ref sig .scVector := ⟨.vmem, 8, rfl⟩
abbrev cc8_scoped2 : Ref sig .scVector := ⟨.vmem, 9, rfl⟩
abbrev cc10_scoped0 : Ref sig .scVector := ⟨.vmem, 10, rfl⟩
abbrev cc10_scoped2 : Ref sig .scVector := ⟨.vmem, 11, rfl⟩
abbrev cc12_scoped0 : Ref sig .scVector := ⟨.vmem, 12, rfl⟩
abbrev cc12_scoped2 : Ref sig .scVector := ⟨.vmem, 13, rfl⟩
abbrev cc14_scoped0 : Ref sig .scVector := ⟨.vmem, 14, rfl⟩
abbrev cc14_scoped2 : Ref sig .scVector := ⟨.vmem, 15, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem6_0 : DmaSem sig := 43
abbrev cc5_sem6_1 : DmaSem sig := 44
abbrev cc7_sem0_0 : DmaSem sig := 50
abbrev cc7_sem0_1 : DmaSem sig := 51
abbrev cc7_sem1_0 : DmaSem sig := 52
abbrev cc7_sem1_1 : DmaSem sig := 53
abbrev cc7_sem2_0 : DmaSem sig := 54
abbrev cc7_sem3_0 : DmaSem sig := 55
abbrev cc7_sem4_0 : DmaSem sig := 56
abbrev cc7_sem5_0 : DmaSem sig := 57
abbrev cc7_sem6_0 : DmaSem sig := 58
abbrev cc7_sem6_1 : DmaSem sig := 59
abbrev cc9_sem0_0 : DmaSem sig := 65
abbrev cc9_sem0_1 : DmaSem sig := 66
abbrev cc9_sem1_0 : DmaSem sig := 67
abbrev cc9_sem1_1 : DmaSem sig := 68
abbrev cc9_sem2_0 : DmaSem sig := 69
abbrev cc9_sem3_0 : DmaSem sig := 70
abbrev cc9_sem4_0 : DmaSem sig := 71
abbrev cc9_sem5_0 : DmaSem sig := 72
abbrev cc9_sem6_0 : DmaSem sig := 73
abbrev cc9_sem6_1 : DmaSem sig := 74
abbrev cc11_sem0_0 : DmaSem sig := 80
abbrev cc11_sem0_1 : DmaSem sig := 81
abbrev cc11_sem1_0 : DmaSem sig := 82
abbrev cc11_sem1_1 : DmaSem sig := 83
abbrev cc11_sem2_0 : DmaSem sig := 84
abbrev cc11_sem3_0 : DmaSem sig := 85
abbrev cc11_sem4_0 : DmaSem sig := 86
abbrev cc11_sem5_0 : DmaSem sig := 87
abbrev cc11_sem6_0 : DmaSem sig := 88
abbrev cc11_sem6_1 : DmaSem sig := 89
abbrev cc13_sem0_0 : DmaSem sig := 95
abbrev cc13_sem0_1 : DmaSem sig := 96
abbrev cc13_sem1_0 : DmaSem sig := 97
abbrev cc13_sem1_1 : DmaSem sig := 98
abbrev cc13_sem2_0 : DmaSem sig := 99
abbrev cc13_sem3_0 : DmaSem sig := 100
abbrev cc13_sem4_0 : DmaSem sig := 101
abbrev cc13_sem5_0 : DmaSem sig := 102
abbrev cc13_sem6_0 : DmaSem sig := 103
abbrev cc13_sem6_1 : DmaSem sig := 104
abbrev cc15_sem0_0 : DmaSem sig := 110
abbrev cc15_sem0_1 : DmaSem sig := 111
abbrev cc15_sem1_0 : DmaSem sig := 112
abbrev cc15_sem1_1 : DmaSem sig := 113
abbrev cc15_sem2_0 : DmaSem sig := 114
abbrev cc15_sem3_0 : DmaSem sig := 115
abbrev cc15_sem4_0 : DmaSem sig := 116
abbrev cc15_sem5_0 : DmaSem sig := 117
abbrev cc15_sem6_0 : DmaSem sig := 118
abbrev cc15_sem6_1 : DmaSem sig := 119
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x32768.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x32768.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S32768x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S32768x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x32768.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x32768.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S32768x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S32768x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S32768x128.size a)
theorem k0_off19_inb : ∀ (i : grid0.Coords) (v33_4_r0 : BitVec 32) (k0_hw5 : k0_chk5 i v33_4_r0), ∀ a, (k0_off19 i v33_4_r0) a + S128x128.size a ≤ S32768x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

abbrev stage1_0 : Fin 2 → Memref sig .tc .vmem S8x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8x256x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![2, 16], ![false, false]⟩

def k2_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k2_off2 (i : grid2.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c128_i32_r0 v7_r0
  ![0, v22_r0.toNat]
def k2_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k2_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k2_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k2_cond1 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k2_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k2_off5 (i : grid2.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c128_i32_100_r0 v76_r0
  ![0, v145_r0.toNat]
def k2_off6 (arg6_r0 : BitVec 32) : Fin 1 → Nat :=
  let c2_i32_99_r0 : BitVec 32 := 2#32
  let v144_r0 : BitVec 32 := Scalar.remui arg6_r0 c2_i32_99_r0
  ![v144_r0.toNat]
def k2_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k2_cond2 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k2_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k2_off8 (i : grid2.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c128_i32_99_r0 v66_r0
  ![0, v144_r0.toNat]
def k2_off9 (arg7_r0 : BitVec 32) : Fin 1 → Nat :=
  let c2_i32_100_r0 : BitVec 32 := 2#32
  let v145_r0 : BitVec 32 := Scalar.remui arg7_r0 c2_i32_100_r0
  ![v145_r0.toNat]
def k2_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k2_chk2 (arg8_r0 : BitVec 32) : Prop :=
  (∀ a, (k2_off10 arg8_r0) a + S1x128x128.size a ≤ S2x128x128.size a)
theorem k2_off10_inb : ∀ (arg8_r0 : BitVec 32) (k2_hw2 : k2_chk2 arg8_r0), ∀ a, (k2_off10 arg8_r0) a + S1x128x128.size a ≤ S2x128x128.size a := fun arg8_r0 k2_hw2 => k2_hw2

def k2_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k2_chk3 (arg7_r0 : BitVec 32) : Prop :=
  (∀ a, (k2_off11 arg7_r0) a + S1x1x128.size a ≤ S2x1x128.size a)
theorem k2_off11_inb : ∀ (arg7_r0 : BitVec 32) (k2_hw3 : k2_chk3 arg7_r0), ∀ a, (k2_off11 arg7_r0) a + S1x1x128.size a ≤ S2x1x128.size a := fun arg7_r0 k2_hw3 => k2_hw3

def k2_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k2_cond5 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k2_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k2_off13 (i : grid2.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k2_off14 (arg8_r0 : BitVec 32) : Fin 1 → Nat :=
  let c2_i32_99_r0 : BitVec 32 := 2#32
  let v144_r0 : BitVec 32 := Scalar.remui arg8_r0 c2_i32_99_r0
  ![v144_r0.toNat]
def k2_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k2_cond7 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k2_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k2_off16 (i : grid2.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c128_i32_100_r0 v71_r0
  let c0_i32_103_r0 : BitVec 32 := 0#32
  ![v145_r0.toNat, 0]
def k2_off17 (arg9_r0 : BitVec 32) : Fin 1 → Nat :=
  let c2_i32_99_r0 : BitVec 32 := 2#32
  let v144_r0 : BitVec 32 := Scalar.remui arg9_r0 c2_i32_99_r0
  ![v144_r0.toNat]

def k2_chk1 (i : grid2.Coords) (k2_t1 : Fin k2_t1_loop.trips) (arg6_r0 : BitVec 32) (arg7_r0 : BitVec 32) (arg8_r0 : BitVec 32) (arg9_r0 : BitVec 32) (arg10_r0 : BitVec 32) : Prop :=
  (∀ (k2_h1 : k2_cond1 i k2_t1 arg10_r0 = 1#1), ∀ a, (k2_off4 arg6_r0) a + S1x1x128.size a ≤ S2x1x128.size a) ∧
  (∀ (k2_h1 : k2_cond1 i k2_t1 arg10_r0 = 1#1), ∀ a, (k2_off5 i arg10_r0) a + S1x128.size a ≤ S1x32768.size a) ∧
  (∀ (k2_h1 : k2_cond1 i k2_t1 arg10_r0 = 1#1), ∀ a, (k2_off6 arg6_r0) a + S1.size a ≤ S2.size a) ∧
  (∀ (k2_h2 : k2_cond2 i k2_t1 arg10_r0 = 1#1), ∀ a, (k2_off7 arg7_r0) a + S1x1x128.size a ≤ S2x1x128.size a) ∧
  (∀ (k2_h2 : k2_cond2 i k2_t1 arg10_r0 = 1#1), ∀ a, (k2_off8 i arg10_r0) a + S1x128.size a ≤ S1x32768.size a) ∧
  (∀ (k2_h2 : k2_cond2 i k2_t1 arg10_r0 = 1#1), ∀ a, (k2_off9 arg7_r0) a + S1.size a ≤ S2.size a) ∧
  (∀ (k2_h5 : k2_cond5 i k2_t1 arg10_r0 = 1#1), ∀ a, (k2_off12 arg8_r0) a + S1x128x128.size a ≤ S2x128x128.size a) ∧
  (∀ (k2_h5 : k2_cond5 i k2_t1 arg10_r0 = 1#1), ∀ a, (k2_off13 i arg10_r0) a + S128x128.size a ≤ S32768x128.size a) ∧
  (∀ (k2_h5 : k2_cond5 i k2_t1 arg10_r0 = 1#1), ∀ a, (k2_off14 arg8_r0) a + S1.size a ≤ S2.size a) ∧
  (∀ (k2_h7 : k2_cond7 i k2_t1 arg10_r0 = 1#1), ∀ a, (k2_off15 arg9_r0) a + S1x128x128.size a ≤ S2x128x128.size a) ∧
  (∀ (k2_h7 : k2_cond7 i k2_t1 arg10_r0 = 1#1), ∀ a, (k2_off16 i arg10_r0) a + S128x128.size a ≤ S32768x128.size a) ∧
  (∀ (k2_h7 : k2_cond7 i k2_t1 arg10_r0 = 1#1), ∀ a, (k2_off17 arg9_r0) a + S1.size a ≤ S2.size a)
theorem k2_off4_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off4 arg6_r0) a + S1x1x128.size a ≤ S2x1x128.size a := fun i k2_t1 arg6_r0 arg7_r0 arg8_r0 arg9_r0 arg10_r0 k2_hw1 k2_h1 => k2_hw1.1 k2_h1
theorem k2_off5_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off5 i arg10_r0) a + S1x128.size a ≤ S1x32768.size a := fun i k2_t1 arg6_r0 arg7_r0 arg8_r0 arg9_r0 arg10_r0 k2_hw1 k2_h1 => k2_hw1.2.1 k2_h1
theorem k2_off6_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off6 arg6_r0) a + S1.size a ≤ S2.size a := fun i k2_t1 arg6_r0 arg7_r0 arg8_r0 arg9_r0 arg10_r0 k2_hw1 k2_h1 => k2_hw1.2.2.1 k2_h1
theorem k2_off7_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off7 arg7_r0) a + S1x1x128.size a ≤ S2x1x128.size a := fun i k2_t1 arg6_r0 arg7_r0 arg8_r0 arg9_r0 arg10_r0 k2_hw1 k2_h2 => k2_hw1.2.2.2.1 k2_h2
theorem k2_off8_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off8 i arg10_r0) a + S1x128.size a ≤ S1x32768.size a := fun i k2_t1 arg6_r0 arg7_r0 arg8_r0 arg9_r0 arg10_r0 k2_hw1 k2_h2 => k2_hw1.2.2.2.2.1 k2_h2
theorem k2_off9_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off9 arg7_r0) a + S1.size a ≤ S2.size a := fun i k2_t1 arg6_r0 arg7_r0 arg8_r0 arg9_r0 arg10_r0 k2_hw1 k2_h2 => k2_hw1.2.2.2.2.2.1 k2_h2
theorem k2_off12_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off12 arg8_r0) a + S1x128x128.size a ≤ S2x128x128.size a := fun i k2_t1 arg6_r0 arg7_r0 arg8_r0 arg9_r0 arg10_r0 k2_hw1 k2_h5 => k2_hw1.2.2.2.2.2.2.1 k2_h5
theorem k2_off13_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off13 i arg10_r0) a + S128x128.size a ≤ S32768x128.size a := fun i k2_t1 arg6_r0 arg7_r0 arg8_r0 arg9_r0 arg10_r0 k2_hw1 k2_h5 => k2_hw1.2.2.2.2.2.2.2.1 k2_h5
theorem k2_off14_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off14 arg8_r0) a + S1.size a ≤ S2.size a := fun i k2_t1 arg6_r0 arg7_r0 arg8_r0 arg9_r0 arg10_r0 k2_hw1 k2_h5 => k2_hw1.2.2.2.2.2.2.2.2.1 k2_h5
theorem k2_off15_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off15 arg9_r0) a + S1x128x128.size a ≤ S2x128x128.size a := fun i k2_t1 arg6_r0 arg7_r0 arg8_r0 arg9_r0 arg10_r0 k2_hw1 k2_h7 => k2_hw1.2.2.2.2.2.2.2.2.2.1 k2_h7
theorem k2_off16_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off16 i arg10_r0) a + S128x128.size a ≤ S32768x128.size a := fun i k2_t1 arg6_r0 arg7_r0 arg8_r0 arg9_r0 arg10_r0 k2_hw1 k2_h7 => k2_hw1.2.2.2.2.2.2.2.2.2.2.1 k2_h7
theorem k2_off17_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off17 arg9_r0) a + S1.size a ≤ S2.size a := fun i k2_t1 arg6_r0 arg7_r0 arg8_r0 arg9_r0 arg10_r0 k2_hw1 k2_h7 => k2_hw1.2.2.2.2.2.2.2.2.2.2.2 k2_h7

def k2_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k2_off19 (i : grid2.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c128_i32_47_r0 v38_r0
  let c0_i32_50_r0 : BitVec 32 := 0#32
  ![v55_r0.toNat, 0]

def k2_chk5 (i : grid2.Coords) (v33_4_r0 : BitVec 32) : Prop :=
  (∀ a, (k2_off19 i v33_4_r0) a + S128x128.size a ≤ S32768x128.size a)
theorem k2_off19_inb : ∀ (i : grid2.Coords) (v33_4_r0 : BitVec 32) (k2_hw5 : k2_chk5 i v33_4_r0), ∀ a, (k2_off19 i v33_4_r0) a + S128x128.size a ≤ S32768x128.size a := fun i v33_4_r0 k2_hw5 => k2_hw5

def k2_off20 (v33_3_r0 : BitVec 32) : Fin 1 → Nat :=
  let c2_i32_46_r0 : BitVec 32 := 2#32
  let v54_r0 : BitVec 32 := Scalar.remui v33_3_r0 c2_i32_46_r0
  ![v54_r0.toNat]
def k2_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k2_chk4 (v33_3_r0 : BitVec 32) : Prop :=
  (∀ a, (k2_off18 v33_3_r0) a + S1x128x128.size a ≤ S2x128x128.size a) ∧
  (∀ a, (k2_off20 v33_3_r0) a + S1.size a ≤ S2.size a) ∧
  (∀ a, (k2_off21 v33_3_r0) a + S1x128x128.size a ≤ S2x128x128.size a)
theorem k2_off18_inb : ∀ (v33_3_r0 : BitVec 32) (k2_hw4 : k2_chk4 v33_3_r0), ∀ a, (k2_off18 v33_3_r0) a + S1x128x128.size a ≤ S2x128x128.size a := fun v33_3_r0 k2_hw4 => k2_hw4.1
theorem k2_off20_inb : ∀ (v33_3_r0 : BitVec 32) (k2_hw4 : k2_chk4 v33_3_r0), ∀ a, (k2_off20 v33_3_r0) a + S1.size a ≤ S2.size a := fun v33_3_r0 k2_hw4 => k2_hw4.2.1
theorem k2_off21_inb : ∀ (v33_3_r0 : BitVec 32) (k2_hw4 : k2_chk4 v33_3_r0), ∀ a, (k2_off21 v33_3_r0) a + S1x128x128.size a ≤ S2x128x128.size a := fun v33_3_r0 k2_hw4 => k2_hw4.2.2

abbrev grid3 : Pipeline.Grid := ⟨1, ![16], ![false]⟩

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 3 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

abbrev stage3_0 : Fin 2 → Memref sig .tc .vmem S8x256x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8x256 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S8x256x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨2, ![2, 16], ![false, false]⟩

def k4_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k4_off2 (i : grid4.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c128_i32_r0 v7_r0
  ![0, v22_r0.toNat]
def k4_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k4_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k4_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k4_cond1 (i : grid4.Coords) (k4_t1 : Fin k4_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k4_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k4_off5 (i : grid4.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c128_i32_100_r0 v76_r0
  ![0, v145_r0.toNat]
def k4_off6 (arg6_r0 : BitVec 32) : Fin 1 → Nat :=
  let c2_i32_99_r0 : BitVec 32 := 2#32
  let v144_r0 : BitVec 32 := Scalar.remui arg6_r0 c2_i32_99_r0
  ![v144_r0.toNat]
def k4_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k4_cond2 (i : grid4.Coords) (k4_t1 : Fin k4_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k4_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k4_off8 (i : grid4.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c128_i32_99_r0 v66_r0
  ![0, v144_r0.toNat]
def k4_off9 (arg7_r0 : BitVec 32) : Fin 1 → Nat :=
  let c2_i32_100_r0 : BitVec 32 := 2#32
  let v145_r0 : BitVec 32 := Scalar.remui arg7_r0 c2_i32_100_r0
  ![v145_r0.toNat]
def k4_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k4_chk2 (arg8_r0 : BitVec 32) : Prop :=
  (∀ a, (k4_off10 arg8_r0) a + S1x128x128.size a ≤ S2x128x128.size a)
theorem k4_off10_inb : ∀ (arg8_r0 : BitVec 32) (k4_hw2 : k4_chk2 arg8_r0), ∀ a, (k4_off10 arg8_r0) a + S1x128x128.size a ≤ S2x128x128.size a := fun arg8_r0 k4_hw2 => k4_hw2

def k4_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k4_chk3 (arg7_r0 : BitVec 32) : Prop :=
  (∀ a, (k4_off11 arg7_r0) a + S1x1x128.size a ≤ S2x1x128.size a)
theorem k4_off11_inb : ∀ (arg7_r0 : BitVec 32) (k4_hw3 : k4_chk3 arg7_r0), ∀ a, (k4_off11 arg7_r0) a + S1x1x128.size a ≤ S2x1x128.size a := fun arg7_r0 k4_hw3 => k4_hw3

def k4_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k4_cond5 (i : grid4.Coords) (k4_t1 : Fin k4_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k4_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k4_off13 (i : grid4.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k4_off14 (arg8_r0 : BitVec 32) : Fin 1 → Nat :=
  let c2_i32_99_r0 : BitVec 32 := 2#32
  let v144_r0 : BitVec 32 := Scalar.remui arg8_r0 c2_i32_99_r0
  ![v144_r0.toNat]
def k4_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k4_cond7 (i : grid4.Coords) (k4_t1 : Fin k4_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k4_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k4_off16 (i : grid4.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c128_i32_100_r0 v71_r0
  let c0_i32_103_r0 : BitVec 32 := 0#32
  ![v145_r0.toNat, 0]
def k4_off17 (arg9_r0 : BitVec 32) : Fin 1 → Nat :=
  let c2_i32_99_r0 : BitVec 32 := 2#32
  let v144_r0 : BitVec 32 := Scalar.remui arg9_r0 c2_i32_99_r0
  ![v144_r0.toNat]

def k4_chk1 (i : grid4.Coords) (k4_t1 : Fin k4_t1_loop.trips) (arg6_r0 : BitVec 32) (arg7_r0 : BitVec 32) (arg8_r0 : BitVec 32) (arg9_r0 : BitVec 32) (arg10_r0 : BitVec 32) : Prop :=
  (∀ (k4_h1 : k4_cond1 i k4_t1 arg10_r0 = 1#1), ∀ a, (k4_off4 arg6_r0) a + S1x1x128.size a ≤ S2x1x128.size a) ∧
  (∀ (k4_h1 : k4_cond1 i k4_t1 arg10_r0 = 1#1), ∀ a, (k4_off5 i arg10_r0) a + S1x128.size a ≤ S1x32768.size a) ∧
  (∀ (k4_h1 : k4_cond1 i k4_t1 arg10_r0 = 1#1), ∀ a, (k4_off6 arg6_r0) a + S1.size a ≤ S2.size a) ∧
  (∀ (k4_h2 : k4_cond2 i k4_t1 arg10_r0 = 1#1), ∀ a, (k4_off7 arg7_r0) a + S1x1x128.size a ≤ S2x1x128.size a) ∧
  (∀ (k4_h2 : k4_cond2 i k4_t1 arg10_r0 = 1#1), ∀ a, (k4_off8 i arg10_r0) a + S1x128.size a ≤ S1x32768.size a) ∧
  (∀ (k4_h2 : k4_cond2 i k4_t1 arg10_r0 = 1#1), ∀ a, (k4_off9 arg7_r0) a + S1.size a ≤ S2.size a) ∧
  (∀ (k4_h5 : k4_cond5 i k4_t1 arg10_r0 = 1#1), ∀ a, (k4_off12 arg8_r0) a + S1x128x128.size a ≤ S2x128x128.size a) ∧
  (∀ (k4_h5 : k4_cond5 i k4_t1 arg10_r0 = 1#1), ∀ a, (k4_off13 i arg10_r0) a + S128x128.size a ≤ S32768x128.size a) ∧
  (∀ (k4_h5 : k4_cond5 i k4_t1 arg10_r0 = 1#1), ∀ a, (k4_off14 arg8_r0) a + S1.size a ≤ S2.size a) ∧
  (∀ (k4_h7 : k4_cond7 i k4_t1 arg10_r0 = 1#1), ∀ a, (k4_off15 arg9_r0) a + S1x128x128.size a ≤ S2x128x128.size a) ∧
  (∀ (k4_h7 : k4_cond7 i k4_t1 arg10_r0 = 1#1), ∀ a, (k4_off16 i arg10_r0) a + S128x128.size a ≤ S32768x128.size a) ∧
  (∀ (k4_h7 : k4_cond7 i k4_t1 arg10_r0 = 1#1), ∀ a, (k4_off17 arg9_r0) a + S1.size a ≤ S2.size a)
theorem k4_off4_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i k4_t1 arg10_r0 = 1#1), ∀ a, (k4_off4 arg6_r0) a + S1x1x128.size a ≤ S2x1x128.size a := fun i k4_t1 arg6_r0 arg7_r0 arg8_r0 arg9_r0 arg10_r0 k4_hw1 k4_h1 => k4_hw1.1 k4_h1
theorem k4_off5_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i k4_t1 arg10_r0 = 1#1), ∀ a, (k4_off5 i arg10_r0) a + S1x128.size a ≤ S1x32768.size a := fun i k4_t1 arg6_r0 arg7_r0 arg8_r0 arg9_r0 arg10_r0 k4_hw1 k4_h1 => k4_hw1.2.1 k4_h1
theorem k4_off6_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i k4_t1 arg10_r0 = 1#1), ∀ a, (k4_off6 arg6_r0) a + S1.size a ≤ S2.size a := fun i k4_t1 arg6_r0 arg7_r0 arg8_r0 arg9_r0 arg10_r0 k4_hw1 k4_h1 => k4_hw1.2.2.1 k4_h1
theorem k4_off7_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h2 : k4_cond2 i k4_t1 arg10_r0 = 1#1), ∀ a, (k4_off7 arg7_r0) a + S1x1x128.size a ≤ S2x1x128.size a := fun i k4_t1 arg6_r0 arg7_r0 arg8_r0 arg9_r0 arg10_r0 k4_hw1 k4_h2 => k4_hw1.2.2.2.1 k4_h2
theorem k4_off8_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h2 : k4_cond2 i k4_t1 arg10_r0 = 1#1), ∀ a, (k4_off8 i arg10_r0) a + S1x128.size a ≤ S1x32768.size a := fun i k4_t1 arg6_r0 arg7_r0 arg8_r0 arg9_r0 arg10_r0 k4_hw1 k4_h2 => k4_hw1.2.2.2.2.1 k4_h2
theorem k4_off9_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h2 : k4_cond2 i k4_t1 arg10_r0 = 1#1), ∀ a, (k4_off9 arg7_r0) a + S1.size a ≤ S2.size a := fun i k4_t1 arg6_r0 arg7_r0 arg8_r0 arg9_r0 arg10_r0 k4_hw1 k4_h2 => k4_hw1.2.2.2.2.2.1 k4_h2
theorem k4_off12_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h5 : k4_cond5 i k4_t1 arg10_r0 = 1#1), ∀ a, (k4_off12 arg8_r0) a + S1x128x128.size a ≤ S2x128x128.size a := fun i k4_t1 arg6_r0 arg7_r0 arg8_r0 arg9_r0 arg10_r0 k4_hw1 k4_h5 => k4_hw1.2.2.2.2.2.2.1 k4_h5
theorem k4_off13_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h5 : k4_cond5 i k4_t1 arg10_r0 = 1#1), ∀ a, (k4_off13 i arg10_r0) a + S128x128.size a ≤ S32768x128.size a := fun i k4_t1 arg6_r0 arg7_r0 arg8_r0 arg9_r0 arg10_r0 k4_hw1 k4_h5 => k4_hw1.2.2.2.2.2.2.2.1 k4_h5
theorem k4_off14_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h5 : k4_cond5 i k4_t1 arg10_r0 = 1#1), ∀ a, (k4_off14 arg8_r0) a + S1.size a ≤ S2.size a := fun i k4_t1 arg6_r0 arg7_r0 arg8_r0 arg9_r0 arg10_r0 k4_hw1 k4_h5 => k4_hw1.2.2.2.2.2.2.2.2.1 k4_h5
theorem k4_off15_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h7 : k4_cond7 i k4_t1 arg10_r0 = 1#1), ∀ a, (k4_off15 arg9_r0) a + S1x128x128.size a ≤ S2x128x128.size a := fun i k4_t1 arg6_r0 arg7_r0 arg8_r0 arg9_r0 arg10_r0 k4_hw1 k4_h7 => k4_hw1.2.2.2.2.2.2.2.2.2.1 k4_h7
theorem k4_off16_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h7 : k4_cond7 i k4_t1 arg10_r0 = 1#1), ∀ a, (k4_off16 i arg10_r0) a + S128x128.size a ≤ S32768x128.size a := fun i k4_t1 arg6_r0 arg7_r0 arg8_r0 arg9_r0 arg10_r0 k4_hw1 k4_h7 => k4_hw1.2.2.2.2.2.2.2.2.2.2.1 k4_h7
theorem k4_off17_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h7 : k4_cond7 i k4_t1 arg10_r0 = 1#1), ∀ a, (k4_off17 arg9_r0) a + S1.size a ≤ S2.size a := fun i k4_t1 arg6_r0 arg7_r0 arg8_r0 arg9_r0 arg10_r0 k4_hw1 k4_h7 => k4_hw1.2.2.2.2.2.2.2.2.2.2.2 k4_h7

def k4_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k4_off19 (i : grid4.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c128_i32_47_r0 v38_r0
  let c0_i32_50_r0 : BitVec 32 := 0#32
  ![v55_r0.toNat, 0]

def k4_chk5 (i : grid4.Coords) (v33_4_r0 : BitVec 32) : Prop :=
  (∀ a, (k4_off19 i v33_4_r0) a + S128x128.size a ≤ S32768x128.size a)
theorem k4_off19_inb : ∀ (i : grid4.Coords) (v33_4_r0 : BitVec 32) (k4_hw5 : k4_chk5 i v33_4_r0), ∀ a, (k4_off19 i v33_4_r0) a + S128x128.size a ≤ S32768x128.size a := fun i v33_4_r0 k4_hw5 => k4_hw5

def k4_off20 (v33_3_r0 : BitVec 32) : Fin 1 → Nat :=
  let c2_i32_46_r0 : BitVec 32 := 2#32
  let v54_r0 : BitVec 32 := Scalar.remui v33_3_r0 c2_i32_46_r0
  ![v54_r0.toNat]
def k4_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k4_chk4 (v33_3_r0 : BitVec 32) : Prop :=
  (∀ a, (k4_off18 v33_3_r0) a + S1x128x128.size a ≤ S2x128x128.size a) ∧
  (∀ a, (k4_off20 v33_3_r0) a + S1.size a ≤ S2.size a) ∧
  (∀ a, (k4_off21 v33_3_r0) a + S1x128x128.size a ≤ S2x128x128.size a)
theorem k4_off18_inb : ∀ (v33_3_r0 : BitVec 32) (k4_hw4 : k4_chk4 v33_3_r0), ∀ a, (k4_off18 v33_3_r0) a + S1x128x128.size a ≤ S2x128x128.size a := fun v33_3_r0 k4_hw4 => k4_hw4.1
theorem k4_off20_inb : ∀ (v33_3_r0 : BitVec 32) (k4_hw4 : k4_chk4 v33_3_r0), ∀ a, (k4_off20 v33_3_r0) a + S1.size a ≤ S2.size a := fun v33_3_r0 k4_hw4 => k4_hw4.2.1
theorem k4_off21_inb : ∀ (v33_3_r0 : BitVec 32) (k4_hw4 : k4_chk4 v33_3_r0), ∀ a, (k4_off21 v33_3_r0) a + S1x128x128.size a ≤ S2x128x128.size a := fun v33_3_r0 k4_hw4 => k4_hw4.2.2

abbrev grid5 : Pipeline.Grid := ⟨1, ![16], ![false]⟩

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 3 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![v0.toNat, c0_i32.toNat, c0_i32_0.toNat]

abbrev stage5_0 : Fin 2 → Memref sig .tc .vmem S8x256x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8x256 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S2x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S8x256x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨2, ![2, 16], ![false, false]⟩

def k6_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k6_off2 (i : grid6.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c128_i32_r0 v7_r0
  ![0, v22_r0.toNat]
def k6_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k6_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k6_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k6_cond1 (i : grid6.Coords) (k6_t1 : Fin k6_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k6_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k6_off5 (i : grid6.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c128_i32_100_r0 v76_r0
  ![0, v145_r0.toNat]
def k6_off6 (arg6_r0 : BitVec 32) : Fin 1 → Nat :=
  let c2_i32_99_r0 : BitVec 32 := 2#32
  let v144_r0 : BitVec 32 := Scalar.remui arg6_r0 c2_i32_99_r0
  ![v144_r0.toNat]
def k6_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k6_cond2 (i : grid6.Coords) (k6_t1 : Fin k6_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k6_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k6_off8 (i : grid6.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c128_i32_99_r0 v66_r0
  ![0, v144_r0.toNat]
def k6_off9 (arg7_r0 : BitVec 32) : Fin 1 → Nat :=
  let c2_i32_100_r0 : BitVec 32 := 2#32
  let v145_r0 : BitVec 32 := Scalar.remui arg7_r0 c2_i32_100_r0
  ![v145_r0.toNat]
def k6_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k6_chk2 (arg8_r0 : BitVec 32) : Prop :=
  (∀ a, (k6_off10 arg8_r0) a + S1x128x128.size a ≤ S2x128x128.size a)
theorem k6_off10_inb : ∀ (arg8_r0 : BitVec 32) (k6_hw2 : k6_chk2 arg8_r0), ∀ a, (k6_off10 arg8_r0) a + S1x128x128.size a ≤ S2x128x128.size a := fun arg8_r0 k6_hw2 => k6_hw2

def k6_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k6_chk3 (arg7_r0 : BitVec 32) : Prop :=
  (∀ a, (k6_off11 arg7_r0) a + S1x1x128.size a ≤ S2x1x128.size a)
theorem k6_off11_inb : ∀ (arg7_r0 : BitVec 32) (k6_hw3 : k6_chk3 arg7_r0), ∀ a, (k6_off11 arg7_r0) a + S1x1x128.size a ≤ S2x1x128.size a := fun arg7_r0 k6_hw3 => k6_hw3

def k6_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k6_cond5 (i : grid6.Coords) (k6_t1 : Fin k6_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k6_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k6_off13 (i : grid6.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k6_off14 (arg8_r0 : BitVec 32) : Fin 1 → Nat :=
  let c2_i32_99_r0 : BitVec 32 := 2#32
  let v144_r0 : BitVec 32 := Scalar.remui arg8_r0 c2_i32_99_r0
  ![v144_r0.toNat]
def k6_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k6_cond7 (i : grid6.Coords) (k6_t1 : Fin k6_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k6_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k6_off16 (i : grid6.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c128_i32_100_r0 v71_r0
  let c0_i32_103_r0 : BitVec 32 := 0#32
  ![v145_r0.toNat, 0]
def k6_off17 (arg9_r0 : BitVec 32) : Fin 1 → Nat :=
  let c2_i32_99_r0 : BitVec 32 := 2#32
  let v144_r0 : BitVec 32 := Scalar.remui arg9_r0 c2_i32_99_r0
  ![v144_r0.toNat]

def k6_chk1 (i : grid6.Coords) (k6_t1 : Fin k6_t1_loop.trips) (arg6_r0 : BitVec 32) (arg7_r0 : BitVec 32) (arg8_r0 : BitVec 32) (arg9_r0 : BitVec 32) (arg10_r0 : BitVec 32) : Prop :=
  (∀ (k6_h1 : k6_cond1 i k6_t1 arg10_r0 = 1#1), ∀ a, (k6_off4 arg6_r0) a + S1x1x128.size a ≤ S2x1x128.size a) ∧
  (∀ (k6_h1 : k6_cond1 i k6_t1 arg10_r0 = 1#1), ∀ a, (k6_off5 i arg10_r0) a + S1x128.size a ≤ S1x32768.size a) ∧
  (∀ (k6_h1 : k6_cond1 i k6_t1 arg10_r0 = 1#1), ∀ a, (k6_off6 arg6_r0) a + S1.size a ≤ S2.size a) ∧
  (∀ (k6_h2 : k6_cond2 i k6_t1 arg10_r0 = 1#1), ∀ a, (k6_off7 arg7_r0) a + S1x1x128.size a ≤ S2x1x128.size a) ∧
  (∀ (k6_h2 : k6_cond2 i k6_t1 arg10_r0 = 1#1), ∀ a, (k6_off8 i arg10_r0) a + S1x128.size a ≤ S1x32768.size a) ∧
  (∀ (k6_h2 : k6_cond2 i k6_t1 arg10_r0 = 1#1), ∀ a, (k6_off9 arg7_r0) a + S1.size a ≤ S2.size a) ∧
  (∀ (k6_h5 : k6_cond5 i k6_t1 arg10_r0 = 1#1), ∀ a, (k6_off12 arg8_r0) a + S1x128x128.size a ≤ S2x128x128.size a) ∧
  (∀ (k6_h5 : k6_cond5 i k6_t1 arg10_r0 = 1#1), ∀ a, (k6_off13 i arg10_r0) a + S128x128.size a ≤ S32768x128.size a) ∧
  (∀ (k6_h5 : k6_cond5 i k6_t1 arg10_r0 = 1#1), ∀ a, (k6_off14 arg8_r0) a + S1.size a ≤ S2.size a) ∧
  (∀ (k6_h7 : k6_cond7 i k6_t1 arg10_r0 = 1#1), ∀ a, (k6_off15 arg9_r0) a + S1x128x128.size a ≤ S2x128x128.size a) ∧
  (∀ (k6_h7 : k6_cond7 i k6_t1 arg10_r0 = 1#1), ∀ a, (k6_off16 i arg10_r0) a + S128x128.size a ≤ S32768x128.size a) ∧
  (∀ (k6_h7 : k6_cond7 i k6_t1 arg10_r0 = 1#1), ∀ a, (k6_off17 arg9_r0) a + S1.size a ≤ S2.size a)
theorem k6_off4_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i k6_t1 arg10_r0 = 1#1), ∀ a, (k6_off4 arg6_r0) a + S1x1x128.size a ≤ S2x1x128.size a := fun i k6_t1 arg6_r0 arg7_r0 arg8_r0 arg9_r0 arg10_r0 k6_hw1 k6_h1 => k6_hw1.1 k6_h1
theorem k6_off5_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i k6_t1 arg10_r0 = 1#1), ∀ a, (k6_off5 i arg10_r0) a + S1x128.size a ≤ S1x32768.size a := fun i k6_t1 arg6_r0 arg7_r0 arg8_r0 arg9_r0 arg10_r0 k6_hw1 k6_h1 => k6_hw1.2.1 k6_h1
theorem k6_off6_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i k6_t1 arg10_r0 = 1#1), ∀ a, (k6_off6 arg6_r0) a + S1.size a ≤ S2.size a := fun i k6_t1 arg6_r0 arg7_r0 arg8_r0 arg9_r0 arg10_r0 k6_hw1 k6_h1 => k6_hw1.2.2.1 k6_h1
theorem k6_off7_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h2 : k6_cond2 i k6_t1 arg10_r0 = 1#1), ∀ a, (k6_off7 arg7_r0) a + S1x1x128.size a ≤ S2x1x128.size a := fun i k6_t1 arg6_r0 arg7_r0 arg8_r0 arg9_r0 arg10_r0 k6_hw1 k6_h2 => k6_hw1.2.2.2.1 k6_h2
theorem k6_off8_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h2 : k6_cond2 i k6_t1 arg10_r0 = 1#1), ∀ a, (k6_off8 i arg10_r0) a + S1x128.size a ≤ S1x32768.size a := fun i k6_t1 arg6_r0 arg7_r0 arg8_r0 arg9_r0 arg10_r0 k6_hw1 k6_h2 => k6_hw1.2.2.2.2.1 k6_h2
theorem k6_off9_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h2 : k6_cond2 i k6_t1 arg10_r0 = 1#1), ∀ a, (k6_off9 arg7_r0) a + S1.size a ≤ S2.size a := fun i k6_t1 arg6_r0 arg7_r0 arg8_r0 arg9_r0 arg10_r0 k6_hw1 k6_h2 => k6_hw1.2.2.2.2.2.1 k6_h2
theorem k6_off12_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h5 : k6_cond5 i k6_t1 arg10_r0 = 1#1), ∀ a, (k6_off12 arg8_r0) a + S1x128x128.size a ≤ S2x128x128.size a := fun i k6_t1 arg6_r0 arg7_r0 arg8_r0 arg9_r0 arg10_r0 k6_hw1 k6_h5 => k6_hw1.2.2.2.2.2.2.1 k6_h5
theorem k6_off13_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h5 : k6_cond5 i k6_t1 arg10_r0 = 1#1), ∀ a, (k6_off13 i arg10_r0) a + S128x128.size a ≤ S32768x128.size a := fun i k6_t1 arg6_r0 arg7_r0 arg8_r0 arg9_r0 arg10_r0 k6_hw1 k6_h5 => k6_hw1.2.2.2.2.2.2.2.1 k6_h5
theorem k6_off14_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h5 : k6_cond5 i k6_t1 arg10_r0 = 1#1), ∀ a, (k6_off14 arg8_r0) a + S1.size a ≤ S2.size a := fun i k6_t1 arg6_r0 arg7_r0 arg8_r0 arg9_r0 arg10_r0 k6_hw1 k6_h5 => k6_hw1.2.2.2.2.2.2.2.2.1 k6_h5
theorem k6_off15_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h7 : k6_cond7 i k6_t1 arg10_r0 = 1#1), ∀ a, (k6_off15 arg9_r0) a + S1x128x128.size a ≤ S2x128x128.size a := fun i k6_t1 arg6_r0 arg7_r0 arg8_r0 arg9_r0 arg10_r0 k6_hw1 k6_h7 => k6_hw1.2.2.2.2.2.2.2.2.2.1 k6_h7
theorem k6_off16_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h7 : k6_cond7 i k6_t1 arg10_r0 = 1#1), ∀ a, (k6_off16 i arg10_r0) a + S128x128.size a ≤ S32768x128.size a := fun i k6_t1 arg6_r0 arg7_r0 arg8_r0 arg9_r0 arg10_r0 k6_hw1 k6_h7 => k6_hw1.2.2.2.2.2.2.2.2.2.2.1 k6_h7
theorem k6_off17_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h7 : k6_cond7 i k6_t1 arg10_r0 = 1#1), ∀ a, (k6_off17 arg9_r0) a + S1.size a ≤ S2.size a := fun i k6_t1 arg6_r0 arg7_r0 arg8_r0 arg9_r0 arg10_r0 k6_hw1 k6_h7 => k6_hw1.2.2.2.2.2.2.2.2.2.2.2 k6_h7

def k6_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k6_off19 (i : grid6.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c128_i32_47_r0 v38_r0
  let c0_i32_50_r0 : BitVec 32 := 0#32
  ![v55_r0.toNat, 0]

def k6_chk5 (i : grid6.Coords) (v33_4_r0 : BitVec 32) : Prop :=
  (∀ a, (k6_off19 i v33_4_r0) a + S128x128.size a ≤ S32768x128.size a)
theorem k6_off19_inb : ∀ (i : grid6.Coords) (v33_4_r0 : BitVec 32) (k6_hw5 : k6_chk5 i v33_4_r0), ∀ a, (k6_off19 i v33_4_r0) a + S128x128.size a ≤ S32768x128.size a := fun i v33_4_r0 k6_hw5 => k6_hw5

def k6_off20 (v33_3_r0 : BitVec 32) : Fin 1 → Nat :=
  let c2_i32_46_r0 : BitVec 32 := 2#32
  let v54_r0 : BitVec 32 := Scalar.remui v33_3_r0 c2_i32_46_r0
  ![v54_r0.toNat]
def k6_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k6_chk4 (v33_3_r0 : BitVec 32) : Prop :=
  (∀ a, (k6_off18 v33_3_r0) a + S1x128x128.size a ≤ S2x128x128.size a) ∧
  (∀ a, (k6_off20 v33_3_r0) a + S1.size a ≤ S2.size a) ∧
  (∀ a, (k6_off21 v33_3_r0) a + S1x128x128.size a ≤ S2x128x128.size a)
theorem k6_off18_inb : ∀ (v33_3_r0 : BitVec 32) (k6_hw4 : k6_chk4 v33_3_r0), ∀ a, (k6_off18 v33_3_r0) a + S1x128x128.size a ≤ S2x128x128.size a := fun v33_3_r0 k6_hw4 => k6_hw4.1
theorem k6_off20_inb : ∀ (v33_3_r0 : BitVec 32) (k6_hw4 : k6_chk4 v33_3_r0), ∀ a, (k6_off20 v33_3_r0) a + S1.size a ≤ S2.size a := fun v33_3_r0 k6_hw4 => k6_hw4.2.1
theorem k6_off21_inb : ∀ (v33_3_r0 : BitVec 32) (k6_hw4 : k6_chk4 v33_3_r0), ∀ a, (k6_off21 v33_3_r0) a + S1x128x128.size a ≤ S2x128x128.size a := fun v33_3_r0 k6_hw4 => k6_hw4.2.2

abbrev grid7 : Pipeline.Grid := ⟨1, ![16], ![false]⟩

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 3 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  let c0_i32_1 : BitVec 32 := 0#32
  ![v0.toNat, c0_i32.toNat, c0_i32_0.toNat]

abbrev stage7_0 : Fin 2 → Memref sig .tc .vmem S8x256x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8x256 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S256x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S2x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S8x256x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨2, ![2, 16], ![false, false]⟩

def k8_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k8_off2 (i : grid8.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c128_i32_r0 v7_r0
  ![0, v22_r0.toNat]
def k8_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k8_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k8_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k8_cond1 (i : grid8.Coords) (k8_t1 : Fin k8_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k8_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k8_off5 (i : grid8.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c128_i32_100_r0 v76_r0
  ![0, v145_r0.toNat]
def k8_off6 (arg6_r0 : BitVec 32) : Fin 1 → Nat :=
  let c2_i32_99_r0 : BitVec 32 := 2#32
  let v144_r0 : BitVec 32 := Scalar.remui arg6_r0 c2_i32_99_r0
  ![v144_r0.toNat]
def k8_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k8_cond2 (i : grid8.Coords) (k8_t1 : Fin k8_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k8_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k8_off8 (i : grid8.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c128_i32_99_r0 v66_r0
  ![0, v144_r0.toNat]
def k8_off9 (arg7_r0 : BitVec 32) : Fin 1 → Nat :=
  let c2_i32_100_r0 : BitVec 32 := 2#32
  let v145_r0 : BitVec 32 := Scalar.remui arg7_r0 c2_i32_100_r0
  ![v145_r0.toNat]
def k8_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k8_chk2 (arg8_r0 : BitVec 32) : Prop :=
  (∀ a, (k8_off10 arg8_r0) a + S1x128x128.size a ≤ S2x128x128.size a)
theorem k8_off10_inb : ∀ (arg8_r0 : BitVec 32) (k8_hw2 : k8_chk2 arg8_r0), ∀ a, (k8_off10 arg8_r0) a + S1x128x128.size a ≤ S2x128x128.size a := fun arg8_r0 k8_hw2 => k8_hw2

def k8_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k8_chk3 (arg7_r0 : BitVec 32) : Prop :=
  (∀ a, (k8_off11 arg7_r0) a + S1x1x128.size a ≤ S2x1x128.size a)
theorem k8_off11_inb : ∀ (arg7_r0 : BitVec 32) (k8_hw3 : k8_chk3 arg7_r0), ∀ a, (k8_off11 arg7_r0) a + S1x1x128.size a ≤ S2x1x128.size a := fun arg7_r0 k8_hw3 => k8_hw3

def k8_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k8_cond5 (i : grid8.Coords) (k8_t1 : Fin k8_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k8_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k8_off13 (i : grid8.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k8_off14 (arg8_r0 : BitVec 32) : Fin 1 → Nat :=
  let c2_i32_99_r0 : BitVec 32 := 2#32
  let v144_r0 : BitVec 32 := Scalar.remui arg8_r0 c2_i32_99_r0
  ![v144_r0.toNat]
def k8_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k8_cond7 (i : grid8.Coords) (k8_t1 : Fin k8_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k8_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k8_off16 (i : grid8.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c128_i32_100_r0 v71_r0
  let c0_i32_103_r0 : BitVec 32 := 0#32
  ![v145_r0.toNat, 0]
def k8_off17 (arg9_r0 : BitVec 32) : Fin 1 → Nat :=
  let c2_i32_99_r0 : BitVec 32 := 2#32
  let v144_r0 : BitVec 32 := Scalar.remui arg9_r0 c2_i32_99_r0
  ![v144_r0.toNat]

def k8_chk1 (i : grid8.Coords) (k8_t1 : Fin k8_t1_loop.trips) (arg6_r0 : BitVec 32) (arg7_r0 : BitVec 32) (arg8_r0 : BitVec 32) (arg9_r0 : BitVec 32) (arg10_r0 : BitVec 32) : Prop :=
  (∀ (k8_h1 : k8_cond1 i k8_t1 arg10_r0 = 1#1), ∀ a, (k8_off4 arg6_r0) a + S1x1x128.size a ≤ S2x1x128.size a) ∧
  (∀ (k8_h1 : k8_cond1 i k8_t1 arg10_r0 = 1#1), ∀ a, (k8_off5 i arg10_r0) a + S1x128.size a ≤ S1x32768.size a) ∧
  (∀ (k8_h1 : k8_cond1 i k8_t1 arg10_r0 = 1#1), ∀ a, (k8_off6 arg6_r0) a + S1.size a ≤ S2.size a) ∧
  (∀ (k8_h2 : k8_cond2 i k8_t1 arg10_r0 = 1#1), ∀ a, (k8_off7 arg7_r0) a + S1x1x128.size a ≤ S2x1x128.size a) ∧
  (∀ (k8_h2 : k8_cond2 i k8_t1 arg10_r0 = 1#1), ∀ a, (k8_off8 i arg10_r0) a + S1x128.size a ≤ S1x32768.size a) ∧
  (∀ (k8_h2 : k8_cond2 i k8_t1 arg10_r0 = 1#1), ∀ a, (k8_off9 arg7_r0) a + S1.size a ≤ S2.size a) ∧
  (∀ (k8_h5 : k8_cond5 i k8_t1 arg10_r0 = 1#1), ∀ a, (k8_off12 arg8_r0) a + S1x128x128.size a ≤ S2x128x128.size a) ∧
  (∀ (k8_h5 : k8_cond5 i k8_t1 arg10_r0 = 1#1), ∀ a, (k8_off13 i arg10_r0) a + S128x128.size a ≤ S32768x128.size a) ∧
  (∀ (k8_h5 : k8_cond5 i k8_t1 arg10_r0 = 1#1), ∀ a, (k8_off14 arg8_r0) a + S1.size a ≤ S2.size a) ∧
  (∀ (k8_h7 : k8_cond7 i k8_t1 arg10_r0 = 1#1), ∀ a, (k8_off15 arg9_r0) a + S1x128x128.size a ≤ S2x128x128.size a) ∧
  (∀ (k8_h7 : k8_cond7 i k8_t1 arg10_r0 = 1#1), ∀ a, (k8_off16 i arg10_r0) a + S128x128.size a ≤ S32768x128.size a) ∧
  (∀ (k8_h7 : k8_cond7 i k8_t1 arg10_r0 = 1#1), ∀ a, (k8_off17 arg9_r0) a + S1.size a ≤ S2.size a)
theorem k8_off4_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i k8_t1 arg10_r0 = 1#1), ∀ a, (k8_off4 arg6_r0) a + S1x1x128.size a ≤ S2x1x128.size a := fun i k8_t1 arg6_r0 arg7_r0 arg8_r0 arg9_r0 arg10_r0 k8_hw1 k8_h1 => k8_hw1.1 k8_h1
theorem k8_off5_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i k8_t1 arg10_r0 = 1#1), ∀ a, (k8_off5 i arg10_r0) a + S1x128.size a ≤ S1x32768.size a := fun i k8_t1 arg6_r0 arg7_r0 arg8_r0 arg9_r0 arg10_r0 k8_hw1 k8_h1 => k8_hw1.2.1 k8_h1
theorem k8_off6_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i k8_t1 arg10_r0 = 1#1), ∀ a, (k8_off6 arg6_r0) a + S1.size a ≤ S2.size a := fun i k8_t1 arg6_r0 arg7_r0 arg8_r0 arg9_r0 arg10_r0 k8_hw1 k8_h1 => k8_hw1.2.2.1 k8_h1
theorem k8_off7_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h2 : k8_cond2 i k8_t1 arg10_r0 = 1#1), ∀ a, (k8_off7 arg7_r0) a + S1x1x128.size a ≤ S2x1x128.size a := fun i k8_t1 arg6_r0 arg7_r0 arg8_r0 arg9_r0 arg10_r0 k8_hw1 k8_h2 => k8_hw1.2.2.2.1 k8_h2
theorem k8_off8_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h2 : k8_cond2 i k8_t1 arg10_r0 = 1#1), ∀ a, (k8_off8 i arg10_r0) a + S1x128.size a ≤ S1x32768.size a := fun i k8_t1 arg6_r0 arg7_r0 arg8_r0 arg9_r0 arg10_r0 k8_hw1 k8_h2 => k8_hw1.2.2.2.2.1 k8_h2
theorem k8_off9_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h2 : k8_cond2 i k8_t1 arg10_r0 = 1#1), ∀ a, (k8_off9 arg7_r0) a + S1.size a ≤ S2.size a := fun i k8_t1 arg6_r0 arg7_r0 arg8_r0 arg9_r0 arg10_r0 k8_hw1 k8_h2 => k8_hw1.2.2.2.2.2.1 k8_h2
theorem k8_off12_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h5 : k8_cond5 i k8_t1 arg10_r0 = 1#1), ∀ a, (k8_off12 arg8_r0) a + S1x128x128.size a ≤ S2x128x128.size a := fun i k8_t1 arg6_r0 arg7_r0 arg8_r0 arg9_r0 arg10_r0 k8_hw1 k8_h5 => k8_hw1.2.2.2.2.2.2.1 k8_h5
theorem k8_off13_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h5 : k8_cond5 i k8_t1 arg10_r0 = 1#1), ∀ a, (k8_off13 i arg10_r0) a + S128x128.size a ≤ S32768x128.size a := fun i k8_t1 arg6_r0 arg7_r0 arg8_r0 arg9_r0 arg10_r0 k8_hw1 k8_h5 => k8_hw1.2.2.2.2.2.2.2.1 k8_h5
theorem k8_off14_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h5 : k8_cond5 i k8_t1 arg10_r0 = 1#1), ∀ a, (k8_off14 arg8_r0) a + S1.size a ≤ S2.size a := fun i k8_t1 arg6_r0 arg7_r0 arg8_r0 arg9_r0 arg10_r0 k8_hw1 k8_h5 => k8_hw1.2.2.2.2.2.2.2.2.1 k8_h5
theorem k8_off15_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h7 : k8_cond7 i k8_t1 arg10_r0 = 1#1), ∀ a, (k8_off15 arg9_r0) a + S1x128x128.size a ≤ S2x128x128.size a := fun i k8_t1 arg6_r0 arg7_r0 arg8_r0 arg9_r0 arg10_r0 k8_hw1 k8_h7 => k8_hw1.2.2.2.2.2.2.2.2.2.1 k8_h7
theorem k8_off16_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h7 : k8_cond7 i k8_t1 arg10_r0 = 1#1), ∀ a, (k8_off16 i arg10_r0) a + S128x128.size a ≤ S32768x128.size a := fun i k8_t1 arg6_r0 arg7_r0 arg8_r0 arg9_r0 arg10_r0 k8_hw1 k8_h7 => k8_hw1.2.2.2.2.2.2.2.2.2.2.1 k8_h7
theorem k8_off17_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h7 : k8_cond7 i k8_t1 arg10_r0 = 1#1), ∀ a, (k8_off17 arg9_r0) a + S1.size a ≤ S2.size a := fun i k8_t1 arg6_r0 arg7_r0 arg8_r0 arg9_r0 arg10_r0 k8_hw1 k8_h7 => k8_hw1.2.2.2.2.2.2.2.2.2.2.2 k8_h7

def k8_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k8_off19 (i : grid8.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c128_i32_47_r0 v38_r0
  let c0_i32_50_r0 : BitVec 32 := 0#32
  ![v55_r0.toNat, 0]

def k8_chk5 (i : grid8.Coords) (v33_4_r0 : BitVec 32) : Prop :=
  (∀ a, (k8_off19 i v33_4_r0) a + S128x128.size a ≤ S32768x128.size a)
theorem k8_off19_inb : ∀ (i : grid8.Coords) (v33_4_r0 : BitVec 32) (k8_hw5 : k8_chk5 i v33_4_r0), ∀ a, (k8_off19 i v33_4_r0) a + S128x128.size a ≤ S32768x128.size a := fun i v33_4_r0 k8_hw5 => k8_hw5

def k8_off20 (v33_3_r0 : BitVec 32) : Fin 1 → Nat :=
  let c2_i32_46_r0 : BitVec 32 := 2#32
  let v54_r0 : BitVec 32 := Scalar.remui v33_3_r0 c2_i32_46_r0
  ![v54_r0.toNat]
def k8_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k8_chk4 (v33_3_r0 : BitVec 32) : Prop :=
  (∀ a, (k8_off18 v33_3_r0) a + S1x128x128.size a ≤ S2x128x128.size a) ∧
  (∀ a, (k8_off20 v33_3_r0) a + S1.size a ≤ S2.size a) ∧
  (∀ a, (k8_off21 v33_3_r0) a + S1x128x128.size a ≤ S2x128x128.size a)
theorem k8_off18_inb : ∀ (v33_3_r0 : BitVec 32) (k8_hw4 : k8_chk4 v33_3_r0), ∀ a, (k8_off18 v33_3_r0) a + S1x128x128.size a ≤ S2x128x128.size a := fun v33_3_r0 k8_hw4 => k8_hw4.1
theorem k8_off20_inb : ∀ (v33_3_r0 : BitVec 32) (k8_hw4 : k8_chk4 v33_3_r0), ∀ a, (k8_off20 v33_3_r0) a + S1.size a ≤ S2.size a := fun v33_3_r0 k8_hw4 => k8_hw4.2.1
theorem k8_off21_inb : ∀ (v33_3_r0 : BitVec 32) (k8_hw4 : k8_chk4 v33_3_r0), ∀ a, (k8_off21 v33_3_r0) a + S1x128x128.size a ≤ S2x128x128.size a := fun v33_3_r0 k8_hw4 => k8_hw4.2.2

abbrev grid9 : Pipeline.Grid := ⟨1, ![16], ![false]⟩

def cc9_transform_1 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 3 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  let c0_i32_1 : BitVec 32 := 0#32
  ![v0.toNat, c0_i32.toNat, c0_i32_0.toNat]

abbrev stage9_0 : Fin 2 → Memref sig .tc .vmem S8x256x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S8x256 .i32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S256x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S2x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S8x256x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨2, ![2, 16], ![false, false]⟩

def k10_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k10_off2 (i : grid10.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c128_i32_r0 v7_r0
  ![0, v22_r0.toNat]
def k10_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k10_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k10_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k10_cond1 (i : grid10.Coords) (k10_t1 : Fin k10_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k10_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k10_off5 (i : grid10.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c128_i32_100_r0 v76_r0
  ![0, v145_r0.toNat]
def k10_off6 (arg6_r0 : BitVec 32) : Fin 1 → Nat :=
  let c2_i32_99_r0 : BitVec 32 := 2#32
  let v144_r0 : BitVec 32 := Scalar.remui arg6_r0 c2_i32_99_r0
  ![v144_r0.toNat]
def k10_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k10_cond2 (i : grid10.Coords) (k10_t1 : Fin k10_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k10_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k10_off8 (i : grid10.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c128_i32_99_r0 v66_r0
  ![0, v144_r0.toNat]
def k10_off9 (arg7_r0 : BitVec 32) : Fin 1 → Nat :=
  let c2_i32_100_r0 : BitVec 32 := 2#32
  let v145_r0 : BitVec 32 := Scalar.remui arg7_r0 c2_i32_100_r0
  ![v145_r0.toNat]
def k10_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k10_chk2 (arg8_r0 : BitVec 32) : Prop :=
  (∀ a, (k10_off10 arg8_r0) a + S1x128x128.size a ≤ S2x128x128.size a)
theorem k10_off10_inb : ∀ (arg8_r0 : BitVec 32) (k10_hw2 : k10_chk2 arg8_r0), ∀ a, (k10_off10 arg8_r0) a + S1x128x128.size a ≤ S2x128x128.size a := fun arg8_r0 k10_hw2 => k10_hw2

def k10_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k10_chk3 (arg7_r0 : BitVec 32) : Prop :=
  (∀ a, (k10_off11 arg7_r0) a + S1x1x128.size a ≤ S2x1x128.size a)
theorem k10_off11_inb : ∀ (arg7_r0 : BitVec 32) (k10_hw3 : k10_chk3 arg7_r0), ∀ a, (k10_off11 arg7_r0) a + S1x1x128.size a ≤ S2x1x128.size a := fun arg7_r0 k10_hw3 => k10_hw3

def k10_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k10_cond5 (i : grid10.Coords) (k10_t1 : Fin k10_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k10_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k10_off13 (i : grid10.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k10_off14 (arg8_r0 : BitVec 32) : Fin 1 → Nat :=
  let c2_i32_99_r0 : BitVec 32 := 2#32
  let v144_r0 : BitVec 32 := Scalar.remui arg8_r0 c2_i32_99_r0
  ![v144_r0.toNat]
def k10_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k10_cond7 (i : grid10.Coords) (k10_t1 : Fin k10_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k10_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k10_off16 (i : grid10.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c128_i32_100_r0 v71_r0
  let c0_i32_103_r0 : BitVec 32 := 0#32
  ![v145_r0.toNat, 0]
def k10_off17 (arg9_r0 : BitVec 32) : Fin 1 → Nat :=
  let c2_i32_99_r0 : BitVec 32 := 2#32
  let v144_r0 : BitVec 32 := Scalar.remui arg9_r0 c2_i32_99_r0
  ![v144_r0.toNat]

def k10_chk1 (i : grid10.Coords) (k10_t1 : Fin k10_t1_loop.trips) (arg6_r0 : BitVec 32) (arg7_r0 : BitVec 32) (arg8_r0 : BitVec 32) (arg9_r0 : BitVec 32) (arg10_r0 : BitVec 32) : Prop :=
  (∀ (k10_h1 : k10_cond1 i k10_t1 arg10_r0 = 1#1), ∀ a, (k10_off4 arg6_r0) a + S1x1x128.size a ≤ S2x1x128.size a) ∧
  (∀ (k10_h1 : k10_cond1 i k10_t1 arg10_r0 = 1#1), ∀ a, (k10_off5 i arg10_r0) a + S1x128.size a ≤ S1x32768.size a) ∧
  (∀ (k10_h1 : k10_cond1 i k10_t1 arg10_r0 = 1#1), ∀ a, (k10_off6 arg6_r0) a + S1.size a ≤ S2.size a) ∧
  (∀ (k10_h2 : k10_cond2 i k10_t1 arg10_r0 = 1#1), ∀ a, (k10_off7 arg7_r0) a + S1x1x128.size a ≤ S2x1x128.size a) ∧
  (∀ (k10_h2 : k10_cond2 i k10_t1 arg10_r0 = 1#1), ∀ a, (k10_off8 i arg10_r0) a + S1x128.size a ≤ S1x32768.size a) ∧
  (∀ (k10_h2 : k10_cond2 i k10_t1 arg10_r0 = 1#1), ∀ a, (k10_off9 arg7_r0) a + S1.size a ≤ S2.size a) ∧
  (∀ (k10_h5 : k10_cond5 i k10_t1 arg10_r0 = 1#1), ∀ a, (k10_off12 arg8_r0) a + S1x128x128.size a ≤ S2x128x128.size a) ∧
  (∀ (k10_h5 : k10_cond5 i k10_t1 arg10_r0 = 1#1), ∀ a, (k10_off13 i arg10_r0) a + S128x128.size a ≤ S32768x128.size a) ∧
  (∀ (k10_h5 : k10_cond5 i k10_t1 arg10_r0 = 1#1), ∀ a, (k10_off14 arg8_r0) a + S1.size a ≤ S2.size a) ∧
  (∀ (k10_h7 : k10_cond7 i k10_t1 arg10_r0 = 1#1), ∀ a, (k10_off15 arg9_r0) a + S1x128x128.size a ≤ S2x128x128.size a) ∧
  (∀ (k10_h7 : k10_cond7 i k10_t1 arg10_r0 = 1#1), ∀ a, (k10_off16 i arg10_r0) a + S128x128.size a ≤ S32768x128.size a) ∧
  (∀ (k10_h7 : k10_cond7 i k10_t1 arg10_r0 = 1#1), ∀ a, (k10_off17 arg9_r0) a + S1.size a ≤ S2.size a)
theorem k10_off4_inb : ∀ (i : grid10.Coords) (k10_t1 : Fin k10_t1_loop.trips) (arg6_r0 : BitVec 32) (arg7_r0 : BitVec 32) (arg8_r0 : BitVec 32) (arg9_r0 : BitVec 32) (arg10_r0 : BitVec 32) (k10_hw1 : k10_chk1 i k10_t1 arg6_r0 arg7_r0 arg8_r0 arg9_r0 arg10_r0), ∀ (k10_h1 : k10_cond1 i k10_t1 arg10_r0 = 1#1), ∀ a, (k10_off4 arg6_r0) a + S1x1x128.size a ≤ S2x1x128.size a := fun i k10_t1 arg6_r0 arg7_r0 arg8_r0 arg9_r0 arg10_r0 k10_hw1 k10_h1 => k10_hw1.1 k10_h1
theorem k10_off5_inb : ∀ (i : grid10.Coords) (k10_t1 : Fin k10_t1_loop.trips) (arg6_r0 : BitVec 32) (arg7_r0 : BitVec 32) (arg8_r0 : BitVec 32) (arg9_r0 : BitVec 32) (arg10_r0 : BitVec 32) (k10_hw1 : k10_chk1 i k10_t1 arg6_r0 arg7_r0 arg8_r0 arg9_r0 arg10_r0), ∀ (k10_h1 : k10_cond1 i k10_t1 arg10_r0 = 1#1), ∀ a, (k10_off5 i arg10_r0) a + S1x128.size a ≤ S1x32768.size a := fun i k10_t1 arg6_r0 arg7_r0 arg8_r0 arg9_r0 arg10_r0 k10_hw1 k10_h1 => k10_hw1.2.1 k10_h1
theorem k10_off6_inb : ∀ (i : grid10.Coords) (k10_t1 : Fin k10_t1_loop.trips) (arg6_r0 : BitVec 32) (arg7_r0 : BitVec 32) (arg8_r0 : BitVec 32) (arg9_r0 : BitVec 32) (arg10_r0 : BitVec 32) (k10_hw1 : k10_chk1 i k10_t1 arg6_r0 arg7_r0 arg8_r0 arg9_r0 arg10_r0), ∀ (k10_h1 : k10_cond1 i k10_t1 arg10_r0 = 1#1), ∀ a, (k10_off6 arg6_r0) a + S1.size a ≤ S2.size a := fun i k10_t1 arg6_r0 arg7_r0 arg8_r0 arg9_r0 arg10_r0 k10_hw1 k10_h1 => k10_hw1.2.2.1 k10_h1
theorem k10_off7_inb : ∀ (i : grid10.Coords) (k10_t1 : Fin k10_t1_loop.trips) (arg6_r0 : BitVec 32) (arg7_r0 : BitVec 32) (arg8_r0 : BitVec 32) (arg9_r0 : BitVec 32) (arg10_r0 : BitVec 32) (k10_hw1 : k10_chk1 i k10_t1 arg6_r0 arg7_r0 arg8_r0 arg9_r0 arg10_r0), ∀ (k10_h2 : k10_cond2 i k10_t1 arg10_r0 = 1#1), ∀ a, (k10_off7 arg7_r0) a + S1x1x128.size a ≤ S2x1x128.size a := fun i k10_t1 arg6_r0 arg7_r0 arg8_r0 arg9_r0 arg10_r0 k10_hw1 k10_h2 => k10_hw1.2.2.2.1 k10_h2
theorem k10_off8_inb : ∀ (i : grid10.Coords) (k10_t1 : Fin k10_t1_loop.trips) (arg6_r0 : BitVec 32) (arg7_r0 : BitVec 32) (arg8_r0 : BitVec 32) (arg9_r0 : BitVec 32) (arg10_r0 : BitVec 32) (k10_hw1 : k10_chk1 i k10_t1 arg6_r0 arg7_r0 arg8_r0 arg9_r0 arg10_r0), ∀ (k10_h2 : k10_cond2 i k10_t1 arg10_r0 = 1#1), ∀ a, (k10_off8 i arg10_r0) a + S1x128.size a ≤ S1x32768.size a := fun i k10_t1 arg6_r0 arg7_r0 arg8_r0 arg9_r0 arg10_r0 k10_hw1 k10_h2 => k10_hw1.2.2.2.2.1 k10_h2
theorem k10_off9_inb : ∀ (i : grid10.Coords) (k10_t1 : Fin k10_t1_loop.trips) (arg6_r0 : BitVec 32) (arg7_r0 : BitVec 32) (arg8_r0 : BitVec 32) (arg9_r0 : BitVec 32) (arg10_r0 : BitVec 32) (k10_hw1 : k10_chk1 i k10_t1 arg6_r0 arg7_r0 arg8_r0 arg9_r0 arg10_r0), ∀ (k10_h2 : k10_cond2 i k10_t1 arg10_r0 = 1#1), ∀ a, (k10_off9 arg7_r0) a + S1.size a ≤ S2.size a := fun i k10_t1 arg6_r0 arg7_r0 arg8_r0 arg9_r0 arg10_r0 k10_hw1 k10_h2 => k10_hw1.2.2.2.2.2.1 k10_h2
theorem k10_off12_inb : ∀ (i : grid10.Coords) (k10_t1 : Fin k10_t1_loop.trips) (arg6_r0 : BitVec 32) (arg7_r0 : BitVec 32) (arg8_r0 : BitVec 32) (arg9_r0 : BitVec 32) (arg10_r0 : BitVec 32) (k10_hw1 : k10_chk1 i k10_t1 arg6_r0 arg7_r0 arg8_r0 arg9_r0 arg10_r0), ∀ (k10_h5 : k10_cond5 i k10_t1 arg10_r0 = 1#1), ∀ a, (k10_off12 arg8_r0) a + S1x128x128.size a ≤ S2x128x128.size a := fun i k10_t1 arg6_r0 arg7_r0 arg8_r0 arg9_r0 arg10_r0 k10_hw1 k10_h5 => k10_hw1.2.2.2.2.2.2.1 k10_h5
theorem k10_off13_inb : ∀ (i : grid10.Coords) (k10_t1 : Fin k10_t1_loop.trips) (arg6_r0 : BitVec 32) (arg7_r0 : BitVec 32) (arg8_r0 : BitVec 32) (arg9_r0 : BitVec 32) (arg10_r0 : BitVec 32) (k10_hw1 : k10_chk1 i k10_t1 arg6_r0 arg7_r0 arg8_r0 arg9_r0 arg10_r0), ∀ (k10_h5 : k10_cond5 i k10_t1 arg10_r0 = 1#1), ∀ a, (k10_off13 i arg10_r0) a + S128x128.size a ≤ S32768x128.size a := fun i k10_t1 arg6_r0 arg7_r0 arg8_r0 arg9_r0 arg10_r0 k10_hw1 k10_h5 => k10_hw1.2.2.2.2.2.2.2.1 k10_h5
theorem k10_off14_inb : ∀ (i : grid10.Coords) (k10_t1 : Fin k10_t1_loop.trips) (arg6_r0 : BitVec 32) (arg7_r0 : BitVec 32) (arg8_r0 : BitVec 32) (arg9_r0 : BitVec 32) (arg10_r0 : BitVec 32) (k10_hw1 : k10_chk1 i k10_t1 arg6_r0 arg7_r0 arg8_r0 arg9_r0 arg10_r0), ∀ (k10_h5 : k10_cond5 i k10_t1 arg10_r0 = 1#1), ∀ a, (k10_off14 arg8_r0) a + S1.size a ≤ S2.size a := fun i k10_t1 arg6_r0 arg7_r0 arg8_r0 arg9_r0 arg10_r0 k10_hw1 k10_h5 => k10_hw1.2.2.2.2.2.2.2.2.1 k10_h5
theorem k10_off15_inb : ∀ (i : grid10.Coords) (k10_t1 : Fin k10_t1_loop.trips) (arg6_r0 : BitVec 32) (arg7_r0 : BitVec 32) (arg8_r0 : BitVec 32) (arg9_r0 : BitVec 32) (arg10_r0 : BitVec 32) (k10_hw1 : k10_chk1 i k10_t1 arg6_r0 arg7_r0 arg8_r0 arg9_r0 arg10_r0), ∀ (k10_h7 : k10_cond7 i k10_t1 arg10_r0 = 1#1), ∀ a, (k10_off15 arg9_r0) a + S1x128x128.size a ≤ S2x128x128.size a := fun i k10_t1 arg6_r0 arg7_r0 arg8_r0 arg9_r0 arg10_r0 k10_hw1 k10_h7 => k10_hw1.2.2.2.2.2.2.2.2.2.1 k10_h7
theorem k10_off16_inb : ∀ (i : grid10.Coords) (k10_t1 : Fin k10_t1_loop.trips) (arg6_r0 : BitVec 32) (arg7_r0 : BitVec 32) (arg8_r0 : BitVec 32) (arg9_r0 : BitVec 32) (arg10_r0 : BitVec 32) (k10_hw1 : k10_chk1 i k10_t1 arg6_r0 arg7_r0 arg8_r0 arg9_r0 arg10_r0), ∀ (k10_h7 : k10_cond7 i k10_t1 arg10_r0 = 1#1), ∀ a, (k10_off16 i arg10_r0) a + S128x128.size a ≤ S32768x128.size a := fun i k10_t1 arg6_r0 arg7_r0 arg8_r0 arg9_r0 arg10_r0 k10_hw1 k10_h7 => k10_hw1.2.2.2.2.2.2.2.2.2.2.1 k10_h7
theorem k10_off17_inb : ∀ (i : grid10.Coords) (k10_t1 : Fin k10_t1_loop.trips) (arg6_r0 : BitVec 32) (arg7_r0 : BitVec 32) (arg8_r0 : BitVec 32) (arg9_r0 : BitVec 32) (arg10_r0 : BitVec 32) (k10_hw1 : k10_chk1 i k10_t1 arg6_r0 arg7_r0 arg8_r0 arg9_r0 arg10_r0), ∀ (k10_h7 : k10_cond7 i k10_t1 arg10_r0 = 1#1), ∀ a, (k10_off17 arg9_r0) a + S1.size a ≤ S2.size a := fun i k10_t1 arg6_r0 arg7_r0 arg8_r0 arg9_r0 arg10_r0 k10_hw1 k10_h7 => k10_hw1.2.2.2.2.2.2.2.2.2.2.2 k10_h7

def k10_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k10_off19 (i : grid10.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c128_i32_47_r0 v38_r0
  let c0_i32_50_r0 : BitVec 32 := 0#32
  ![v55_r0.toNat, 0]

def k10_chk5 (i : grid10.Coords) (v33_4_r0 : BitVec 32) : Prop :=
  (∀ a, (k10_off19 i v33_4_r0) a + S128x128.size a ≤ S32768x128.size a)
theorem k10_off19_inb : ∀ (i : grid10.Coords) (v33_4_r0 : BitVec 32) (k10_hw5 : k10_chk5 i v33_4_r0), ∀ a, (k10_off19 i v33_4_r0) a + S128x128.size a ≤ S32768x128.size a := fun i v33_4_r0 k10_hw5 => k10_hw5

def k10_off20 (v33_3_r0 : BitVec 32) : Fin 1 → Nat :=
  let c2_i32_46_r0 : BitVec 32 := 2#32
  let v54_r0 : BitVec 32 := Scalar.remui v33_3_r0 c2_i32_46_r0
  ![v54_r0.toNat]
def k10_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k10_chk4 (v33_3_r0 : BitVec 32) : Prop :=
  (∀ a, (k10_off18 v33_3_r0) a + S1x128x128.size a ≤ S2x128x128.size a) ∧
  (∀ a, (k10_off20 v33_3_r0) a + S1.size a ≤ S2.size a) ∧
  (∀ a, (k10_off21 v33_3_r0) a + S1x128x128.size a ≤ S2x128x128.size a)
theorem k10_off18_inb : ∀ (v33_3_r0 : BitVec 32) (k10_hw4 : k10_chk4 v33_3_r0), ∀ a, (k10_off18 v33_3_r0) a + S1x128x128.size a ≤ S2x128x128.size a := fun v33_3_r0 k10_hw4 => k10_hw4.1
theorem k10_off20_inb : ∀ (v33_3_r0 : BitVec 32) (k10_hw4 : k10_chk4 v33_3_r0), ∀ a, (k10_off20 v33_3_r0) a + S1.size a ≤ S2.size a := fun v33_3_r0 k10_hw4 => k10_hw4.2.1
theorem k10_off21_inb : ∀ (v33_3_r0 : BitVec 32) (k10_hw4 : k10_chk4 v33_3_r0), ∀ a, (k10_off21 v33_3_r0) a + S1x128x128.size a ≤ S2x128x128.size a := fun v33_3_r0 k10_hw4 => k10_hw4.2.2

abbrev grid11 : Pipeline.Grid := ⟨1, ![16], ![false]⟩

def cc11_transform_1 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 3 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  let c0_i32_1 : BitVec 32 := 0#32
  ![v0.toNat, c0_i32.toNat, c0_i32_0.toNat]

abbrev stage11_0 : Fin 2 → Memref sig .tc .vmem S8x256x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S8x256 .i32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S256x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S2x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S8x256x128 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev grid12 : Pipeline.Grid := ⟨2, ![2, 16], ![false, false]⟩

def k12_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k12_off2 (i : grid12.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c128_i32_r0 v7_r0
  ![0, v22_r0.toNat]
def k12_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k12_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k12_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k12_cond1 (i : grid12.Coords) (k12_t1 : Fin k12_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k12_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k12_off5 (i : grid12.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c128_i32_100_r0 v76_r0
  ![0, v145_r0.toNat]
def k12_off6 (arg6_r0 : BitVec 32) : Fin 1 → Nat :=
  let c2_i32_99_r0 : BitVec 32 := 2#32
  let v144_r0 : BitVec 32 := Scalar.remui arg6_r0 c2_i32_99_r0
  ![v144_r0.toNat]
def k12_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k12_cond2 (i : grid12.Coords) (k12_t1 : Fin k12_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k12_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k12_off8 (i : grid12.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c128_i32_99_r0 v66_r0
  ![0, v144_r0.toNat]
def k12_off9 (arg7_r0 : BitVec 32) : Fin 1 → Nat :=
  let c2_i32_100_r0 : BitVec 32 := 2#32
  let v145_r0 : BitVec 32 := Scalar.remui arg7_r0 c2_i32_100_r0
  ![v145_r0.toNat]
def k12_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k12_chk2 (arg8_r0 : BitVec 32) : Prop :=
  (∀ a, (k12_off10 arg8_r0) a + S1x128x128.size a ≤ S2x128x128.size a)
theorem k12_off10_inb : ∀ (arg8_r0 : BitVec 32) (k12_hw2 : k12_chk2 arg8_r0), ∀ a, (k12_off10 arg8_r0) a + S1x128x128.size a ≤ S2x128x128.size a := fun arg8_r0 k12_hw2 => k12_hw2

def k12_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k12_chk3 (arg7_r0 : BitVec 32) : Prop :=
  (∀ a, (k12_off11 arg7_r0) a + S1x1x128.size a ≤ S2x1x128.size a)
theorem k12_off11_inb : ∀ (arg7_r0 : BitVec 32) (k12_hw3 : k12_chk3 arg7_r0), ∀ a, (k12_off11 arg7_r0) a + S1x1x128.size a ≤ S2x1x128.size a := fun arg7_r0 k12_hw3 => k12_hw3

def k12_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k12_cond5 (i : grid12.Coords) (k12_t1 : Fin k12_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k12_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k12_off13 (i : grid12.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k12_off14 (arg8_r0 : BitVec 32) : Fin 1 → Nat :=
  let c2_i32_99_r0 : BitVec 32 := 2#32
  let v144_r0 : BitVec 32 := Scalar.remui arg8_r0 c2_i32_99_r0
  ![v144_r0.toNat]
def k12_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k12_cond7 (i : grid12.Coords) (k12_t1 : Fin k12_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k12_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k12_off16 (i : grid12.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c128_i32_100_r0 v71_r0
  let c0_i32_103_r0 : BitVec 32 := 0#32
  ![v145_r0.toNat, 0]
def k12_off17 (arg9_r0 : BitVec 32) : Fin 1 → Nat :=
  let c2_i32_99_r0 : BitVec 32 := 2#32
  let v144_r0 : BitVec 32 := Scalar.remui arg9_r0 c2_i32_99_r0
  ![v144_r0.toNat]

def k12_chk1 (i : grid12.Coords) (k12_t1 : Fin k12_t1_loop.trips) (arg6_r0 : BitVec 32) (arg7_r0 : BitVec 32) (arg8_r0 : BitVec 32) (arg9_r0 : BitVec 32) (arg10_r0 : BitVec 32) : Prop :=
  (∀ (k12_h1 : k12_cond1 i k12_t1 arg10_r0 = 1#1), ∀ a, (k12_off4 arg6_r0) a + S1x1x128.size a ≤ S2x1x128.size a) ∧
  (∀ (k12_h1 : k12_cond1 i k12_t1 arg10_r0 = 1#1), ∀ a, (k12_off5 i arg10_r0) a + S1x128.size a ≤ S1x32768.size a) ∧
  (∀ (k12_h1 : k12_cond1 i k12_t1 arg10_r0 = 1#1), ∀ a, (k12_off6 arg6_r0) a + S1.size a ≤ S2.size a) ∧
  (∀ (k12_h2 : k12_cond2 i k12_t1 arg10_r0 = 1#1), ∀ a, (k12_off7 arg7_r0) a + S1x1x128.size a ≤ S2x1x128.size a) ∧
  (∀ (k12_h2 : k12_cond2 i k12_t1 arg10_r0 = 1#1), ∀ a, (k12_off8 i arg10_r0) a + S1x128.size a ≤ S1x32768.size a) ∧
  (∀ (k12_h2 : k12_cond2 i k12_t1 arg10_r0 = 1#1), ∀ a, (k12_off9 arg7_r0) a + S1.size a ≤ S2.size a) ∧
  (∀ (k12_h5 : k12_cond5 i k12_t1 arg10_r0 = 1#1), ∀ a, (k12_off12 arg8_r0) a + S1x128x128.size a ≤ S2x128x128.size a) ∧
  (∀ (k12_h5 : k12_cond5 i k12_t1 arg10_r0 = 1#1), ∀ a, (k12_off13 i arg10_r0) a + S128x128.size a ≤ S32768x128.size a) ∧
  (∀ (k12_h5 : k12_cond5 i k12_t1 arg10_r0 = 1#1), ∀ a, (k12_off14 arg8_r0) a + S1.size a ≤ S2.size a) ∧
  (∀ (k12_h7 : k12_cond7 i k12_t1 arg10_r0 = 1#1), ∀ a, (k12_off15 arg9_r0) a + S1x128x128.size a ≤ S2x128x128.size a) ∧
  (∀ (k12_h7 : k12_cond7 i k12_t1 arg10_r0 = 1#1), ∀ a, (k12_off16 i arg10_r0) a + S128x128.size a ≤ S32768x128.size a) ∧
  (∀ (k12_h7 : k12_cond7 i k12_t1 arg10_r0 = 1#1), ∀ a, (k12_off17 arg9_r0) a + S1.size a ≤ S2.size a)
theorem k12_off4_inb : ∀ (i : grid12.Coords) (k12_t1 : Fin k12_t1_loop.trips) (arg6_r0 : BitVec 32) (arg7_r0 : BitVec 32) (arg8_r0 : BitVec 32) (arg9_r0 : BitVec 32) (arg10_r0 : BitVec 32) (k12_hw1 : k12_chk1 i k12_t1 arg6_r0 arg7_r0 arg8_r0 arg9_r0 arg10_r0), ∀ (k12_h1 : k12_cond1 i k12_t1 arg10_r0 = 1#1), ∀ a, (k12_off4 arg6_r0) a + S1x1x128.size a ≤ S2x1x128.size a := fun i k12_t1 arg6_r0 arg7_r0 arg8_r0 arg9_r0 arg10_r0 k12_hw1 k12_h1 => k12_hw1.1 k12_h1
theorem k12_off5_inb : ∀ (i : grid12.Coords) (k12_t1 : Fin k12_t1_loop.trips) (arg6_r0 : BitVec 32) (arg7_r0 : BitVec 32) (arg8_r0 : BitVec 32) (arg9_r0 : BitVec 32) (arg10_r0 : BitVec 32) (k12_hw1 : k12_chk1 i k12_t1 arg6_r0 arg7_r0 arg8_r0 arg9_r0 arg10_r0), ∀ (k12_h1 : k12_cond1 i k12_t1 arg10_r0 = 1#1), ∀ a, (k12_off5 i arg10_r0) a + S1x128.size a ≤ S1x32768.size a := fun i k12_t1 arg6_r0 arg7_r0 arg8_r0 arg9_r0 arg10_r0 k12_hw1 k12_h1 => k12_hw1.2.1 k12_h1
theorem k12_off6_inb : ∀ (i : grid12.Coords) (k12_t1 : Fin k12_t1_loop.trips) (arg6_r0 : BitVec 32) (arg7_r0 : BitVec 32) (arg8_r0 : BitVec 32) (arg9_r0 : BitVec 32) (arg10_r0 : BitVec 32) (k12_hw1 : k12_chk1 i k12_t1 arg6_r0 arg7_r0 arg8_r0 arg9_r0 arg10_r0), ∀ (k12_h1 : k12_cond1 i k12_t1 arg10_r0 = 1#1), ∀ a, (k12_off6 arg6_r0) a + S1.size a ≤ S2.size a := fun i k12_t1 arg6_r0 arg7_r0 arg8_r0 arg9_r0 arg10_r0 k12_hw1 k12_h1 => k12_hw1.2.2.1 k12_h1
theorem k12_off7_inb : ∀ (i : grid12.Coords) (k12_t1 : Fin k12_t1_loop.trips) (arg6_r0 : BitVec 32) (arg7_r0 : BitVec 32) (arg8_r0 : BitVec 32) (arg9_r0 : BitVec 32) (arg10_r0 : BitVec 32) (k12_hw1 : k12_chk1 i k12_t1 arg6_r0 arg7_r0 arg8_r0 arg9_r0 arg10_r0), ∀ (k12_h2 : k12_cond2 i k12_t1 arg10_r0 = 1#1), ∀ a, (k12_off7 arg7_r0) a + S1x1x128.size a ≤ S2x1x128.size a := fun i k12_t1 arg6_r0 arg7_r0 arg8_r0 arg9_r0 arg10_r0 k12_hw1 k12_h2 => k12_hw1.2.2.2.1 k12_h2
theorem k12_off8_inb : ∀ (i : grid12.Coords) (k12_t1 : Fin k12_t1_loop.trips) (arg6_r0 : BitVec 32) (arg7_r0 : BitVec 32) (arg8_r0 : BitVec 32) (arg9_r0 : BitVec 32) (arg10_r0 : BitVec 32) (k12_hw1 : k12_chk1 i k12_t1 arg6_r0 arg7_r0 arg8_r0 arg9_r0 arg10_r0), ∀ (k12_h2 : k12_cond2 i k12_t1 arg10_r0 = 1#1), ∀ a, (k12_off8 i arg10_r0) a + S1x128.size a ≤ S1x32768.size a := fun i k12_t1 arg6_r0 arg7_r0 arg8_r0 arg9_r0 arg10_r0 k12_hw1 k12_h2 => k12_hw1.2.2.2.2.1 k12_h2
theorem k12_off9_inb : ∀ (i : grid12.Coords) (k12_t1 : Fin k12_t1_loop.trips) (arg6_r0 : BitVec 32) (arg7_r0 : BitVec 32) (arg8_r0 : BitVec 32) (arg9_r0 : BitVec 32) (arg10_r0 : BitVec 32) (k12_hw1 : k12_chk1 i k12_t1 arg6_r0 arg7_r0 arg8_r0 arg9_r0 arg10_r0), ∀ (k12_h2 : k12_cond2 i k12_t1 arg10_r0 = 1#1), ∀ a, (k12_off9 arg7_r0) a + S1.size a ≤ S2.size a := fun i k12_t1 arg6_r0 arg7_r0 arg8_r0 arg9_r0 arg10_r0 k12_hw1 k12_h2 => k12_hw1.2.2.2.2.2.1 k12_h2
theorem k12_off12_inb : ∀ (i : grid12.Coords) (k12_t1 : Fin k12_t1_loop.trips) (arg6_r0 : BitVec 32) (arg7_r0 : BitVec 32) (arg8_r0 : BitVec 32) (arg9_r0 : BitVec 32) (arg10_r0 : BitVec 32) (k12_hw1 : k12_chk1 i k12_t1 arg6_r0 arg7_r0 arg8_r0 arg9_r0 arg10_r0), ∀ (k12_h5 : k12_cond5 i k12_t1 arg10_r0 = 1#1), ∀ a, (k12_off12 arg8_r0) a + S1x128x128.size a ≤ S2x128x128.size a := fun i k12_t1 arg6_r0 arg7_r0 arg8_r0 arg9_r0 arg10_r0 k12_hw1 k12_h5 => k12_hw1.2.2.2.2.2.2.1 k12_h5
theorem k12_off13_inb : ∀ (i : grid12.Coords) (k12_t1 : Fin k12_t1_loop.trips) (arg6_r0 : BitVec 32) (arg7_r0 : BitVec 32) (arg8_r0 : BitVec 32) (arg9_r0 : BitVec 32) (arg10_r0 : BitVec 32) (k12_hw1 : k12_chk1 i k12_t1 arg6_r0 arg7_r0 arg8_r0 arg9_r0 arg10_r0), ∀ (k12_h5 : k12_cond5 i k12_t1 arg10_r0 = 1#1), ∀ a, (k12_off13 i arg10_r0) a + S128x128.size a ≤ S32768x128.size a := fun i k12_t1 arg6_r0 arg7_r0 arg8_r0 arg9_r0 arg10_r0 k12_hw1 k12_h5 => k12_hw1.2.2.2.2.2.2.2.1 k12_h5
theorem k12_off14_inb : ∀ (i : grid12.Coords) (k12_t1 : Fin k12_t1_loop.trips) (arg6_r0 : BitVec 32) (arg7_r0 : BitVec 32) (arg8_r0 : BitVec 32) (arg9_r0 : BitVec 32) (arg10_r0 : BitVec 32) (k12_hw1 : k12_chk1 i k12_t1 arg6_r0 arg7_r0 arg8_r0 arg9_r0 arg10_r0), ∀ (k12_h5 : k12_cond5 i k12_t1 arg10_r0 = 1#1), ∀ a, (k12_off14 arg8_r0) a + S1.size a ≤ S2.size a := fun i k12_t1 arg6_r0 arg7_r0 arg8_r0 arg9_r0 arg10_r0 k12_hw1 k12_h5 => k12_hw1.2.2.2.2.2.2.2.2.1 k12_h5
theorem k12_off15_inb : ∀ (i : grid12.Coords) (k12_t1 : Fin k12_t1_loop.trips) (arg6_r0 : BitVec 32) (arg7_r0 : BitVec 32) (arg8_r0 : BitVec 32) (arg9_r0 : BitVec 32) (arg10_r0 : BitVec 32) (k12_hw1 : k12_chk1 i k12_t1 arg6_r0 arg7_r0 arg8_r0 arg9_r0 arg10_r0), ∀ (k12_h7 : k12_cond7 i k12_t1 arg10_r0 = 1#1), ∀ a, (k12_off15 arg9_r0) a + S1x128x128.size a ≤ S2x128x128.size a := fun i k12_t1 arg6_r0 arg7_r0 arg8_r0 arg9_r0 arg10_r0 k12_hw1 k12_h7 => k12_hw1.2.2.2.2.2.2.2.2.2.1 k12_h7
theorem k12_off16_inb : ∀ (i : grid12.Coords) (k12_t1 : Fin k12_t1_loop.trips) (arg6_r0 : BitVec 32) (arg7_r0 : BitVec 32) (arg8_r0 : BitVec 32) (arg9_r0 : BitVec 32) (arg10_r0 : BitVec 32) (k12_hw1 : k12_chk1 i k12_t1 arg6_r0 arg7_r0 arg8_r0 arg9_r0 arg10_r0), ∀ (k12_h7 : k12_cond7 i k12_t1 arg10_r0 = 1#1), ∀ a, (k12_off16 i arg10_r0) a + S128x128.size a ≤ S32768x128.size a := fun i k12_t1 arg6_r0 arg7_r0 arg8_r0 arg9_r0 arg10_r0 k12_hw1 k12_h7 => k12_hw1.2.2.2.2.2.2.2.2.2.2.1 k12_h7
theorem k12_off17_inb : ∀ (i : grid12.Coords) (k12_t1 : Fin k12_t1_loop.trips) (arg6_r0 : BitVec 32) (arg7_r0 : BitVec 32) (arg8_r0 : BitVec 32) (arg9_r0 : BitVec 32) (arg10_r0 : BitVec 32) (k12_hw1 : k12_chk1 i k12_t1 arg6_r0 arg7_r0 arg8_r0 arg9_r0 arg10_r0), ∀ (k12_h7 : k12_cond7 i k12_t1 arg10_r0 = 1#1), ∀ a, (k12_off17 arg9_r0) a + S1.size a ≤ S2.size a := fun i k12_t1 arg6_r0 arg7_r0 arg8_r0 arg9_r0 arg10_r0 k12_hw1 k12_h7 => k12_hw1.2.2.2.2.2.2.2.2.2.2.2 k12_h7

def k12_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k12_off19 (i : grid12.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c128_i32_47_r0 v38_r0
  let c0_i32_50_r0 : BitVec 32 := 0#32
  ![v55_r0.toNat, 0]

def k12_chk5 (i : grid12.Coords) (v33_4_r0 : BitVec 32) : Prop :=
  (∀ a, (k12_off19 i v33_4_r0) a + S128x128.size a ≤ S32768x128.size a)
theorem k12_off19_inb : ∀ (i : grid12.Coords) (v33_4_r0 : BitVec 32) (k12_hw5 : k12_chk5 i v33_4_r0), ∀ a, (k12_off19 i v33_4_r0) a + S128x128.size a ≤ S32768x128.size a := fun i v33_4_r0 k12_hw5 => k12_hw5

def k12_off20 (v33_3_r0 : BitVec 32) : Fin 1 → Nat :=
  let c2_i32_46_r0 : BitVec 32 := 2#32
  let v54_r0 : BitVec 32 := Scalar.remui v33_3_r0 c2_i32_46_r0
  ![v54_r0.toNat]
def k12_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k12_chk4 (v33_3_r0 : BitVec 32) : Prop :=
  (∀ a, (k12_off18 v33_3_r0) a + S1x128x128.size a ≤ S2x128x128.size a) ∧
  (∀ a, (k12_off20 v33_3_r0) a + S1.size a ≤ S2.size a) ∧
  (∀ a, (k12_off21 v33_3_r0) a + S1x128x128.size a ≤ S2x128x128.size a)
theorem k12_off18_inb : ∀ (v33_3_r0 : BitVec 32) (k12_hw4 : k12_chk4 v33_3_r0), ∀ a, (k12_off18 v33_3_r0) a + S1x128x128.size a ≤ S2x128x128.size a := fun v33_3_r0 k12_hw4 => k12_hw4.1
theorem k12_off20_inb : ∀ (v33_3_r0 : BitVec 32) (k12_hw4 : k12_chk4 v33_3_r0), ∀ a, (k12_off20 v33_3_r0) a + S1.size a ≤ S2.size a := fun v33_3_r0 k12_hw4 => k12_hw4.2.1
theorem k12_off21_inb : ∀ (v33_3_r0 : BitVec 32) (k12_hw4 : k12_chk4 v33_3_r0), ∀ a, (k12_off21 v33_3_r0) a + S1x128x128.size a ≤ S2x128x128.size a := fun v33_3_r0 k12_hw4 => k12_hw4.2.2

abbrev grid13 : Pipeline.Grid := ⟨1, ![16], ![false]⟩

def cc13_transform_1 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_7 (i : grid13.Coords) : Fin 3 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  let c0_i32_1 : BitVec 32 := 0#32
  ![v0.toNat, c0_i32.toNat, c0_i32_0.toNat]

abbrev stage13_0 : Fin 2 → Memref sig .tc .vmem S8x256x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S8x256 .i32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S256x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S2x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S1x128 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 2 → Memref sig .tc .vmem S8x256x128 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev grid14 : Pipeline.Grid := ⟨2, ![2, 16], ![false, false]⟩

def k14_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k14_off2 (i : grid14.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c128_i32_r0 v7_r0
  ![0, v22_r0.toNat]
def k14_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k14_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k14_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k14_cond1 (i : grid14.Coords) (k14_t1 : Fin k14_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k14_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k14_off5 (i : grid14.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c128_i32_100_r0 v76_r0
  ![0, v145_r0.toNat]
def k14_off6 (arg6_r0 : BitVec 32) : Fin 1 → Nat :=
  let c2_i32_99_r0 : BitVec 32 := 2#32
  let v144_r0 : BitVec 32 := Scalar.remui arg6_r0 c2_i32_99_r0
  ![v144_r0.toNat]
def k14_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k14_cond2 (i : grid14.Coords) (k14_t1 : Fin k14_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k14_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k14_off8 (i : grid14.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c128_i32_99_r0 v66_r0
  ![0, v144_r0.toNat]
def k14_off9 (arg7_r0 : BitVec 32) : Fin 1 → Nat :=
  let c2_i32_100_r0 : BitVec 32 := 2#32
  let v145_r0 : BitVec 32 := Scalar.remui arg7_r0 c2_i32_100_r0
  ![v145_r0.toNat]
def k14_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k14_chk2 (arg8_r0 : BitVec 32) : Prop :=
  (∀ a, (k14_off10 arg8_r0) a + S1x128x128.size a ≤ S2x128x128.size a)
theorem k14_off10_inb : ∀ (arg8_r0 : BitVec 32) (k14_hw2 : k14_chk2 arg8_r0), ∀ a, (k14_off10 arg8_r0) a + S1x128x128.size a ≤ S2x128x128.size a := fun arg8_r0 k14_hw2 => k14_hw2

def k14_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k14_chk3 (arg7_r0 : BitVec 32) : Prop :=
  (∀ a, (k14_off11 arg7_r0) a + S1x1x128.size a ≤ S2x1x128.size a)
theorem k14_off11_inb : ∀ (arg7_r0 : BitVec 32) (k14_hw3 : k14_chk3 arg7_r0), ∀ a, (k14_off11 arg7_r0) a + S1x1x128.size a ≤ S2x1x128.size a := fun arg7_r0 k14_hw3 => k14_hw3

def k14_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k14_cond5 (i : grid14.Coords) (k14_t1 : Fin k14_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k14_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k14_off13 (i : grid14.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k14_off14 (arg8_r0 : BitVec 32) : Fin 1 → Nat :=
  let c2_i32_99_r0 : BitVec 32 := 2#32
  let v144_r0 : BitVec 32 := Scalar.remui arg8_r0 c2_i32_99_r0
  ![v144_r0.toNat]
def k14_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k14_cond7 (i : grid14.Coords) (k14_t1 : Fin k14_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k14_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k14_off16 (i : grid14.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c128_i32_100_r0 v71_r0
  let c0_i32_103_r0 : BitVec 32 := 0#32
  ![v145_r0.toNat, 0]
def k14_off17 (arg9_r0 : BitVec 32) : Fin 1 → Nat :=
  let c2_i32_99_r0 : BitVec 32 := 2#32
  let v144_r0 : BitVec 32 := Scalar.remui arg9_r0 c2_i32_99_r0
  ![v144_r0.toNat]

def k14_chk1 (i : grid14.Coords) (k14_t1 : Fin k14_t1_loop.trips) (arg6_r0 : BitVec 32) (arg7_r0 : BitVec 32) (arg8_r0 : BitVec 32) (arg9_r0 : BitVec 32) (arg10_r0 : BitVec 32) : Prop :=
  (∀ (k14_h1 : k14_cond1 i k14_t1 arg10_r0 = 1#1), ∀ a, (k14_off4 arg6_r0) a + S1x1x128.size a ≤ S2x1x128.size a) ∧
  (∀ (k14_h1 : k14_cond1 i k14_t1 arg10_r0 = 1#1), ∀ a, (k14_off5 i arg10_r0) a + S1x128.size a ≤ S1x32768.size a) ∧
  (∀ (k14_h1 : k14_cond1 i k14_t1 arg10_r0 = 1#1), ∀ a, (k14_off6 arg6_r0) a + S1.size a ≤ S2.size a) ∧
  (∀ (k14_h2 : k14_cond2 i k14_t1 arg10_r0 = 1#1), ∀ a, (k14_off7 arg7_r0) a + S1x1x128.size a ≤ S2x1x128.size a) ∧
  (∀ (k14_h2 : k14_cond2 i k14_t1 arg10_r0 = 1#1), ∀ a, (k14_off8 i arg10_r0) a + S1x128.size a ≤ S1x32768.size a) ∧
  (∀ (k14_h2 : k14_cond2 i k14_t1 arg10_r0 = 1#1), ∀ a, (k14_off9 arg7_r0) a + S1.size a ≤ S2.size a) ∧
  (∀ (k14_h5 : k14_cond5 i k14_t1 arg10_r0 = 1#1), ∀ a, (k14_off12 arg8_r0) a + S1x128x128.size a ≤ S2x128x128.size a) ∧
  (∀ (k14_h5 : k14_cond5 i k14_t1 arg10_r0 = 1#1), ∀ a, (k14_off13 i arg10_r0) a + S128x128.size a ≤ S32768x128.size a) ∧
  (∀ (k14_h5 : k14_cond5 i k14_t1 arg10_r0 = 1#1), ∀ a, (k14_off14 arg8_r0) a + S1.size a ≤ S2.size a) ∧
  (∀ (k14_h7 : k14_cond7 i k14_t1 arg10_r0 = 1#1), ∀ a, (k14_off15 arg9_r0) a + S1x128x128.size a ≤ S2x128x128.size a) ∧
  (∀ (k14_h7 : k14_cond7 i k14_t1 arg10_r0 = 1#1), ∀ a, (k14_off16 i arg10_r0) a + S128x128.size a ≤ S32768x128.size a) ∧
  (∀ (k14_h7 : k14_cond7 i k14_t1 arg10_r0 = 1#1), ∀ a, (k14_off17 arg9_r0) a + S1.size a ≤ S2.size a)
theorem k14_off4_inb : ∀ (i : grid14.Coords) (k14_t1 : Fin k14_t1_loop.trips) (arg6_r0 : BitVec 32) (arg7_r0 : BitVec 32) (arg8_r0 : BitVec 32) (arg9_r0 : BitVec 32) (arg10_r0 : BitVec 32) (k14_hw1 : k14_chk1 i k14_t1 arg6_r0 arg7_r0 arg8_r0 arg9_r0 arg10_r0), ∀ (k14_h1 : k14_cond1 i k14_t1 arg10_r0 = 1#1), ∀ a, (k14_off4 arg6_r0) a + S1x1x128.size a ≤ S2x1x128.size a := fun i k14_t1 arg6_r0 arg7_r0 arg8_r0 arg9_r0 arg10_r0 k14_hw1 k14_h1 => k14_hw1.1 k14_h1
theorem k14_off5_inb : ∀ (i : grid14.Coords) (k14_t1 : Fin k14_t1_loop.trips) (arg6_r0 : BitVec 32) (arg7_r0 : BitVec 32) (arg8_r0 : BitVec 32) (arg9_r0 : BitVec 32) (arg10_r0 : BitVec 32) (k14_hw1 : k14_chk1 i k14_t1 arg6_r0 arg7_r0 arg8_r0 arg9_r0 arg10_r0), ∀ (k14_h1 : k14_cond1 i k14_t1 arg10_r0 = 1#1), ∀ a, (k14_off5 i arg10_r0) a + S1x128.size a ≤ S1x32768.size a := fun i k14_t1 arg6_r0 arg7_r0 arg8_r0 arg9_r0 arg10_r0 k14_hw1 k14_h1 => k14_hw1.2.1 k14_h1
theorem k14_off6_inb : ∀ (i : grid14.Coords) (k14_t1 : Fin k14_t1_loop.trips) (arg6_r0 : BitVec 32) (arg7_r0 : BitVec 32) (arg8_r0 : BitVec 32) (arg9_r0 : BitVec 32) (arg10_r0 : BitVec 32) (k14_hw1 : k14_chk1 i k14_t1 arg6_r0 arg7_r0 arg8_r0 arg9_r0 arg10_r0), ∀ (k14_h1 : k14_cond1 i k14_t1 arg10_r0 = 1#1), ∀ a, (k14_off6 arg6_r0) a + S1.size a ≤ S2.size a := fun i k14_t1 arg6_r0 arg7_r0 arg8_r0 arg9_r0 arg10_r0 k14_hw1 k14_h1 => k14_hw1.2.2.1 k14_h1
theorem k14_off7_inb : ∀ (i : grid14.Coords) (k14_t1 : Fin k14_t1_loop.trips) (arg6_r0 : BitVec 32) (arg7_r0 : BitVec 32) (arg8_r0 : BitVec 32) (arg9_r0 : BitVec 32) (arg10_r0 : BitVec 32) (k14_hw1 : k14_chk1 i k14_t1 arg6_r0 arg7_r0 arg8_r0 arg9_r0 arg10_r0), ∀ (k14_h2 : k14_cond2 i k14_t1 arg10_r0 = 1#1), ∀ a, (k14_off7 arg7_r0) a + S1x1x128.size a ≤ S2x1x128.size a := fun i k14_t1 arg6_r0 arg7_r0 arg8_r0 arg9_r0 arg10_r0 k14_hw1 k14_h2 => k14_hw1.2.2.2.1 k14_h2
theorem k14_off8_inb : ∀ (i : grid14.Coords) (k14_t1 : Fin k14_t1_loop.trips) (arg6_r0 : BitVec 32) (arg7_r0 : BitVec 32) (arg8_r0 : BitVec 32) (arg9_r0 : BitVec 32) (arg10_r0 : BitVec 32) (k14_hw1 : k14_chk1 i k14_t1 arg6_r0 arg7_r0 arg8_r0 arg9_r0 arg10_r0), ∀ (k14_h2 : k14_cond2 i k14_t1 arg10_r0 = 1#1), ∀ a, (k14_off8 i arg10_r0) a + S1x128.size a ≤ S1x32768.size a := fun i k14_t1 arg6_r0 arg7_r0 arg8_r0 arg9_r0 arg10_r0 k14_hw1 k14_h2 => k14_hw1.2.2.2.2.1 k14_h2
theorem k14_off9_inb : ∀ (i : grid14.Coords) (k14_t1 : Fin k14_t1_loop.trips) (arg6_r0 : BitVec 32) (arg7_r0 : BitVec 32) (arg8_r0 : BitVec 32) (arg9_r0 : BitVec 32) (arg10_r0 : BitVec 32) (k14_hw1 : k14_chk1 i k14_t1 arg6_r0 arg7_r0 arg8_r0 arg9_r0 arg10_r0), ∀ (k14_h2 : k14_cond2 i k14_t1 arg10_r0 = 1#1), ∀ a, (k14_off9 arg7_r0) a + S1.size a ≤ S2.size a := fun i k14_t1 arg6_r0 arg7_r0 arg8_r0 arg9_r0 arg10_r0 k14_hw1 k14_h2 => k14_hw1.2.2.2.2.2.1 k14_h2
theorem k14_off12_inb : ∀ (i : grid14.Coords) (k14_t1 : Fin k14_t1_loop.trips) (arg6_r0 : BitVec 32) (arg7_r0 : BitVec 32) (arg8_r0 : BitVec 32) (arg9_r0 : BitVec 32) (arg10_r0 : BitVec 32) (k14_hw1 : k14_chk1 i k14_t1 arg6_r0 arg7_r0 arg8_r0 arg9_r0 arg10_r0), ∀ (k14_h5 : k14_cond5 i k14_t1 arg10_r0 = 1#1), ∀ a, (k14_off12 arg8_r0) a + S1x128x128.size a ≤ S2x128x128.size a := fun i k14_t1 arg6_r0 arg7_r0 arg8_r0 arg9_r0 arg10_r0 k14_hw1 k14_h5 => k14_hw1.2.2.2.2.2.2.1 k14_h5
theorem k14_off13_inb : ∀ (i : grid14.Coords) (k14_t1 : Fin k14_t1_loop.trips) (arg6_r0 : BitVec 32) (arg7_r0 : BitVec 32) (arg8_r0 : BitVec 32) (arg9_r0 : BitVec 32) (arg10_r0 : BitVec 32) (k14_hw1 : k14_chk1 i k14_t1 arg6_r0 arg7_r0 arg8_r0 arg9_r0 arg10_r0), ∀ (k14_h5 : k14_cond5 i k14_t1 arg10_r0 = 1#1), ∀ a, (k14_off13 i arg10_r0) a + S128x128.size a ≤ S32768x128.size a := fun i k14_t1 arg6_r0 arg7_r0 arg8_r0 arg9_r0 arg10_r0 k14_hw1 k14_h5 => k14_hw1.2.2.2.2.2.2.2.1 k14_h5
theorem k14_off14_inb : ∀ (i : grid14.Coords) (k14_t1 : Fin k14_t1_loop.trips) (arg6_r0 : BitVec 32) (arg7_r0 : BitVec 32) (arg8_r0 : BitVec 32) (arg9_r0 : BitVec 32) (arg10_r0 : BitVec 32) (k14_hw1 : k14_chk1 i k14_t1 arg6_r0 arg7_r0 arg8_r0 arg9_r0 arg10_r0), ∀ (k14_h5 : k14_cond5 i k14_t1 arg10_r0 = 1#1), ∀ a, (k14_off14 arg8_r0) a + S1.size a ≤ S2.size a := fun i k14_t1 arg6_r0 arg7_r0 arg8_r0 arg9_r0 arg10_r0 k14_hw1 k14_h5 => k14_hw1.2.2.2.2.2.2.2.2.1 k14_h5
theorem k14_off15_inb : ∀ (i : grid14.Coords) (k14_t1 : Fin k14_t1_loop.trips) (arg6_r0 : BitVec 32) (arg7_r0 : BitVec 32) (arg8_r0 : BitVec 32) (arg9_r0 : BitVec 32) (arg10_r0 : BitVec 32) (k14_hw1 : k14_chk1 i k14_t1 arg6_r0 arg7_r0 arg8_r0 arg9_r0 arg10_r0), ∀ (k14_h7 : k14_cond7 i k14_t1 arg10_r0 = 1#1), ∀ a, (k14_off15 arg9_r0) a + S1x128x128.size a ≤ S2x128x128.size a := fun i k14_t1 arg6_r0 arg7_r0 arg8_r0 arg9_r0 arg10_r0 k14_hw1 k14_h7 => k14_hw1.2.2.2.2.2.2.2.2.2.1 k14_h7
theorem k14_off16_inb : ∀ (i : grid14.Coords) (k14_t1 : Fin k14_t1_loop.trips) (arg6_r0 : BitVec 32) (arg7_r0 : BitVec 32) (arg8_r0 : BitVec 32) (arg9_r0 : BitVec 32) (arg10_r0 : BitVec 32) (k14_hw1 : k14_chk1 i k14_t1 arg6_r0 arg7_r0 arg8_r0 arg9_r0 arg10_r0), ∀ (k14_h7 : k14_cond7 i k14_t1 arg10_r0 = 1#1), ∀ a, (k14_off16 i arg10_r0) a + S128x128.size a ≤ S32768x128.size a := fun i k14_t1 arg6_r0 arg7_r0 arg8_r0 arg9_r0 arg10_r0 k14_hw1 k14_h7 => k14_hw1.2.2.2.2.2.2.2.2.2.2.1 k14_h7
theorem k14_off17_inb : ∀ (i : grid14.Coords) (k14_t1 : Fin k14_t1_loop.trips) (arg6_r0 : BitVec 32) (arg7_r0 : BitVec 32) (arg8_r0 : BitVec 32) (arg9_r0 : BitVec 32) (arg10_r0 : BitVec 32) (k14_hw1 : k14_chk1 i k14_t1 arg6_r0 arg7_r0 arg8_r0 arg9_r0 arg10_r0), ∀ (k14_h7 : k14_cond7 i k14_t1 arg10_r0 = 1#1), ∀ a, (k14_off17 arg9_r0) a + S1.size a ≤ S2.size a := fun i k14_t1 arg6_r0 arg7_r0 arg8_r0 arg9_r0 arg10_r0 k14_hw1 k14_h7 => k14_hw1.2.2.2.2.2.2.2.2.2.2.2 k14_h7

def k14_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k14_off19 (i : grid14.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c128_i32_47_r0 v38_r0
  let c0_i32_50_r0 : BitVec 32 := 0#32
  ![v55_r0.toNat, 0]

def k14_chk5 (i : grid14.Coords) (v33_4_r0 : BitVec 32) : Prop :=
  (∀ a, (k14_off19 i v33_4_r0) a + S128x128.size a ≤ S32768x128.size a)
theorem k14_off19_inb : ∀ (i : grid14.Coords) (v33_4_r0 : BitVec 32) (k14_hw5 : k14_chk5 i v33_4_r0), ∀ a, (k14_off19 i v33_4_r0) a + S128x128.size a ≤ S32768x128.size a := fun i v33_4_r0 k14_hw5 => k14_hw5

def k14_off20 (v33_3_r0 : BitVec 32) : Fin 1 → Nat :=
  let c2_i32_46_r0 : BitVec 32 := 2#32
  let v54_r0 : BitVec 32 := Scalar.remui v33_3_r0 c2_i32_46_r0
  ![v54_r0.toNat]
def k14_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k14_chk4 (v33_3_r0 : BitVec 32) : Prop :=
  (∀ a, (k14_off18 v33_3_r0) a + S1x128x128.size a ≤ S2x128x128.size a) ∧
  (∀ a, (k14_off20 v33_3_r0) a + S1.size a ≤ S2.size a) ∧
  (∀ a, (k14_off21 v33_3_r0) a + S1x128x128.size a ≤ S2x128x128.size a)
theorem k14_off18_inb : ∀ (v33_3_r0 : BitVec 32) (k14_hw4 : k14_chk4 v33_3_r0), ∀ a, (k14_off18 v33_3_r0) a + S1x128x128.size a ≤ S2x128x128.size a := fun v33_3_r0 k14_hw4 => k14_hw4.1
theorem k14_off20_inb : ∀ (v33_3_r0 : BitVec 32) (k14_hw4 : k14_chk4 v33_3_r0), ∀ a, (k14_off20 v33_3_r0) a + S1.size a ≤ S2.size a := fun v33_3_r0 k14_hw4 => k14_hw4.2.1
theorem k14_off21_inb : ∀ (v33_3_r0 : BitVec 32) (k14_hw4 : k14_chk4 v33_3_r0), ∀ a, (k14_off21 v33_3_r0) a + S1x128x128.size a ≤ S2x128x128.size a := fun v33_3_r0 k14_hw4 => k14_hw4.2.2

abbrev grid15 : Pipeline.Grid := ⟨1, ![16], ![false]⟩

def cc15_transform_1 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_6 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_7 (i : grid15.Coords) : Fin 3 → Nat :=
  let arg0 : BitVec 32 := BitVec.ofNat 32 (i 0).val
  let c112_i32 : BitVec 32 := 112#32
  let v0 : BitVec 32 := Scalar.addi c112_i32 arg0
  let c0_i32 : BitVec 32 := 0#32
  let c0_i32_0 : BitVec 32 := 0#32
  let c0_i32_1 : BitVec 32 := 0#32
  ![v0.toNat, c0_i32.toNat, c0_i32_0.toNat]

abbrev stage15_0 : Fin 2 → Memref sig .tc .vmem S8x256x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S8x256 .i32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S256x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S2x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x128 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 1 → Memref sig .tc .vmem S1x128 .f32 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))
abbrev reads15_5 : Fin grid15.rank → Bool := ![false]

abbrev stage15_6 : Fin 2 → Memref sig .tc .vmem S8x256x128 .f32 := fun | 0 => Memref.whole cc15_stg6_0 | 1 => Memref.whole cc15_stg6_1 | ⟨_ + 2, h⟩ => absurd h (Nat.not_lt.2 (Nat.le_add_left _ _))
abbrev sem15_6 : Fin 2 → DmaSem sig := fun | 0 => cc15_sem6_0 | 1 => cc15_sem6_1 | ⟨_ + 2, h⟩ => absurd h (Nat.not_lt.2 (Nat.le_add_left _ _))
abbrev reads15_6 : Fin grid15.rank → Bool := ![true]

abbrev scKind : Fin 8 → Kind := fun | 0 => .scVector | 1 => .scVector | 2 => .scVector | 3 => .scVector | 4 => .scVector | 5 => .scVector | 6 => .scVector | 7 => .scVector | ⟨_ + 8, h⟩ => absurd h (Nat.not_lt.2 (Nat.le_add_left _ _))
abbrev scNCore : Fin 8 → Nat := fun | 0 => 2 | 1 => 2 | 2 => 2 | 3 => 2 | 4 => 2 | 5 => 2 | 6 => 2 | 7 => 2 | ⟨_ + 8, h⟩ => absurd h (Nat.not_lt.2 (Nat.le_add_left _ _))
abbrev scNSub : Fin 8 → Nat := fun | 0 => 16 | 1 => 16 | 2 => 16 | 3 => 16 | 4 => 16 | 5 => 16 | 6 => 16 | 7 => 16 | ⟨_ + 8, h⟩ => absurd h (Nat.not_lt.2 (Nat.le_add_left _ _))
-- ==== ReferenceIdeal.lean ====
abbrev S1024x256 : Shape := ⟨2, ![1024, 256]⟩
abbrev S100000x128 : Shape := ⟨2, ![100000, 128]⟩
abbrev S256x128 : Shape := ⟨2, ![256, 128]⟩
abbrev S2x128 : Shape := ⟨2, ![2, 128]⟩
abbrev S128 : Shape := ⟨1, ![128]⟩
abbrev S256 : Shape := ⟨1, ![256]⟩
abbrev S_ : Shape := ⟨0, ![]⟩
abbrev S1024x256x1 : Shape := ⟨3, ![1024, 256, 1]⟩
abbrev S1 : Shape := ⟨1, ![1]⟩
abbrev S1x1x1 : Shape := ⟨3, ![1, 1, 1]⟩
abbrev S1024x256x128 : Shape := ⟨3, ![1024, 256, 128]⟩
abbrev S256x1 : Shape := ⟨2, ![256, 1]⟩
abbrev S1x1 : Shape := ⟨2, ![1, 1]⟩
abbrev S1x256x128 : Shape := ⟨3, ![1, 256, 128]⟩
abbrev S1x1x128 : Shape := ⟨3, ![1, 1, 128]⟩

abbrev nBuf : Space → Nat
  | .hbm => 125
  | .vmem => 0
  | .smem => 0
  | _ => 0

abbrev bufTy : (tb : Table) → Fin (tcTables nBuf tb) → BufTy
  | .hbm, ⟨0, _⟩ => ⟨S1024x256, .i32⟩
  | .hbm, ⟨1, _⟩ => ⟨S1024x256, .i32⟩
  | .hbm, ⟨2, _⟩ => ⟨S100000x128, .f32⟩
  | .hbm, ⟨3, _⟩ => ⟨S256x128, .f32⟩
  | .hbm, ⟨4, _⟩ => ⟨S2x128, .f32⟩
  | .hbm, ⟨5, _⟩ => ⟨S128, .f32⟩
  | .hbm, ⟨6, _⟩ => ⟨S128, .f32⟩
  | .hbm, ⟨7, _⟩ => ⟨S256, .i32⟩
  | .hbm, ⟨8, _⟩ => ⟨S_, .i32⟩
  | .hbm, ⟨9, _⟩ => ⟨S1024x256, .i32⟩
  | .hbm, ⟨10, _⟩ => ⟨S1024x256, .i1⟩
  | .hbm, ⟨11, _⟩ => ⟨S_, .i32⟩
  | .hbm, ⟨12, _⟩ => ⟨S1024x256, .i32⟩
  | .hbm, ⟨13, _⟩ => ⟨S1024x256, .i32⟩
  | .hbm, ⟨14, _⟩ => ⟨S1024x256, .i32⟩
  | .hbm, ⟨15, _⟩ => ⟨S1024x256x1, .i32⟩
  | .hbm, ⟨16, _⟩ => ⟨S1, .i32⟩
  | .hbm, ⟨17, _⟩ => ⟨S_, .i32⟩
  | .hbm, ⟨18, _⟩ => ⟨S1024x256x1, .i32⟩
  | .hbm, ⟨19, _⟩ => ⟨S1024x256x1, .i1⟩
  | .hbm, ⟨20, _⟩ => ⟨S1x1x1, .i32⟩
  | .hbm, ⟨21, _⟩ => ⟨S1024x256x1, .i32⟩
  | .hbm, ⟨22, _⟩ => ⟨S1024x256x1, .i1⟩
  | .hbm, ⟨23, _⟩ => ⟨S1024x256x1, .i1⟩
  | .hbm, ⟨24, _⟩ => ⟨S_, .i1⟩
  | .hbm, ⟨25, _⟩ => ⟨S1024x256, .i1⟩
  | .hbm, ⟨26, _⟩ => ⟨S1024x256x128, .f32⟩
  | .hbm, ⟨27, _⟩ => ⟨S1024x256x128, .i1⟩
  | .hbm, ⟨28, _⟩ => ⟨S_, .f32⟩
  | .hbm, ⟨29, _⟩ => ⟨S1024x256x128, .f32⟩
  | .hbm, ⟨30, _⟩ => ⟨S1024x256x128, .f32⟩
  | .hbm, ⟨31, _⟩ => ⟨S_, .i32⟩
  | .hbm, ⟨32, _⟩ => ⟨S256, .i32⟩
  | .hbm, ⟨33, _⟩ => ⟨S256, .i1⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S256, .i32⟩
  | .hbm, ⟨38, _⟩ => ⟨S256x1, .i32⟩
  | .hbm, ⟨39, _⟩ => ⟨S1, .i32⟩
  | .hbm, ⟨40, _⟩ => ⟨S_, .i32⟩
  | .hbm, ⟨41, _⟩ => ⟨S256x1, .i32⟩
  | .hbm, ⟨42, _⟩ => ⟨S256x1, .i1⟩
  | .hbm, ⟨43, _⟩ => ⟨S1x1, .i32⟩
  | .hbm, ⟨44, _⟩ => ⟨S256x1, .i32⟩
  | .hbm, ⟨45, _⟩ => ⟨S256x1, .i1⟩
  | .hbm, ⟨46, _⟩ => ⟨S256x1, .i1⟩
  | .hbm, ⟨47, _⟩ => ⟨S_, .i1⟩
  | .hbm, ⟨48, _⟩ => ⟨S256, .i1⟩
  | .hbm, ⟨49, _⟩ => ⟨S256x128, .f32⟩
  | .hbm, ⟨50, _⟩ => ⟨S256x128, .i1⟩
  | .hbm, ⟨51, _⟩ => ⟨S_, .f32⟩
  | .hbm, ⟨52, _⟩ => ⟨S256x128, .f32⟩
  | .hbm, ⟨53, _⟩ => ⟨S256x128, .f32⟩
  | .hbm, ⟨54, _⟩ => ⟨S1x256x128, .f32⟩
  | .hbm, ⟨55, _⟩ => ⟨S1024x256x128, .f32⟩
  | .hbm, ⟨56, _⟩ => ⟨S1024x256x128, .f32⟩
  | .hbm, ⟨57, _⟩ => ⟨S_, .i32⟩
  | .hbm, ⟨58, _⟩ => ⟨S1024x256, .i32⟩
  | .hbm, ⟨59, _⟩ => ⟨S1024x256, .i1⟩
  | .hbm, ⟨60, _⟩ => ⟨S_, .i32⟩
  | .hbm, ⟨61, _⟩ => ⟨S1024x256, .i32⟩
  | .hbm, ⟨62, _⟩ => ⟨S1024x256, .i32⟩
  | .hbm, ⟨63, _⟩ => ⟨S1024x256, .i32⟩
  | .hbm, ⟨64, _⟩ => ⟨S1024x256x1, .i32⟩
  | .hbm, ⟨65, _⟩ => ⟨S1, .i32⟩
  | .hbm, ⟨66, _⟩ => ⟨S_, .i32⟩
  | .hbm, ⟨67, _⟩ => ⟨S1024x256x1, .i32⟩
  | .hbm, ⟨68, _⟩ => ⟨S1024x256x1, .i1⟩
  | .hbm, ⟨69, _⟩ => ⟨S1x1x1, .i32⟩
  | .hbm, ⟨70, _⟩ => ⟨S1024x256x1, .i32⟩
  | .hbm, ⟨71, _⟩ => ⟨S1024x256x1, .i1⟩
  | .hbm, ⟨72, _⟩ => ⟨S1024x256x1, .i1⟩
  | .hbm, ⟨73, _⟩ => ⟨S_, .i1⟩
  | .hbm, ⟨74, _⟩ => ⟨S1024x256, .i1⟩
  | .hbm, ⟨75, _⟩ => ⟨S1024x256x128, .f32⟩
  | .hbm, ⟨76, _⟩ => ⟨S1024x256x128, .i1⟩
  | .hbm, ⟨77, _⟩ => ⟨S_, .f32⟩
  | .hbm, ⟨78, _⟩ => ⟨S1024x256x128, .f32⟩
  | .hbm, ⟨79, _⟩ => ⟨S1024x256x128, .f32⟩
  | .hbm, ⟨80, _⟩ => ⟨S1024x256x128, .f32⟩
  | .hbm, ⟨81, _⟩ => ⟨S_, .f32⟩
  | .hbm, ⟨82, _⟩ => ⟨S1024x256, .f32⟩
  | .hbm, ⟨83, _⟩ => ⟨S1024x256x1, .f32⟩
  | .hbm, ⟨84, _⟩ => ⟨S_, .f32⟩
  | .hbm, ⟨85, _⟩ => ⟨S1024x256x1, .f32⟩
  | .hbm, ⟨86, _⟩ => ⟨S1024x256x1, .f32⟩
  | .hbm, ⟨87, _⟩ => ⟨S_, .i32⟩
  | .hbm, ⟨88, _⟩ => ⟨S_, .f32⟩
  | .hbm, ⟨89, _⟩ => ⟨S1024x256, .f32⟩
  | .hbm, ⟨90, _⟩ => ⟨S1024x256x1, .f32⟩
  | .hbm, ⟨91, _⟩ => ⟨S_, .f32⟩
  | .hbm, ⟨92, _⟩ => ⟨S1024x256x1, .f32⟩
  | .hbm, ⟨93, _⟩ => ⟨S1024x256x1, .f32⟩
  | .hbm, ⟨94, _⟩ => ⟨S1024x256x128, .f32⟩
  | .hbm, ⟨95, _⟩ => ⟨S1024x256x128, .f32⟩
  | .hbm, ⟨96, _⟩ => ⟨S1024x256x128, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S1024x256, .f32⟩
  | .hbm, ⟨102, _⟩ => ⟨S1024x256x1, .f32⟩
  | .hbm, ⟨103, _⟩ => ⟨S1024x256x1, .f32⟩
  | .hbm, ⟨104, _⟩ => ⟨S1024x256x1, .f32⟩
  | .hbm, ⟨105, _⟩ => ⟨S_, .f32⟩
  | .hbm, ⟨106, _⟩ => ⟨S_, .i1⟩
  | .hbm, ⟨107, _⟩ => ⟨S_, .f32⟩
  | .hbm, ⟨108, _⟩ => ⟨S_, .f32⟩
  | .hbm, ⟨109, _⟩ => ⟨S1024x256x1, .f32⟩
  | .hbm, ⟨110, _⟩ => ⟨S1024x256x1, .f32⟩
  | .hbm, ⟨111, _⟩ => ⟨S1024x256x128, .f32⟩
  | .hbm, ⟨112, _⟩ => ⟨S1024x256x128, .f32⟩
  | .hbm, ⟨113, _⟩ => ⟨S_, .f32⟩
  | .hbm, ⟨114, _⟩ => ⟨S1024x256x1, .f32⟩
  | .hbm, ⟨115, _⟩ => ⟨S1024x256x1, .f32⟩
  | .hbm, ⟨116, _⟩ => ⟨S1024x256x1, .f32⟩
  | .hbm, ⟨117, _⟩ => ⟨S1024x256x128, .f32⟩
  | .hbm, ⟨118, _⟩ => ⟨S1024x256x128, .f32⟩
  | .hbm, ⟨119, _⟩ => ⟨S1x1x128, .f32⟩
  | .hbm, ⟨120, _⟩ => ⟨S1024x256x128, .f32⟩
  | .hbm, ⟨121, _⟩ => ⟨S1024x256x128, .f32⟩
  | .hbm, ⟨122, _⟩ => ⟨S1x1x128, .f32⟩
  | .hbm, ⟨123, _⟩ => ⟨S1024x256x128, .f32⟩
  | .hbm, ⟨124, _⟩ => ⟨S1024x256x128, .f32⟩
  | _, _ => ⟨S1024x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v1 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v6 : Ref sig .tc := ⟨.hbm, 79, rfl⟩
abbrev main_v7 : Ref sig .tc := ⟨.hbm, 80, rfl⟩
abbrev main_cst : Ref sig .tc := ⟨.hbm, 81, rfl⟩
abbrev main_v8 : Ref sig .tc := ⟨.hbm, 82, rfl⟩
abbrev main_v9 : Ref sig .tc := ⟨.hbm, 83, rfl⟩
abbrev main_cst_0 : Ref sig .tc := ⟨.hbm, 84, rfl⟩
abbrev main_v10 : Ref sig .tc := ⟨.hbm, 85, rfl⟩
abbrev main_v11 : Ref sig .tc := ⟨.hbm, 86, rfl⟩
abbrev main_c : Ref sig .tc := ⟨.hbm, 87, rfl⟩
abbrev main_call3_cst : Ref sig .tc := ⟨.hbm, 88, rfl⟩
abbrev main_call3_v0 : Ref sig .tc := ⟨.hbm, 89, rfl⟩
abbrev main_call3_v1 : Ref sig .tc := ⟨.hbm, 90, rfl⟩
abbrev main_call3_cst_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_v6 : Ref sig .tc := ⟨.hbm, 96, rfl⟩
abbrev main_call3_v7 : Ref sig .tc := ⟨.hbm, 97, rfl⟩
abbrev main_call3_cst_1 : Ref sig .tc := ⟨.hbm, 98, rfl⟩
abbrev main_call3_v8 : Ref sig .tc := ⟨.hbm, 99, rfl⟩
abbrev main_call3_cst_2 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_v12 : Ref sig .tc := ⟨.hbm, 104, rfl⟩
abbrev main_call3_cst_3 : Ref sig .tc := ⟨.hbm, 105, rfl⟩
abbrev main_call3_v13 : Ref sig .tc := ⟨.hbm, 106, rfl⟩
abbrev main_call3_cst_4 : Ref sig .tc := ⟨.hbm, 107, rfl⟩
abbrev main_call3_call0_v0 : Ref sig .tc := ⟨.hbm, 108, rfl⟩
abbrev main_call3_call0_v1 : Ref sig .tc := ⟨.hbm, 109, rfl⟩
abbrev main_v12 : Ref sig .tc := ⟨.hbm, 110, rfl⟩
abbrev main_v13 : Ref sig .tc := ⟨.hbm, 111, rfl⟩
abbrev main_v14 : Ref sig .tc := ⟨.hbm, 112, rfl⟩
abbrev main_cst_1 : Ref sig .tc := ⟨.hbm, 113, rfl⟩
abbrev main_v15 : Ref sig .tc := ⟨.hbm, 114, rfl⟩
abbrev main_v16 : Ref sig .tc := ⟨.hbm, 115, rfl⟩
abbrev main_v17 : Ref sig .tc := ⟨.hbm, 116, rfl⟩
abbrev main_v18 : Ref sig .tc := ⟨.hbm, 117, rfl⟩
abbrev main_v19 : Ref sig .tc := ⟨.hbm, 118, rfl⟩
abbrev main_v20 : Ref sig .tc := ⟨.hbm, 119, rfl⟩
abbrev main_v21 : Ref sig .tc := ⟨.hbm, 120, rfl⟩
abbrev main_v22 : Ref sig .tc := ⟨.hbm, 121, rfl⟩
abbrev main_v23 : Ref sig .tc := ⟨.hbm, 122, rfl⟩
abbrev main_v24 : Ref sig .tc := ⟨.hbm, 123, rfl⟩
abbrev main_v25 : Ref sig .tc := ⟨.hbm, 124, rfl⟩

abbrev nD : Nat := 1
abbrev τ : Topo := Topo.v7x

variable {F : FTy → Type} [FloatOps F]
-- ==== Proof.Setup.lean ====
/-
  The program as the launch theorem sees it, and the ghost state of its certificate: the handshakes'
  rounds, the rounds of the TensorCore pipelines' staging buffers, and the counters that the gather's
  own copies ride on.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Ring
public import Idealize.ShloMosaic.Lib.Affine
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI Idealize.SL.Sem
open Idealize.ShloMosaic.Rounds

variable {F : FTy → Type}

/-- The labels of the program: its kernels', and its eight pipelined regions'. -/
abbrev ΛP : Labels := Pipeline.Sig Λ₀ (Fin 8) fun p => (pcfgs (F := F) p).Adm
/-- The SparseCore calls of the program. -/
abbrev K : SparseCore.Cfg τ sig (ΛP (F := F)) 8 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The index under which a thread's own waits are recorded beside the handshakes'. -/
abbrev Ix : Type := HIx 8

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The staging buffers' rounds. -/
abbrev UP : Type := URounds (GSem nD τ sig) Unit
/-- They, beside the counters of the copies. -/
abbrev UU : Type := UH × (UP × Counters)

/-- The resources every assertion of the certificate is about. -/
abbrev MM (F : FTy → Type) : Type := MT nD τ sig Ix (Elt F) ℕ UU ℕ

abbrev EH : Emb UH (MM F) := embL
/-- What stands to the right of the handshakes' rounds, -/
abbrev ER : Emb (UP × Counters) (MM F) := embR
/-- and its left half. -/
def EP : Emb UP (MM F) := (Emb.inl : Emb UP (UP × Counters)).trans ER

instance EP_landsIn : (EP : Emb UP (MM F)).LandsIn (upEmb : UEmb _ (MM F)) := by unfold EP ER; infer_instance

end Cert.Proof.Gather

end
-- ==== Proof.Names.lean ====
/-
  Names for what one tile of the gather addresses: its slots, its semaphores, its blocks — each a
  definition at an INDEX (slot 0 or 1, block 0 … 255), with the equations that turn what the program
  computes from its counters into these names.

  A tile of core `c` and subcore `s` runs eight steps; step `k` treats block `8 (16 c + s) + k`: 128
  indices, and the 128 rows they fetch. Slot `k mod 2` of each buffer and of each semaphore array is
  step `k`'s.
-/
module

public import proofs.«01_k».proof.Proof.Setup

@[expose] public section

noncomputable section

namespace Cert.Proof.Gather

open Cert.KernelIdeal Cert.KernelIdeal.Gen
open Idealize.ShloMosaic Idealize.ShloMosaic.Tactic
open Idealize.ShloMosaic.SparseCore (S V T)

/-! ## Offsets -/

abbrev idOff (s : Fin 2) : Fin 3 → Nat := ![s.val, 0, 0]
theorem idOff_inb (s : Fin 2) : ∀ a, idOff s a + S1x1x128.size a ≤ S2x1x128.size a := by
  have := s.isLt; intro a; fin_cases a
  · show s.val + 1 ≤ 2; omega
  · show 0 + 1 ≤ 1; omega
  · show 0 + 128 ≤ 128; omega
theorem rowOff_inb (s : Fin 2) : ∀ a, idOff s a + S1x128x128.size a ≤ S2x128x128.size a := by
  have := s.isLt; intro a; fin_cases a
  · show s.val + 1 ≤ 2; omega
  · show 0 + 128 ≤ 128; omega
  · show 0 + 128 ≤ 128; omega
abbrev semOff (s : Fin 2) : Fin 1 → Nat := ![s.val]
theorem semOff_inb (s : Fin 2) : ∀ a, semOff s a + S1.size a ≤ S2.size a := by
  have := s.isLt; intro a; fin_cases a; show s.val + 1 ≤ 2; omega
abbrev idBlkOff (b : Fin 256) : Fin 2 → Nat := ![0, 128 * b.val]
theorem idBlkOff_inb (b : Fin 256) : ∀ a, idBlkOff b a + S1x128.size a ≤ S1x32768.size a := by
  have := b.isLt; intro a; fin_cases a
  · show 0 + 1 ≤ 1; omega
  · show 128 * b.val + 128 ≤ 32768; omega
abbrev outBlkOff (b : Fin 256) : Fin 2 → Nat := ![128 * b.val, 0]
theorem outBlkOff_inb (b : Fin 256) : ∀ a, outBlkOff b a + S128x128.size a ≤ S32768x128.size a := by
  have := b.isLt; intro a; fin_cases a
  · show 128 * b.val + 128 ≤ 32768; omega
  · show 0 + 128 ≤ 128; omega

instance (s : Fin 2) : ClosedOff (idOff s) := ⟨idOff s, rfl⟩
instance (s : Fin 2) : ClosedOff (semOff s) := ⟨semOff s, rfl⟩
instance (b : Fin 256) : ClosedOff (idBlkOff b) := ⟨idBlkOff b, rfl⟩
instance (b : Fin 256) : ClosedOff (outBlkOff b) := ⟨outBlkOff b, rfl⟩

/-! ## The names -/

/-- Slot `s` of the index buffer. -/
def idSlot (A : Memref sig .scVector .vmem S2x1x128 .i32) (s : Fin 2) : Memref sig .scVector .vmem S1x128 .i32 :=
  (A.slice (Rect.unit (s := S2x1x128) (idOff s) S1x1x128.size (idOff_inb s)) (fun _ => rfl)).squeeze S1x128 squeezes_S1x1x128_S1x128
/-- Slot `s` of the row buffer. -/
def rowSlot (B : Memref sig .scVector .vmem S2x128x128 .f32) (s : Fin 2) : Memref sig .scVector .vmem S128x128 .f32 :=
  (B.slice (Rect.unit (s := S2x128x128) (idOff s) S1x128x128.size (rowOff_inb s)) (fun _ => rfl)).squeeze S128x128 squeezes_S1x128x128_S128x128
/-- Slot `s`'s semaphore. -/
def semAt (A : DmaSems sig S2) (s : Fin 2) : DmaSems sig S_ :=
  (A.slice (Rect.unit (s := S2) (semOff s) S1.size (semOff_inb s))).squeeze S_ squeezes_S1_S_
/-- Block `b` of the indices. -/
def idBlk (I : Memref sig .scVector .hbm S1x32768 .i32) (b : Fin 256) : Memref sig .scVector .hbm S1x128 .i32 :=
  I.slice (Rect.unit (s := S1x32768) (idBlkOff b) S1x128.size (idBlkOff_inb b)) (fun _ => rfl)
/-- Block `b` of the fetched rows. -/
def outBlk (O : Memref sig .scVector .hbm S32768x128 .f32) (b : Fin 256) : Memref sig .scVector .hbm S128x128 .f32 :=
  O.slice (Rect.unit (s := S32768x128) (outBlkOff b) S128x128.size (outBlkOff_inb b)) (fun _ => rfl)

theorem idSlot_congr (A : Memref sig .scVector .vmem S2x1x128 .i32) {off : Fin 3 → Nat} {s : Fin 2} (e : off = idOff s) (hh hs) :
    (A.slice (Rect.unit (s := S2x1x128) off S1x1x128.size hh) hs).squeeze S1x128 squeezes_S1x1x128_S1x128 = idSlot A s :=
  congrArg (fun M : Memref sig .scVector .vmem S1x1x128 .i32 => M.squeeze S1x128 squeezes_S1x1x128_S1x128) (Memref.slice_unit_congr _ e _ _ _ _)
theorem rowSlot_congr (B : Memref sig .scVector .vmem S2x128x128 .f32) {off : Fin 3 → Nat} {s : Fin 2} (e : off = idOff s) (hh hs) :
    (B.slice (Rect.unit (s := S2x128x128) off S1x128x128.size hh) hs).squeeze S128x128 squeezes_S1x128x128_S128x128 = rowSlot B s :=
  congrArg (fun M : Memref sig .scVector .vmem S1x128x128 .f32 => M.squeeze S128x128 squeezes_S1x128x128_S128x128) (Memref.slice_unit_congr _ e _ _ _ _)
theorem semAt_congr (A : DmaSems sig S2) {off : Fin 1 → Nat} {s : Fin 2} (e : off = semOff s) (hh) :
    (A.slice (Rect.unit (s := S2) off S1.size hh)).squeeze S_ squeezes_S1_S_ = semAt A s :=
  congrArg (fun A : DmaSems sig S1 => A.squeeze S_ squeezes_S1_S_) (SemArray.slice_unit_congr _ e _ _)
theorem idBlk_congr (I : Memref sig .scVector .hbm S1x32768 .i32) {off : Fin 2 → Nat} {b : Fin 256} (e : off = idBlkOff b) (hh hs) :
    I.slice (Rect.unit (s := S1x32768) off S1x128.size hh) hs = idBlk I b := Memref.slice_unit_congr _ e _ _ _ (fun _ => rfl)
theorem outBlk_congr (O : Memref sig .scVector .hbm S32768x128 .f32) {off : Fin 2 → Nat} {b : Fin 256} (e : off = outBlkOff b) (hh hs) :
    O.slice (Rect.unit (s := S32768x128) off S128x128.size hh) hs = outBlk O b := Memref.slice_unit_congr _ e _ _ _ (fun _ => rfl)

/-! ## The counters

The loop carries five words: the next index slot to fill, the index slot to read, the row slot to fill,
the row slot whose write-out is awaited, and the step. Before step `k` they are these. -/

/-- The tile's coordinates from its core and its subcore. -/
def coordsV (c : Fin (grid0.bound 0)) (s : Fin (grid0.bound 1)) : grid0.Coords :=
  fun | 0 => c | 1 => s | ⟨_ + 2, h⟩ => absurd h (Nat.not_lt.2 (Nat.le_add_left _ _))

theorem coordsV_eta (i : grid0.Coords) : coordsV (i 0) (i 1) = i := by
  funext a
  match a with
  | 0 => rfl
  | 1 => rfl

/-- The first tile. -/
def i₀ : grid0.Coords := coordsV ⟨0, by decide⟩ ⟨0, by decide⟩

/-- A fact of every tile from the fact at every core and subcore. -/
theorem forall_coords {p : grid0.Coords → Prop} (h : ∀ c s, p (coordsV c s)) (i : grid0.Coords) : p i := coordsV_eta i ▸ h _ _

/-- The five words before step `k` (after the last, for `k = 8`). -/
def words (k : ℕ) : BitVec 32 × BitVec 32 × BitVec 32 × BitVec 32 × BitVec 32 :=
  (BitVec.ofNat 32 (min (k + 1) 8), BitVec.ofNat 32 k, BitVec.ofNat 32 k, BitVec.ofNat 32 (k - 1), BitVec.ofNat 32 (k % 8))

abbrev w6 (k : ℕ) : BitVec 32 := (words k).1
abbrev w7 (k : ℕ) : BitVec 32 := (words k).2.1
abbrev w8 (k : ℕ) : BitVec 32 := (words k).2.2.1
abbrev w9 (k : ℕ) : BitVec 32 := (words k).2.2.2.1
abbrev w10 (k : ℕ) : BitVec 32 := (words k).2.2.2.2

/-- The block that tile `i` treats at its step `k`. -/
def blk (i : grid0.Coords) (k : ℕ) : Fin 256 := Fin.ofNat 256 (8 * (16 * (i 0).val + (i 1).val) + k)

/-- What the checks of the program ask, at every tile and step. -/
theorem chks (i : grid0.Coords) (k : Fin k0_t1_loop.trips) :
    k0_chk3 (w7 k) ∧ k0_chk2 (w8 k) ∧ k0_chk1 i k (w6 k) (w7 k) (w8 k) (w9 k) (w10 k) := by
  revert k
  refine forall_coords (p := fun i => ∀ k : Fin k0_t1_loop.trips, k0_chk3 (w7 k) ∧ k0_chk2 (w8 k) ∧ k0_chk1 i k (w6 k) (w7 k) (w8 k) (w9 k) (w10 k)) ?_ i
  decide +kernel

/-- Which of the guarded copies and waits a step takes. -/
theorem conds (i : grid0.Coords) (k : Fin k0_t1_loop.trips) :
    (k0_cond1 i k (w10 k) = 1#1 ↔ k.val < 7) ∧ k0_cond2 i k (w10 k) = 1#1 ∧ k0_cond5 i k (w10 k) = 1#1 ∧ (k0_cond7 i k (w10 k) = 1#1 ↔ 0 < k.val) := by
  revert k
  refine forall_coords (p := fun i => ∀ k : Fin k0_t1_loop.trips, (k0_cond1 i k (w10 k) = 1#1 ↔ k.val < 7) ∧ k0_cond2 i k (w10 k) = 1#1 ∧ k0_cond5 i k (w10 k) = 1#1 ∧ (k0_cond7 i k (w10 k) = 1#1 ↔ 0 < k.val)) ?_ i
  decide +kernel

/-! ## What the program computes from its counters, by name -/

open Idealize.ShloMosaic.Ring (sl)

set_option synthInstance.maxSize 100000 in
set_option synthInstance.maxHeartbeats 0 in
/-- The offsets at a tile's step `k`. -/
theorem offs (i : grid0.Coords) (k : Fin k0_t1_loop.trips) :
    (k.val < 7 → k0_off4 (w6 k) = idOff (sl 2 (k.val + 1)) ∧ k0_off5 i (w10 k) = idBlkOff (blk i (k.val + 1)) ∧ k0_off6 (w6 k) = semOff (sl 2 (k.val + 1)))
    ∧ k0_off7 (w7 k) = idOff (sl 2 k.val) ∧ k0_off8 i (w10 k) = idBlkOff (blk i k.val) ∧ k0_off9 (w7 k) = semOff (sl 2 k.val)
    ∧ k0_off10 (w8 k) = idOff (sl 2 k.val) ∧ k0_off11 (w7 k) = idOff (sl 2 k.val)
    ∧ k0_off12 (w8 k) = idOff (sl 2 k.val) ∧ k0_off13 i (w10 k) = outBlkOff (blk i k.val) ∧ k0_off14 (w8 k) = semOff (sl 2 k.val)
    ∧ (0 < k.val → k0_off15 (w9 k) = idOff (sl 2 (k.val + 1)) ∧ k0_off16 i (w10 k) = outBlkOff (blk i (k.val - 1)) ∧ k0_off17 (w9 k) = semOff (sl 2 (k.val + 1))) := by
  revert k
  refine forall_coords (p := fun i => ∀ k : Fin k0_t1_loop.trips,
    (k.val < 7 → k0_off4 (w6 k) = idOff (sl 2 (k.val + 1)) ∧ k0_off5 i (w10 k) = idBlkOff (blk i (k.val + 1)) ∧ k0_off6 (w6 k) = semOff (sl 2 (k.val + 1)))
    ∧ k0_off7 (w7 k) = idOff (sl 2 k.val) ∧ k0_off8 i (w10 k) = idBlkOff (blk i k.val) ∧ k0_off9 (w7 k) = semOff (sl 2 k.val)
    ∧ k0_off10 (w8 k) = idOff (sl 2 k.val) ∧ k0_off11 (w7 k) = idOff (sl 2 k.val)
    ∧ k0_off12 (w8 k) = idOff (sl 2 k.val) ∧ k0_off13 i (w10 k) = outBlkOff (blk i k.val) ∧ k0_off14 (w8 k) = semOff (sl 2 k.val)
    ∧ (0 < k.val → k0_off15 (w9 k) = idOff (sl 2 (k.val + 1)) ∧ k0_off16 i (w10 k) = outBlkOff (blk i (k.val - 1)) ∧ k0_off17 (w9 k) = semOff (sl 2 (k.val + 1)))) ?_ i
  decide +kernel

/-- The offsets and the checks before the loop and after it. -/
theorem offs_ends (i : grid0.Coords) :
    k0_off1 = idOff (sl 2 0) ∧ k0_off2 i = idBlkOff (blk i 0) ∧ k0_off3 = semOff (sl 2 0)
    ∧ k0_chk5 i (w10 8) ∧ k0_chk4 (w9 8)
    ∧ k0_off19 i (w10 8) = outBlkOff (blk i 7) ∧ k0_off20 (w9 8) = semOff (sl 2 1) ∧ k0_off21 (w9 8) = idOff (sl 2 1) := by
  refine forall_coords (p := fun i => k0_off1 = idOff (sl 2 0) ∧ k0_off2 i = idBlkOff (blk i 0) ∧ k0_off3 = semOff (sl 2 0)
    ∧ k0_chk5 i (w10 8) ∧ k0_chk4 (w9 8)
    ∧ k0_off19 i (w10 8) = outBlkOff (blk i 7) ∧ k0_off20 (w9 8) = semOff (sl 2 1) ∧ k0_off21 (w9 8) = idOff (sl 2 1)) ?_ i
  decide +kernel

section Canon
variable (A : Memref sig .scVector .vmem S2x1x128 .i32) (B : Memref sig .scVector .vmem S2x128x128 .f32) (sa sb : DmaSems sig S2)
  (I : Memref sig .scVector .hbm S1x32768 .i32) (O : Memref sig .scVector .hbm S32768x128 .f32)
  (i : grid0.Coords) (k : Fin k0_t1_loop.trips)

@[sl_canon] theorem cIdSlot1 (hh hs) : (A.slice (Rect.unit (s := S2x1x128) k0_off1 S1x1x128.size hh) hs).squeeze S1x128 squeezes_S1x1x128_S1x128 = idSlot A (sl 2 0) :=
  idSlot_congr A (offs_ends i₀).1 _ _
@[sl_canon] theorem cIdBlk2 (hh hs) : I.slice (Rect.unit (s := S1x32768) (k0_off2 i) S1x128.size hh) hs = idBlk I (blk i 0) := idBlk_congr I (offs_ends i).2.1 _ _
@[sl_canon] theorem cSem3 (hh) : (sa.slice (Rect.unit (s := S2) k0_off3 S1.size hh)).squeeze S_ squeezes_S1_S_ = semAt sa (sl 2 0) :=
  semAt_congr sa (offs_ends i₀).2.2.1 _
@[sl_canon] theorem cOut19 (hh hs) : O.slice (Rect.unit (s := S32768x128) (k0_off19 i (w10 8)) S128x128.size hh) hs = outBlk O (blk i 7) :=
  outBlk_congr O (offs_ends i).2.2.2.2.2.1 _ _
@[sl_canon] theorem cSem20 (hh) : (sb.slice (Rect.unit (s := S2) (k0_off20 (w9 8)) S1.size hh)).squeeze S_ squeezes_S1_S_ = semAt sb (sl 2 1) :=
  semAt_congr sb (offs_ends i₀).2.2.2.2.2.2.1 _
@[sl_canon] theorem cRow21 (hh hs) : (B.slice (Rect.unit (s := S2x128x128) (k0_off21 (w9 8)) S1x128x128.size hh) hs).squeeze S128x128 squeezes_S1x128x128_S128x128 = rowSlot B (sl 2 1) :=
  rowSlot_congr B (offs_ends i₀).2.2.2.2.2.2.2 _ _

@[sl_canon] theorem cIdSlot4 (hk : k.val < 7) (hh hs) : (A.slice (Rect.unit (s := S2x1x128) (k0_off4 (w6 k)) S1x1x128.size hh) hs).squeeze S1x128 squeezes_S1x1x128_S1x128 = idSlot A (sl 2 (k.val + 1)) :=
  idSlot_congr A ((offs i₀ k).1 hk).1 _ _
@[sl_canon] theorem cIdBlk5 (hk : k.val < 7) (hh hs) : I.slice (Rect.unit (s := S1x32768) (k0_off5 i (w10 k)) S1x128.size hh) hs = idBlk I (blk i (k.val + 1)) :=
  idBlk_congr I ((offs i k).1 hk).2.1 _ _
@[sl_canon] theorem cSem6 (hk : k.val < 7) (hh) : (sa.slice (Rect.unit (s := S2) (k0_off6 (w6 k)) S1.size hh)).squeeze S_ squeezes_S1_S_ = semAt sa (sl 2 (k.val + 1)) :=
  semAt_congr sa ((offs i₀ k).1 hk).2.2 _
@[sl_canon] theorem cIdSlot7 (hh hs) : (A.slice (Rect.unit (s := S2x1x128) (k0_off7 (w7 k)) S1x1x128.size hh) hs).squeeze S1x128 squeezes_S1x1x128_S1x128 = idSlot A (sl 2 k.val) :=
  idSlot_congr A (offs i₀ k).2.1 _ _
@[sl_canon] theorem cIdBlk8 (hh hs) : I.slice (Rect.unit (s := S1x32768) (k0_off8 i (w10 k)) S1x128.size hh) hs = idBlk I (blk i k.val) :=
  idBlk_congr I (offs i k).2.2.1 _ _
@[sl_canon] theorem cSem9 (hh) : (sa.slice (Rect.unit (s := S2) (k0_off9 (w7 k)) S1.size hh)).squeeze S_ squeezes_S1_S_ = semAt sa (sl 2 k.val) :=
  semAt_congr sa (offs i₀ k).2.2.2.1 _
@[sl_canon] theorem cRow10 (hh hs) : (B.slice (Rect.unit (s := S2x128x128) (k0_off10 (w8 k)) S1x128x128.size hh) hs).squeeze S128x128 squeezes_S1x128x128_S128x128 = rowSlot B (sl 2 k.val) :=
  rowSlot_congr B (offs i₀ k).2.2.2.2.1 _ _
@[sl_canon] theorem cIdSlot11 (hh hs) : (A.slice (Rect.unit (s := S2x1x128) (k0_off11 (w7 k)) S1x1x128.size hh) hs).squeeze S1x128 squeezes_S1x1x128_S1x128 = idSlot A (sl 2 k.val) :=
  idSlot_congr A (offs i₀ k).2.2.2.2.2.1 _ _
@[sl_canon] theorem cRow12 (hh hs) : (B.slice (Rect.unit (s := S2x128x128) (k0_off12 (w8 k)) S1x128x128.size hh) hs).squeeze S128x128 squeezes_S1x128x128_S128x128 = rowSlot B (sl 2 k.val) :=
  rowSlot_congr B (offs i₀ k).2.2.2.2.2.2.1 _ _
@[sl_canon] theorem cOut13 (hh hs) : O.slice (Rect.unit (s := S32768x128) (k0_off13 i (w10 k)) S128x128.size hh) hs = outBlk O (blk i k.val) :=
  outBlk_congr O (offs i k).2.2.2.2.2.2.2.1 _ _
@[sl_canon] theorem cSem14 (hh) : (sb.slice (Rect.unit (s := S2) (k0_off14 (w8 k)) S1.size hh)).squeeze S_ squeezes_S1_S_ = semAt sb (sl 2 k.val) :=
  semAt_congr sb (offs i₀ k).2.2.2.2.2.2.2.2.1 _
@[sl_canon] theorem cRow15 (hk : 0 < k.val) (hh hs) : (B.slice (Rect.unit (s := S2x128x128) (k0_off15 (w9 k)) S1x128x128.size hh) hs).squeeze S128x128 squeezes_S1x128x128_S128x128 = rowSlot B (sl 2 (k.val + 1)) :=
  rowSlot_congr B ((offs i₀ k).2.2.2.2.2.2.2.2.2 hk).1 _ _
@[sl_canon] theorem cOut16 (hk : 0 < k.val) (hh hs) : O.slice (Rect.unit (s := S32768x128) (k0_off16 i (w10 k)) S128x128.size hh) hs = outBlk O (blk i (k.val - 1)) :=
  outBlk_congr O ((offs i k).2.2.2.2.2.2.2.2.2 hk).2.1 _ _
@[sl_canon] theorem cSem17 (hk : 0 < k.val) (hh) : (sb.slice (Rect.unit (s := S2) (k0_off17 (w9 k)) S1.size hh)).squeeze S_ squeezes_S1_S_ = semAt sb (sl 2 (k.val + 1)) :=
  semAt_congr sb ((offs i₀ k).2.2.2.2.2.2.2.2.2 hk).2.2 _

end Canon

end Cert.Proof.Gather

end
-- ==== Proof.Trip.lean ====
/-
  One step of a tile, at a symbolic step number, with the values carried.
-/
module

public import proofs.«01_k».proof.Proof.Names
public import Idealize.ShloMosaic.Lib.Pointwise.Reshape

@[expose] public section

noncomputable section

namespace Cert.Proof.Gather

open Cert.KernelIdeal Cert.KernelIdeal.Gen
open Idealize.ShloMosaic Idealize.ShloMosaic.Tactic
open Idealize.ShloMosaic.SparseCore (S V T)
open Idealize.ShloMosaic.SparseCore.Cfg (HIx)
open Idealize.ShloMosaic.Ring (sl rangeSet)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (d : Dev nD) (i : grid0.Coords)
  (arg2 : Memref sig .scVector .hbm S100000x128 .f32) (harg2 : arg2.IsWhole)
  (arg3 : Memref sig .scVector .hbm S1x32768 .i32) (harg3 : arg3.IsWhole)
  (arg4 : Memref sig .scVector .hbm S32768x128 .f32) (harg4 : arg4.IsWhole)
  (A : Memref sig .scVector .vmem S2x1x128 .i32) (hA : A.IsWhole) (sa : DmaSems sig S2)
  (B : Memref sig .scVector .vmem S2x128x128 .f32) (hB : B.IsWhole) (sb : DmaSems sig S2) (sg : DmaSems sig S_)

/-- The tile's thread. -/
abbrev thr : Thread nD τ := V d ((i 0).castLE hcore0) ((i 1).castLE hsub0)

variable (tab : Buf (Elt F) (arg2.view.loc (thr d i))) (ids : Buf (Elt F) (arg3.view.loc (thr d i)))
  (hids : ∀ x, (arg3.view.read (Elt F) ids x).toNat < 100000)

/-- The place of index `r` of block `b` among the indices. -/
def idIx (b : Fin 256) (r : Fin 128) : S1x32768.Idx := fun a => match a with
  | 0 => (⟨0, by decide⟩ : Fin 1)
  | 1 => (⟨128 * b.val + r.val, by have := b.isLt; have := r.isLt; omega⟩ : Fin 32768)

/-- The element of the table that belongs at `y` of block `b`: of the row that the block's index `y 0` names. -/
def gathered (b : Fin 256) : S128x128.Idx → Elt F .f32 := fun y =>
  arg2.view.read (Elt F) tab fun a => match a with
    | 0 => (⟨(arg3.view.read (Elt F) ids (idIx b (y 0))).toNat, hids _⟩ : Fin 100000)
    | 1 => y 1

/-- Slot `s` as the list of offsets the gather reads. -/
abbrev listM (s : Fin 2) : Memref sig .scVector .vmem S128 .i32 :=
  ((idSlot A s).slice (Rect.unit (s := S1x128) ![0, 0] S1x128.size inb_S1x128_S1x128_0_0) (fun _ => rfl)).squeeze S128 squeezes_S1x128_S128

/-! ## The pieces -/

abbrev cellP (c : DmaSems sig S_) : sProp 𝕄 := semVal (thr d i, SemLoc.dma c.sem) 0
abbrev idSlotP (s : Fin 2) (f : Buf (Elt F) ((idSlot A s).view.loc (thr d i))) : sProp 𝕄 :=
  (idSlot A s).view.loc (thr d i) ↦[(idSlot A s).view.set]{fullShare} f
abbrev rowSlotP (s : Fin 2) (f : Buf (Elt F) ((rowSlot B s).view.loc (thr d i))) : sProp 𝕄 :=
  (rowSlot B s).view.loc (thr d i) ↦[(rowSlot B s).view.set]{fullShare} f
abbrev outP (b : Fin 256) (f : Buf (Elt F) ((outBlk arg4 b).view.loc (thr d i))) : sProp 𝕄 :=
  (outBlk arg4 b).view.loc (thr d i) ↦[(outBlk arg4 b).view.set]{fullShare} f

/-- Index slot `s` as block `b`'s copy leaves it, over prior contents `f`. -/
abbrev landed (s : Fin 2) (b : Fin 256) (f : Buf (Elt F) ((idSlot A s).view.loc (thr d i))) : Buf (Elt F) ((idSlot A s).view.loc (thr d i)) :=
  (idSlot A s).view.writes (Elt F) f [⟨Rect.whole S1x128, ReadAs.same.apply ((idBlk arg3 b).view.read (Elt F) ids)⟩]

/-- Block `b` of the indices on its way into slot `s`; the rest of the share of the indices that the slot uses stays. -/
abbrev idFlight (q : PosShare TreeShare) (s : Fin 2) (b : Fin 256) (f : Buf (Elt F) ((idSlot A s).view.loc (thr d i))) : sProp 𝕄 :=
  iprop(Transfers.Flight countersEmb (thr d i) (SemLoc.dma (semAt sa s).sem) (default : Ix) 4096
      iprop(idSlotP d i A s (landed d i arg3 A ids s b f) ∗ ((idBlk arg3 b).view.loc (thr d i) ↦[(idBlk arg3 b).view.set]{q} ids))
    ∗ (arg3.view.loc (thr d i) ↦[Finset.univ \ (idBlk arg3 b).view.set]{q} ids))
/-- Slot `s` of the index buffer free, beside its share of the indices. -/
abbrev idFree (q : PosShare TreeShare) (s : Fin 2) : sProp 𝕄 :=
  iprop((∃ f, idSlotP d i A s f) ∗ cellP d i (semAt sa s) ∗ (arg3.view.loc (thr d i) ↦{q} ids))

/-- The write-out of block `b` from row slot `s`. -/
abbrev outFlight (s : Fin 2) (b : Fin 256) : sProp 𝕄 :=
  iprop(∃ f g, ⌜(outBlk arg4 b).view.read (Elt F) f = gathered d i arg2 arg3 tab ids hids b⌝
    ∗ Transfers.Flight countersEmb (thr d i) (SemLoc.dma (semAt sb s).sem) (default : Ix) 524288
      iprop(outP d i arg4 b f ∗ rowSlotP d i B s g))
abbrev rowFree (s : Fin 2) : sProp 𝕄 := iprop((∃ f, rowSlotP d i B s f) ∗ cellP d i (semAt sb s))

/-- Block `b` of the result, done. -/
abbrev outDone (b : Fin 256) : sProp 𝕄 :=
  iprop(∃ f, ⌜(outBlk arg4 b).view.read (Elt F) f = gathered d i arg2 arg3 tab ids hids b⌝ ∗ outP d i arg4 b f)
/-- Block `b` of the result, not yet written. -/
abbrev outTodo (b : Fin 256) : sProp 𝕄 := iprop(∃ f, outP d i arg4 b f)

/-- The thread's waits so far, all its own. -/
abbrev owing (OO : CellTallies nD τ sig Ix) (W : Waits sig Ix) : sProp 𝕄 :=
  iprop(∃ W', ⌜∀ p ∈ W', p ∈ W ∨ p.2 = none⌝ ∗ owes (thr d i) OO W')

abbrev body (v4 : BitVec 32) (k : Fin k0_t1_loop.trips) (acc) :=
  k0_t1_body (F := F) i arg2 harg2 arg3 harg3 arg4 harg4 A hA sa B hB sb sg v4 k acc

/-- Row `x` of the list within the slot's row. -/
theorem list_idx (h : S128.numel = S1x128.numel) (x : S128.Idx) :
    (Rect.unit (s := S1x128) ![0, 0] S1x128.size inb_S1x128_S1x128_0_0).emb (Shape.reshapeEquiv h x)
      = (fun a => match a with | 0 => (⟨0, by decide⟩ : Fin 1) | 1 => (x 0 : Fin 128) : S1x128.Idx) := by
  have e : Shape.reshapeEquiv h x = (fun a => match a with | 0 => (⟨0, by decide⟩ : Fin 1) | 1 => (x 0 : Fin 128) : S1x128.Idx) := by
    apply Shape.reshapeEquiv_eq_of_rowMajor
    rw [Idealize.ShloMosaic.rowMajor_val1, Idealize.ShloMosaic.rowMajor_val2 _ 128 rfl]
    show 0 * 128 + (x 0).val = (x 0).val
    omega
  rw [e]
  funext a
  apply Fin.ext
  fin_cases a
  · rfl
  · show 0 + 1 * (x 0).val = (x 0).val
    omega

theorem list_read (s : Fin 2) (b : Fin 256) (f : Buf (Elt F) ((idSlot A s).view.loc (thr d i))) (x : S128.Idx) :
    (listM A s).view.read (Elt F) (landed d i arg3 A ids s b f) x = arg3.view.read (Elt F) ids (idIx b (x 0)) := by
  show (idSlot A s).view.read (Elt F) (landed d i arg3 A ids s b f)
    ((Rect.unit (s := S1x128) ![0, 0] S1x128.size inb_S1x128_S1x128_0_0).emb (Shape.reshapeEquiv _ x)) = _
  rw [list_idx]
  have e := View.read_writes_cons_emb (idSlot A s).view f (Rect.whole S1x128) (ReadAs.same.apply ((idBlk arg3 b).view.read (Elt F) ids)) []
    (fun a => match a with | 0 => (⟨0, by decide⟩ : Fin 1) | 1 => (x 0 : Fin 128) : S1x128.Idx)
  rw [show ∀ y, (Rect.whole S1x128).emb y = y from fun y => by funext a; apply Fin.ext; show 0 + 1 * (y a).val = _; omega] at e
  refine e.trans ?_
  show arg3.view.read (Elt F) ids ((Rect.unit (s := S1x32768) (idBlkOff b) S1x128.size (idBlkOff_inb b)).emb _) = _
  congr 1
  funext a
  apply Fin.ext
  fin_cases a
  · rfl
  · show 128 * b.val + 1 * (x 0).val = _
    simp [idIx]

include hids in
theorem list_lt (s : Fin 2) (b : Fin 256) (f : Buf (Elt F) ((idSlot A s).view.loc (thr d i))) (x : S128.Idx) :
    ((listM A s).view.read (Elt F) (landed d i arg3 A ids s b f) x).toNat < 100000 := by
  rw [list_read]; exact hids _

/-- The only coordinate of place `k` of a list of 128. -/
theorem rowMajor_symm_S128 (k : Fin S128.numel) : ((S128.rowMajor.symm k) 0).val = k.val := by
  have h := Idealize.ShloMosaic.rowMajor_val1 (S128.rowMajor.symm k)
  rw [Equiv.apply_symm_apply] at h
  exact h.symm

/-- What the gather of block `b` brings: the rows its indices name. -/
theorem gather_value (b : Fin 256) (idx : S128.Idx → BitVec 32)
    (hidx : ∀ x, idx x = arg3.view.read (Elt F) ids (idIx b (x 0)))
    (hn : S128.numel = S128x128.size gathers_S100000x128_S128x128.axis')
    (h : ∀ x, (idx x).toNat < S100000x128.size gathers_S100000x128_S128x128.axis) :
    SparseCore.gatherPayload (F := F) (e := .f32) gathers_S100000x128_S128x128
        ((arg2.slice (Rect.unit (s := S100000x128) ![0, 0] S100000x128.size inb_S100000x128_S100000x128_0_0) (fun _ => rfl)).view.read (Elt F) tab)
        (SparseCore.rows (F := F) idx hn h)
      = gathered d i arg2 arg3 tab ids hids b := by
  funext y
  show arg2.view.read (Elt F) tab ((Rect.unit (s := S100000x128) ![0, 0] S100000x128.size inb_S100000x128_S100000x128_0_0).emb
    (gathers_S100000x128_S128x128.idx (SparseCore.rows (F := F) idx hn h) y)) = _
  unfold gathered
  congr 1
  funext a
  apply Fin.ext
  fin_cases a
  · show 0 + 1 * (idx (S128.rowMajor.symm _)).toNat = (arg3.view.read (Elt F) ids (idIx b (y 0))).toNat
    rw [hidx, Nat.zero_add, Nat.one_mul]
    congr 4
    exact Fin.ext (rowMajor_symm_S128 _)
  · show 0 + 1 * _ = (y 1).val
    rw [Nat.zero_add, Nat.one_mul]
    rfl

/-- A whole write is what is read afterwards. -/
theorem read_writes_whole {s : Shape} {e : EltTy} {sp : Space} (v : View sig .scVector sp s e) (f : v.ty.Contents (Elt F)) (w : s.Idx → Elt F e) :
    v.read (Elt F) (v.writes (Elt F) f [⟨Rect.whole s, w⟩]) = w := by
  funext y
  have h := View.read_writes_cons_emb v f (Rect.whole s) w [] y
  rwa [show (Rect.whole s).emb y = y from by funext a; apply Fin.ext; show 0 + 1 * (y a).val = _; omega] at h

/-- The word the program multiplies out of a tile's coordinates: the tile's first block. -/
abbrev base : BitVec 32 :=
  Scalar.muli (Scalar.addi (Scalar.addi 0#32 (Scalar.muli (BitVec.ofNat 32 (i 1).val) 1#32)) (Scalar.muli (BitVec.ofNat 32 (i 0).val) 16#32)) 8#32

theorem sl_two (k : ℕ) : sl 2 (k + 1 + 1) = sl 2 k := by rw [show k + 1 + 1 = k + 2 from rfl, Ring.sl_add]

variable (q2 : PosShare TreeShare) (q : Fin 2 → PosShare TreeShare) (OO : CellTallies nD τ sig Ix) (W : Waits sig Ix)

/-- What every step keeps at hand: the right to wait, its waits so far, the table, the gather's semaphore. -/
abbrev always : sProp 𝕄 :=
  iprop(owing d i OO W ∗ (arg2.view.loc (thr d i) ↦{q2} tab) ∗ cellP d i sg)

set_option maxHeartbeats 4000000 in
/-- The first step: no write-out is awaited. -/
theorem first_trip (k : Fin k0_t1_loop.trips) (hk0 : k.val = 0) :
    iprop(Transfers.MayWaits (thr d i) (default : Ix) OO ∗ always d i arg2 sg tab q2 OO W
      ∗ (∃ f, idFlight d i arg3 A sa ids (q (sl 2 k)) (sl 2 k) (blk i k) f)
      ∗ idFree d i arg3 A sa ids (q (sl 2 (k + 1))) (sl 2 (k + 1))
      ∗ rowFree d i B sb (sl 2 k)
      ∗ rowFree d i B sb (sl 2 (k + 1))
      ∗ outTodo d i arg4 (blk i k))
    ⊢ wp frame (wpE (defs₀ (F := F)) 𝒱₀ (thr d i) none) Set.univ
       (body i arg2 harg2 arg3 harg3 arg4 harg4 A hA sa B hB sb sg (base i) k (words k))
       (fun acc => iprop(⌜acc = words (k + 1)⌝ ∗ always d i arg2 sg tab q2 OO W
        ∗ (∃ f, idFlight d i arg3 A sa ids (q (sl 2 (k + 1))) (sl 2 (k + 1)) (blk i (k + 1)) f)
        ∗ idFree d i arg3 A sa ids (q (sl 2 k)) (sl 2 k)
        ∗ rowFree d i B sb (sl 2 (k + 1))
        ∗ outFlight d i arg2 arg3 arg4 B sb tab ids hids (sl 2 k) (blk i k))) := by
  have hc1 := (conds i k).1.2 (by omega)
  have hc2 := (conds i k).2.1
  have hc5 := (conds i k).2.2.1
  have hc7 : ¬ k0_cond7 i k (w10 k) = 1#1 := fun h => by have := (conds i k).2.2.2.1 h; omega
  have hk7 : k.val < 7 := by omega
  have hch3 := (chks i k).1
  have hch2 := (chks i k).2.1
  have hch1 := (chks i k).2.2
  have hin := list_lt d i arg3 A ids hids (sl 2 k) (blk i k)
  iintro ⟨#Hmw, ⟨⟨%W', %hW', HO⟩, Ht, Hsg⟩, ⟨%f0, HF, Hir⟩, ⟨⟨%f1, Hi1⟩, Hc1, Hi⟩, ⟨⟨%fr, Hr⟩, Hcr⟩, ⟨⟨%go, Hr2⟩, Hcr2⟩, ⟨%ft, Hot⟩⟩
  dsimp only [body]
  rw [show words k = (w6 k, w7 k, w8 k, w9 k, w10 k) from rfl]
  sl_unfold [k0_t1_body]
  sl_exec
  sl_step
  have key : ∀ (i : grid0.Coords) (k : Fin k0_t1_loop.trips),
      (first_trip.sl.v91_r0 i k, first_trip.sl.v139_r0 i k, first_trip.sl.v121_r0 i k, first_trip.sl.v135_r0 i k, first_trip.sl.v75_r0 k)
        = words (k.val + 1) := by
    intro i
    refine forall_coords (p := fun i => ∀ k : Fin k0_t1_loop.trips,
      (first_trip.sl.v91_r0 i k, first_trip.sl.v139_r0 i k, first_trip.sl.v121_r0 i k, first_trip.sl.v135_r0 i k, first_trip.sl.v75_r0 k)
        = words (k.val + 1)) ?_ i
    decide +kernel
  ihave Hids := (pointsTo_split_subset (q := q (sl 2 k)) (f := ids) (S := Finset.univ) (Finset.subset_univ (idBlk arg3 (blk i k)).view.set)).2 $$ [HF_src Hir]
  · isplitl [HF_src]; · iexact HF_src
    iexact Hir
  isplitr
  · ipureintro; exact key i k
  isplitl [HO Ht Hsg]
  · isplitl [HO]
    · iexists _; isplitr
      swap; · iexact HO
      ipureintro; intro p hp
      rcases Finset.mem_insert.mp hp with hp | hp; · exact .inr (hp ▸ rfl)
      rcases Finset.mem_insert.mp hp with hp | hp; · exact .inr (hp ▸ rfl)
      exact hW' p hp
    isplitl [Ht]; · iexact Ht
    iexact Hsg
  isplitl [Hc1 Hi]
  · iexists f1
    isplitl [Hc1]; · iexact Hc1
    iexact Hi
  isplitl [HF_dst HF Hids]
  · isplitl [HF_dst]; · iexists _; iexact HF_dst
    isplitl [HF]; · iexact HF
    iexact Hids
  isplitl [Hr2 Hcr2]
  · isplitl [Hr2]; · iexists _; iexact Hr2
    iexact Hcr2
  iexists _, _; isplitr
  swap; · iexact Hcr
  ipureintro
  exact (read_writes_whole _ _ _).trans ((read_writes_whole _ _ _).trans (gather_value d i arg2 arg3 tab ids hids _ _ (list_read d i arg3 A ids _ _ _) _ _))

set_option maxHeartbeats 4000000 in
/-- A step with a step before it and one after. -/
theorem mid_trip (k : Fin k0_t1_loop.trips) (hk0 : 0 < k.val) (hk7 : k.val < 7) :
    iprop(Transfers.MayWaits (thr d i) (default : Ix) OO ∗ always d i arg2 sg tab q2 OO W
      ∗ (∃ f, idFlight d i arg3 A sa ids (q (sl 2 k)) (sl 2 k) (blk i k) f)
      ∗ idFree d i arg3 A sa ids (q (sl 2 (k + 1))) (sl 2 (k + 1))
      ∗ rowFree d i B sb (sl 2 k)
      ∗ outFlight d i arg2 arg3 arg4 B sb tab ids hids (sl 2 (k + 1)) (blk i (k - 1))
      ∗ outTodo d i arg4 (blk i k))
    ⊢ wp frame (wpE (defs₀ (F := F)) 𝒱₀ (thr d i) none) Set.univ
       (body i arg2 harg2 arg3 harg3 arg4 harg4 A hA sa B hB sb sg (base i) k (words k))
       (fun acc => iprop(⌜acc = words (k + 1)⌝ ∗ always d i arg2 sg tab q2 OO W
        ∗ (∃ f, idFlight d i arg3 A sa ids (q (sl 2 (k + 1))) (sl 2 (k + 1)) (blk i (k + 1)) f)
        ∗ idFree d i arg3 A sa ids (q (sl 2 k)) (sl 2 k)
        ∗ rowFree d i B sb (sl 2 (k + 1))
        ∗ outFlight d i arg2 arg3 arg4 B sb tab ids hids (sl 2 k) (blk i k)
        ∗ outDone d i arg2 arg3 arg4 tab ids hids (blk i (k - 1)))) := by
  have hc1 := (conds i k).1.2 hk7
  have hc2 := (conds i k).2.1
  have hc5 := (conds i k).2.2.1
  have hc7 := (conds i k).2.2.2.2 hk0
  have hch3 := (chks i k).1
  have hch2 := (chks i k).2.1
  have hch1 := (chks i k).2.2
  have hin := list_lt d i arg3 A ids hids (sl 2 k) (blk i k)
  iintro ⟨#Hmw, ⟨⟨%W', %hW', HO⟩, Ht, Hsg⟩, ⟨%f0, HF, Hir⟩, ⟨⟨%f1, Hi1⟩, Hc1, Hi⟩, ⟨⟨%fr, Hr⟩, Hcr⟩, ⟨%fo, %go, %hfo, HFo⟩, ⟨%ft, Hot⟩⟩
  dsimp only [body]
  rw [show words k = (w6 k, w7 k, w8 k, w9 k, w10 k) from rfl]
  sl_unfold [k0_t1_body]
  sl_exec
  sl_step
  have key : ∀ (i : grid0.Coords) (k : Fin k0_t1_loop.trips),
      (mid_trip.sl.v91_r0 i k, mid_trip.sl.v139_r0 i k, mid_trip.sl.v121_r0 i k, mid_trip.sl.v135_r0 i k, mid_trip.sl.v75_r0 k)
        = words (k.val + 1) := by
    intro i
    refine forall_coords (p := fun i => ∀ k : Fin k0_t1_loop.trips,
      (mid_trip.sl.v91_r0 i k, mid_trip.sl.v139_r0 i k, mid_trip.sl.v121_r0 i k, mid_trip.sl.v135_r0 i k, mid_trip.sl.v75_r0 k)
        = words (k.val + 1)) ?_ i
    decide +kernel
  ihave Hids := (pointsTo_split_subset (q := q (sl 2 k)) (f := ids) (S := Finset.univ) (Finset.subset_univ (idBlk arg3 (blk i k)).view.set)).2 $$ [HF_src Hir]
  · isplitl [HF_src]; · iexact HF_src
    iexact Hir
  isplitr
  · ipureintro; exact key i k
  isplitl [HO Ht Hsg]
  · isplitl [HO]
    · iexists _; isplitr
      swap; · iexact HO
      ipureintro; intro p hp
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      exact hW' p hp
    isplitl [Ht]; · iexact Ht
    iexact Hsg
  isplitl [Hc1 Hi]
  · iexists f1
    isplitl [Hc1]; · iexact Hc1
    iexact Hi
  isplitl [HF_dst HF Hids]
  · isplitl [HF_dst]; · iexists _; iexact HF_dst
    isplitl [HF]; · iexact HF
    iexact Hids
  isplitl [HFo_src HFo]
  · isplitl [HFo_src]; · iexists _; iexact HFo_src
    iexact HFo
  isplitl [Hcr]
  · iexists _, _; isplitr
    swap; · iexact Hcr
    ipureintro
    exact (read_writes_whole _ _ _).trans ((read_writes_whole _ _ _).trans (gather_value d i arg2 arg3 tab ids hids _ _ (list_read d i arg3 A ids _ _ _) _ _))
  iexists _; isplitr; · ipureintro; exact hfo
  iexact HFo_dst

set_option maxHeartbeats 4000000 in
/-- The last step: no next block is fetched. -/
theorem last_trip (k : Fin k0_t1_loop.trips) (hk7 : k.val = 7) :
    iprop(Transfers.MayWaits (thr d i) (default : Ix) OO ∗ always d i arg2 sg tab q2 OO W
      ∗ (∃ f, idFlight d i arg3 A sa ids (q (sl 2 k)) (sl 2 k) (blk i k) f)
      ∗ idFree d i arg3 A sa ids (q (sl 2 (k + 1))) (sl 2 (k + 1))
      ∗ rowFree d i B sb (sl 2 k)
      ∗ outFlight d i arg2 arg3 arg4 B sb tab ids hids (sl 2 (k + 1)) (blk i (k - 1))
      ∗ outTodo d i arg4 (blk i k))
    ⊢ wp frame (wpE (defs₀ (F := F)) 𝒱₀ (thr d i) none) Set.univ
       (body i arg2 harg2 arg3 harg3 arg4 harg4 A hA sa B hB sb sg (base i) k (words k))
       (fun acc => iprop(⌜acc = words (k + 1)⌝ ∗ always d i arg2 sg tab q2 OO W
        ∗ idFree d i arg3 A sa ids (q (sl 2 (k + 1))) (sl 2 (k + 1))
        ∗ idFree d i arg3 A sa ids (q (sl 2 k)) (sl 2 k)
        ∗ rowFree d i B sb (sl 2 (k + 1))
        ∗ outFlight d i arg2 arg3 arg4 B sb tab ids hids (sl 2 k) (blk i k)
        ∗ outDone d i arg2 arg3 arg4 tab ids hids (blk i (k - 1)))) := by
  have hc1 : ¬ k0_cond1 i k (w10 k) = 1#1 := fun h => by have := (conds i k).1.1 h; omega
  have hc2 := (conds i k).2.1
  have hc5 := (conds i k).2.2.1
  have hc7 := (conds i k).2.2.2.2 (by omega)
  have hk0 : 0 < k.val := by omega
  have hch3 := (chks i k).1
  have hch2 := (chks i k).2.1
  have hch1 := (chks i k).2.2
  have hin := list_lt d i arg3 A ids hids (sl 2 k) (blk i k)
  iintro ⟨#Hmw, ⟨⟨%W', %hW', HO⟩, Ht, Hsg⟩, ⟨%f0, HF, Hir⟩, ⟨⟨%f1, Hi1⟩, Hc1, Hi⟩, ⟨⟨%fr, Hr⟩, Hcr⟩, ⟨%fo, %go, %hfo, HFo⟩, ⟨%ft, Hot⟩⟩
  dsimp only [body]
  rw [show words k = (w6 k, w7 k, w8 k, w9 k, w10 k) from rfl]
  sl_unfold [k0_t1_body]
  sl_exec
  sl_step
  have key : ∀ (i : grid0.Coords) (k : Fin k0_t1_loop.trips),
      (last_trip.sl.v91_r0 i k, last_trip.sl.v139_r0 i k, last_trip.sl.v121_r0 i k, last_trip.sl.v135_r0 i k, last_trip.sl.v75_r0 k)
        = words (k.val + 1) := by
    intro i
    refine forall_coords (p := fun i => ∀ k : Fin k0_t1_loop.trips,
      (last_trip.sl.v91_r0 i k, last_trip.sl.v139_r0 i k, last_trip.sl.v121_r0 i k, last_trip.sl.v135_r0 i k, last_trip.sl.v75_r0 k)
        = words (k.val + 1)) ?_ i
    decide +kernel
  ihave Hids := (pointsTo_split_subset (q := q (sl 2 k)) (f := ids) (S := Finset.univ) (Finset.subset_univ (idBlk arg3 (blk i k)).view.set)).2 $$ [HF_src Hir]
  · isplitl [HF_src]; · iexact HF_src
    iexact Hir
  isplitr
  · ipureintro; exact key i k
  isplitl [HO Ht Hsg]
  · isplitl [HO]
    · iexists _; isplitr
      swap; · iexact HO
      ipureintro; intro p hp
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      exact hW' p hp
    isplitl [Ht]; · iexact Ht
    iexact Hsg
  isplitl [Hi1 Hc1 Hi]
  · isplitl [Hi1]; · iexists _; iexact Hi1
    isplitl [Hc1]; · iexact Hc1
    iexact Hi
  isplitl [HF_dst HF Hids]
  · isplitl [HF_dst]; · iexists _; iexact HF_dst
    isplitl [HF]; · iexact HF
    iexact Hids
  isplitl [HFo_src HFo]
  · isplitl [HFo_src]; · iexists _; iexact HFo_src
    iexact HFo
  isplitl [Hcr]
  · iexists _, _; isplitr
    swap; · iexact Hcr
    ipureintro
    exact (read_writes_whole _ _ _).trans ((read_writes_whole _ _ _).trans (gather_value d i arg2 arg3 tab ids hids _ _ (list_read d i arg3 A ids _ _ _) _ _))
  iexists _; isplitr; · ipureintro; exact hfo
  iexact HFo_dst

end Cert.Proof.Gather

end
-- ==== Proof.Body.lean ====
/-
  The whole of a tile's run: the first block of indices on its way, the eight steps, the last write-out awaited.
-/
module

public import proofs.«01_k».proof.Proof.Trip

@[expose] public section

noncomputable section

namespace Cert.Proof.Gather

open Cert.KernelIdeal Cert.KernelIdeal.Gen
open Idealize.ShloMosaic Idealize.ShloMosaic.Tactic
open Idealize.ShloMosaic.SparseCore (S V T)
open Idealize.ShloMosaic.SparseCore.Cfg (HIx)
open Idealize.ShloMosaic.Ring (sl rangeSet bigSep_rangeSet_head bigSep_rangeSet_last bigSep_rangeSet_empty)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (d : Dev nD) (i : grid0.Coords)
  (arg2 : Memref sig .scVector .hbm S100000x128 .f32) (harg2 : arg2.IsWhole)
  (arg3 : Memref sig .scVector .hbm S1x32768 .i32) (harg3 : arg3.IsWhole)
  (arg4 : Memref sig .scVector .hbm S32768x128 .f32) (harg4 : arg4.IsWhole)
  (A : Memref sig .scVector .vmem S2x1x128 .i32) (hA : A.IsWhole) (sa : DmaSems sig S2)
  (B : Memref sig .scVector .vmem S2x128x128 .f32) (hB : B.IsWhole) (sb : DmaSems sig S2) (sg : DmaSems sig S_)

variable (tab : Buf (Elt F) (arg2.view.loc (thr d i))) (ids : Buf (Elt F) (arg3.view.loc (thr d i)))
  (hids : ∀ x, (arg3.view.read (Elt F) ids x).toNat < 100000)

variable (q2 : PosShare TreeShare) (q : Fin 2 → PosShare TreeShare) (OO : CellTallies nD τ sig Ix) (W : Waits sig Ix)

/-! ## The loop's invariant -/

/-- The slot of step `k`'s indices: their copy on its way, but after the last step nothing. -/
def idAhead (k : ℕ) : sProp 𝕄 :=
  if k < 8 then iprop(∃ f, idFlight d i arg3 A sa ids (q (sl 2 k)) (sl 2 k) (blk i k) f)
  else idFree d i arg3 A sa ids (q (sl 2 k)) (sl 2 k)
/-- The row slot of the step before `k`: its write-out on the way, but before the first step nothing. -/
def outBehind (k : ℕ) : sProp 𝕄 :=
  if 0 < k then outFlight d i arg2 arg3 arg4 B sb tab ids hids (sl 2 (k + 1)) (blk i (k - 1))
  else rowFree d i B sb (sl 2 (k + 1))
/-- The blocks not yet begun before step `k`. -/
def todoFrom (k : ℕ) : sProp 𝕄 := bigSep (rangeSet 8 k 8) fun b : Fin 8 => outTodo (F := F) d i arg4 (blk i b.val)
/-- The blocks whose write-out has been awaited before step `k`. -/
def doneTo (k : ℕ) : sProp 𝕄 := bigSep (rangeSet 8 0 (k - 1)) fun b : Fin 8 => outDone d i arg2 arg3 arg4 tab ids hids (blk i b.val)

/-- Before step `k`. -/
def invAt (k : ℕ) : sProp 𝕄 :=
  iprop(Transfers.MayWaits (thr d i) (default : Ix) OO ∗ always d i arg2 sg tab q2 OO W
    ∗ idAhead d i arg3 A sa ids q k
    ∗ idFree d i arg3 A sa ids (q (sl 2 (k + 1))) (sl 2 (k + 1))
    ∗ rowFree d i B sb (sl 2 k)
    ∗ outBehind d i arg2 arg3 arg4 B sb tab ids hids k
    ∗ todoFrom d i arg4 k ∗ doneTo d i arg2 arg3 arg4 tab ids hids k)

theorem trips_eq : k0_t1_loop.trips = 8 := by decide +kernel

/-- One step takes the invariant on. -/
theorem step (k : Fin k0_t1_loop.trips) :
    invAt d i arg2 arg3 arg4 A sa B sb sg tab ids hids q2 q OO W k.val
    ⊢ wp frame (wpE (defs₀ (F := F)) 𝒱₀ (thr d i) none) Set.univ
       (body i arg2 harg2 arg3 harg3 arg4 harg4 A hA sa B hB sb sg (base i) k (words k))
       (fun acc => iprop(⌜acc = words (k.val + 1)⌝ ∗ invAt d i arg2 arg3 arg4 A sa B sb sg tab ids hids q2 q OO W (k.val + 1))) := by
  have hk8 : k.val < 8 := trips_eq ▸ k.isLt
  have e1 : todoFrom (F := F) d i arg4 k.val = iprop(outTodo d i arg4 (blk i k.val) ∗ todoFrom d i arg4 (k.val + 1)) :=
    bigSep_rangeSet_head hk8 hk8
  have e2 : 0 < k.val → doneTo d i arg2 arg3 arg4 tab ids hids (k.val + 1)
      = iprop(outDone d i arg2 arg3 arg4 tab ids hids (blk i (k.val - 1)) ∗ doneTo d i arg2 arg3 arg4 tab ids hids k.val) :=
    fun h => bigSep_rangeSet_last (by omega) (by omega)
  unfold invAt
  rw [e1]
  rcases Nat.eq_zero_or_pos k.val with hk0 | hk0
  · have e3 : doneTo d i arg2 arg3 arg4 tab ids hids (k.val + 1) = doneTo d i arg2 arg3 arg4 tab ids hids k.val := by
      rw [hk0]; rfl
    rw [e3]
    simp only [idAhead, outBehind, if_pos hk8, if_neg (show ¬ 0 < k.val by omega), if_pos (show k.val + 1 < 8 by omega), if_pos (Nat.succ_pos _), sl_two, Nat.add_sub_cancel]
    iintro ⟨#Hmw, Hal, Ha, Hf, Hr, Hb, ⟨Ht, Hts⟩, Hd⟩
    iapply (wp_wand_r Idealize.ShloMosaic.frame (wpE (defs₀ (F := F)) 𝒱₀ (thr d i) none) Set.univ)
    isplitl [Hal Ha Hf Hr Hb Ht]
    · iapply (first_trip d i arg2 harg2 arg3 harg3 arg4 harg4 A hA sa B hB sb sg tab ids hids q2 q OO W k hk0)
      isplitr; · iexact Hmw
      isplitl [Hal]; · iexact Hal
      isplitl [Ha]; · iexact Ha
      isplitl [Hf]; · iexact Hf
      isplitl [Hr]; · iexact Hr
      isplitl [Hb]; · iexact Hb
      iexact Ht
    · iintro %acc ⟨%hacc, Hal, Ha, Hf, Hr, Hb⟩
      isplitr; · ipureintro; exact hacc
      isplitr; · iexact Hmw
      isplitl [Hal]; · iexact Hal
      isplitl [Ha]; · iexact Ha
      isplitl [Hf]; · iexact Hf
      isplitl [Hr]; · iexact Hr
      isplitl [Hb]; · iexact Hb
      isplitl [Hts]; · iexact Hts
      iexact Hd
  · rw [e2 hk0]
    rcases Nat.lt_or_ge k.val 7 with hk7 | hk7
    · simp only [idAhead, outBehind, if_pos hk8, if_pos hk0, if_pos (show k.val + 1 < 8 by omega), if_pos (Nat.succ_pos _), sl_two, Nat.add_sub_cancel]
      iintro ⟨#Hmw, Hal, Ha, Hf, Hr, Hb, ⟨Ht, Hts⟩, Hd⟩
      iapply (wp_wand_r Idealize.ShloMosaic.frame (wpE (defs₀ (F := F)) 𝒱₀ (thr d i) none) Set.univ)
      isplitl [Hal Ha Hf Hr Hb Ht]
      · iapply (mid_trip d i arg2 harg2 arg3 harg3 arg4 harg4 A hA sa B hB sb sg tab ids hids q2 q OO W k hk0 hk7)
        isplitr; · iexact Hmw
        isplitl [Hal]; · iexact Hal
        isplitl [Ha]; · iexact Ha
        isplitl [Hf]; · iexact Hf
        isplitl [Hr]; · iexact Hr
        isplitl [Hb]; · iexact Hb
        iexact Ht
      · iintro %acc ⟨%hacc, Hal, Ha, Hf, Hr, Hb, Hn⟩
        isplitr; · ipureintro; exact hacc
        isplitr; · iexact Hmw
        isplitl [Hal]; · iexact Hal
        isplitl [Ha]; · iexact Ha
        isplitl [Hf]; · iexact Hf
        isplitl [Hr]; · iexact Hr
        isplitl [Hb]; · iexact Hb
        isplitl [Hts]; · iexact Hts
        isplitl [Hn]; · iexact Hn
        iexact Hd
    · have hk : k.val = 7 := by omega
      simp only [idAhead, outBehind, if_pos hk8, if_pos hk0, if_neg (show ¬ k.val + 1 < 8 by omega), if_pos (Nat.succ_pos _), sl_two, Nat.add_sub_cancel]
      iintro ⟨#Hmw, Hal, Ha, Hf, Hr, Hb, ⟨Ht, Hts⟩, Hd⟩
      iapply (wp_wand_r Idealize.ShloMosaic.frame (wpE (defs₀ (F := F)) 𝒱₀ (thr d i) none) Set.univ)
      isplitl [Hal Ha Hf Hr Hb Ht]
      · iapply (last_trip d i arg2 harg2 arg3 harg3 arg4 harg4 A hA sa B hB sb sg tab ids hids q2 q OO W k hk)
        isplitr; · iexact Hmw
        isplitl [Hal]; · iexact Hal
        isplitl [Ha]; · iexact Ha
        isplitl [Hf]; · iexact Hf
        isplitl [Hr]; · iexact Hr
        isplitl [Hb]; · iexact Hb
        iexact Ht
      · iintro %acc ⟨%hacc, Hal, Ha, Hf, Hr, Hb, Hn⟩
        isplitr; · ipureintro; exact hacc
        isplitr; · iexact Hmw
        isplitl [Hal]; · iexact Hal
        isplitl [Ha]; · iexact Ha
        isplitl [Hf]; · iexact Hf
        isplitl [Hr]; · iexact Hr
        isplitl [Hb]; · iexact Hb
        isplitl [Hts]; · iexact Hts
        isplitl [Hn]; · iexact Hn
        iexact Hd

/-- The loop by its invariant. -/
theorem loop_run {β : Type} (kk : BitVec 32 × BitVec 32 × BitVec 32 × BitVec 32 × BitVec 32 → Prog (TpuEff nD τ sig (Elt F) Λ₀ (.scVector ((i 0).castLE hcore0) ((i 1).castLE hsub0))) β)
    (Q : β → sProp 𝕄) :
    iprop(invAt d i arg2 arg3 arg4 A sa B sb sg tab ids hids q2 q OO W 0
      ∗ (invAt d i arg2 arg3 arg4 A sa B sb sg tab ids hids q2 q OO W 8 -∗ wp frame (wpE (defs₀ (F := F)) 𝒱₀ (thr d i) none) Set.univ (kk (words 8)) Q))
    ⊢ wp frame (wpE (defs₀ (F := F)) 𝒱₀ (thr d i) none) Set.univ
        (Scf.Loop.for k0_t1_loop k0_t1_ok (1#32, 0#32, 0#32, 0#32, 0#32)
          (k0_t1_body (F := F) i arg2 harg2 arg3 harg3 arg4 harg4 A hA sa B hB sb sg (base i)) >>= kk) Q := by
  have h := Scf.wp_for_bind frame (wpE (defs₀ (F := F)) 𝒱₀ (thr d i) none) Set.univ k0_t1_loop.lb k0_t1_loop.ub k0_t1_loop.st k0_t1_ok
    (1#32, 0#32, 0#32, 0#32, 0#32) (k0_t1_body (F := F) i arg2 harg2 arg3 harg3 arg4 harg4 A hA sa B hB sb sg (base i))
    (fun k acc => iprop(⌜acc = words k⌝ ∗ invAt d i arg2 arg3 arg4 A sa B sb sg tab ids hids q2 q OO W k))
    (fun k acc => by
      iintro ⟨%h, H⟩
      subst h
      iapply (step d i arg2 harg2 arg3 harg3 arg4 harg4 A hA sa B hB sb sg tab ids hids q2 q OO W k)
      iexact H) (kk := kk) (Q := Q)
  rw [show Scf.trips k0_t1_loop.lb k0_t1_loop.ub k0_t1_loop.st = 8 from trips_eq] at h
  iintro ⟨H0, Hk⟩
  iapply h $$ [H0]
  · isplitr; · ipureintro; rfl
    iexact H0
  iintro %acc ⟨%hacc, H⟩
  subst hacc
  iapply Hk
  iexact H

/-! ## The run -/

/-- What a tile holds of its own buffers and semaphores, and of the indices. -/
abbrev tools : sProp 𝕄 :=
  iprop(idFree d i arg3 A sa ids (q (sl 2 0)) (sl 2 0) ∗ idFree d i arg3 A sa ids (q (sl 2 1)) (sl 2 1)
    ∗ rowFree d i B sb (sl 2 0) ∗ rowFree d i B sb (sl 2 1))

set_option maxRecDepth 65536 in
set_option maxHeartbeats 4000000 in
/-- A tile's run: it leaves its eight blocks of the result fetched. -/
theorem tile_run :
    iprop(Transfers.MayWaits (thr d i) (default : Ix) OO ∗ owes (thr d i) OO W
      ∗ (arg2.view.loc (thr d i) ↦{q2} tab) ∗ cellP d i sg ∗ tools d i arg3 A sa B sb ids q
      ∗ bigSep Finset.univ fun b : Fin 8 => outTodo (F := F) d i arg4 (blk i b.val))
    ⊢ wp frame (wpE (defs₀ (F := F)) 𝒱₀ (thr d i) none) Set.univ
       (cc0_gather_kernel i arg2 harg2 arg3 harg3 arg4 harg4 A hA sa B hB sb sg)
       (fun _ => iprop(always d i arg2 sg tab q2 OO W ∗ tools d i arg3 A sa B sb ids q
        ∗ bigSep Finset.univ fun b : Fin 8 => outDone d i arg2 arg3 arg4 tab ids hids (blk i b.val))) := by
  have hch5 := (offs_ends i).2.2.2.1
  have hch4 := (offs_ends i).2.2.2.2.1
  simp only [cc0_gather_kernel_eq_skeleton]; unfold cc0_gather_kernel_skel
  iintro ⟨#Hmw, HO, Ht, Hsg, ⟨⟨⟨%f0, Hi0⟩, Hc0, Hi⟩, Hf1, Hr0, Hr1⟩, Hout⟩
  simp only [k0_part3_eq_skeleton, k0_part4_eq_skeleton]
  unfold k0_part3_skel k0_part4_skel
  sl_exec
  rw [bind_assoc]
  iapply (loop_run d i arg2 harg2 arg3 harg3 arg4 harg4 A hA sa B hB sb sg tab ids hids q2 q OO W)
  isplitl [HO Ht Hsg Hf1 Hr0 Hr1 Hout Hc0 Hi]
  · unfold invAt
    isplitr; · iexact Hmw
    isplitl [HO Ht Hsg]
    · isplitl [HO]
      · iexists W; isplitr; · ipureintro; exact fun p hp => Or.inl hp
        iexact HO
      isplitl [Ht]; · iexact Ht
      iexact Hsg
    simp only [idAhead, outBehind, if_pos (show 0 < 8 by omega), if_neg (show ¬ 0 < 0 by omega)]
    isplitl [Hc0 Hi]
    · iexists f0
      isplitl [Hc0]; · iexact Hc0
      iexact Hi
    isplitl [Hf1]; · iexact Hf1
    isplitl [Hr0]; · iexact Hr0
    isplitl [Hr1]; · iexact Hr1
    isplitl [Hout]
    · unfold todoFrom; rw [Ring.rangeSet_univ]; iexact Hout
    · unfold doneTo; rw [bigSep_rangeSet_empty (by omega)]; iempintro
  have e8 : doneTo d i arg2 arg3 arg4 tab ids hids 9 = iprop(outDone d i arg2 arg3 arg4 tab ids hids (blk i 7) ∗ doneTo d i arg2 arg3 arg4 tab ids hids 8) :=
    bigSep_rangeSet_last (by omega) (by omega)
  have e9 : doneTo d i arg2 arg3 arg4 tab ids hids 9 = bigSep Finset.univ fun b : Fin 8 => outDone d i arg2 arg3 arg4 tab ids hids (blk i b.val) := by
    unfold doneTo; rw [show 9 - 1 = 8 from rfl, Ring.rangeSet_univ]
  rw [← e9, e8]
  unfold invAt
  simp only [idAhead, outBehind, if_neg (show ¬ 8 < 8 by omega), if_pos (show 0 < 8 by omega)]
  iintro ⟨-, ⟨⟨%W', %hW', HO⟩, Ht, Hsg⟩, Hf0, Hf1, Hr0, ⟨%fo, %go, %hfo, HFo⟩, -, Hd⟩
  rw [show words 8 = (w6 8, w7 8, w8 8, w9 8, w10 8) from rfl]
  sl_exec
  sl_step
  isplitl [HO Ht Hsg]
  · isplitl [HO]
    · iexists _; isplitr
      swap; · iexact HO
      ipureintro; intro p hp
      rcases Finset.mem_insert.mp hp with hp | hp; · exact .inr (hp ▸ rfl)
      exact hW' p hp
    isplitl [Ht]; · iexact Ht
    iexact Hsg
  isplitl [Hf0 Hf1 Hr0 HFo_src HFo]
  · isplitl [Hf0]; · iexact Hf0
    isplitl [Hf1]; · iexact Hf1
    isplitl [Hr0]; · iexact Hr0
    isplitl [HFo_src]; · iexists _; iexact HFo_src
    iexact HFo
  isplitl [HFo_dst]
  · iexists _; isplitr; · ipureintro; exact hfo
    iexact HFo_dst
  iexact Hd

end Cert.Proof.Gather

end
-- ==== Proof.Split.lean ====
/-
  How one call's arrays are dealt to the tiles and gathered from them again: the table and the indices
  as shares for reading, the result as its 256 blocks, eight to a tile.
-/
module

public import proofs.«01_k».proof.Proof.Body

@[expose] public section

noncomputable section

namespace Cert.Proof.Gather

open Cert.KernelIdeal Cert.KernelIdeal.Gen
open Idealize.ShloMosaic Idealize.ShloMosaic.Tactic
open Idealize.ShloMosaic.SparseCore (S V T)
open Idealize.ShloMosaic.SparseCore.Cfg (HIx)
open Idealize.ShloMosaic.Ring (sl rangeSet)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-! ## Shares for reading -/

/-- Share `j` of `n + 1` that share `q` is cut into: half of what the earlier ones left, and the rest to the last. -/
def cut : (n : ℕ) → PosShare TreeShare → Fin (n + 1) → PosShare TreeShare
  | 0, q, _ => q
  | n + 1, q, j => Fin.cases q.left (fun j' => cut n q.right j') j

/-- An assertion for every index is one for the first and one for the others. -/
theorem sep_fin_succ {M : Type} [URA M] {n : ℕ} (Φ : Fin (n + 1) → sProp M) :
    bigSep Finset.univ Φ = iprop(Φ 0 ∗ bigSep Finset.univ fun j : Fin n => Φ j.succ) := by
  rw [Fin.univ_succ, Finset.cons_eq_insert, bigSep_insert (by simp), bigSep_map]
  rfl

/-- An array held at a share is held at the shares it is cut into. -/
theorem held_cut {ℓ : Loc nD τ sig} (I : Finset (Idx ℓ)) (f : Buf (Elt F) ℓ) :
    ∀ (n : ℕ) (q : PosShare TreeShare), (ℓ ↦[I]{q} f : sProp 𝕄) = bigSep Finset.univ fun j : Fin (n + 1) => ℓ ↦[I]{cut n q j} f
  | 0, q => (bigSep_univ_of_subsingleton (0 : Fin 1) (Φ := fun j : Fin 1 => (ℓ ↦[I]{cut 0 q j} f : sProp 𝕄))).symm
  | n + 1, q => by
    have h : (ℓ ↦[I]{q} f : sProp 𝕄) = iprop((ℓ ↦[I]{q.left} f) ∗ ℓ ↦[I]{q.right} f) :=
      BI.Entails.antisymm (pointsTo_share (PosShare.mem_left_op_right q)).1 (pointsTo_share (PosShare.mem_left_op_right q)).2
    rw [h, held_cut I f n q.right, sep_fin_succ (fun j : Fin (n + 1 + 1) => (ℓ ↦[I]{cut (n + 1) q j} f : sProp 𝕄))]
    rfl

/-- The share of a tile. -/
def tileShare (c : Fin 2) (s : Fin 16) : PosShare TreeShare := cut 15 (cut 1 fullShare c) s
/-- The share of one of a tile's two slots. -/
def slotShare (c : Fin 2) (s : Fin 16) (j : Fin 2) : PosShare TreeShare := cut 1 (tileShare c s) j

theorem held_tiles {ℓ : Loc nD τ sig} (f : Buf (Elt F) ℓ) :
    (ℓ ↦{fullShare} f : sProp 𝕄) = bigSep Finset.univ fun c : Fin 2 => bigSep Finset.univ fun s : Fin 16 => ℓ ↦{tileShare c s} f := by
  rw [held_cut Finset.univ f 1 fullShare]
  exact bigSep_congr fun c _ => held_cut Finset.univ f 15 _

theorem held_slots {ℓ : Loc nD τ sig} (f : Buf (Elt F) ℓ) :
    (ℓ ↦{fullShare} f : sProp 𝕄) = bigSep Finset.univ fun c : Fin 2 => bigSep Finset.univ fun s : Fin 16 =>
      iprop((ℓ ↦{slotShare c s 0} f) ∗ ℓ ↦{slotShare c s 1} f) := by
  rw [held_tiles]
  refine bigSep_congr fun c _ => bigSep_congr fun s _ => ?_
  rw [held_cut Finset.univ f 1 (tileShare c s), bigSep_fin_two]
  rfl

/-! ## The blocks of the result -/

/-- Core, subcore and step together are a block. -/
def places : Fin 2 × Fin 16 × Fin 8 ≃ Fin 256 :=
  ((Equiv.refl (Fin 2)).prodCongr finProdFinEquiv).trans finProdFinEquiv

theorem places_eq (c : Fin 2) (s : Fin 16) (k : Fin 8) : places (c, s, k) = blk (coordsV c s) k.val := by
  apply Fin.ext
  show (k.val + 8 * s.val) + (16 * 8) * c.val = (8 * (16 * c.val + s.val) + k.val) % 256
  have := c.isLt; have := s.isLt; have := k.isLt
  omega

theorem sep_places {M : Type} [URA M] (Φ : Fin 256 → sProp M) :
    bigSep Finset.univ Φ = bigSep Finset.univ fun c : Fin 2 => bigSep Finset.univ fun s : Fin 16 => bigSep Finset.univ fun k : Fin 8 =>
      Φ (blk (coordsV c s) k.val) := by
  rw [bigSep_univ_equiv places, bigSep_univ_prod]
  refine bigSep_congr fun c _ => ?_
  rw [bigSep_univ_prod]
  exact bigSep_congr fun s _ => bigSep_congr fun k _ => congrArg Φ (places_eq c s k)

/-- The elements of block `b`. -/
abbrev blkSet (b : Fin 256) : Finset S32768x128.Idx := (Rect.unit (s := S32768x128) (outBlkOff b) S128x128.size (outBlkOff_inb b)).set

theorem blks_disjoint : ∀ b ∈ (Finset.univ : Finset (Fin 256)), ∀ b' ∈ (Finset.univ : Finset (Fin 256)), b ≠ b' → Disjoint (blkSet b) (blkSet b') := by
  intro b _ b' _ h
  have : b.val ≠ b'.val := fun e => h (Fin.ext e)
  refine Rect.unit_disjoint (0 : Fin 2) ?_
  show 128 * b.val + 128 ≤ 128 * b'.val ∨ 128 * b'.val + 128 ≤ 128 * b.val
  omega

theorem blks_cover : (Finset.univ : Finset (Fin 256)).biUnion blkSet = Finset.univ := by
  refine Finset.eq_univ_iff_forall.mpr fun j => ?_
  have h0 : (j 0).val < 32768 := (j 0).isLt
  have h1 : (j 1).val < 128 := (j 1).isLt
  refine Finset.mem_biUnion.mpr ⟨⟨(j 0).val / 128, by omega⟩, Finset.mem_univ _, ?_⟩
  refine Rect.mem_set_unit.mpr fun a => ?_
  fin_cases a
  · show 128 * ((j 0).val / 128) ≤ (j 0).val ∧ (j 0).val < 128 * ((j 0).val / 128) + 128
    omega
  · show 0 ≤ (j 1).val ∧ (j 1).val < 0 + 128
    omega

/-- An array held whole is held by blocks, eight to a tile. -/
theorem held_blocks {ℓ : Loc nD τ sig} (I : Fin 256 → Finset (Idx ℓ))
    (hd : ∀ b ∈ (Finset.univ : Finset (Fin 256)), ∀ b' ∈ (Finset.univ : Finset (Fin 256)), b ≠ b' → Disjoint (I b) (I b'))
    (hc : (Finset.univ : Finset (Fin 256)).biUnion I = Finset.univ) (f : Buf (Elt F) ℓ) :
    (ℓ ↦{fullShare} f : sProp 𝕄) = bigSep Finset.univ fun c : Fin 2 => bigSep Finset.univ fun s : Fin 16 => bigSep Finset.univ fun k : Fin 8 =>
      ℓ ↦[I (blk (coordsV c s) k.val)]{fullShare} f := by
  rw [← sep_places (fun b => (ℓ ↦[I b]{fullShare} f : sProp 𝕄)), ← pointsTo_biUnion Finset.univ I hd, hc]

theorem todo_of (ℓ : Loc nD τ sig) {I : Finset (Idx ℓ)} (f : Buf (Elt F) ℓ) : (ℓ ↦[I]{fullShare} f : sProp 𝕄) ⊢ iprop(∃ f, ℓ ↦[I]{fullShare} f) := by
  iintro H; iexists f; iexact H

/-! ## One call -/

section Call

variable (ℓt ℓi ℓo : Loc nD τ sig) (I : Fin 256 → Finset (Idx ℓo)) (tab : Buf (Elt F) ℓt) (ids : Buf (Elt F) ℓi) (out : Buf (Elt F) ℓo)

/-- What a tile receives: its share of the table, a share of the indices for either slot, its blocks of the result. -/
abbrev goP (c : Fin 2) (s : Fin 16) : sProp 𝕄 :=
  iprop((ℓt ↦{tileShare c s} tab) ∗ ((ℓi ↦{slotShare c s 0} ids) ∗ (ℓi ↦{slotShare c s 1} ids))
    ∗ bigSep Finset.univ fun k : Fin 8 => iprop(∃ f, ℓo ↦[I (blk (coordsV c s) k.val)]{fullShare} f))
/-- What it gives back: the same, its blocks of the result at their values. -/
abbrev tdP (c : Fin 2) (s : Fin 16) : sProp 𝕄 :=
  iprop((ℓt ↦{tileShare c s} tab) ∗ ((ℓi ↦{slotShare c s 0} ids) ∗ (ℓi ↦{slotShare c s 1} ids))
    ∗ bigSep Finset.univ fun k : Fin 8 => ℓo ↦[I (blk (coordsV c s) k.val)]{fullShare} out)

/-- What a core receives and gives back: what its tiles do. -/
abbrev stP (c : Fin 2) : sProp 𝕄 := bigSep Finset.univ fun s : Fin 16 => goP ℓt ℓi ℓo I tab ids c s
abbrev dnP (c : Fin 2) : sProp 𝕄 := bigSep Finset.univ fun s : Fin 16 => tdP ℓt ℓi ℓo I tab ids out c s

variable (hd : ∀ b ∈ (Finset.univ : Finset (Fin 256)), ∀ b' ∈ (Finset.univ : Finset (Fin 256)), b ≠ b' → Disjoint (I b) (I b'))
  (hc : (Finset.univ : Finset (Fin 256)).biUnion I = Finset.univ)

include hd hc in
/-- The arrays of the call, dealt. -/
theorem deal (f : Buf (Elt F) ℓo) :
    iprop((ℓt ↦{fullShare} tab) ∗ (ℓi ↦{fullShare} ids) ∗ ℓo ↦{fullShare} f)
      ⊢ (bigSep Finset.univ fun c : Fin 2 => stP ℓt ℓi ℓo I tab ids c : sProp 𝕄) := by
  rw [held_tiles tab, held_slots ids, held_blocks I hd hc f, ← bigSep_sep', ← bigSep_sep']
  refine bigSep_mono fun c _ => ?_
  rw [← bigSep_sep', ← bigSep_sep']
  refine bigSep_mono fun s _ => ?_
  show iprop((ℓt ↦{tileShare c s} tab) ∗ ((ℓi ↦{slotShare c s 0} ids) ∗ (ℓi ↦{slotShare c s 1} ids))
    ∗ bigSep Finset.univ fun k : Fin 8 => ℓo ↦[I (blk (coordsV c s) k.val)]{fullShare} f) ⊢ (goP ℓt ℓi ℓo I tab ids c s : sProp 𝕄)
  iintro ⟨Ht, Hi, Ho⟩
  isplitl [Ht]; · iexact Ht
  isplitl [Hi]; · iexact Hi
  iapply (show (bigSep Finset.univ fun k : Fin 8 => (ℓo ↦[I (blk (coordsV c s) k.val)]{fullShare} f : sProp 𝕄))
    ⊢ bigSep Finset.univ fun k : Fin 8 => iprop(∃ f, ℓo ↦[I (blk (coordsV c s) k.val)]{fullShare} f) from
      bigSep_mono fun k _ => todo_of ℓo f)
  iexact Ho

include hd hc in
/-- And gathered again, the result at its value. -/
theorem collect :
    (bigSep Finset.univ fun c : Fin 2 => dnP ℓt ℓi ℓo I tab ids out c : sProp 𝕄)
      ⊢ iprop((ℓt ↦{fullShare} tab) ∗ (ℓi ↦{fullShare} ids) ∗ ℓo ↦{fullShare} out) := by
  rw [held_tiles tab, held_slots ids, held_blocks I hd hc out, ← bigSep_sep', ← bigSep_sep']
  refine bigSep_mono fun c _ => ?_
  rw [← bigSep_sep', ← bigSep_sep']
  exact (Entails.of_eq rfl : (dnP ℓt ℓi ℓo I tab ids out c : sProp 𝕄) ⊢ dnP ℓt ℓi ℓo I tab ids out c)

end Call

end Cert.Proof.Gather

end
-- ==== Proof.Tile.lean ====
/-
  A tile's task as the launch hands it out: its scratch and its semaphores taken from all that the
  subcore owns, its shares of the call's arrays, and back.
-/
module

public import proofs.«01_k».proof.Proof.Split

@[expose] public section

noncomputable section

namespace Cert.Proof.Gather

open Cert.KernelIdeal Cert.KernelIdeal.Gen
open Idealize.ShloMosaic Idealize.ShloMosaic.Tactic
open Idealize.ShloMosaic.SparseCore (S V T)
open Idealize.ShloMosaic.SparseCore.Cfg (HIx Pay ownBufs ownSems0 ownCells ownRefs mem_ownCells mem_ownRefs)
open Idealize.ShloMosaic.Ring (sl rangeSet)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-! ## What a subcore owns -/

/-- Two of a subcore's buffers, and its others. -/
theorem own_two (d : Dev nD) (c : Fin τ.nSC) (s : Fin τ.nSub) (ra rb : Ref sig .scVector) (hne : rb ≠ ra)
    (ha : ((Proc.scVector c s : Proc τ).devRef ra).owner = .proc (.scVector c s))
    (hb : ((Proc.scVector c s : Proc τ).devRef rb).owner = .proc (.scVector c s)) :
    (ownBufs (V d c s) : sProp 𝕄)
      = iprop((∃ f, (V d c s).loc ra ↦{fullShare} f) ∗ (∃ f, (V d c s).loc rb ↦{fullShare} f)
          ∗ bigSep (((ownRefs (τ := τ) (.scVector c s)).erase ((Proc.scVector c s).devRef ra)).erase ((Proc.scVector c s).devRef rb))
              fun b => iprop(∃ f, ((d, b) : Loc nD τ sig) ↦{fullShare} f)) := by
  unfold SparseCore.Cfg.ownBufs
  refine (SparseCore.bigSep_erase' (SparseCore.Cfg.mem_ownRefs_of_owner (p := Proc.scVector c s) ha)).trans ?_
  rw [SparseCore.bigSep_erase' (Finset.mem_erase.mpr ⟨fun e => absurd (Proc.devRef_injective _ e) hne,
    SparseCore.Cfg.mem_ownRefs_of_owner (p := Proc.scVector c s) hb⟩)]

/-- Five of a subcore's semaphores, and its others. -/
theorem own_five (d : Dev nD) (c : Fin τ.nSC) (s : Fin τ.nSub) (g : Fin 5 → SemLoc sig) (hg : Function.Injective g)
    (hs : ∀ j, (g j).isScoped .scVector = true) :
    ∃ R : sProp 𝕄, (ownSems0 (V d c s) : sProp 𝕄)
      = iprop((semVal (V d c s, g 0) 0 ∗ semVal (V d c s, g 1) 0 ∗ semVal (V d c s, g 2) 0 ∗ semVal (V d c s, g 3) 0 ∗ semVal (V d c s, g 4) 0) ∗ R) := by
  let e : Fin 5 ↪ GSem nD τ sig := ⟨fun j => (V d c s, g j), fun a b h => hg (Prod.mk.inj h).2⟩
  have hsub : Finset.univ.map e ⊆ ownCells (V d c s) := fun x hx => by
    obtain ⟨j, -, rfl⟩ := Finset.mem_map.mp hx
    exact mem_ownCells.mpr ⟨rfl, hs j⟩
  refine ⟨bigSep (ownCells (V d c s) \ Finset.univ.map e) fun g => semVal g 0, ?_⟩
  unfold SparseCore.Cfg.ownSems0
  refine (bigSep_sdiff_split hsub).trans ?_
  rw [bigSep_map]
  congr 1
  rw [sep_fin_succ, sep_fin_succ, sep_fin_succ, sep_fin_succ, bigSep_univ_of_subsingleton (0 : Fin 1)]
  rfl

/-! ## A buffer's two slots -/

theorem idSlot_set (A : Memref sig .scVector .vmem S2x1x128 .i32) (s : Fin 2) :
    @Eq (Finset A.view.ty.Idx) (idSlot A s).view.set (((Rect.unit (s := S2x1x128) (idOff s) S1x1x128.size (idOff_inb s)).set).map A.view.emb) := by
  have h := View.set_reshape (A.view.slice (Rect.unit (s := S2x1x128) (idOff s) S1x1x128.size (idOff_inb s))) squeezes_S1x1x128_S1x128.numel_eq
  exact h.trans (View.set_slice _ _)
theorem rowSlot_set (B : Memref sig .scVector .vmem S2x128x128 .f32) (s : Fin 2) :
    @Eq (Finset B.view.ty.Idx) (rowSlot B s).view.set (((Rect.unit (s := S2x128x128) (idOff s) S1x128x128.size (rowOff_inb s)).set).map B.view.emb) := by
  have h := View.set_reshape (B.view.slice (Rect.unit (s := S2x128x128) (idOff s) S1x128x128.size (rowOff_inb s))) squeezes_S1x128x128_S128x128.numel_eq
  exact h.trans (View.set_slice _ _)

theorem id_disjoint (A : Memref sig .scVector .vmem S2x1x128 .i32) : Disjoint (α := Finset A.view.ty.Idx) (idSlot A (sl 2 0)).view.set (idSlot A (sl 2 1)).view.set := by
  rw [idSlot_set, idSlot_set, Finset.disjoint_map]
  exact Rect.unit_disjoint (0 : Fin 3) (Or.inl (by decide))
theorem row_disjoint (B : Memref sig .scVector .vmem S2x128x128 .f32) : Disjoint (α := Finset B.view.ty.Idx) (rowSlot B (sl 2 0)).view.set (rowSlot B (sl 2 1)).view.set := by
  rw [rowSlot_set, rowSlot_set, Finset.disjoint_map]
  exact Rect.unit_disjoint (0 : Fin 3) (Or.inl (by decide))

theorem id_cover : (Rect.unit (s := S2x1x128) (idOff (sl 2 0)) S1x1x128.size (idOff_inb (sl 2 0))).set
    ∪ (Rect.unit (s := S2x1x128) (idOff (sl 2 1)) S1x1x128.size (idOff_inb (sl 2 1))).set = Finset.univ := by
  refine Finset.eq_univ_iff_forall.mpr fun j => ?_
  have h0 : (j 0).val < 2 := (j 0).isLt
  have h1 : (j 1).val < 1 := (j 1).isLt
  have h2 : (j 2).val < 128 := (j 2).isLt
  rw [Finset.mem_union, Rect.mem_set_unit, Rect.mem_set_unit]
  by_cases h : (j 0).val = 0
  · left; intro a; fin_cases a
    · show 0 ≤ (j 0).val ∧ (j 0).val < 0 + 1; omega
    · show 0 ≤ (j 1).val ∧ (j 1).val < 0 + 1; omega
    · show 0 ≤ (j 2).val ∧ (j 2).val < 0 + 128; omega
  · right; intro a; fin_cases a
    · show 1 ≤ (j 0).val ∧ (j 0).val < 1 + 1; omega
    · show 0 ≤ (j 1).val ∧ (j 1).val < 0 + 1; omega
    · show 0 ≤ (j 2).val ∧ (j 2).val < 0 + 128; omega

theorem row_cover : (Rect.unit (s := S2x128x128) (idOff (sl 2 0)) S1x128x128.size (rowOff_inb (sl 2 0))).set
    ∪ (Rect.unit (s := S2x128x128) (idOff (sl 2 1)) S1x128x128.size (rowOff_inb (sl 2 1))).set = Finset.univ := by
  refine Finset.eq_univ_iff_forall.mpr fun j => ?_
  have h0 : (j 0).val < 2 := (j 0).isLt
  have h1 : (j 1).val < 128 := (j 1).isLt
  have h2 : (j 2).val < 128 := (j 2).isLt
  rw [Finset.mem_union, Rect.mem_set_unit, Rect.mem_set_unit]
  by_cases h : (j 0).val = 0
  · left; intro a; fin_cases a
    · show 0 ≤ (j 0).val ∧ (j 0).val < 0 + 1; omega
    · show 0 ≤ (j 1).val ∧ (j 1).val < 0 + 128; omega
    · show 0 ≤ (j 2).val ∧ (j 2).val < 0 + 128; omega
  · right; intro a; fin_cases a
    · show 1 ≤ (j 0).val ∧ (j 0).val < 1 + 1; omega
    · show 0 ≤ (j 1).val ∧ (j 1).val < 0 + 128; omega
    · show 0 ≤ (j 2).val ∧ (j 2).val < 0 + 128; omega

theorem id_union (A : Memref sig .scVector .vmem S2x1x128 .i32) (hA : A.IsWhole) :
    @Eq (Finset A.view.ty.Idx) (@Union.union (Finset A.view.ty.Idx) _ (idSlot A (sl 2 0)).view.set (idSlot A (sl 2 1)).view.set) Finset.univ := by
  rw [idSlot_set, idSlot_set, ← Finset.map_union, id_cover]
  exact hA.set_eq_univ

theorem row_union (B : Memref sig .scVector .vmem S2x128x128 .f32) (hB : B.IsWhole) :
    @Eq (Finset B.view.ty.Idx) (@Union.union (Finset B.view.ty.Idx) _ (rowSlot B (sl 2 0)).view.set (rowSlot B (sl 2 1)).view.set) Finset.univ := by
  rw [rowSlot_set, rowSlot_set, ← Finset.map_union, row_cover]
  exact hB.set_eq_univ

/-- A buffer held at some contents, by two sets of its elements. -/
theorem held_two {ℓ : Loc nD τ sig} (I J : Finset (Idx ℓ)) (hd : Disjoint I J) (hu : I ∪ J = Finset.univ) :
    (iprop(∃ f, ℓ ↦{fullShare} f) : sProp 𝕄) ⊢ iprop((∃ f, ℓ ↦[I]{fullShare} f) ∗ (∃ f, ℓ ↦[J]{fullShare} f)) := by
  iintro ⟨%f, H⟩
  ihave H' := (Entails.of_eq (show (ℓ ↦{fullShare} f : sProp 𝕄) = ℓ ↦[I ∪ J]{fullShare} f by rw [hu])) $$ H
  ihave H2 := (pointsTo_union (f := f) (q := fullShare) hd).1 $$ H'
  icases H2 with ⟨H1, H2⟩
  isplitl [H1]
  · iexists f; iexact H1
  · iexists f; iexact H2
theorem join_two {ℓ : Loc nD τ sig} (I J : Finset (Idx ℓ)) (hd : Disjoint I J) (hu : I ∪ J = Finset.univ) :
    (iprop((∃ f, ℓ ↦[I]{fullShare} f) ∗ (∃ f, ℓ ↦[J]{fullShare} f)) : sProp 𝕄) ⊢ iprop(∃ f, ℓ ↦{fullShare} f) := by
  iintro ⟨⟨%f, Hf⟩, ⟨%g, Hg⟩⟩
  ihave H := (pointsTo_join (f := f) (g := g) (q := fullShare) hd) $$ [Hf Hg]
  · isplitl [Hf]; · iexact Hf
    iexact Hg
  iexists (J.piecewise g f)
  iapply (Entails.of_eq (show (ℓ ↦[I ∪ J]{fullShare} (J.piecewise g f) : sProp 𝕄) = ℓ ↦{fullShare} (J.piecewise g f) by rw [hu]))
  iexact H

/-! ## The task -/

section Task

variable (d : Dev nD) (i : grid0.Coords)
  (arg2 : Memref sig .scVector .hbm S100000x128 .f32) (harg2 : arg2.IsWhole)
  (arg3 : Memref sig .scVector .hbm S1x32768 .i32) (harg3 : arg3.IsWhole)
  (arg4 : Memref sig .scVector .hbm S32768x128 .f32) (harg4 : arg4.IsWhole)
  (A : Memref sig .scVector .vmem S2x1x128 .i32) (hA : A.IsWhole) (sa : DmaSems sig S2)
  (B : Memref sig .scVector .vmem S2x128x128 .f32) (hB : B.IsWhole) (sb : DmaSems sig S2) (sg : DmaSems sig S_)

/-- The semaphores of the task. -/
def taskSems (sa sb : DmaSems sig S2) (sg : DmaSems sig S_) : Fin 5 → SemLoc sig
  | 0 => SemLoc.dma (semAt sa (sl 2 0)).sem
  | 1 => SemLoc.dma (semAt sa (sl 2 1)).sem
  | 2 => SemLoc.dma (semAt sb (sl 2 0)).sem
  | 3 => SemLoc.dma (semAt sb (sl 2 1)).sem
  | 4 => SemLoc.dma sg.sem

variable (tab : Buf (Elt F) (arg2.view.loc (thr d i))) (ids : Buf (Elt F) (arg3.view.loc (thr d i)))
  (hids : ∀ x, (arg3.view.read (Elt F) ids x).toNat < 100000) (q2 : PosShare TreeShare) (q : Fin 2 → PosShare TreeShare)

/-- A block that is done holds its values. -/
theorem done_at (b : Fin 8) (out : Buf (Elt F) ((outBlk arg4 (blk i b.val)).view.loc (thr d i)))
    (hout : ∀ f, (outBlk arg4 (blk i b.val)).view.read (Elt F) f = gathered d i arg2 arg3 tab ids hids (blk i b.val) →
      ∀ x ∈ (outBlk arg4 (blk i b.val)).view.set, f x = out x) :
    outDone (F := F) d i arg2 arg3 arg4 tab ids hids (blk i b.val) ⊢ outP (F := F) d i arg4 (blk i b.val) out := by
  iintro ⟨%f, %hf, H⟩
  iapply (Entails.of_eq (pointsTo_congr (q := fullShare) (hout f hf)))
  iexact H

/-- A tile's task, its scratch whole. -/
theorem task (hg : Function.Injective (taskSems sa sb sg)) (hs : ∀ j, (taskSems sa sb sg j).isScoped .scVector = true)
    (out : (b : Fin 8) → Buf (Elt F) ((outBlk arg4 (blk i b.val)).view.loc (thr d i)))
    (hout : ∀ (b : Fin 8) (f : Buf (Elt F) ((outBlk arg4 (blk i b.val)).view.loc (thr d i))), (outBlk arg4 (blk i b.val)).view.read (Elt F) f = gathered d i arg2 arg3 tab ids hids (blk i b.val) →
      ∀ x ∈ (outBlk arg4 (blk i b.val)).view.set, f x = out b x)
    (OO : CellTallies nD τ sig Ix) (W : Waits sig Ix) :
    iprop(Transfers.MayWaits (thr d i) (default : Ix) OO
      ∗ ((arg2.view.loc (thr d i) ↦{q2} tab) ∗ ((arg3.view.loc (thr d i) ↦{q (sl 2 0)} ids) ∗ (arg3.view.loc (thr d i) ↦{q (sl 2 1)} ids))
        ∗ bigSep Finset.univ fun b : Fin 8 => outTodo (F := F) d i arg4 (blk i b.val))
      ∗ ((∃ f, A.view.loc (thr d i) ↦{fullShare} f) ∗ (∃ f, B.view.loc (thr d i) ↦{fullShare} f))
      ∗ ownSems0 (thr d i) ∗ owes (thr d i) OO W)
    ⊢ wp frame (wpE (defs₀ (F := F)) 𝒱₀ (thr d i) none) Set.univ
       (cc0_gather_kernel i arg2 harg2 arg3 harg3 arg4 harg4 A hA sa B hB sb sg)
       (fun _ => iprop(((arg2.view.loc (thr d i) ↦{q2} tab) ∗ ((arg3.view.loc (thr d i) ↦{q (sl 2 0)} ids) ∗ (arg3.view.loc (thr d i) ↦{q (sl 2 1)} ids))
          ∗ bigSep Finset.univ fun b : Fin 8 => outP (F := F) d i arg4 (blk i b.val) (out b))
        ∗ ((∃ f, A.view.loc (thr d i) ↦{fullShare} f) ∗ (∃ f, B.view.loc (thr d i) ↦{fullShare} f))
        ∗ ownSems0 (thr d i) ∗ owing (F := F) d i OO W)) := by
  obtain ⟨R, hR⟩ := own_five (F := F) d ((i 0).castLE hcore0) ((i 1).castLE hsub0) (taskSems sa sb sg) hg hs
  rw [show (ownSems0 (thr d i) : sProp 𝕄) = _ from hR]
  iintro ⟨#Hmw, ⟨Ht, ⟨Hi0, Hi1⟩, Ho⟩, ⟨HA, HB⟩, ⟨⟨Hc0, Hc1, Hc2, Hc3, Hc4⟩, HR⟩, HO⟩
  ihave HA' := (held_two (F := F) (ℓ := A.view.loc (thr d i)) _ _ (id_disjoint A) (id_union A hA)) $$ HA
  icases HA' with ⟨HA0, HA1⟩
  ihave HB' := (held_two (F := F) (ℓ := B.view.loc (thr d i)) _ _ (row_disjoint B) (row_union B hB)) $$ HB
  icases HB' with ⟨HB0, HB1⟩
  iapply (wp_wand_r Idealize.ShloMosaic.frame (wpE (defs₀ (F := F)) 𝒱₀ (thr d i) none) Set.univ)
  isplitr [HR]
  · iapply (tile_run d i arg2 harg2 arg3 harg3 arg4 harg4 A hA sa B hB sb sg tab ids hids q2 q OO W)
    isplitr; · iexact Hmw
    isplitl [HO]; · iexact HO
    isplitl [Ht]; · iexact Ht
    isplitl [Hc4]; · iexact Hc4
    isplitr [Ho]
    · isplitl [HA0 Hc0 Hi0]
      · isplitl [HA0]; · iexact HA0
        isplitl [Hc0]; · iexact Hc0
        iexact Hi0
      isplitl [HA1 Hc1 Hi1]
      · isplitl [HA1]; · iexact HA1
        isplitl [Hc1]; · iexact Hc1
        iexact Hi1
      isplitl [HB0 Hc2]
      · isplitl [HB0]; · iexact HB0
        iexact Hc2
      · isplitl [HB1]; · iexact HB1
        iexact Hc3
    · iexact Ho
  · iintro %_ ⟨⟨HO, Ht, Hc4⟩, ⟨⟨HA0, Hc0, Hi0⟩, ⟨HA1, Hc1, Hi1⟩, ⟨HB0, Hc2⟩, ⟨HB1, Hc3⟩⟩, Ho⟩
    isplitl [Ht Hi0 Hi1 Ho]
    · isplitl [Ht]; · iexact Ht
      isplitl [Hi0 Hi1]
      · isplitl [Hi0]; · iexact Hi0
        iexact Hi1
      iapply (show (bigSep Finset.univ fun b : Fin 8 => outDone (F := F) d i arg2 arg3 arg4 tab ids hids (blk i b.val))
        ⊢ (bigSep Finset.univ fun b : Fin 8 => outP (F := F) d i arg4 (blk i b.val) (out b)) from
          bigSep_mono (fun b _ => done_at d i arg2 arg3 arg4 tab ids hids b (out b) (hout b)))
      iexact Ho
    isplitl [HA0 HA1 HB0 HB1]
    · isplitl [HA0 HA1]
      · iapply (join_two (F := F) (ℓ := A.view.loc (thr d i)) _ _ (id_disjoint A) (id_union A hA))
        isplitl [HA0]; · iexact HA0
        iexact HA1
      · iapply (join_two (F := F) (ℓ := B.view.loc (thr d i)) _ _ (row_disjoint B) (row_union B hB))
        isplitl [HB0]; · iexact HB0
        iexact HB1
    isplitr [HO]
    · isplitr [HR]
      · isplitl [Hc0]; · iexact Hc0
        isplitl [Hc1]; · iexact Hc1
        isplitl [Hc2]; · iexact Hc2
        isplitl [Hc3]; · iexact Hc3
        iexact Hc4
      · iexact HR
    · iexact HO

end Task

end Cert.Proof.Gather

end
-- ==== Proof.Value.lean ====
/-
  What a call of the gather computes, of whole arrays: element (i, j) of the result is element
  (index i, j) of the table.
-/
module

public import proofs.«01_k».proof.Proof.Tile

@[expose] public section

noncomputable section

namespace Cert.Proof.Gather

open Cert.KernelIdeal Cert.KernelIdeal.Gen
open Idealize.ShloMosaic
open Idealize.ShloMosaic.SparseCore (S V T)

variable {F : FTy → Type} [FloatOps F]

/-- The place of index `i` in the row of indices. -/
def rowIx (i : Fin 32768) : S1x32768.Idx := fun a => match a with
  | 0 => (⟨0, by decide⟩ : Fin 1)
  | 1 => i

/-- The rows of the table that the indices name. -/
def taken (tab : S100000x128.Idx → Elt F .f32) (ids : S1x32768.Idx → Elt F .i32) (hids : ∀ x, BitVec.toNat (ids x) < 100000) :
    S32768x128.Idx → Elt F .f32 := fun j =>
  tab fun a => match a with
    | 0 => (⟨BitVec.toNat (ids (rowIx (j 0))), hids _⟩ : Fin 100000)
    | 1 => j 1

variable (d : Dev nD) (i : grid0.Coords)
  (arg2 : Memref sig .scVector .hbm S100000x128 .f32) (arg3 : Memref sig .scVector .hbm S1x32768 .i32)
  (arg4 : Memref sig .scVector .hbm S32768x128 .f32)
  (tab : Buf (Elt F) (arg2.view.loc (thr d i))) (ids : Buf (Elt F) (arg3.view.loc (thr d i)))
  (hids : ∀ x, (arg3.view.read (Elt F) ids x).toNat < 100000)

/-- What a tile's step leaves in a block is that block of the rows taken. -/
theorem taken_of_gathered (b : Fin 256) (f : Buf (Elt F) (arg4.view.loc (thr d i)))
    (h : (outBlk arg4 b).view.read (Elt F) f = gathered d i arg2 arg3 tab ids hids b) (z : S32768x128.Idx) (hz : z ∈ blkSet b) :
    arg4.view.read (Elt F) f z = taken (arg2.view.read (Elt F) tab) (arg3.view.read (Elt F) ids) hids z := by
  unfold blkSet at hz
  rw [← Rect.map_emb_univ] at hz
  obtain ⟨y, -, rfl⟩ := Finset.mem_map.mp hz
  refine (congrFun h y).trans ?_
  have e0 : (((Rect.unit (s := S32768x128) (outBlkOff b) S128x128.size (outBlkOff_inb b)).emb y) 0 : Fin 32768).val = 128 * b.val + (y 0).val := by
    show 128 * b.val + 1 * (y 0).val = _; omega
  have e1 : (((Rect.unit (s := S32768x128) (outBlkOff b) S128x128.size (outBlkOff_inb b)).emb y) 1 : Fin 128) = y 1 := by
    apply Fin.ext; show 0 + 1 * (y 1).val = _; omega
  have e : idIx b (y 0) = rowIx (((Rect.unit (s := S32768x128) (outBlkOff b) S128x128.size (outBlkOff_inb b)).emb y) 0) := by
    funext a
    match a with
    | 0 => rfl
    | 1 => exact Fin.ext e0.symm
  unfold gathered taken
  refine congrArg (arg2.view.read (Elt F) tab) ?_
  funext a
  match a with
  | 0 => exact Fin.ext (by show BitVec.toNat _ = BitVec.toNat _; rw [e])
  | 1 => exact e1.symm

end Cert.Proof.Gather

end
-- ==== Proof.Calls.lean ====
/-
  What each of the eight SparseCore calls carries, and its tiles' obligation.

  Call `q` reads the rows of the word table that the indices of chunk `q` name: 32768 of the 262144
  indices, from place 32768 q on. The eight kernels are one function at eight sets of buffers, so one
  tile's task (Tile.lean) serves them all.
-/
module

public import proofs.«01_k».proof.Proof.Value

@[expose] public section

noncomputable section

namespace Cert.Proof.Gather

open Cert.KernelIdeal Cert.KernelIdeal.Gen
open Idealize.ShloMosaic Idealize.ShloMosaic.Tactic
open Idealize.ShloMosaic.SparseCore (S V)
open Idealize.ShloMosaic.SparseCore.Cfg (HIx Pay ownBufs ownSems0 ownCells ownRefs)
open Idealize.ShloMosaic.Ring (sl rangeSet)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (m : (ℓ : Loc nD τ sig) → Buf (Elt F) ℓ)

abbrev idsLoc (d : Dev nD) : Loc nD τ sig := (SparseCore.T d).loc main_arg0
abbrev tabLoc (d : Dev nD) : Loc nD τ sig := (SparseCore.T d).loc main_arg2

/-- What the proof asks of the launch memory: every index is a row of the word table. -/
def InRows : Prop := ∀ (d : Dev nD) (j : S1024x256.Idx), (m (idsLoc d) j : BitVec 32).toNat < 100000

/-- The indices in one line, as the host's reshape leaves them, -/
def flatIds (d : Dev nD) : S262144.Idx → Elt F .i32 := shapeCast S262144 (m (idsLoc d)) shapeCasts_S1024x256_S262144
/-- those of one chunk, from place `c` on, -/
def chunkIds (d : Dev nD) (c : BitVec 32) : S32768.Idx → Elt F .i32 := Host.dynamicSlice S32768 (flatIds m d) (fun _ => c.toInt) sliceFits_S262144_S32768
/-- and those in one row. -/
def rowIds (d : Dev nD) (c : BitVec 32) : S1x32768.Idx → Elt F .i32 := shapeCast S1x32768 (chunkIds m d c) shapeCasts_S32768_S1x32768

theorem rowIds_lt (h : InRows m) (d : Dev nD) (c : BitVec 32) (x : S1x32768.Idx) : BitVec.toNat (rowIds m d c x) < 100000 := h d _

/-- The rows of the table that the chunk's indices name. -/
def rowsOf (h : InRows m) (d : Dev nD) (c : BitVec 32) : S32768x128.Idx → Elt F .f32 := taken (m (tabLoc d)) (rowIds m d c) (rowIds_lt m h d c)

/-- The first place of chunk `q`. -/
abbrev first (q : Fin 8) : BitVec 32 := match q with
  | 0 => 0#32
  | 1 => 32768#32
  | 2 => 65536#32
  | 3 => 98304#32
  | 4 => 131072#32
  | 5 => 163840#32
  | 6 => 196608#32
  | 7 => 229376#32

/-! ## A tile's task, at any of the calls' buffers -/

theorem obl_post {thr : Thread nD τ} {A B C : sProp 𝕄} {O : CellTallies nD τ sig Ix} {W : Waits sig Ix} {q : Fin 8} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

section Tile

variable (d : Dev nD) (c : Fin 2) (s : Fin 16)
  (arg2 : Memref sig .scVector .hbm S100000x128 .f32) (harg2 : arg2.IsWhole) (arg3 : Memref sig .scVector .hbm S1x32768 .i32) (harg3 : arg3.IsWhole)
  (arg4 : Memref sig .scVector .hbm S32768x128 .f32) (harg4 : arg4.IsWhole) (A : Memref sig .scVector .vmem S2x1x128 .i32) (hA : A.IsWhole) (sa : DmaSems sig S2)
  (B : Memref sig .scVector .vmem S2x128x128 .f32) (hB : B.IsWhole) (sb : DmaSems sig S2) (sg : DmaSems sig S_)
  (tab : Buf (Elt F) (arg2.view.loc (thr d (coordsV c s)))) (ids : Buf (Elt F) (arg3.view.loc (thr d (coordsV c s))))
  (hids : ∀ x, (arg3.view.read (Elt F) ids x).toNat < 100000)

theorem tile_body (Rest : sProp 𝕄)
    (hbufs : (scopedBufs (thr d (coordsV c s)) : sProp 𝕄)
      = iprop((∃ f, A.view.loc (thr d (coordsV c s)) ↦{fullShare} f) ∗ (∃ f, B.view.loc (thr d (coordsV c s)) ↦{fullShare} f) ∗ Rest))
    (hg : Function.Injective (taskSems sa sb sg)) (hs : ∀ j, (taskSems sa sb sg j).isScoped .scVector = true)
    (I : Fin 256 → Finset (Idx (arg4.view.loc (thr d (coordsV c s))))) (hI : ∀ b, I b = (outBlk arg4 b).view.set)
    (out : Buf (Elt F) (arg4.view.loc (thr d (coordsV c s))))
    (hout : ∀ (b : Fin 8) (f : Buf (Elt F) (arg4.view.loc (thr d (coordsV c s)))),
      (outBlk arg4 (blk (coordsV c s) b.val)).view.read (Elt F) f = gathered d (coordsV c s) arg2 arg3 tab ids hids (blk (coordsV c s) b.val) →
      ∀ x ∈ (outBlk arg4 (blk (coordsV c s) b.val)).view.set, f x = out x)
    (O : CellTallies nD τ sig Ix) (W : Waits sig Ix) (hO : ∀ g, O g none = 0) :
    iprop(levAts (K (F := F)).L (K (F := F)).lev ∗ emp
        ∗ goP (arg2.view.loc (thr d (coordsV c s))) (arg3.view.loc (thr d (coordsV c s))) (arg4.view.loc (thr d (coordsV c s))) I tab ids c s
        ∗ scopedBufs (thr d (coordsV c s)) ∗ scopedSems0 (thr d (coordsV c s)) ∗ owes (thr d (coordsV c s)) O W)
      ⊢ wp frame (wpE (defs₀ (F := F)) 𝒱₀ (thr d (coordsV c s)) none) Set.univ
          (cc0_gather_kernel (coordsV c s) arg2 harg2 arg3 harg3 arg4 harg4 A hA sa B hB sb sg)
          fun _ => iprop(tdP (arg2.view.loc (thr d (coordsV c s))) (arg3.view.loc (thr d (coordsV c s))) (arg4.view.loc (thr d (coordsV c s))) I tab ids out c s
            ∗ scopedBufs (thr d (coordsV c s)) ∗ scopedSems0 (thr d (coordsV c s))
            ∗ ∃ W', ⌜∀ p ∈ W', p ∈ W ∨ p.2 = none⌝ ∗ owes (thr d (coordsV c s)) O W') := by
  obtain rfl : I = fun b => (outBlk arg4 b).view.set := funext hI
  rw [hbufs, SparseCore.Cfg.scopedSems0_V (Val := Elt F) d _ _]
  iintro ⟨#Hlv, -, Hgo, ⟨HA, HB, Hbufs⟩, Hsems, HO⟩
  ihave Hmw := (show levAts (K (F := F)).L (K (F := F)).lev ⊢ Transfers.MayWaits (thr d (coordsV c s)) (default : Ix) O from
    (K (F := F)).mayWaits_none (thr := thr d (coordsV c s)) hO) $$ Hlv
  iapply (wp_wand_r Idealize.ShloMosaic.frame (wpE (defs₀ (F := F)) 𝒱₀ (thr d (coordsV c s)) none) Set.univ)
  isplitr [Hbufs]
  · iapply (task d (coordsV c s) arg2 harg2 arg3 harg3 arg4 harg4 A hA sa B hB sb sg tab ids hids
      (tileShare c s) (slotShare c s) hg hs (fun _ => out) hout O W)
    isplitr; · iexact Hmw
    isplitl [Hgo]; · iexact Hgo
    isplitl [HA HB]
    · isplitl [HA]; · iexact HA
      iexact HB
    isplitl [Hsems]; · iexact Hsems
    iexact HO
  · iintro %_ ⟨Htd, ⟨HA, HB⟩, Hsems, HO⟩
    isplitl [Htd]; · iexact Htd
    isplitl [HA HB Hbufs]
    · isplitl [HA]; · iexact HA
      isplitl [HB]; · iexact HB
      iexact Hbufs
    isplitl [Hsems]; · iexact Hsems
    iexact HO

end Tile

/-! ## What the handshakes carry -/

variable (hm : InRows m)

abbrev rowLoc0 (d : Dev nD) : Loc nD τ sig := (SparseCore.T d).loc main_v5
abbrev outLoc0 (d : Dev nD) : Loc nD τ sig := (SparseCore.T d).loc main_v6

abbrev rowLoc1 (d : Dev nD) : Loc nD τ sig := (SparseCore.T d).loc main_v11
abbrev outLoc1 (d : Dev nD) : Loc nD τ sig := (SparseCore.T d).loc main_v12

abbrev rowLoc2 (d : Dev nD) : Loc nD τ sig := (SparseCore.T d).loc main_v17
abbrev outLoc2 (d : Dev nD) : Loc nD τ sig := (SparseCore.T d).loc main_v18

abbrev rowLoc3 (d : Dev nD) : Loc nD τ sig := (SparseCore.T d).loc main_v23
abbrev outLoc3 (d : Dev nD) : Loc nD τ sig := (SparseCore.T d).loc main_v24

abbrev rowLoc4 (d : Dev nD) : Loc nD τ sig := (SparseCore.T d).loc main_v29
abbrev outLoc4 (d : Dev nD) : Loc nD τ sig := (SparseCore.T d).loc main_v30

abbrev rowLoc5 (d : Dev nD) : Loc nD τ sig := (SparseCore.T d).loc main_v35
abbrev outLoc5 (d : Dev nD) : Loc nD τ sig := (SparseCore.T d).loc main_v36

abbrev rowLoc6 (d : Dev nD) : Loc nD τ sig := (SparseCore.T d).loc main_v41
abbrev outLoc6 (d : Dev nD) : Loc nD τ sig := (SparseCore.T d).loc main_v42

abbrev rowLoc7 (d : Dev nD) : Loc nD τ sig := (SparseCore.T d).loc main_v47
abbrev outLoc7 (d : Dev nD) : Loc nD τ sig := (SparseCore.T d).loc main_v48

def P : (K (F := F)).Pay (nD := nD) (Val := Elt F) (Name := ℕ) (U := UU) where
  st := fun q d c => match q with
    | 0 => stP (tabLoc d) (rowLoc0 d) (outLoc0 d) blkSet (m (tabLoc d)) (rowIds m d (first 0)) c
    | 1 => stP (tabLoc d) (rowLoc1 d) (outLoc1 d) blkSet (m (tabLoc d)) (rowIds m d (first 1)) c
    | 2 => stP (tabLoc d) (rowLoc2 d) (outLoc2 d) blkSet (m (tabLoc d)) (rowIds m d (first 2)) c
    | 3 => stP (tabLoc d) (rowLoc3 d) (outLoc3 d) blkSet (m (tabLoc d)) (rowIds m d (first 3)) c
    | 4 => stP (tabLoc d) (rowLoc4 d) (outLoc4 d) blkSet (m (tabLoc d)) (rowIds m d (first 4)) c
    | 5 => stP (tabLoc d) (rowLoc5 d) (outLoc5 d) blkSet (m (tabLoc d)) (rowIds m d (first 5)) c
    | 6 => stP (tabLoc d) (rowLoc6 d) (outLoc6 d) blkSet (m (tabLoc d)) (rowIds m d (first 6)) c
    | 7 => stP (tabLoc d) (rowLoc7 d) (outLoc7 d) blkSet (m (tabLoc d)) (rowIds m d (first 7)) c
  dn := fun q d c => match q with
    | 0 => dnP (tabLoc d) (rowLoc0 d) (outLoc0 d) blkSet (m (tabLoc d)) (rowIds m d (first 0)) (rowsOf m hm d (first 0)) c
    | 1 => dnP (tabLoc d) (rowLoc1 d) (outLoc1 d) blkSet (m (tabLoc d)) (rowIds m d (first 1)) (rowsOf m hm d (first 1)) c
    | 2 => dnP (tabLoc d) (rowLoc2 d) (outLoc2 d) blkSet (m (tabLoc d)) (rowIds m d (first 2)) (rowsOf m hm d (first 2)) c
    | 3 => dnP (tabLoc d) (rowLoc3 d) (outLoc3 d) blkSet (m (tabLoc d)) (rowIds m d (first 3)) (rowsOf m hm d (first 3)) c
    | 4 => dnP (tabLoc d) (rowLoc4 d) (outLoc4 d) blkSet (m (tabLoc d)) (rowIds m d (first 4)) (rowsOf m hm d (first 4)) c
    | 5 => dnP (tabLoc d) (rowLoc5 d) (outLoc5 d) blkSet (m (tabLoc d)) (rowIds m d (first 5)) (rowsOf m hm d (first 5)) c
    | 6 => dnP (tabLoc d) (rowLoc6 d) (outLoc6 d) blkSet (m (tabLoc d)) (rowIds m d (first 6)) (rowsOf m hm d (first 6)) c
    | 7 => dnP (tabLoc d) (rowLoc7 d) (outLoc7 d) blkSet (m (tabLoc d)) (rowIds m d (first 7)) (rowsOf m hm d (first 7)) c
  go := fun q d c s => match q with
    | 0 => goP (tabLoc d) (rowLoc0 d) (outLoc0 d) blkSet (m (tabLoc d)) (rowIds m d (first 0)) c s
    | 1 => goP (tabLoc d) (rowLoc1 d) (outLoc1 d) blkSet (m (tabLoc d)) (rowIds m d (first 1)) c s
    | 2 => goP (tabLoc d) (rowLoc2 d) (outLoc2 d) blkSet (m (tabLoc d)) (rowIds m d (first 2)) c s
    | 3 => goP (tabLoc d) (rowLoc3 d) (outLoc3 d) blkSet (m (tabLoc d)) (rowIds m d (first 3)) c s
    | 4 => goP (tabLoc d) (rowLoc4 d) (outLoc4 d) blkSet (m (tabLoc d)) (rowIds m d (first 4)) c s
    | 5 => goP (tabLoc d) (rowLoc5 d) (outLoc5 d) blkSet (m (tabLoc d)) (rowIds m d (first 5)) c s
    | 6 => goP (tabLoc d) (rowLoc6 d) (outLoc6 d) blkSet (m (tabLoc d)) (rowIds m d (first 6)) c s
    | 7 => goP (tabLoc d) (rowLoc7 d) (outLoc7 d) blkSet (m (tabLoc d)) (rowIds m d (first 7)) c s
  td := fun q d c s => match q with
    | 0 => tdP (tabLoc d) (rowLoc0 d) (outLoc0 d) blkSet (m (tabLoc d)) (rowIds m d (first 0)) (rowsOf m hm d (first 0)) c s
    | 1 => tdP (tabLoc d) (rowLoc1 d) (outLoc1 d) blkSet (m (tabLoc d)) (rowIds m d (first 1)) (rowsOf m hm d (first 1)) c s
    | 2 => tdP (tabLoc d) (rowLoc2 d) (outLoc2 d) blkSet (m (tabLoc d)) (rowIds m d (first 2)) (rowsOf m hm d (first 2)) c s
    | 3 => tdP (tabLoc d) (rowLoc3 d) (outLoc3 d) blkSet (m (tabLoc d)) (rowIds m d (first 3)) (rowsOf m hm d (first 3)) c s
    | 4 => tdP (tabLoc d) (rowLoc4 d) (outLoc4 d) blkSet (m (tabLoc d)) (rowIds m d (first 4)) (rowsOf m hm d (first 4)) c s
    | 5 => tdP (tabLoc d) (rowLoc5 d) (outLoc5 d) blkSet (m (tabLoc d)) (rowIds m d (first 5)) (rowsOf m hm d (first 5)) c s
    | 6 => tdP (tabLoc d) (rowLoc6 d) (outLoc6 d) blkSet (m (tabLoc d)) (rowIds m d (first 6)) (rowsOf m hm d (first 6)) c s
    | 7 => tdP (tabLoc d) (rowLoc7 d) (outLoc7 d) blkSet (m (tabLoc d)) (rowIds m d (first 7)) (rowsOf m hm d (first 7)) c s
  x := fun _ _ => iprop(emp)

section Storable

variable (ℓt ℓi ℓo : Loc nD τ sig) (I : Fin 256 → Finset (Idx ℓo)) (tab : Buf (Elt F) ℓt) (ids : Buf (Elt F) ℓi) (out : Buf (Elt F) ℓo)

theorem goP_storable (c : Fin 2) (s : Fin 16) : BI.Storable (upEmb : UEmb _ 𝕄) (goP ℓt ℓi ℓo I tab ids c s) := inferInstance
theorem tdP_storable (c : Fin 2) (s : Fin 16) : BI.Storable (upEmb : UEmb _ 𝕄) (tdP ℓt ℓi ℓo I tab ids out c s) := inferInstance
theorem stP_storable (c : Fin 2) : BI.Storable (upEmb : UEmb _ 𝕄) (stP ℓt ℓi ℓo I tab ids c) := inferInstance
theorem dnP_storable (c : Fin 2) : BI.Storable (upEmb : UEmb _ 𝕄) (dnP ℓt ℓi ℓo I tab ids out c) := inferInstance

end Storable

instance P_storable : (P (F := F) m hm).IsStorable where
  st q d c := match q with
    | 0 => stP_storable _ _ _ _ _ _ c
    | 1 => stP_storable _ _ _ _ _ _ c
    | 2 => stP_storable _ _ _ _ _ _ c
    | 3 => stP_storable _ _ _ _ _ _ c
    | 4 => stP_storable _ _ _ _ _ _ c
    | 5 => stP_storable _ _ _ _ _ _ c
    | 6 => stP_storable _ _ _ _ _ _ c
    | 7 => stP_storable _ _ _ _ _ _ c
  dn q d c := match q with
    | 0 => dnP_storable _ _ _ _ _ _ _ c
    | 1 => dnP_storable _ _ _ _ _ _ _ c
    | 2 => dnP_storable _ _ _ _ _ _ _ c
    | 3 => dnP_storable _ _ _ _ _ _ _ c
    | 4 => dnP_storable _ _ _ _ _ _ _ c
    | 5 => dnP_storable _ _ _ _ _ _ _ c
    | 6 => dnP_storable _ _ _ _ _ _ _ c
    | 7 => dnP_storable _ _ _ _ _ _ _ c
  go q d c s := match q with
    | 0 => goP_storable _ _ _ _ _ _ c s
    | 1 => goP_storable _ _ _ _ _ _ c s
    | 2 => goP_storable _ _ _ _ _ _ c s
    | 3 => goP_storable _ _ _ _ _ _ c s
    | 4 => goP_storable _ _ _ _ _ _ c s
    | 5 => goP_storable _ _ _ _ _ _ c s
    | 6 => goP_storable _ _ _ _ _ _ c s
    | 7 => goP_storable _ _ _ _ _ _ c s
  td q d c s := match q with
    | 0 => tdP_storable _ _ _ _ _ _ _ c s
    | 1 => tdP_storable _ _ _ _ _ _ _ c s
    | 2 => tdP_storable _ _ _ _ _ _ _ c s
    | 3 => tdP_storable _ _ _ _ _ _ _ c s
    | 4 => tdP_storable _ _ _ _ _ _ _ c s
    | 5 => tdP_storable _ _ _ _ _ _ _ c s
    | 6 => tdP_storable _ _ _ _ _ _ _ c s
    | 7 => tdP_storable _ _ _ _ _ _ _ c s

theorem vecSplit0 : (K (F := F)).VecSplit' (P m hm) 0 := by
  intro d c
  rw [show (P m hm).st 0 d c = bigSep Finset.univ fun i : Fin ((K (F := F)).nSub 0) => (P m hm).go 0 d c i from rfl,
    show (P m hm).dn 0 d c = bigSep Finset.univ fun i : Fin ((K (F := F)).nSub 0) => (P m hm).td 0 d c i from rfl]
  iintro H; imodintro
  isplitl [H]; · iexact H
  iintro H; iexact H

theorem vecSplit1 : (K (F := F)).VecSplit' (P m hm) 1 := by
  intro d c
  rw [show (P m hm).st 1 d c = bigSep Finset.univ fun i : Fin ((K (F := F)).nSub 1) => (P m hm).go 1 d c i from rfl,
    show (P m hm).dn 1 d c = bigSep Finset.univ fun i : Fin ((K (F := F)).nSub 1) => (P m hm).td 1 d c i from rfl]
  iintro H; imodintro
  isplitl [H]; · iexact H
  iintro H; iexact H

theorem vecSplit2 : (K (F := F)).VecSplit' (P m hm) 2 := by
  intro d c
  rw [show (P m hm).st 2 d c = bigSep Finset.univ fun i : Fin ((K (F := F)).nSub 2) => (P m hm).go 2 d c i from rfl,
    show (P m hm).dn 2 d c = bigSep Finset.univ fun i : Fin ((K (F := F)).nSub 2) => (P m hm).td 2 d c i from rfl]
  iintro H; imodintro
  isplitl [H]; · iexact H
  iintro H; iexact H

theorem vecSplit3 : (K (F := F)).VecSplit' (P m hm) 3 := by
  intro d c
  rw [show (P m hm).st 3 d c = bigSep Finset.univ fun i : Fin ((K (F := F)).nSub 3) => (P m hm).go 3 d c i from rfl,
    show (P m hm).dn 3 d c = bigSep Finset.univ fun i : Fin ((K (F := F)).nSub 3) => (P m hm).td 3 d c i from rfl]
  iintro H; imodintro
  isplitl [H]; · iexact H
  iintro H; iexact H

theorem vecSplit4 : (K (F := F)).VecSplit' (P m hm) 4 := by
  intro d c
  rw [show (P m hm).st 4 d c = bigSep Finset.univ fun i : Fin ((K (F := F)).nSub 4) => (P m hm).go 4 d c i from rfl,
    show (P m hm).dn 4 d c = bigSep Finset.univ fun i : Fin ((K (F := F)).nSub 4) => (P m hm).td 4 d c i from rfl]
  iintro H; imodintro
  isplitl [H]; · iexact H
  iintro H; iexact H

theorem vecSplit5 : (K (F := F)).VecSplit' (P m hm) 5 := by
  intro d c
  rw [show (P m hm).st 5 d c = bigSep Finset.univ fun i : Fin ((K (F := F)).nSub 5) => (P m hm).go 5 d c i from rfl,
    show (P m hm).dn 5 d c = bigSep Finset.univ fun i : Fin ((K (F := F)).nSub 5) => (P m hm).td 5 d c i from rfl]
  iintro H; imodintro
  isplitl [H]; · iexact H
  iintro H; iexact H

theorem vecSplit6 : (K (F := F)).VecSplit' (P m hm) 6 := by
  intro d c
  rw [show (P m hm).st 6 d c = bigSep Finset.univ fun i : Fin ((K (F := F)).nSub 6) => (P m hm).go 6 d c i from rfl,
    show (P m hm).dn 6 d c = bigSep Finset.univ fun i : Fin ((K (F := F)).nSub 6) => (P m hm).td 6 d c i from rfl]
  iintro H; imodintro
  isplitl [H]; · iexact H
  iintro H; iexact H

theorem vecSplit7 : (K (F := F)).VecSplit' (P m hm) 7 := by
  intro d c
  rw [show (P m hm).st 7 d c = bigSep Finset.univ fun i : Fin ((K (F := F)).nSub 7) => (P m hm).go 7 d c i from rfl,
    show (P m hm).dn 7 d c = bigSep Finset.univ fun i : Fin ((K (F := F)).nSub 7) => (P m hm).td 7 d c i from rfl]
  iintro H; imodintro
  isplitl [H]; · iexact H
  iintro H; iexact H

theorem vecSplit (q : Fin 8) : (K (F := F)).VecSplit' (P m hm) q := match q with
  | 0 => vecSplit0 m hm
  | 1 => vecSplit1 m hm
  | 2 => vecSplit2 m hm
  | 3 => vecSplit3 m hm
  | 4 => vecSplit4 m hm
  | 5 => vecSplit5 m hm
  | 6 => vecSplit6 m hm
  | 7 => vecSplit7 m hm

/-! ## The tiles' obligation, call by call -/

theorem sems_inj0 : Function.Injective (taskSems cc0_scoped1 cc0_scoped3 cc0_scoped4) := by
  intro a b; revert a b; decide +kernel
theorem sems_scoped0 : ∀ j, (taskSems cc0_scoped1 cc0_scoped3 cc0_scoped4 j).isScoped .scVector = true := by decide +kernel

theorem defs₀_vector0 (c : Fin τ.nSC) (s : Fin τ.nSub) :
    defs₀ (F := F) (.scVector c s) 0 ()
      = SparseCore.onTile hcore0 hsub0 (fun c s => cc0_gather_kernel (coordsV c s) (Memref.whole main_arg2_scv) (Memref.isWhole_whole _)
          (Memref.whole main_v5_scv) (Memref.isWhole_whole _)
          (Memref.whole main_v6_scv) (Memref.isWhole_whole _) (Memref.whole cc0_scoped0) (Memref.isWhole_whole _) cc0_scoped1
          (Memref.whole cc0_scoped2) (Memref.isWhole_whole _) cc0_scoped3 cc0_scoped4) ⟨⟩ c s := rfl

set_option maxRecDepth 16384 in
theorem tileObl0 : (K (F := F)).TileObl (D (F := F)) 𝒱 (P m hm) v₀ 0 := by
  intro d c i O W hO _ _
  simp only [show (P m hm).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (  tile_body d c i (Memref.whole main_arg2_scv) (Memref.isWhole_whole _) (Memref.whole main_v5_scv) (Memref.isWhole_whole _)
        (Memref.whole main_v6_scv) (Memref.isWhole_whole _) (Memref.whole cc0_scoped0) (Memref.isWhole_whole _) cc0_scoped1
        (Memref.whole cc0_scoped2) (Memref.isWhole_whole _) cc0_scoped3 cc0_scoped4
        (m (tabLoc d)) (rowIds m d (first 0)) (rowIds_lt m hm d (first 0)) _
        (((K (F := F)).scopedBufs_V facts d _ _).trans (own_two (F := F) d _ _ cc0_scoped0 cc0_scoped2 (by decide) rfl rfl))
        sems_inj0 sems_scoped0 blkSet (fun b => (View.set_slice_whole _ _).symm) (rowsOf m hm d (first 0))
        (fun b f h x hx => taken_of_gathered d (coordsV c i) (Memref.whole main_arg2_scv) (Memref.whole main_v5_scv) (Memref.whole main_v6_scv)
          (m (tabLoc d)) (rowIds m d (first 0)) (rowIds_lt m hm d (first 0)) (blk (coordsV c i) b.val) f h x
          ((show (outBlk (Memref.whole main_v6_scv) (blk (coordsV c i) b.val)).view.set = blkSet (blk (coordsV c i) b.val) from View.set_slice_whole _ _) ▸ hx)) O W hO).trans (wp_mono Idealize.ShloMosaic.frame _ _ fun _ => obl_post)

theorem sems_inj1 : Function.Injective (taskSems cc2_scoped1 cc2_scoped3 cc2_scoped4) := by
  intro a b; revert a b; decide +kernel
theorem sems_scoped1 : ∀ j, (taskSems cc2_scoped1 cc2_scoped3 cc2_scoped4 j).isScoped .scVector = true := by decide +kernel

theorem defs₀_vector1 (c : Fin τ.nSC) (s : Fin τ.nSub) :
    defs₀ (F := F) (.scVector c s) 2 ()
      = SparseCore.onTile hcore2 hsub2 (fun c s => cc0_gather_kernel (coordsV c s) (Memref.whole main_arg2_scv) (Memref.isWhole_whole _)
          (Memref.whole main_v11_scv) (Memref.isWhole_whole _)
          (Memref.whole main_v12_scv) (Memref.isWhole_whole _) (Memref.whole cc2_scoped0) (Memref.isWhole_whole _) cc2_scoped1
          (Memref.whole cc2_scoped2) (Memref.isWhole_whole _) cc2_scoped3 cc2_scoped4) ⟨⟩ c s := rfl

set_option maxRecDepth 16384 in
theorem tileObl1 : (K (F := F)).TileObl (D (F := F)) 𝒱 (P m hm) v₀ 1 := by
  intro d c i O W hO _ _
  simp only [show (P m hm).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (  tile_body d c i (Memref.whole main_arg2_scv) (Memref.isWhole_whole _) (Memref.whole main_v11_scv) (Memref.isWhole_whole _)
        (Memref.whole main_v12_scv) (Memref.isWhole_whole _) (Memref.whole cc2_scoped0) (Memref.isWhole_whole _) cc2_scoped1
        (Memref.whole cc2_scoped2) (Memref.isWhole_whole _) cc2_scoped3 cc2_scoped4
        (m (tabLoc d)) (rowIds m d (first 1)) (rowIds_lt m hm d (first 1)) _
        (((K (F := F)).scopedBufs_V facts d _ _).trans (own_two (F := F) d _ _ cc2_scoped0 cc2_scoped2 (by decide) rfl rfl))
        sems_inj1 sems_scoped1 blkSet (fun b => (View.set_slice_whole _ _).symm) (rowsOf m hm d (first 1))
        (fun b f h x hx => taken_of_gathered d (coordsV c i) (Memref.whole main_arg2_scv) (Memref.whole main_v11_scv) (Memref.whole main_v12_scv)
          (m (tabLoc d)) (rowIds m d (first 1)) (rowIds_lt m hm d (first 1)) (blk (coordsV c i) b.val) f h x
          ((show (outBlk (Memref.whole main_v12_scv) (blk (coordsV c i) b.val)).view.set = blkSet (blk (coordsV c i) b.val) from View.set_slice_whole _ _) ▸ hx)) O W hO).trans (wp_mono Idealize.ShloMosaic.frame _ _ fun _ => obl_post)

theorem sems_inj2 : Function.Injective (taskSems cc4_scoped1 cc4_scoped3 cc4_scoped4) := by
  intro a b; revert a b; decide +kernel
theorem sems_scoped2 : ∀ j, (taskSems cc4_scoped1 cc4_scoped3 cc4_scoped4 j).isScoped .scVector = true := by decide +kernel

theorem defs₀_vector2 (c : Fin τ.nSC) (s : Fin τ.nSub) :
    defs₀ (F := F) (.scVector c s) 4 ()
      = SparseCore.onTile hcore4 hsub4 (fun c s => cc0_gather_kernel (coordsV c s) (Memref.whole main_arg2_scv) (Memref.isWhole_whole _)
          (Memref.whole main_v17_scv) (Memref.isWhole_whole _)
          (Memref.whole main_v18_scv) (Memref.isWhole_whole _) (Memref.whole cc4_scoped0) (Memref.isWhole_whole _) cc4_scoped1
          (Memref.whole cc4_scoped2) (Memref.isWhole_whole _) cc4_scoped3 cc4_scoped4) ⟨⟩ c s := rfl

set_option maxRecDepth 16384 in
theorem tileObl2 : (K (F := F)).TileObl (D (F := F)) 𝒱 (P m hm) v₀ 2 := by
  intro d c i O W hO _ _
  simp only [show (P m hm).ox = fun _ _ => 0 from rfl, add_zero]
  have hci : ((K (F := F)).core 2 c).val < grid4.bound 0 ∧ ((K (F := F)).sub 2 i).val < grid4.bound 1 := ⟨c.isLt, i.isLt⟩
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  rw [defs₀_vector2]; simp only [SparseCore.onTile, hci, and_self, ↓reduceDIte]
  exact (  tile_body d c i (Memref.whole main_arg2_scv) (Memref.isWhole_whole _) (Memref.whole main_v17_scv) (Memref.isWhole_whole _)
        (Memref.whole main_v18_scv) (Memref.isWhole_whole _) (Memref.whole cc4_scoped0) (Memref.isWhole_whole _) cc4_scoped1
        (Memref.whole cc4_scoped2) (Memref.isWhole_whole _) cc4_scoped3 cc4_scoped4
        (m (tabLoc d)) (rowIds m d (first 2)) (rowIds_lt m hm d (first 2)) _
        (((K (F := F)).scopedBufs_V facts d _ _).trans (own_two (F := F) d _ _ cc4_scoped0 cc4_scoped2 (by decide) rfl rfl))
        sems_inj2 sems_scoped2 blkSet (fun b => (View.set_slice_whole _ _).symm) (rowsOf m hm d (first 2))
        (fun b f h x hx => taken_of_gathered d (coordsV c i) (Memref.whole main_arg2_scv) (Memref.whole main_v17_scv) (Memref.whole main_v18_scv)
          (m (tabLoc d)) (rowIds m d (first 2)) (rowIds_lt m hm d (first 2)) (blk (coordsV c i) b.val) f h x
          ((show (outBlk (Memref.whole main_v18_scv) (blk (coordsV c i) b.val)).view.set = blkSet (blk (coordsV c i) b.val) from View.set_slice_whole _ _) ▸ hx)) O W hO).trans (wp_mono Idealize.ShloMosaic.frame _ _ fun _ => obl_post)

theorem sems_inj3 : Function.Injective (taskSems cc6_scoped1 cc6_scoped3 cc6_scoped4) := by
  intro a b; revert a b; decide +kernel
theorem sems_scoped3 : ∀ j, (taskSems cc6_scoped1 cc6_scoped3 cc6_scoped4 j).isScoped .scVector = true := by decide +kernel

theorem defs₀_vector3 (c : Fin τ.nSC) (s : Fin τ.nSub) :
    defs₀ (F := F) (.scVector c s) 6 ()
      = SparseCore.onTile hcore6 hsub6 (fun c s => cc0_gather_kernel (coordsV c s) (Memref.whole main_arg2_scv) (Memref.isWhole_whole _)
          (Memref.whole main_v23_scv) (Memref.isWhole_whole _)
          (Memref.whole main_v24_scv) (Memref.isWhole_whole _) (Memref.whole cc6_scoped0) (Memref.isWhole_whole _) cc6_scoped1
          (Memref.whole cc6_scoped2) (Memref.isWhole_whole _) cc6_scoped3 cc6_scoped4) ⟨⟩ c s := rfl

set_option maxRecDepth 16384 in
theorem tileObl3 : (K (F := F)).TileObl (D (F := F)) 𝒱 (P m hm) v₀ 3 := by
  intro d c i O W hO _ _
  simp only [show (P m hm).ox = fun _ _ => 0 from rfl, add_zero]
  have hci : ((K (F := F)).core 3 c).val < grid6.bound 0 ∧ ((K (F := F)).sub 3 i).val < grid6.bound 1 := ⟨c.isLt, i.isLt⟩
  change _ ⊢ wp _ _ _ (Pipeline.liftProg (defs₀ (F := F) (.scVector ((K (F := F)).core 3 c) ((K (F := F)).sub 3 i)) 6 ())) _
  refine BI.Entails.trans ?_ (Pipeline.wp_liftProg (D (F := F)) (Pipeline.defs_kernel pcfgs defs₀) 𝒱₀ _ Set.univ none _ _)
  rw [defs₀_vector3]; simp only [SparseCore.onTile, hci, and_self, ↓reduceDIte]
  exact (  tile_body d c i (Memref.whole main_arg2_scv) (Memref.isWhole_whole _) (Memref.whole main_v23_scv) (Memref.isWhole_whole _)
        (Memref.whole main_v24_scv) (Memref.isWhole_whole _) (Memref.whole cc6_scoped0) (Memref.isWhole_whole _) cc6_scoped1
        (Memref.whole cc6_scoped2) (Memref.isWhole_whole _) cc6_scoped3 cc6_scoped4
        (m (tabLoc d)) (rowIds m d (first 3)) (rowIds_lt m hm d (first 3)) _
        (((K (F := F)).scopedBufs_V facts d _ _).trans (own_two (F := F) d _ _ cc6_scoped0 cc6_scoped2 (by decide) rfl rfl))
        sems_inj3 sems_scoped3 blkSet (fun b => (View.set_slice_whole _ _).symm) (rowsOf m hm d (first 3))
        (fun b f h x hx => taken_of_gathered d (coordsV c i) (Memref.whole main_arg2_scv) (Memref.whole main_v23_scv) (Memref.whole main_v24_scv)
          (m (tabLoc d)) (rowIds m d (first 3)) (rowIds_lt m hm d (first 3)) (blk (coordsV c i) b.val) f h x
          ((show (outBlk (Memref.whole main_v24_scv) (blk (coordsV c i) b.val)).view.set = blkSet (blk (coordsV c i) b.val) from View.set_slice_whole _ _) ▸ hx)) O W hO).trans (wp_mono Idealize.ShloMosaic.frame _ _ fun _ => obl_post)

theorem sems_inj4 : Function.Injective (taskSems cc8_scoped1 cc8_scoped3 cc8_scoped4) := by
  intro a b; revert a b; decide +kernel
theorem sems_scoped4 : ∀ j, (taskSems cc8_scoped1 cc8_scoped3 cc8_scoped4 j).isScoped .scVector = true := by decide +kernel

theorem defs₀_vector4 (c : Fin τ.nSC) (s : Fin τ.nSub) :
    defs₀ (F := F) (.scVector c s) 8 ()
      = SparseCore.onTile hcore8 hsub8 (fun c s => cc0_gather_kernel (coordsV c s) (Memref.whole main_arg2_scv) (Memref.isWhole_whole _)
          (Memref.whole main_v29_scv) (Memref.isWhole_whole _)
          (Memref.whole main_v30_scv) (Memref.isWhole_whole _) (Memref.whole cc8_scoped0) (Memref.isWhole_whole _) cc8_scoped1
          (Memref.whole cc8_scoped2) (Memref.isWhole_whole _) cc8_scoped3 cc8_scoped4) ⟨⟩ c s := rfl

set_option maxRecDepth 16384 in
theorem tileObl4 : (K (F := F)).TileObl (D (F := F)) 𝒱 (P m hm) v₀ 4 := by
  intro d c i O W hO _ _
  simp only [show (P m hm).ox = fun _ _ => 0 from rfl, add_zero]
  have hci : ((K (F := F)).core 4 c).val < grid8.bound 0 ∧ ((K (F := F)).sub 4 i).val < grid8.bound 1 := ⟨c.isLt, i.isLt⟩
  change _ ⊢ wp _ _ _ (Pipeline.liftProg (defs₀ (F := F) (.scVector ((K (F := F)).core 4 c) ((K (F := F)).sub 4 i)) 8 ())) _
  refine BI.Entails.trans ?_ (Pipeline.wp_liftProg (D (F := F)) (Pipeline.defs_kernel pcfgs defs₀) 𝒱₀ _ Set.univ none _ _)
  rw [defs₀_vector4]; simp only [SparseCore.onTile, hci, and_self, ↓reduceDIte]
  exact (  tile_body d c i (Memref.whole main_arg2_scv) (Memref.isWhole_whole _) (Memref.whole main_v29_scv) (Memref.isWhole_whole _)
        (Memref.whole main_v30_scv) (Memref.isWhole_whole _) (Memref.whole cc8_scoped0) (Memref.isWhole_whole _) cc8_scoped1
        (Memref.whole cc8_scoped2) (Memref.isWhole_whole _) cc8_scoped3 cc8_scoped4
        (m (tabLoc d)) (rowIds m d (first 4)) (rowIds_lt m hm d (first 4)) _
        (((K (F := F)).scopedBufs_V facts d _ _).trans (own_two (F := F) d _ _ cc8_scoped0 cc8_scoped2 (by decide) rfl rfl))
        sems_inj4 sems_scoped4 blkSet (fun b => (View.set_slice_whole _ _).symm) (rowsOf m hm d (first 4))
        (fun b f h x hx => taken_of_gathered d (coordsV c i) (Memref.whole main_arg2_scv) (Memref.whole main_v29_scv) (Memref.whole main_v30_scv)
          (m (tabLoc d)) (rowIds m d (first 4)) (rowIds_lt m hm d (first 4)) (blk (coordsV c i) b.val) f h x
          ((show (outBlk (Memref.whole main_v30_scv) (blk (coordsV c i) b.val)).view.set = blkSet (blk (coordsV c i) b.val) from View.set_slice_whole _ _) ▸ hx)) O W hO).trans (wp_mono Idealize.ShloMosaic.frame _ _ fun _ => obl_post)

theorem sems_inj5 : Function.Injective (taskSems cc10_scoped1 cc10_scoped3 cc10_scoped4) := by
  intro a b; revert a b; decide +kernel
theorem sems_scoped5 : ∀ j, (taskSems cc10_scoped1 cc10_scoped3 cc10_scoped4 j).isScoped .scVector = true := by decide +kernel

theorem defs₀_vector5 (c : Fin τ.nSC) (s : Fin τ.nSub) :
    defs₀ (F := F) (.scVector c s) 10 ()
      = SparseCore.onTile hcore10 hsub10 (fun c s => cc0_gather_kernel (coordsV c s) (Memref.whole main_arg2_scv) (Memref.isWhole_whole _)
          (Memref.whole main_v35_scv) (Memref.isWhole_whole _)
          (Memref.whole main_v36_scv) (Memref.isWhole_whole _) (Memref.whole cc10_scoped0) (Memref.isWhole_whole _) cc10_scoped1
          (Memref.whole cc10_scoped2) (Memref.isWhole_whole _) cc10_scoped3 cc10_scoped4) ⟨⟩ c s := rfl

set_option maxRecDepth 16384 in
theorem tileObl5 : (K (F := F)).TileObl (D (F := F)) 𝒱 (P m hm) v₀ 5 := by
  intro d c i O W hO _ _
  simp only [show (P m hm).ox = fun _ _ => 0 from rfl, add_zero]
  have hci : ((K (F := F)).core 5 c).val < grid10.bound 0 ∧ ((K (F := F)).sub 5 i).val < grid10.bound 1 := ⟨c.isLt, i.isLt⟩
  change _ ⊢ wp _ _ _ (Pipeline.liftProg (defs₀ (F := F) (.scVector ((K (F := F)).core 5 c) ((K (F := F)).sub 5 i)) 10 ())) _
  refine BI.Entails.trans ?_ (Pipeline.wp_liftProg (D (F := F)) (Pipeline.defs_kernel pcfgs defs₀) 𝒱₀ _ Set.univ none _ _)
  rw [defs₀_vector5]; simp only [SparseCore.onTile, hci, and_self, ↓reduceDIte]
  exact (  tile_body d c i (Memref.whole main_arg2_scv) (Memref.isWhole_whole _) (Memref.whole main_v35_scv) (Memref.isWhole_whole _)
        (Memref.whole main_v36_scv) (Memref.isWhole_whole _) (Memref.whole cc10_scoped0) (Memref.isWhole_whole _) cc10_scoped1
        (Memref.whole cc10_scoped2) (Memref.isWhole_whole _) cc10_scoped3 cc10_scoped4
        (m (tabLoc d)) (rowIds m d (first 5)) (rowIds_lt m hm d (first 5)) _
        (((K (F := F)).scopedBufs_V facts d _ _).trans (own_two (F := F) d _ _ cc10_scoped0 cc10_scoped2 (by decide) rfl rfl))
        sems_inj5 sems_scoped5 blkSet (fun b => (View.set_slice_whole _ _).symm) (rowsOf m hm d (first 5))
        (fun b f h x hx => taken_of_gathered d (coordsV c i) (Memref.whole main_arg2_scv) (Memref.whole main_v35_scv) (Memref.whole main_v36_scv)
          (m (tabLoc d)) (rowIds m d (first 5)) (rowIds_lt m hm d (first 5)) (blk (coordsV c i) b.val) f h x
          ((show (outBlk (Memref.whole main_v36_scv) (blk (coordsV c i) b.val)).view.set = blkSet (blk (coordsV c i) b.val) from View.set_slice_whole _ _) ▸ hx)) O W hO).trans (wp_mono Idealize.ShloMosaic.frame _ _ fun _ => obl_post)

theorem sems_inj6 : Function.Injective (taskSems cc12_scoped1 cc12_scoped3 cc12_scoped4) := by
  intro a b; revert a b; decide +kernel
theorem sems_scoped6 : ∀ j, (taskSems cc12_scoped1 cc12_scoped3 cc12_scoped4 j).isScoped .scVector = true := by decide +kernel

theorem defs₀_vector6 (c : Fin τ.nSC) (s : Fin τ.nSub) :
    defs₀ (F := F) (.scVector c s) 12 ()
      = SparseCore.onTile hcore12 hsub12 (fun c s => cc0_gather_kernel (coordsV c s) (Memref.whole main_arg2_scv) (Memref.isWhole_whole _)
          (Memref.whole main_v41_scv) (Memref.isWhole_whole _)
          (Memref.whole main_v42_scv) (Memref.isWhole_whole _) (Memref.whole cc12_scoped0) (Memref.isWhole_whole _) cc12_scoped1
          (Memref.whole cc12_scoped2) (Memref.isWhole_whole _) cc12_scoped3 cc12_scoped4) ⟨⟩ c s := rfl

set_option maxRecDepth 16384 in
theorem tileObl6 : (K (F := F)).TileObl (D (F := F)) 𝒱 (P m hm) v₀ 6 := by
  intro d c i O W hO _ _
  simp only [show (P m hm).ox = fun _ _ => 0 from rfl, add_zero]
  have hci : ((K (F := F)).core 6 c).val < grid12.bound 0 ∧ ((K (F := F)).sub 6 i).val < grid12.bound 1 := ⟨c.isLt, i.isLt⟩
  change _ ⊢ wp _ _ _ (Pipeline.liftProg (defs₀ (F := F) (.scVector ((K (F := F)).core 6 c) ((K (F := F)).sub 6 i)) 12 ())) _
  refine BI.Entails.trans ?_ (Pipeline.wp_liftProg (D (F := F)) (Pipeline.defs_kernel pcfgs defs₀) 𝒱₀ _ Set.univ none _ _)
  rw [defs₀_vector6]; simp only [SparseCore.onTile, hci, and_self, ↓reduceDIte]
  exact (  tile_body d c i (Memref.whole main_arg2_scv) (Memref.isWhole_whole _) (Memref.whole main_v41_scv) (Memref.isWhole_whole _)
        (Memref.whole main_v42_scv) (Memref.isWhole_whole _) (Memref.whole cc12_scoped0) (Memref.isWhole_whole _) cc12_scoped1
        (Memref.whole cc12_scoped2) (Memref.isWhole_whole _) cc12_scoped3 cc12_scoped4
        (m (tabLoc d)) (rowIds m d (first 6)) (rowIds_lt m hm d (first 6)) _
        (((K (F := F)).scopedBufs_V facts d _ _).trans (own_two (F := F) d _ _ cc12_scoped0 cc12_scoped2 (by decide) rfl rfl))
        sems_inj6 sems_scoped6 blkSet (fun b => (View.set_slice_whole _ _).symm) (rowsOf m hm d (first 6))
        (fun b f h x hx => taken_of_gathered d (coordsV c i) (Memref.whole main_arg2_scv) (Memref.whole main_v41_scv) (Memref.whole main_v42_scv)
          (m (tabLoc d)) (rowIds m d (first 6)) (rowIds_lt m hm d (first 6)) (blk (coordsV c i) b.val) f h x
          ((show (outBlk (Memref.whole main_v42_scv) (blk (coordsV c i) b.val)).view.set = blkSet (blk (coordsV c i) b.val) from View.set_slice_whole _ _) ▸ hx)) O W hO).trans (wp_mono Idealize.ShloMosaic.frame _ _ fun _ => obl_post)

theorem sems_inj7 : Function.Injective (taskSems cc14_scoped1 cc14_scoped3 cc14_scoped4) := by
  intro a b; revert a b; decide +kernel
theorem sems_scoped7 : ∀ j, (taskSems cc14_scoped1 cc14_scoped3 cc14_scoped4 j).isScoped .scVector = true := by decide +kernel

theorem defs₀_vector7 (c : Fin τ.nSC) (s : Fin τ.nSub) :
    defs₀ (F := F) (.scVector c s) 14 ()
      = SparseCore.onTile hcore14 hsub14 (fun c s => cc0_gather_kernel (coordsV c s) (Memref.whole main_arg2_scv) (Memref.isWhole_whole _)
          (Memref.whole main_v47_scv) (Memref.isWhole_whole _)
          (Memref.whole main_v48_scv) (Memref.isWhole_whole _) (Memref.whole cc14_scoped0) (Memref.isWhole_whole _) cc14_scoped1
          (Memref.whole cc14_scoped2) (Memref.isWhole_whole _) cc14_scoped3 cc14_scoped4) ⟨⟩ c s := rfl

set_option maxRecDepth 16384 in
theorem tileObl7 : (K (F := F)).TileObl (D (F := F)) 𝒱 (P m hm) v₀ 7 := by
  intro d c i O W hO _ _
  simp only [show (P m hm).ox = fun _ _ => 0 from rfl, add_zero]
  have hci : ((K (F := F)).core 7 c).val < grid14.bound 0 ∧ ((K (F := F)).sub 7 i).val < grid14.bound 1 := ⟨c.isLt, i.isLt⟩
  change _ ⊢ wp _ _ _ (Pipeline.liftProg (defs₀ (F := F) (.scVector ((K (F := F)).core 7 c) ((K (F := F)).sub 7 i)) 14 ())) _
  refine BI.Entails.trans ?_ (Pipeline.wp_liftProg (D (F := F)) (Pipeline.defs_kernel pcfgs defs₀) 𝒱₀ _ Set.univ none _ _)
  rw [defs₀_vector7]; simp only [SparseCore.onTile, hci, and_self, ↓reduceDIte]
  exact (  tile_body d c i (Memref.whole main_arg2_scv) (Memref.isWhole_whole _) (Memref.whole main_v47_scv) (Memref.isWhole_whole _)
        (Memref.whole main_v48_scv) (Memref.isWhole_whole _) (Memref.whole cc14_scoped0) (Memref.isWhole_whole _) cc14_scoped1
        (Memref.whole cc14_scoped2) (Memref.isWhole_whole _) cc14_scoped3 cc14_scoped4
        (m (tabLoc d)) (rowIds m d (first 7)) (rowIds_lt m hm d (first 7)) _
        (((K (F := F)).scopedBufs_V facts d _ _).trans (own_two (F := F) d _ _ cc14_scoped0 cc14_scoped2 (by decide) rfl rfl))
        sems_inj7 sems_scoped7 blkSet (fun b => (View.set_slice_whole _ _).symm) (rowsOf m hm d (first 7))
        (fun b f h x hx => taken_of_gathered d (coordsV c i) (Memref.whole main_arg2_scv) (Memref.whole main_v47_scv) (Memref.whole main_v48_scv)
          (m (tabLoc d)) (rowIds m d (first 7)) (rowIds_lt m hm d (first 7)) (blk (coordsV c i) b.val) f h x
          ((show (outBlk (Memref.whole main_v48_scv) (blk (coordsV c i) b.val)).view.set = blkSet (blk (coordsV c i) b.val) from View.set_slice_whole _ _) ▸ hx)) O W hO).trans (wp_mono Idealize.ShloMosaic.frame _ _ fun _ => obl_post)

theorem tileObl (q : Fin 8) : (K (F := F)).TileObl (D (F := F)) 𝒱 (P m hm) v₀ q := match q with
  | 0 => tileObl0 m hm
  | 1 => tileObl1 m hm
  | 2 => tileObl2 m hm
  | 3 => tileObl3 m hm
  | 4 => tileObl4 m hm
  | 5 => tileObl5 m hm
  | 6 => tileObl6 m hm
  | 7 => tileObl7 m hm

end Cert.Proof.Gather

end
-- ==== Proof.Block.lean ====
/-
  The layer normalisation of one block of eight sequences, on the TensorCore.

  The body reads the block of gathered rows, the block of token types, the position table, the two rows
  of the type table, the scale and the offset, and stores the block of results. `lnBlk` is what it stores,
  as the function of what it read.
-/
module

public import proofs.«01_k».proof.Proof.Setup
public import proofs.«01_k».proof.Proof.Gen.KernelIdeal.Skeleton
public import Idealize.ShloMosaic.Lib.VecWindow
public import Idealize.ShloMosaic.Lib.WritesUnit

@[expose] public section

noncomputable section

namespace Cert.Proof.Gather

open Cert.KernelIdeal Cert.KernelIdeal.Gen
open Idealize.ShloMosaic Idealize.ShloMosaic.Tactic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-- Row 0 of the type table, and row 1. -/
def typeRow0 (te : S2x128.Idx → Elt F .f32) : S1x128.Idx → Elt F .f32 := fun y => te ((Rect.unit (s := S2x128) ![0, 0] S1x128.size inb_S2x128_S1x128_0_0).toLoadRect.idx y)
def typeRow1 (te : S2x128.Idx → Elt F .f32) : S1x128.Idx → Elt F .f32 := fun y => te ((Rect.unit (s := S2x128) ![1, 0] S1x128.size inb_S2x128_S1x128_1_0).toLoadRect.idx y)

/-- The block the body stores, of the blocks and tables it read. -/
def lnBlk (g : S8x256x128.Idx → Elt F .f32) (tt : S8x256.Idx → Elt F .i32) (pos : S256x128.Idx → Elt F .f32) (te : S2x128.Idx → Elt F .f32)
    (gam bet : S1x128.Idx → Elt F .f32) : S8x256x128.Idx → Elt F .f32 :=
  k1_pay1 (k1_pay2 g tt pos (typeRow0 te) (typeRow1 te)) (k1_pay3 gam) bet

theorem ln_run (d : Dev nD) (i : grid1.Coords)
    (arg1 : Memref sig .tc .vmem S8x256x128 .f32) (harg1 : arg1.IsWhole) (arg2 : Memref sig .tc .vmem S8x256 .i32) (harg2 : arg2.IsWhole)
    (arg3 : Memref sig .tc .vmem S256x128 .f32) (harg3 : arg3.IsWhole) (arg4 : Memref sig .tc .vmem S2x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S8x256x128 .f32) (harg7 : arg7.IsWhole)
    (g : S8x256x128.Idx → Elt F .f32) (tt : S8x256.Idx → Elt F .i32) (pos : S256x128.Idx → Elt F .f32) (te : S2x128.Idx → Elt F .f32)
    (gam bet : S1x128.Idx → Elt F .f32) (o : S8x256x128.Idx → Elt F .f32) (Q : PUnit → sProp 𝕄) :
    iprop(owns (d : Thread nD τ) arg1 fullShare g ∗ owns (d : Thread nD τ) arg2 fullShare tt ∗ owns (d : Thread nD τ) arg3 fullShare pos
        ∗ owns (d : Thread nD τ) arg4 fullShare te ∗ owns (d : Thread nD τ) arg5 fullShare gam ∗ owns (d : Thread nD τ) arg6 fullShare bet
        ∗ owns (d : Thread nD τ) arg7 fullShare o
        ∗ (owns (d : Thread nD τ) arg1 fullShare g ∗ owns (d : Thread nD τ) arg2 fullShare tt ∗ owns (d : Thread nD τ) arg3 fullShare pos
          ∗ owns (d : Thread nD τ) arg4 fullShare te ∗ owns (d : Thread nD τ) arg5 fullShare gam ∗ owns (d : Thread nD τ) arg6 fullShare bet
          ∗ owns (d : Thread nD τ) arg7 fullShare (lnBlk g tt pos te gam bet) -∗ Q ⟨⟩))
      ⊢ wp frame (wpE (defs₀ (F := F)) 𝒱₀ (d : Thread nD τ) none) Set.univ
          (cc1__ln_body i arg1 harg1 arg2 harg2 arg3 harg3 arg4 harg4 arg5 harg5 arg6 harg6 arg7 harg7) Q := by
  rw [cc1__ln_body_eq_skeleton]
  unfold cc1__ln_body_skel
  rw [k1_part1_eq_skeleton]
  unfold k1_part1_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, HQ⟩
  sl_exec
  sl_step
  iapply HQ
  isplitl [H1]; · iexists f1; isplitr; · ipureintro; exact h1
                  iexact H1
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]; · iexists f6; isplitr; · ipureintro; exact h6
                  iexact H6
  iexists _; isplitr; swap; (· iexact H7)
  ipureintro
  subst h1 h2 h3 h4 h5 h6
  have e1 := View.readAt_full arg1.view f1 (off := ![0, 0, 0]) inb_S8x256x128_S8x256x128_0_0_0
  have e2 := View.readAt_full arg2.view f2 (off := ![0, 0]) inb_S8x256_S8x256_0_0
  have e3 := View.readAt_full arg3.view f3 (off := ![0, 0]) inb_S256x128_S256x128_0_0
  have e5 := View.readAt_full arg5.view f5 (off := ![0, 0]) inb_S1x128_S1x128_0_0
  have e6 := View.readAt_full arg6.view f6 (off := ![0, 0]) inb_S1x128_S1x128_0_0
  funext y
  rw [View.read_writes_cons_unit_of_mem arg7.view f7 inb_S8x256x128_S8x256x128_0_0_0 _ _ y y rfl (by intro a; fin_cases a <;> exact (Nat.zero_add _).symm)]
  refine congrFun ?_ y
  exact congr (congr (congrArg k1_pay1 (congr (congr (congr (congr (congrArg k1_pay2 e1) e2) e3) rfl) rfl)) (congrArg k1_pay3 e5)) e6

end Cert.Proof.Gather

end
-- ==== Proof.Region.lean ====
/-
  One TensorCore region of @main between two SparseCore calls.

  The region runs over the buffers @main holds, at a valuation `V`, and leaves them at
  `Pipeline.afterRegion`: the results' array at what the blocks wrote, every other buffer as it was. The
  core still owes the SparseCores their later starts (`O`), which no wait of the region's own is held up by.
-/
module

public import proofs.«01_k».proof.Proof.Block
public import proofs.«01_k».proof.Proof.Gen.KernelIdeal.Launch
public import Idealize.ShloMosaic.Lib.Pipeline.RegionArraysS

@[expose] public section

noncomputable section

namespace Cert.Proof.Gather

open Cert.KernelIdeal Cert.KernelIdeal.Gen
open Idealize.ShloMosaic Idealize.ShloMosaic.Tactic Idealize.ShloMosaic.TcCoe
open Idealize.ShloMosaic.Pipeline (Dat BodyObligation RegionSeg PLaunchFacts arrRefs arrRef ucRefs scopedRest cellsGhost toksInit)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-- No pipeline prefetches a table. -/
abbrev adm : (p : Fin 8) → (pcfgs (F := F) p).Adm := fun p => (cfgs p).toPCfg_adm

/-- The recorded waits at or below a stage of the calls. -/
def below (d : Dev nD) (b : ℕ) : Set (SemLoc sig × Ix) := {p | (K (F := F)).lev ((d : Thread nD τ), p.1) p.2 ≤ b}

/-- What the core owes, its recorded waits at or below stage `b`. -/
def owed (O : CellTallies nD τ sig Ix) (b : ℕ) (d : Dev nD) : sProp 𝕄 :=
  iprop(∃ W, ⌜(K (F := F)).WBelow (d : Thread nD τ) W b⌝ ∗ owes (d : Thread nD τ) O W)

section Seg

variable (pdats : (p : Fin 8) → (d : Dev nD) → Dat τ (Elt F) Ix ℕ UU ℕ (Pipeline.pin (pcfgs (F := F)) adm p) d)
  (p : Fin 8) (O : CellTallies nD τ sig Ix) (hO : ∀ g, O g none = 0) (b : ℕ) (V : Dev nD → Valuation τ sig (Elt F))

set_option backward.isDefEq.respectTransparency.types false in
def seg (kit : PLaunchFacts (nD := nD) (τ := τ) (pcfgs (F := F)) p) (hK : (pcfgs (F := F) p).pre.K = 0)
    (hbody : ∀ d, BodyObligation (pdats p d) (defs₀ (F := F)) 𝒱₀ none Set.univ)
    (howed : ∀ d t, (pdats p d).owed t = O) (hrec : ∀ d t, (pdats p d).recorded t = below (F := F) d b)
    (hΦ : ∀ d t, (pdats p d).Φ t = scopedRest (Pipeline.pin (pcfgs (F := F)) adm p).spec d)
    (hshare : ∀ d w, (pdats p d).share w = fullShare)
    (hA : ∀ d w, (pdats p d).arrAt w 0 = V d (Proc.devRef .tc (arrRef (Pipeline.pin (pcfgs (F := F)) adm p).spec w))) :
    RegionSeg (pcfgs (F := F)) adm pdats none defs₀ 𝒱₀ (K (F := F)).L (K (F := F)).lev p where
  win := kit.win.to₀
  block_pos := kit.block_pos
  stage_whole := kit.stage_whole
  K := PEmpty
  osem k := k.elim
  ho := Pipeline.OwnSemFacts.none _
  hbody d := (hbody d).loose
  hwaits d := Pipeline.cellsWaits_intro _ _ _ p d fun w s t => by rw [howed d t]; exact (K (F := F)).mayWait_none _ hO
  pre d := iprop(StableHlo.held (d : Thread nD τ) (ucRefs τ sig) (V d) ∗ owed O b d)
  post d := iprop(StableHlo.held (d : Thread nD τ) (ucRefs τ sig) (Pipeline.afterRegion (pdats p d) (V d)) ∗ owed O b d)
  X _ := iprop(emp)
  Y _ := iprop(emp)
  Z d := StableHlo.held (d : Thread nD τ) (ucRefs τ sig \ arrRefs (pcfgs (F := F) p).spec) (V d)
  hentry d := by
    rw [Pipeline.ownSems0_none, Pipeline.prefHeld_of_none _ hK,
      StableHlo.held_sub_split (d : Thread nD τ) (Pipeline.arrRefs_sub_ucRefs (τ := τ) (pcfgs (F := F) p).spec kit.win.arr_unscoped) (V d),
      ← Pipeline.arrays_held (pcfgs (F := F)) adm pdats p kit d (hshare d) ((pdats p d).arrAt · 0) (V d) (hA d)]
    unfold owed
    iintro ⟨⟨⟨Ha, Hrest⟩, ⟨%W, %hW, HO⟩⟩, -, -⟩
    imodintro
    isplitl [Ha]; · iexact Ha
    isplitr; · iempintro
    isplitl [HO]
    · unfold Dat.owesAt Pipeline.owesWithin Dat.bound
      rw [howed d 0, hrec d]
      iexists W; isplitr; · ipureintro; exact fun x hx => Or.inl (hW x hx)
      iexact HO
    isplitr; · iempintro
    iexact Hrest
  hin d := by
    rw [hΦ d]; iintro ⟨-, -, Hr⟩; iexact Hr
  hout d := by
    rw [hΦ d, Pipeline.ownSems0_none]
    iintro Hr
    isplitr; · iempintro
    isplitr; · iempintro
    iexact Hr
  hexit d := by
    rw [StableHlo.held_sub_split (d : Thread nD τ) (Pipeline.arrRefs_sub_ucRefs (τ := τ) (pcfgs (F := F) p).spec kit.win.arr_unscoped)
        (Pipeline.afterRegion (pdats p d) (V d)),
      StableHlo.held_congr (d : Thread nD τ) (Pipeline.afterRegion_off (pdats p d) (V d) (ucRefs τ sig)),
      ← Pipeline.arrays_held (pcfgs (F := F)) adm pdats p kit d (hshare d) ((pdats p d).arrAt · _) (Pipeline.afterRegion (pdats p d) (V d))
        (fun w => (Pipeline.afterRegion_arr (pdats p d) (V d) kit.win.arr_inj w).symm)]
    unfold Dat.owesAt Pipeline.owesWithin Dat.bound owed
    rw [howed d, hrec d]
    iintro ⟨Ha, ⟨%W, %hW, HO⟩, -, Hrest⟩
    imodintro
    isplitl [Ha Hrest]
    · isplitl [Ha]; · iexact Ha
      iexact Hrest
    iexists W; isplitr
    · ipureintro
      intro x hx
      rcases hW hx with h | h
      · exact h
      · obtain ⟨w, s, rfl⟩ := h
        exact Nat.zero_le _
    iexact HO

end Seg

end Cert.Proof.Gather

end
-- ==== Proof.Assembled.lean ====
/-
  The whole result, put together from its blocks of eight sequences.

  `lnAll` is the layer normalisation of all 1024 sequences: sequence `b` lies at place `b % 8` of block `b / 8`, and
  its row is what `lnBlk` stores there of that block's gathered rows and token types.
-/
module

public import proofs.«01_k».proof.Proof.Block
public import Idealize.ShloMosaic.Lib.ValueIdxCore

@[expose] public section

noncomputable section

namespace Cert.Proof.Gather

open Cert.KernelIdeal Cert.KernelIdeal.Gen
open Idealize.ShloMosaic

variable {F : FTy → Type} [FloatOps F]

/-- An index of the results, of one block of them, of the token types and of one block of those. -/
def allIx (b : Fin 1024) (s : Fin 256) (j : Fin 128) : S1024x256x128.Idx := ValueIdx.ix3 b s j
def allIx2 (b : Fin 1024) (s : Fin 256) : S1024x256.Idx := ValueIdx.ix2 b s
def blkIx (b : Fin 8) (s : Fin 256) (j : Fin 128) : S8x256x128.Idx := ValueIdx.ix3 b s j

/-- Sequence `b` of block `k`. -/
def seqOf (k : Fin 128) (b : Fin 8) : Fin 1024 := ⟨8 * k.val + b.val, by omega⟩

/-- Where an index of block `k` lies in the whole. -/
def inAll (k : Fin 128) (y : S8x256x128.Idx) : S1024x256x128.Idx := allIx (seqOf k (y 0)) (y 1) (y 2)
def inAll2 (k : Fin 128) (y : S8x256.Idx) : S1024x256.Idx := allIx2 (seqOf k (y 0)) (y 1)

/-- The block of an index, -/
def blockOf (b : Fin 1024) : Fin 128 := ⟨b.val / 8, by omega⟩
/-- and its place there. -/
def placeOf (b : Fin 1024) : Fin 8 := ⟨b.val % 8, by omega⟩

theorem blockOf_seqOf (k : Fin 128) (b : Fin 8) : blockOf (seqOf k b) = k := Fin.ext (by show (8 * k.val + b.val) / 8 = k.val; omega)
theorem placeOf_seqOf (k : Fin 128) (b : Fin 8) : placeOf (seqOf k b) = b := Fin.ext (by show (8 * k.val + b.val) % 8 = b.val; omega)
theorem seqOf_blockOf (b : Fin 1024) : seqOf (blockOf b) (placeOf b) = b := Fin.ext (by show 8 * (b.val / 8) + b.val % 8 = b.val; omega)

/-- The layer normalisation of all sequences. -/
def lnAll (g : S1024x256x128.Idx → Elt F .f32) (tt : S1024x256.Idx → Elt F .i32) (pos : S256x128.Idx → Elt F .f32) (te : S2x128.Idx → Elt F .f32)
    (gam bet : S1x128.Idx → Elt F .f32) : S1024x256x128.Idx → Elt F .f32 :=
  fun i => lnBlk (fun y => g (inAll (blockOf (i 0)) y)) (fun y => tt (inAll2 (blockOf (i 0)) y)) pos te gam bet (blkIx (placeOf (i 0)) (i 1) (i 2))

theorem lnAll_at (g : S1024x256x128.Idx → Elt F .f32) (tt : S1024x256.Idx → Elt F .i32) (pos : S256x128.Idx → Elt F .f32) (te : S2x128.Idx → Elt F .f32)
    (gam bet : S1x128.Idx → Elt F .f32) (b : Fin 1024) (s : Fin 256) (j : Fin 128) :
    lnAll g tt pos te gam bet (allIx b s j)
      = lnBlk (fun y => g (inAll (blockOf b) y)) (fun y => tt (inAll2 (blockOf b) y)) pos te gam bet (blkIx (placeOf b) s j) := rfl

theorem lnAll_seq (k : Fin 128) (g : S1024x256x128.Idx → Elt F .f32) (tt : S1024x256.Idx → Elt F .i32) (pos : S256x128.Idx → Elt F .f32)
    (te : S2x128.Idx → Elt F .f32) (gam bet : S1x128.Idx → Elt F .f32) (b : Fin 8) (s : Fin 256) (j : Fin 128) :
    lnAll g tt pos te gam bet (allIx (seqOf k b) s j) = lnBlk (fun y => g (inAll k y)) (fun y => tt (inAll2 k y)) pos te gam bet (blkIx b s j) := by
  rw [lnAll_at, blockOf_seqOf, placeOf_seqOf]

/-- What the body stores of block `k` is the whole's block `k`. -/
theorem lnBlk_eq (k : Fin 128) (g : S1024x256x128.Idx → Elt F .f32) (tt : S1024x256.Idx → Elt F .i32) (pos : S256x128.Idx → Elt F .f32)
    (te : S2x128.Idx → Elt F .f32) (gam bet : S1x128.Idx → Elt F .f32) (g' : S8x256x128.Idx → Elt F .f32) (tt' : S8x256.Idx → Elt F .i32)
    (hg : ∀ y, g' y = g (inAll k y)) (ht : ∀ y, tt' y = tt (inAll2 k y)) (y : S8x256x128.Idx) :
    lnBlk g' tt' pos te gam bet y = lnAll g tt pos te gam bet (inAll k y) := by
  rw [show g' = fun y => g (inAll k y) from funext hg, show tt' = fun y => tt (inAll2 k y) from funext ht]
  exact (congrArg _ (ValueIdx.eq_ix3 y)).trans (lnAll_seq k g tt pos te gam bet (y 0) (y 1) (y 2)).symm

end Cert.Proof.Gather

end
-- ==== Proof.Regions.lean ====
/-
  The eight TensorCore regions of @main.

  Region `q` reads chunk `q`'s gathered rows and token types, the position table, the type table, the scale
  and the offset, and writes blocks `16 q … 16 q + 15` of the results: those of the sequences from `128 q` on.
  When the buffers it reads are the chunk's part of `g` and of `tt` and the tables, what it writes is the
  chunk's part of `lnAll`, and the rest of the results' array stays as it was.
-/
module

public import proofs.«01_k».proof.Proof.Region
public import proofs.«01_k».proof.Proof.Assembled
public import proofs.«01_k».proof.Proof.Gen.KernelIdeal.Points
public import Idealize.ShloMosaic.Lib.Pipeline.ValueKit
public import Idealize.ShloMosaic.Lib.Pipeline.FrameBody

@[expose] public section

noncomputable section

namespace Cert.Proof.Gather

open Cert.KernelIdeal Cert.KernelIdeal.Gen
open Idealize.ShloMosaic Idealize.ShloMosaic.Tactic Idealize.ShloMosaic.TcCoe
open Idealize.ShloMosaic.Pipeline (Dat BodyObligation RegionSeg PLaunchFacts arrRefs arrRef ucRefs scopedRest cellsGhost toksInit afterRegion)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (O : CellTallies nD τ sig Ix) (b : ℕ) (V : Dev nD → Valuation τ sig (Elt F)) (G : Dev nD → S1024x256x128.Idx → Elt F .f32)

/-- The rows of chunk `k`, and its token types, in all of them. -/
def chunkIx (k : Fin 8) (x : S128x256x128.Idx) : S1024x256x128.Idx := allIx ⟨128 * k.val + (x 0).val, by have := (x 0).isLt; have : (x 0).val < 128 := this; omega⟩ (x 1) (x 2)
def chunkIx2 (k : Fin 8) (x : S128x256.Idx) : S1024x256.Idx := allIx2 ⟨128 * k.val + (x 0).val, by have := (x 0).isLt; have : (x 0).val < 128 := this; omega⟩ (x 1)

/-- Block `t` of chunk `k`. -/
def blkNo (k : Fin 8) (t : Fin 16) : Fin 128 := ⟨16 * k.val + t.val, by omega⟩

/-- A buffer of the device at a valuation. -/
abbrev at_ (V : Dev nD → Valuation τ sig (Elt F)) (d : Dev nD) (r : Ref sig .tc) : Buf (Elt F) ((SparseCore.T (τ := τ) d).loc r) := V d (Proc.devRef .tc r)

/-! ## Region 0 -/

def dat0 (d : Dev nD) : Dat τ (Elt F) Ix ℕ UU ℕ cfg1 d where
  A w := V d (Proc.devRef .tc (arrRef spec1 w))
  after w t := match w with
    | ⟨0, _⟩ => (win1_0.blk t).view.read (Elt F) (at_ V d main_v7)
    | ⟨1, _⟩ => (win1_1.blk t).view.read (Elt F) (at_ V d main_v4)
    | ⟨2, _⟩ => (win1_2.blk t).view.read (Elt F) (at_ V d main_arg3)
    | ⟨3, _⟩ => (win1_3.blk t).view.read (Elt F) (at_ V d main_arg4)
    | ⟨4, _⟩ => (win1_4.blk t).view.read (Elt F) (at_ V d main_v1)
    | ⟨5, _⟩ => (win1_5.blk t).view.read (Elt F) (at_ V d main_v2)
    | ⟨6, _⟩ => fun y => G d ((win1_6.blk t).view.emb y)
  Φ _ := scopedRest (Pipeline.pin (pcfgs (F := F)) adm 0).spec d
  q _ := fullShare
  owed _ := O
  recorded _ := below (F := F) d b

theorem before0_0 (d : Dev nD) (t : Fin cfg1.N) (x : (cfg1.win 0).block.Idx → Elt F (cfg1.win 0).elt) :
    (dat0 O b V G d).before 0 t x = (dat0 O b V G d).after 0 t :=
  ((dat0 O b V G d).before_in_eq_fetched 0 rfl (fun _ => rfl) (fun _ _ _ => rfl) (fun _ => rfl) t x).trans rfl

theorem before0_1 (d : Dev nD) (t : Fin cfg1.N) (x : (cfg1.win 1).block.Idx → Elt F (cfg1.win 1).elt) :
    (dat0 O b V G d).before 1 t x = (dat0 O b V G d).after 1 t :=
  ((dat0 O b V G d).before_in_eq_fetched 1 rfl (fun _ => rfl) (fun _ _ _ => rfl) (fun _ => rfl) t x).trans rfl

theorem before0_2 (d : Dev nD) (t : Fin cfg1.N) (x : (cfg1.win 2).block.Idx → Elt F (cfg1.win 2).elt) :
    (dat0 O b V G d).before 2 t x = (dat0 O b V G d).after 2 t :=
  ((dat0 O b V G d).before_in_eq_fetched 2 rfl (fun _ => rfl) (fun _ _ _ => rfl) (fun _ => rfl) t x).trans rfl

theorem before0_3 (d : Dev nD) (t : Fin cfg1.N) (x : (cfg1.win 3).block.Idx → Elt F (cfg1.win 3).elt) :
    (dat0 O b V G d).before 3 t x = (dat0 O b V G d).after 3 t :=
  ((dat0 O b V G d).before_in_eq_fetched 3 rfl (fun _ => rfl) (fun _ _ _ => rfl) (fun _ => rfl) t x).trans rfl

theorem before0_4 (d : Dev nD) (t : Fin cfg1.N) (x : (cfg1.win 4).block.Idx → Elt F (cfg1.win 4).elt) :
    (dat0 O b V G d).before 4 t x = (dat0 O b V G d).after 4 t :=
  ((dat0 O b V G d).before_in_eq_fetched 4 rfl (fun _ => rfl) (fun _ _ _ => rfl) (fun _ => rfl) t x).trans rfl

theorem before0_5 (d : Dev nD) (t : Fin cfg1.N) (x : (cfg1.win 5).block.Idx → Elt F (cfg1.win 5).elt) :
    (dat0 O b V G d).before 5 t x = (dat0 O b V G d).after 5 t :=
  ((dat0 O b V G d).before_in_eq_fetched 5 rfl (fun _ => rfl) (fun _ _ _ => rfl) (fun _ => rfl) t x).trans rfl

/-- What the body stores at every grid point is `G`'s block there. -/
def Stores0 : Prop := ∀ (d : Dev nD) (t : Fin cfg1.N),
  lnBlk ((win1_0.blk t).view.read (Elt F) (at_ V d main_v7)) ((win1_1.blk t).view.read (Elt F) (at_ V d main_v4))
      ((win1_2.blk t).view.read (Elt F) (at_ V d main_arg3)) ((win1_3.blk t).view.read (Elt F) (at_ V d main_arg4))
      ((win1_4.blk t).view.read (Elt F) (at_ V d main_v1)) ((win1_5.blk t).view.read (Elt F) (at_ V d main_v2))
    = fun y => G d ((win1_6.blk t).view.emb y)

set_option backward.isDefEq.respectTransparency.types false in
theorem body0 (h : Stores0 V G) (d : Dev nD) : BodyObligation (dat0 O b V G d) (defs₀ (F := F)) 𝒱₀ none Set.univ := fun t => by
  rw [bigSep_W1, bigSep_W1]
  rw [show (dat0 O b V G d).Φ t.succ = (dat0 O b V G d).Φ t.castSucc from rfl,
    show (dat0 O b V G d).owesAt none t.succ = (dat0 O b V G d).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  rw [before0_0 O b V G d, before0_1 O b V G d, before0_2 O b V G d, before0_3 O b V G d, before0_4 O b V G d, before0_5 O b V G d]
  iapply (ln_run d (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2))
    (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6))
    ((win1_0.blk t).view.read (Elt F) (at_ V d main_v7)) ((win1_1.blk t).view.read (Elt F) (at_ V d main_v4))
    ((win1_2.blk t).view.read (Elt F) (at_ V d main_arg3)) ((win1_3.blk t).view.read (Elt F) (at_ V d main_arg4))
    ((win1_4.blk t).view.read (Elt F) (at_ V d main_v1)) ((win1_5.blk t).view.read (Elt F) (at_ V d main_v2)) _ _)
  rw [h d t]
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

theorem in_at0 : ∀ t : Fin 16, cc1_transform_0 (grid1.coords t) 0 = t.val := by decide +kernel
theorem tt_at0 : ∀ t : Fin 16, cc1_transform_1 (grid1.coords t) 0 = t.val := by decide +kernel
theorem out_at0 : ∀ t : Fin 16, cc1_transform_6 (grid1.coords t) 0 = 16 * 0 + t.val := by decide +kernel

/-- Block `t` of the results' window lies at block `16 * 0 + t` of the results. -/
theorem emb0 (t : Fin 16) (y : S8x256x128.Idx) : (win1_6.blk t).view.emb y = inAll (blkNo 0 t) y := by
  have hx := out_at0 t
  funext a
  match a with
  | ⟨0, _⟩ => refine Fin.ext ?_; show cc1_transform_6 (grid1.coords t) 0 * 8 + 1 * (y 0).val = 8 * (16 * 0 + t.val) + (y 0).val; omega
  | ⟨1, _⟩ => refine Fin.ext ?_; show 0 * 256 + 1 * (y 1).val = (y 1).val; omega
  | ⟨2, _⟩ => refine Fin.ext ?_; show 0 * 128 + 1 * (y 2).val = (y 2).val; omega

theorem embIn0 (t : Fin 16) (y : S8x256x128.Idx) : chunkIx 0 ((win1_0.blk t).view.emb y) = inAll (blkNo 0 t) y := by
  have hx := in_at0 t
  funext a
  match a with
  | ⟨0, _⟩ => refine Fin.ext ?_; show 128 * 0 + (cc1_transform_0 (grid1.coords t) 0 * 8 + 1 * (y 0).val) = 8 * (16 * 0 + t.val) + (y 0).val; omega
  | ⟨1, _⟩ => refine Fin.ext ?_; show 0 * 256 + 1 * (y 1).val = (y 1).val; omega
  | ⟨2, _⟩ => refine Fin.ext ?_; show 0 * 128 + 1 * (y 2).val = (y 2).val; omega

theorem embTt0 (t : Fin 16) (y : S8x256.Idx) : chunkIx2 0 ((win1_1.blk t).view.emb y) = inAll2 (blkNo 0 t) y := by
  have hx := tt_at0 t
  funext a
  match a with
  | ⟨0, _⟩ => refine Fin.ext ?_; show 128 * 0 + (cc1_transform_1 (grid1.coords t) 0 * 8 + 1 * (y 0).val) = 8 * (16 * 0 + t.val) + (y 0).val; omega
  | ⟨1, _⟩ => refine Fin.ext ?_; show 0 * 256 + 1 * (y 1).val = (y 1).val; omega

theorem embPos0 (t : Fin 16) (y : S256x128.Idx) : (win1_2.blk t).view.emb y = y := by
  funext a
  match a with
  | ⟨0, _⟩ => refine Fin.ext ?_; show 0 * 256 + 1 * (y 0).val = (y 0).val; omega
  | ⟨1, _⟩ => refine Fin.ext ?_; show 0 * 128 + 1 * (y 1).val = (y 1).val; omega

theorem embTe0 (t : Fin 16) (y : S2x128.Idx) : (win1_3.blk t).view.emb y = y := by
  funext a
  match a with
  | ⟨0, _⟩ => refine Fin.ext ?_; show 0 * 2 + 1 * (y 0).val = (y 0).val; omega
  | ⟨1, _⟩ => refine Fin.ext ?_; show 0 * 128 + 1 * (y 1).val = (y 1).val; omega

theorem embGam0 (t : Fin 16) (y : S1x128.Idx) : (win1_4.blk t).view.emb y = y := by
  funext a
  match a with
  | ⟨0, _⟩ => refine Fin.ext ?_; show 0 * 1 + 1 * (y 0).val = (y 0).val; omega
  | ⟨1, _⟩ => refine Fin.ext ?_; show 0 * 128 + 1 * (y 1).val = (y 1).val; omega

theorem embBet0 (t : Fin 16) (y : S1x128.Idx) : (win1_5.blk t).view.emb y = y := by
  funext a
  match a with
  | ⟨0, _⟩ => refine Fin.ext ?_; show 0 * 1 + 1 * (y 0).val = (y 0).val; omega
  | ⟨1, _⟩ => refine Fin.ext ?_; show 0 * 128 + 1 * (y 1).val = (y 1).val; omega

/-- A region whose buffers hold the chunk's rows and token types, and the tables, stores its part of `lnAll`. -/
theorem stores0 (g : Dev nD → S1024x256x128.Idx → Elt F .f32) (tt : Dev nD → S1024x256.Idx → Elt F .i32) (pos : Dev nD → S256x128.Idx → Elt F .f32)
    (te : Dev nD → S2x128.Idx → Elt F .f32) (gam bet : Dev nD → S1x128.Idx → Elt F .f32)
    (hg : ∀ d (x : S128x256x128.Idx), (at_ V d main_v7 : S128x256x128.Idx → Elt F .f32) x = g d (chunkIx 0 x))
    (ht : ∀ d (x : S128x256.Idx), (at_ V d main_v4 : S128x256.Idx → Elt F .i32) x = tt d (chunkIx2 0 x))
    (hp : ∀ d, at_ V d main_arg3 = pos d) (he : ∀ d, at_ V d main_arg4 = te d) (hm : ∀ d, at_ V d main_v1 = gam d) (hb : ∀ d, at_ V d main_v2 = bet d) :
    Stores0 V fun d => lnAll (g d) (tt d) (pos d) (te d) (gam d) (bet d) := by
  intro d t
  funext y
  rw [show (win1_2.blk t).view.read (Elt F) (at_ V d main_arg3) = pos d from funext fun y => (congrArg (at_ V d main_arg3) (embPos0 t y)).trans (congrFun (hp d) y),
    show (win1_3.blk t).view.read (Elt F) (at_ V d main_arg4) = te d from funext fun y => (congrArg (at_ V d main_arg4) (embTe0 t y)).trans (congrFun (he d) y),
    show (win1_4.blk t).view.read (Elt F) (at_ V d main_v1) = gam d from funext fun y => (congrArg (at_ V d main_v1) (embGam0 t y)).trans (congrFun (hm d) y),
    show (win1_5.blk t).view.read (Elt F) (at_ V d main_v2) = bet d from funext fun y => (congrArg (at_ V d main_v2) (embBet0 t y)).trans (congrFun (hb d) y)]
  refine (lnBlk_eq (blkNo 0 t) (g d) (tt d) (pos d) (te d) (gam d) (bet d) _ _
    (fun y => (hg d _).trans (congrArg (g d) (embIn0 t y))) (fun y => (ht d _).trans (congrArg (tt d) (embTt0 t y))) y).trans ?_
  exact congrArg (lnAll (g d) (tt d) (pos d) (te d) (gam d) (bet d)) (emb0 t y).symm

/-- The results' array after the region: `G` at the chunk's sequences, as it was at the others. -/
theorem out0 (d : Dev nD) (i : S1024x256x128.Idx) :
    ((dat0 O b V G d).arrAt 6 cfg1.N : S1024x256x128.Idx → Elt F .f32) i
      = if 16 * 0 ≤ (i 0).val / 8 ∧ (i 0).val / 8 < 16 * 0 + 16 then G d i else (at_ V d main_v8 : S1024x256x128.Idx → Elt F .f32) i :=
  (dat0 O b V G d).arrAt_apply_of_coversWhere 6 (G d) (P := fun i : S1024x256x128.Idx => 16 * 0 ≤ (i 0).val / 8 ∧ (i 0).val / 8 < 16 * 0 + 16)
    (fun β => 16 * 0 ≤ β 0 ∧ β 0 < 16 * 0 + 16) (by decide +kernel) (fun t hf y => rfl) (fun j => Iff.rfl) i (Memref.isWhole_whole _)

/-! ## Region 1 -/

def dat1 (d : Dev nD) : Dat τ (Elt F) Ix ℕ UU ℕ cfg3 d where
  A w := V d (Proc.devRef .tc (arrRef spec3 w))
  after w t := match w with
    | ⟨0, _⟩ => (win3_0.blk t).view.read (Elt F) (at_ V d main_v13)
    | ⟨1, _⟩ => (win3_1.blk t).view.read (Elt F) (at_ V d main_v10)
    | ⟨2, _⟩ => (win3_2.blk t).view.read (Elt F) (at_ V d main_arg3)
    | ⟨3, _⟩ => (win3_3.blk t).view.read (Elt F) (at_ V d main_arg4)
    | ⟨4, _⟩ => (win3_4.blk t).view.read (Elt F) (at_ V d main_v1)
    | ⟨5, _⟩ => (win3_5.blk t).view.read (Elt F) (at_ V d main_v2)
    | ⟨6, _⟩ => fun y => G d ((win3_6.blk t).view.emb y)
  Φ _ := scopedRest (Pipeline.pin (pcfgs (F := F)) adm 1).spec d
  q _ := fullShare
  owed _ := O
  recorded _ := below (F := F) d b

theorem before1_0 (d : Dev nD) (t : Fin cfg3.N) (x : (cfg3.win 0).block.Idx → Elt F (cfg3.win 0).elt) :
    (dat1 O b V G d).before 0 t x = (dat1 O b V G d).after 0 t :=
  ((dat1 O b V G d).before_in_eq_fetched 0 rfl (fun _ => rfl) (fun _ _ _ => rfl) (fun _ => rfl) t x).trans rfl

theorem before1_1 (d : Dev nD) (t : Fin cfg3.N) (x : (cfg3.win 1).block.Idx → Elt F (cfg3.win 1).elt) :
    (dat1 O b V G d).before 1 t x = (dat1 O b V G d).after 1 t :=
  ((dat1 O b V G d).before_in_eq_fetched 1 rfl (fun _ => rfl) (fun _ _ _ => rfl) (fun _ => rfl) t x).trans rfl

theorem before1_2 (d : Dev nD) (t : Fin cfg3.N) (x : (cfg3.win 2).block.Idx → Elt F (cfg3.win 2).elt) :
    (dat1 O b V G d).before 2 t x = (dat1 O b V G d).after 2 t :=
  ((dat1 O b V G d).before_in_eq_fetched 2 rfl (fun _ => rfl) (fun _ _ _ => rfl) (fun _ => rfl) t x).trans rfl

theorem before1_3 (d : Dev nD) (t : Fin cfg3.N) (x : (cfg3.win 3).block.Idx → Elt F (cfg3.win 3).elt) :
    (dat1 O b V G d).before 3 t x = (dat1 O b V G d).after 3 t :=
  ((dat1 O b V G d).before_in_eq_fetched 3 rfl (fun _ => rfl) (fun _ _ _ => rfl) (fun _ => rfl) t x).trans rfl

theorem before1_4 (d : Dev nD) (t : Fin cfg3.N) (x : (cfg3.win 4).block.Idx → Elt F (cfg3.win 4).elt) :
    (dat1 O b V G d).before 4 t x = (dat1 O b V G d).after 4 t :=
  ((dat1 O b V G d).before_in_eq_fetched 4 rfl (fun _ => rfl) (fun _ _ _ => rfl) (fun _ => rfl) t x).trans rfl

theorem before1_5 (d : Dev nD) (t : Fin cfg3.N) (x : (cfg3.win 5).block.Idx → Elt F (cfg3.win 5).elt) :
    (dat1 O b V G d).before 5 t x = (dat1 O b V G d).after 5 t :=
  ((dat1 O b V G d).before_in_eq_fetched 5 rfl (fun _ => rfl) (fun _ _ _ => rfl) (fun _ => rfl) t x).trans rfl

/-- What the body stores at every grid point is `G`'s block there. -/
def Stores1 : Prop := ∀ (d : Dev nD) (t : Fin cfg3.N),
  lnBlk ((win3_0.blk t).view.read (Elt F) (at_ V d main_v13)) ((win3_1.blk t).view.read (Elt F) (at_ V d main_v10))
      ((win3_2.blk t).view.read (Elt F) (at_ V d main_arg3)) ((win3_3.blk t).view.read (Elt F) (at_ V d main_arg4))
      ((win3_4.blk t).view.read (Elt F) (at_ V d main_v1)) ((win3_5.blk t).view.read (Elt F) (at_ V d main_v2))
    = fun y => G d ((win3_6.blk t).view.emb y)

set_option backward.isDefEq.respectTransparency.types false in
theorem body1 (h : Stores1 V G) (d : Dev nD) : BodyObligation (dat1 O b V G d) (defs₀ (F := F)) 𝒱₀ none Set.univ := fun t => by
  rw [bigSep_W3, bigSep_W3]
  rw [show (dat1 O b V G d).Φ t.succ = (dat1 O b V G d).Φ t.castSucc from rfl,
    show (dat1 O b V G d).owesAt none t.succ = (dat1 O b V G d).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  rw [before1_0 O b V G d, before1_1 O b V G d, before1_2 O b V G d, before1_3 O b V G d, before1_4 O b V G d, before1_5 O b V G d]
  iapply (ln_run d (grid3.coords t) (st3_0 t) (hstage3_0 ((cfg3.slots t 0).cast nbuf3_0)) (st3_1 t) (hstage3_1 ((cfg3.slots t 1).cast nbuf3_1)) (st3_2 t) (hstage3_2 ((cfg3.slots t 2).cast nbuf3_2))
    (st3_3 t) (hstage3_3 ((cfg3.slots t 3).cast nbuf3_3)) (st3_4 t) (hstage3_4 ((cfg3.slots t 4).cast nbuf3_4)) (st3_5 t) (hstage3_5 ((cfg3.slots t 5).cast nbuf3_5)) (st3_6 t) (hstage3_6 ((cfg3.slots t 6).cast nbuf3_6))
    ((win3_0.blk t).view.read (Elt F) (at_ V d main_v13)) ((win3_1.blk t).view.read (Elt F) (at_ V d main_v10))
    ((win3_2.blk t).view.read (Elt F) (at_ V d main_arg3)) ((win3_3.blk t).view.read (Elt F) (at_ V d main_arg4))
    ((win3_4.blk t).view.read (Elt F) (at_ V d main_v1)) ((win3_5.blk t).view.read (Elt F) (at_ V d main_v2)) _ _)
  rw [h d t]
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

theorem in_at1 : ∀ t : Fin 16, cc3_transform_1 (grid3.coords t) 0 = t.val := by decide +kernel
theorem tt_at1 : ∀ t : Fin 16, cc3_transform_2 (grid3.coords t) 0 = t.val := by decide +kernel
theorem out_at1 : ∀ t : Fin 16, cc3_transform_7 (grid3.coords t) 0 = 16 * 1 + t.val := by decide +kernel

/-- Block `t` of the results' window lies at block `16 * 1 + t` of the results. -/
theorem emb1 (t : Fin 16) (y : S8x256x128.Idx) : (win3_6.blk t).view.emb y = inAll (blkNo 1 t) y := by
  have hx := out_at1 t
  funext a
  match a with
  | ⟨0, _⟩ => refine Fin.ext ?_; show cc3_transform_7 (grid3.coords t) 0 * 8 + 1 * (y 0).val = 8 * (16 * 1 + t.val) + (y 0).val; omega
  | ⟨1, _⟩ => refine Fin.ext ?_; show 0 * 256 + 1 * (y 1).val = (y 1).val; omega
  | ⟨2, _⟩ => refine Fin.ext ?_; show 0 * 128 + 1 * (y 2).val = (y 2).val; omega

theorem embIn1 (t : Fin 16) (y : S8x256x128.Idx) : chunkIx 1 ((win3_0.blk t).view.emb y) = inAll (blkNo 1 t) y := by
  have hx := in_at1 t
  funext a
  match a with
  | ⟨0, _⟩ => refine Fin.ext ?_; show 128 * 1 + (cc3_transform_1 (grid3.coords t) 0 * 8 + 1 * (y 0).val) = 8 * (16 * 1 + t.val) + (y 0).val; omega
  | ⟨1, _⟩ => refine Fin.ext ?_; show 0 * 256 + 1 * (y 1).val = (y 1).val; omega
  | ⟨2, _⟩ => refine Fin.ext ?_; show 0 * 128 + 1 * (y 2).val = (y 2).val; omega

theorem embTt1 (t : Fin 16) (y : S8x256.Idx) : chunkIx2 1 ((win3_1.blk t).view.emb y) = inAll2 (blkNo 1 t) y := by
  have hx := tt_at1 t
  funext a
  match a with
  | ⟨0, _⟩ => refine Fin.ext ?_; show 128 * 1 + (cc3_transform_2 (grid3.coords t) 0 * 8 + 1 * (y 0).val) = 8 * (16 * 1 + t.val) + (y 0).val; omega
  | ⟨1, _⟩ => refine Fin.ext ?_; show 0 * 256 + 1 * (y 1).val = (y 1).val; omega

theorem embPos1 (t : Fin 16) (y : S256x128.Idx) : (win3_2.blk t).view.emb y = y := by
  funext a
  match a with
  | ⟨0, _⟩ => refine Fin.ext ?_; show 0 * 256 + 1 * (y 0).val = (y 0).val; omega
  | ⟨1, _⟩ => refine Fin.ext ?_; show 0 * 128 + 1 * (y 1).val = (y 1).val; omega

theorem embTe1 (t : Fin 16) (y : S2x128.Idx) : (win3_3.blk t).view.emb y = y := by
  funext a
  match a with
  | ⟨0, _⟩ => refine Fin.ext ?_; show 0 * 2 + 1 * (y 0).val = (y 0).val; omega
  | ⟨1, _⟩ => refine Fin.ext ?_; show 0 * 128 + 1 * (y 1).val = (y 1).val; omega

theorem embGam1 (t : Fin 16) (y : S1x128.Idx) : (win3_4.blk t).view.emb y = y := by
  funext a
  match a with
  | ⟨0, _⟩ => refine Fin.ext ?_; show 0 * 1 + 1 * (y 0).val = (y 0).val; omega
  | ⟨1, _⟩ => refine Fin.ext ?_; show 0 * 128 + 1 * (y 1).val = (y 1).val; omega

theorem embBet1 (t : Fin 16) (y : S1x128.Idx) : (win3_5.blk t).view.emb y = y := by
  funext a
  match a with
  | ⟨0, _⟩ => refine Fin.ext ?_; show 0 * 1 + 1 * (y 0).val = (y 0).val; omega
  | ⟨1, _⟩ => refine Fin.ext ?_; show 0 * 128 + 1 * (y 1).val = (y 1).val; omega

/-- A region whose buffers hold the chunk's rows and token types, and the tables, stores its part of `lnAll`. -/
theorem stores1 (g : Dev nD → S1024x256x128.Idx → Elt F .f32) (tt : Dev nD → S1024x256.Idx → Elt F .i32) (pos : Dev nD → S256x128.Idx → Elt F .f32)
    (te : Dev nD → S2x128.Idx → Elt F .f32) (gam bet : Dev nD → S1x128.Idx → Elt F .f32)
    (hg : ∀ d (x : S128x256x128.Idx), (at_ V d main_v13 : S128x256x128.Idx → Elt F .f32) x = g d (chunkIx 1 x))
    (ht : ∀ d (x : S128x256.Idx), (at_ V d main_v10 : S128x256.Idx → Elt F .i32) x = tt d (chunkIx2 1 x))
    (hp : ∀ d, at_ V d main_arg3 = pos d) (he : ∀ d, at_ V d main_arg4 = te d) (hm : ∀ d, at_ V d main_v1 = gam d) (hb : ∀ d, at_ V d main_v2 = bet d) :
    Stores1 V fun d => lnAll (g d) (tt d) (pos d) (te d) (gam d) (bet d) := by
  intro d t
  funext y
  rw [show (win3_2.blk t).view.read (Elt F) (at_ V d main_arg3) = pos d from funext fun y => (congrArg (at_ V d main_arg3) (embPos1 t y)).trans (congrFun (hp d) y),
    show (win3_3.blk t).view.read (Elt F) (at_ V d main_arg4) = te d from funext fun y => (congrArg (at_ V d main_arg4) (embTe1 t y)).trans (congrFun (he d) y),
    show (win3_4.blk t).view.read (Elt F) (at_ V d main_v1) = gam d from funext fun y => (congrArg (at_ V d main_v1) (embGam1 t y)).trans (congrFun (hm d) y),
    show (win3_5.blk t).view.read (Elt F) (at_ V d main_v2) = bet d from funext fun y => (congrArg (at_ V d main_v2) (embBet1 t y)).trans (congrFun (hb d) y)]
  refine (lnBlk_eq (blkNo 1 t) (g d) (tt d) (pos d) (te d) (gam d) (bet d) _ _
    (fun y => (hg d _).trans (congrArg (g d) (embIn1 t y))) (fun y => (ht d _).trans (congrArg (tt d) (embTt1 t y))) y).trans ?_
  exact congrArg (lnAll (g d) (tt d) (pos d) (te d) (gam d) (bet d)) (emb1 t y).symm

/-- The results' array after the region: `G` at the chunk's sequences, as it was at the others. -/
theorem out1 (d : Dev nD) (i : S1024x256x128.Idx) :
    ((dat1 O b V G d).arrAt 6 cfg3.N : S1024x256x128.Idx → Elt F .f32) i
      = if 16 * 1 ≤ (i 0).val / 8 ∧ (i 0).val / 8 < 16 * 1 + 16 then G d i else (at_ V d main_v14 : S1024x256x128.Idx → Elt F .f32) i :=
  (dat1 O b V G d).arrAt_apply_of_coversWhere 6 (G d) (P := fun i : S1024x256x128.Idx => 16 * 1 ≤ (i 0).val / 8 ∧ (i 0).val / 8 < 16 * 1 + 16)
    (fun β => 16 * 1 ≤ β 0 ∧ β 0 < 16 * 1 + 16) (by decide +kernel) (fun t hf y => rfl) (fun j => Iff.rfl) i (Memref.isWhole_whole _)

/-! ## Region 2 -/

def dat2 (d : Dev nD) : Dat τ (Elt F) Ix ℕ UU ℕ cfg5 d where
  A w := V d (Proc.devRef .tc (arrRef spec5 w))
  after w t := match w with
    | ⟨0, _⟩ => (win5_0.blk t).view.read (Elt F) (at_ V d main_v19)
    | ⟨1, _⟩ => (win5_1.blk t).view.read (Elt F) (at_ V d main_v16)
    | ⟨2, _⟩ => (win5_2.blk t).view.read (Elt F) (at_ V d main_arg3)
    | ⟨3, _⟩ => (win5_3.blk t).view.read (Elt F) (at_ V d main_arg4)
    | ⟨4, _⟩ => (win5_4.blk t).view.read (Elt F) (at_ V d main_v1)
    | ⟨5, _⟩ => (win5_5.blk t).view.read (Elt F) (at_ V d main_v2)
    | ⟨6, _⟩ => fun y => G d ((win5_6.blk t).view.emb y)
  Φ _ := scopedRest (Pipeline.pin (pcfgs (F := F)) adm 2).spec d
  q _ := fullShare
  owed _ := O
  recorded _ := below (F := F) d b

theorem before2_0 (d : Dev nD) (t : Fin cfg5.N) (x : (cfg5.win 0).block.Idx → Elt F (cfg5.win 0).elt) :
    (dat2 O b V G d).before 0 t x = (dat2 O b V G d).after 0 t :=
  ((dat2 O b V G d).before_in_eq_fetched 0 rfl (fun _ => rfl) (fun _ _ _ => rfl) (fun _ => rfl) t x).trans rfl

theorem before2_1 (d : Dev nD) (t : Fin cfg5.N) (x : (cfg5.win 1).block.Idx → Elt F (cfg5.win 1).elt) :
    (dat2 O b V G d).before 1 t x = (dat2 O b V G d).after 1 t :=
  ((dat2 O b V G d).before_in_eq_fetched 1 rfl (fun _ => rfl) (fun _ _ _ => rfl) (fun _ => rfl) t x).trans rfl

theorem before2_2 (d : Dev nD) (t : Fin cfg5.N) (x : (cfg5.win 2).block.Idx → Elt F (cfg5.win 2).elt) :
    (dat2 O b V G d).before 2 t x = (dat2 O b V G d).after 2 t :=
  ((dat2 O b V G d).before_in_eq_fetched 2 rfl (fun _ => rfl) (fun _ _ _ => rfl) (fun _ => rfl) t x).trans rfl

theorem before2_3 (d : Dev nD) (t : Fin cfg5.N) (x : (cfg5.win 3).block.Idx → Elt F (cfg5.win 3).elt) :
    (dat2 O b V G d).before 3 t x = (dat2 O b V G d).after 3 t :=
  ((dat2 O b V G d).before_in_eq_fetched 3 rfl (fun _ => rfl) (fun _ _ _ => rfl) (fun _ => rfl) t x).trans rfl

theorem before2_4 (d : Dev nD) (t : Fin cfg5.N) (x : (cfg5.win 4).block.Idx → Elt F (cfg5.win 4).elt) :
    (dat2 O b V G d).before 4 t x = (dat2 O b V G d).after 4 t :=
  ((dat2 O b V G d).before_in_eq_fetched 4 rfl (fun _ => rfl) (fun _ _ _ => rfl) (fun _ => rfl) t x).trans rfl

theorem before2_5 (d : Dev nD) (t : Fin cfg5.N) (x : (cfg5.win 5).block.Idx → Elt F (cfg5.win 5).elt) :
    (dat2 O b V G d).before 5 t x = (dat2 O b V G d).after 5 t :=
  ((dat2 O b V G d).before_in_eq_fetched 5 rfl (fun _ => rfl) (fun _ _ _ => rfl) (fun _ => rfl) t x).trans rfl

/-- What the body stores at every grid point is `G`'s block there. -/
def Stores2 : Prop := ∀ (d : Dev nD) (t : Fin cfg5.N),
  lnBlk ((win5_0.blk t).view.read (Elt F) (at_ V d main_v19)) ((win5_1.blk t).view.read (Elt F) (at_ V d main_v16))
      ((win5_2.blk t).view.read (Elt F) (at_ V d main_arg3)) ((win5_3.blk t).view.read (Elt F) (at_ V d main_arg4))
      ((win5_4.blk t).view.read (Elt F) (at_ V d main_v1)) ((win5_5.blk t).view.read (Elt F) (at_ V d main_v2))
    = fun y => G d ((win5_6.blk t).view.emb y)

set_option backward.isDefEq.respectTransparency.types false in
theorem body2 (h : Stores2 V G) (d : Dev nD) : BodyObligation (dat2 O b V G d) (defs₀ (F := F)) 𝒱₀ none Set.univ := fun t => by
  rw [bigSep_W5, bigSep_W5]
  rw [show (dat2 O b V G d).Φ t.succ = (dat2 O b V G d).Φ t.castSucc from rfl,
    show (dat2 O b V G d).owesAt none t.succ = (dat2 O b V G d).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  rw [before2_0 O b V G d, before2_1 O b V G d, before2_2 O b V G d, before2_3 O b V G d, before2_4 O b V G d, before2_5 O b V G d]
  iapply (ln_run d (grid5.coords t) (st5_0 t) (hstage5_0 ((cfg5.slots t 0).cast nbuf5_0)) (st5_1 t) (hstage5_1 ((cfg5.slots t 1).cast nbuf5_1)) (st5_2 t) (hstage5_2 ((cfg5.slots t 2).cast nbuf5_2))
    (st5_3 t) (hstage5_3 ((cfg5.slots t 3).cast nbuf5_3)) (st5_4 t) (hstage5_4 ((cfg5.slots t 4).cast nbuf5_4)) (st5_5 t) (hstage5_5 ((cfg5.slots t 5).cast nbuf5_5)) (st5_6 t) (hstage5_6 ((cfg5.slots t 6).cast nbuf5_6))
    ((win5_0.blk t).view.read (Elt F) (at_ V d main_v19)) ((win5_1.blk t).view.read (Elt F) (at_ V d main_v16))
    ((win5_2.blk t).view.read (Elt F) (at_ V d main_arg3)) ((win5_3.blk t).view.read (Elt F) (at_ V d main_arg4))
    ((win5_4.blk t).view.read (Elt F) (at_ V d main_v1)) ((win5_5.blk t).view.read (Elt F) (at_ V d main_v2)) _ _)
  rw [h d t]
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

theorem in_at2 : ∀ t : Fin 16, cc5_transform_1 (grid5.coords t) 0 = t.val := by decide +kernel
theorem tt_at2 : ∀ t : Fin 16, cc5_transform_2 (grid5.coords t) 0 = t.val := by decide +kernel
theorem out_at2 : ∀ t : Fin 16, cc5_transform_7 (grid5.coords t) 0 = 16 * 2 + t.val := by decide +kernel

/-- Block `t` of the results' window lies at block `16 * 2 + t` of the results. -/
theorem emb2 (t : Fin 16) (y : S8x256x128.Idx) : (win5_6.blk t).view.emb y = inAll (blkNo 2 t) y := by
  have hx := out_at2 t
  funext a
  match a with
  | ⟨0, _⟩ => refine Fin.ext ?_; show cc5_transform_7 (grid5.coords t) 0 * 8 + 1 * (y 0).val = 8 * (16 * 2 + t.val) + (y 0).val; omega
  | ⟨1, _⟩ => refine Fin.ext ?_; show 0 * 256 + 1 * (y 1).val = (y 1).val; omega
  | ⟨2, _⟩ => refine Fin.ext ?_; show 0 * 128 + 1 * (y 2).val = (y 2).val; omega

theorem embIn2 (t : Fin 16) (y : S8x256x128.Idx) : chunkIx 2 ((win5_0.blk t).view.emb y) = inAll (blkNo 2 t) y := by
  have hx := in_at2 t
  funext a
  match a with
  | ⟨0, _⟩ => refine Fin.ext ?_; show 128 * 2 + (cc5_transform_1 (grid5.coords t) 0 * 8 + 1 * (y 0).val) = 8 * (16 * 2 + t.val) + (y 0).val; omega
  | ⟨1, _⟩ => refine Fin.ext ?_; show 0 * 256 + 1 * (y 1).val = (y 1).val; omega
  | ⟨2, _⟩ => refine Fin.ext ?_; show 0 * 128 + 1 * (y 2).val = (y 2).val; omega

theorem embTt2 (t : Fin 16) (y : S8x256.Idx) : chunkIx2 2 ((win5_1.blk t).view.emb y) = inAll2 (blkNo 2 t) y := by
  have hx := tt_at2 t
  funext a
  match a with
  | ⟨0, _⟩ => refine Fin.ext ?_; show 128 * 2 + (cc5_transform_2 (grid5.coords t) 0 * 8 + 1 * (y 0).val) = 8 * (16 * 2 + t.val) + (y 0).val; omega
  | ⟨1, _⟩ => refine Fin.ext ?_; show 0 * 256 + 1 * (y 1).val = (y 1).val; omega

theorem embPos2 (t : Fin 16) (y : S256x128.Idx) : (win5_2.blk t).view.emb y = y := by
  funext a
  match a with
  | ⟨0, _⟩ => refine Fin.ext ?_; show 0 * 256 + 1 * (y 0).val = (y 0).val; omega
  | ⟨1, _⟩ => refine Fin.ext ?_; show 0 * 128 + 1 * (y 1).val = (y 1).val; omega

theorem embTe2 (t : Fin 16) (y : S2x128.Idx) : (win5_3.blk t).view.emb y = y := by
  funext a
  match a with
  | ⟨0, _⟩ => refine Fin.ext ?_; show 0 * 2 + 1 * (y 0).val = (y 0).val; omega
  | ⟨1, _⟩ => refine Fin.ext ?_; show 0 * 128 + 1 * (y 1).val = (y 1).val; omega

theorem embGam2 (t : Fin 16) (y : S1x128.Idx) : (win5_4.blk t).view.emb y = y := by
  funext a
  match a with
  | ⟨0, _⟩ => refine Fin.ext ?_; show 0 * 1 + 1 * (y 0).val = (y 0).val; omega
  | ⟨1, _⟩ => refine Fin.ext ?_; show 0 * 128 + 1 * (y 1).val = (y 1).val; omega

theorem embBet2 (t : Fin 16) (y : S1x128.Idx) : (win5_5.blk t).view.emb y = y := by
  funext a
  match a with
  | ⟨0, _⟩ => refine Fin.ext ?_; show 0 * 1 + 1 * (y 0).val = (y 0).val; omega
  | ⟨1, _⟩ => refine Fin.ext ?_; show 0 * 128 + 1 * (y 1).val = (y 1).val; omega

/-- A region whose buffers hold the chunk's rows and token types, and the tables, stores its part of `lnAll`. -/
theorem stores2 (g : Dev nD → S1024x256x128.Idx → Elt F .f32) (tt : Dev nD → S1024x256.Idx → Elt F .i32) (pos : Dev nD → S256x128.Idx → Elt F .f32)
    (te : Dev nD → S2x128.Idx → Elt F .f32) (gam bet : Dev nD → S1x128.Idx → Elt F .f32)
    (hg : ∀ d (x : S128x256x128.Idx), (at_ V d main_v19 : S128x256x128.Idx → Elt F .f32) x = g d (chunkIx 2 x))
    (ht : ∀ d (x : S128x256.Idx), (at_ V d main_v16 : S128x256.Idx → Elt F .i32) x = tt d (chunkIx2 2 x))
    (hp : ∀ d, at_ V d main_arg3 = pos d) (he : ∀ d, at_ V d main_arg4 = te d) (hm : ∀ d, at_ V d main_v1 = gam d) (hb : ∀ d, at_ V d main_v2 = bet d) :
    Stores2 V fun d => lnAll (g d) (tt d) (pos d) (te d) (gam d) (bet d) := by
  intro d t
  funext y
  rw [show (win5_2.blk t).view.read (Elt F) (at_ V d main_arg3) = pos d from funext fun y => (congrArg (at_ V d main_arg3) (embPos2 t y)).trans (congrFun (hp d) y),
    show (win5_3.blk t).view.read (Elt F) (at_ V d main_arg4) = te d from funext fun y => (congrArg (at_ V d main_arg4) (embTe2 t y)).trans (congrFun (he d) y),
    show (win5_4.blk t).view.read (Elt F) (at_ V d main_v1) = gam d from funext fun y => (congrArg (at_ V d main_v1) (embGam2 t y)).trans (congrFun (hm d) y),
    show (win5_5.blk t).view.read (Elt F) (at_ V d main_v2) = bet d from funext fun y => (congrArg (at_ V d main_v2) (embBet2 t y)).trans (congrFun (hb d) y)]
  refine (lnBlk_eq (blkNo 2 t) (g d) (tt d) (pos d) (te d) (gam d) (bet d) _ _
    (fun y => (hg d _).trans (congrArg (g d) (embIn2 t y))) (fun y => (ht d _).trans (congrArg (tt d) (embTt2 t y))) y).trans ?_
  exact congrArg (lnAll (g d) (tt d) (pos d) (te d) (gam d) (bet d)) (emb2 t y).symm

/-- The results' array after the region: `G` at the chunk's sequences, as it was at the others. -/
theorem out2 (d : Dev nD) (i : S1024x256x128.Idx) :
    ((dat2 O b V G d).arrAt 6 cfg5.N : S1024x256x128.Idx → Elt F .f32) i
      = if 16 * 2 ≤ (i 0).val / 8 ∧ (i 0).val / 8 < 16 * 2 + 16 then G d i else (at_ V d main_v20 : S1024x256x128.Idx → Elt F .f32) i :=
  (dat2 O b V G d).arrAt_apply_of_coversWhere 6 (G d) (P := fun i : S1024x256x128.Idx => 16 * 2 ≤ (i 0).val / 8 ∧ (i 0).val / 8 < 16 * 2 + 16)
    (fun β => 16 * 2 ≤ β 0 ∧ β 0 < 16 * 2 + 16) (by decide +kernel) (fun t hf y => rfl) (fun j => Iff.rfl) i (Memref.isWhole_whole _)

/-! ## Region 3 -/

def dat3 (d : Dev nD) : Dat τ (Elt F) Ix ℕ UU ℕ cfg7 d where
  A w := V d (Proc.devRef .tc (arrRef spec7 w))
  after w t := match w with
    | ⟨0, _⟩ => (win7_0.blk t).view.read (Elt F) (at_ V d main_v25)
    | ⟨1, _⟩ => (win7_1.blk t).view.read (Elt F) (at_ V d main_v22)
    | ⟨2, _⟩ => (win7_2.blk t).view.read (Elt F) (at_ V d main_arg3)
    | ⟨3, _⟩ => (win7_3.blk t).view.read (Elt F) (at_ V d main_arg4)
    | ⟨4, _⟩ => (win7_4.blk t).view.read (Elt F) (at_ V d main_v1)
    | ⟨5, _⟩ => (win7_5.blk t).view.read (Elt F) (at_ V d main_v2)
    | ⟨6, _⟩ => fun y => G d ((win7_6.blk t).view.emb y)
  Φ _ := scopedRest (Pipeline.pin (pcfgs (F := F)) adm 3).spec d
  q _ := fullShare
  owed _ := O
  recorded _ := below (F := F) d b

theorem before3_0 (d : Dev nD) (t : Fin cfg7.N) (x : (cfg7.win 0).block.Idx → Elt F (cfg7.win 0).elt) :
    (dat3 O b V G d).before 0 t x = (dat3 O b V G d).after 0 t :=
  ((dat3 O b V G d).before_in_eq_fetched 0 rfl (fun _ => rfl) (fun _ _ _ => rfl) (fun _ => rfl) t x).trans rfl

theorem before3_1 (d : Dev nD) (t : Fin cfg7.N) (x : (cfg7.win 1).block.Idx → Elt F (cfg7.win 1).elt) :
    (dat3 O b V G d).before 1 t x = (dat3 O b V G d).after 1 t :=
  ((dat3 O b V G d).before_in_eq_fetched 1 rfl (fun _ => rfl) (fun _ _ _ => rfl) (fun _ => rfl) t x).trans rfl

theorem before3_2 (d : Dev nD) (t : Fin cfg7.N) (x : (cfg7.win 2).block.Idx → Elt F (cfg7.win 2).elt) :
    (dat3 O b V G d).before 2 t x = (dat3 O b V G d).after 2 t :=
  ((dat3 O b V G d).before_in_eq_fetched 2 rfl (fun _ => rfl) (fun _ _ _ => rfl) (fun _ => rfl) t x).trans rfl

theorem before3_3 (d : Dev nD) (t : Fin cfg7.N) (x : (cfg7.win 3).block.Idx → Elt F (cfg7.win 3).elt) :
    (dat3 O b V G d).before 3 t x = (dat3 O b V G d).after 3 t :=
  ((dat3 O b V G d).before_in_eq_fetched 3 rfl (fun _ => rfl) (fun _ _ _ => rfl) (fun _ => rfl) t x).trans rfl

theorem before3_4 (d : Dev nD) (t : Fin cfg7.N) (x : (cfg7.win 4).block.Idx → Elt F (cfg7.win 4).elt) :
    (dat3 O b V G d).before 4 t x = (dat3 O b V G d).after 4 t :=
  ((dat3 O b V G d).before_in_eq_fetched 4 rfl (fun _ => rfl) (fun _ _ _ => rfl) (fun _ => rfl) t x).trans rfl

theorem before3_5 (d : Dev nD) (t : Fin cfg7.N) (x : (cfg7.win 5).block.Idx → Elt F (cfg7.win 5).elt) :
    (dat3 O b V G d).before 5 t x = (dat3 O b V G d).after 5 t :=
  ((dat3 O b V G d).before_in_eq_fetched 5 rfl (fun _ => rfl) (fun _ _ _ => rfl) (fun _ => rfl) t x).trans rfl

/-- What the body stores at every grid point is `G`'s block there. -/
def Stores3 : Prop := ∀ (d : Dev nD) (t : Fin cfg7.N),
  lnBlk ((win7_0.blk t).view.read (Elt F) (at_ V d main_v25)) ((win7_1.blk t).view.read (Elt F) (at_ V d main_v22))
      ((win7_2.blk t).view.read (Elt F) (at_ V d main_arg3)) ((win7_3.blk t).view.read (Elt F) (at_ V d main_arg4))
      ((win7_4.blk t).view.read (Elt F) (at_ V d main_v1)) ((win7_5.blk t).view.read (Elt F) (at_ V d main_v2))
    = fun y => G d ((win7_6.blk t).view.emb y)

set_option backward.isDefEq.respectTransparency.types false in
theorem body3 (h : Stores3 V G) (d : Dev nD) : BodyObligation (dat3 O b V G d) (defs₀ (F := F)) 𝒱₀ none Set.univ := fun t => by
  rw [bigSep_W7, bigSep_W7]
  rw [show (dat3 O b V G d).Φ t.succ = (dat3 O b V G d).Φ t.castSucc from rfl,
    show (dat3 O b V G d).owesAt none t.succ = (dat3 O b V G d).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  rw [before3_0 O b V G d, before3_1 O b V G d, before3_2 O b V G d, before3_3 O b V G d, before3_4 O b V G d, before3_5 O b V G d]
  iapply (ln_run d (grid7.coords t) (st7_0 t) (hstage7_0 ((cfg7.slots t 0).cast nbuf7_0)) (st7_1 t) (hstage7_1 ((cfg7.slots t 1).cast nbuf7_1)) (st7_2 t) (hstage7_2 ((cfg7.slots t 2).cast nbuf7_2))
    (st7_3 t) (hstage7_3 ((cfg7.slots t 3).cast nbuf7_3)) (st7_4 t) (hstage7_4 ((cfg7.slots t 4).cast nbuf7_4)) (st7_5 t) (hstage7_5 ((cfg7.slots t 5).cast nbuf7_5)) (st7_6 t) (hstage7_6 ((cfg7.slots t 6).cast nbuf7_6))
    ((win7_0.blk t).view.read (Elt F) (at_ V d main_v25)) ((win7_1.blk t).view.read (Elt F) (at_ V d main_v22))
    ((win7_2.blk t).view.read (Elt F) (at_ V d main_arg3)) ((win7_3.blk t).view.read (Elt F) (at_ V d main_arg4))
    ((win7_4.blk t).view.read (Elt F) (at_ V d main_v1)) ((win7_5.blk t).view.read (Elt F) (at_ V d main_v2)) _ _)
  rw [h d t]
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

theorem in_at3 : ∀ t : Fin 16, cc7_transform_1 (grid7.coords t) 0 = t.val := by decide +kernel
theorem tt_at3 : ∀ t : Fin 16, cc7_transform_2 (grid7.coords t) 0 = t.val := by decide +kernel
theorem out_at3 : ∀ t : Fin 16, cc7_transform_7 (grid7.coords t) 0 = 16 * 3 + t.val := by decide +kernel

/-- Block `t` of the results' window lies at block `16 * 3 + t` of the results. -/
theorem emb3 (t : Fin 16) (y : S8x256x128.Idx) : (win7_6.blk t).view.emb y = inAll (blkNo 3 t) y := by
  have hx := out_at3 t
  funext a
  match a with
  | ⟨0, _⟩ => refine Fin.ext ?_; show cc7_transform_7 (grid7.coords t) 0 * 8 + 1 * (y 0).val = 8 * (16 * 3 + t.val) + (y 0).val; omega
  | ⟨1, _⟩ => refine Fin.ext ?_; show 0 * 256 + 1 * (y 1).val = (y 1).val; omega
  | ⟨2, _⟩ => refine Fin.ext ?_; show 0 * 128 + 1 * (y 2).val = (y 2).val; omega

theorem embIn3 (t : Fin 16) (y : S8x256x128.Idx) : chunkIx 3 ((win7_0.blk t).view.emb y) = inAll (blkNo 3 t) y := by
  have hx := in_at3 t
  funext a
  match a with
  | ⟨0, _⟩ => refine Fin.ext ?_; show 128 * 3 + (cc7_transform_1 (grid7.coords t) 0 * 8 + 1 * (y 0).val) = 8 * (16 * 3 + t.val) + (y 0).val; omega
  | ⟨1, _⟩ => refine Fin.ext ?_; show 0 * 256 + 1 * (y 1).val = (y 1).val; omega
  | ⟨2, _⟩ => refine Fin.ext ?_; show 0 * 128 + 1 * (y 2).val = (y 2).val; omega

theorem embTt3 (t : Fin 16) (y : S8x256.Idx) : chunkIx2 3 ((win7_1.blk t).view.emb y) = inAll2 (blkNo 3 t) y := by
  have hx := tt_at3 t
  funext a
  match a with
  | ⟨0, _⟩ => refine Fin.ext ?_; show 128 * 3 + (cc7_transform_2 (grid7.coords t) 0 * 8 + 1 * (y 0).val) = 8 * (16 * 3 + t.val) + (y 0).val; omega
  | ⟨1, _⟩ => refine Fin.ext ?_; show 0 * 256 + 1 * (y 1).val = (y 1).val; omega

theorem embPos3 (t : Fin 16) (y : S256x128.Idx) : (win7_2.blk t).view.emb y = y := by
  funext a
  match a with
  | ⟨0, _⟩ => refine Fin.ext ?_; show 0 * 256 + 1 * (y 0).val = (y 0).val; omega
  | ⟨1, _⟩ => refine Fin.ext ?_; show 0 * 128 + 1 * (y 1).val = (y 1).val; omega

theorem embTe3 (t : Fin 16) (y : S2x128.Idx) : (win7_3.blk t).view.emb y = y := by
  funext a
  match a with
  | ⟨0, _⟩ => refine Fin.ext ?_; show 0 * 2 + 1 * (y 0).val = (y 0).val; omega
  | ⟨1, _⟩ => refine Fin.ext ?_; show 0 * 128 + 1 * (y 1).val = (y 1).val; omega

theorem embGam3 (t : Fin 16) (y : S1x128.Idx) : (win7_4.blk t).view.emb y = y := by
  funext a
  match a with
  | ⟨0, _⟩ => refine Fin.ext ?_; show 0 * 1 + 1 * (y 0).val = (y 0).val; omega
  | ⟨1, _⟩ => refine Fin.ext ?_; show 0 * 128 + 1 * (y 1).val = (y 1).val; omega

theorem embBet3 (t : Fin 16) (y : S1x128.Idx) : (win7_5.blk t).view.emb y = y := by
  funext a
  match a with
  | ⟨0, _⟩ => refine Fin.ext ?_; show 0 * 1 + 1 * (y 0).val = (y 0).val; omega
  | ⟨1, _⟩ => refine Fin.ext ?_; show 0 * 128 + 1 * (y 1).val = (y 1).val; omega

/-- A region whose buffers hold the chunk's rows and token types, and the tables, stores its part of `lnAll`. -/
theorem stores3 (g : Dev nD → S1024x256x128.Idx → Elt F .f32) (tt : Dev nD → S1024x256.Idx → Elt F .i32) (pos : Dev nD → S256x128.Idx → Elt F .f32)
    (te : Dev nD → S2x128.Idx → Elt F .f32) (gam bet : Dev nD → S1x128.Idx → Elt F .f32)
    (hg : ∀ d (x : S128x256x128.Idx), (at_ V d main_v25 : S128x256x128.Idx → Elt F .f32) x = g d (chunkIx 3 x))
    (ht : ∀ d (x : S128x256.Idx), (at_ V d main_v22 : S128x256.Idx → Elt F .i32) x = tt d (chunkIx2 3 x))
    (hp : ∀ d, at_ V d main_arg3 = pos d) (he : ∀ d, at_ V d main_arg4 = te d) (hm : ∀ d, at_ V d main_v1 = gam d) (hb : ∀ d, at_ V d main_v2 = bet d) :
    Stores3 V fun d => lnAll (g d) (tt d) (pos d) (te d) (gam d) (bet d) := by
  intro d t
  funext y
  rw [show (win7_2.blk t).view.read (Elt F) (at_ V d main_arg3) = pos d from funext fun y => (congrArg (at_ V d main_arg3) (embPos3 t y)).trans (congrFun (hp d) y),
    show (win7_3.blk t).view.read (Elt F) (at_ V d main_arg4) = te d from funext fun y => (congrArg (at_ V d main_arg4) (embTe3 t y)).trans (congrFun (he d) y),
    show (win7_4.blk t).view.read (Elt F) (at_ V d main_v1) = gam d from funext fun y => (congrArg (at_ V d main_v1) (embGam3 t y)).trans (congrFun (hm d) y),
    show (win7_5.blk t).view.read (Elt F) (at_ V d main_v2) = bet d from funext fun y => (congrArg (at_ V d main_v2) (embBet3 t y)).trans (congrFun (hb d) y)]
  refine (lnBlk_eq (blkNo 3 t) (g d) (tt d) (pos d) (te d) (gam d) (bet d) _ _
    (fun y => (hg d _).trans (congrArg (g d) (embIn3 t y))) (fun y => (ht d _).trans (congrArg (tt d) (embTt3 t y))) y).trans ?_
  exact congrArg (lnAll (g d) (tt d) (pos d) (te d) (gam d) (bet d)) (emb3 t y).symm

/-- The results' array after the region: `G` at the chunk's sequences, as it was at the others. -/
theorem out3 (d : Dev nD) (i : S1024x256x128.Idx) :
    ((dat3 O b V G d).arrAt 6 cfg7.N : S1024x256x128.Idx → Elt F .f32) i
      = if 16 * 3 ≤ (i 0).val / 8 ∧ (i 0).val / 8 < 16 * 3 + 16 then G d i else (at_ V d main_v26 : S1024x256x128.Idx → Elt F .f32) i :=
  (dat3 O b V G d).arrAt_apply_of_coversWhere 6 (G d) (P := fun i : S1024x256x128.Idx => 16 * 3 ≤ (i 0).val / 8 ∧ (i 0).val / 8 < 16 * 3 + 16)
    (fun β => 16 * 3 ≤ β 0 ∧ β 0 < 16 * 3 + 16) (by decide +kernel) (fun t hf y => rfl) (fun j => Iff.rfl) i (Memref.isWhole_whole _)

/-! ## Region 4 -/

def dat4 (d : Dev nD) : Dat τ (Elt F) Ix ℕ UU ℕ cfg9 d where
  A w := V d (Proc.devRef .tc (arrRef spec9 w))
  after w t := match w with
    | ⟨0, _⟩ => (win9_0.blk t).view.read (Elt F) (at_ V d main_v31)
    | ⟨1, _⟩ => (win9_1.blk t).view.read (Elt F) (at_ V d main_v28)
    | ⟨2, _⟩ => (win9_2.blk t).view.read (Elt F) (at_ V d main_arg3)
    | ⟨3, _⟩ => (win9_3.blk t).view.read (Elt F) (at_ V d main_arg4)
    | ⟨4, _⟩ => (win9_4.blk t).view.read (Elt F) (at_ V d main_v1)
    | ⟨5, _⟩ => (win9_5.blk t).view.read (Elt F) (at_ V d main_v2)
    | ⟨6, _⟩ => fun y => G d ((win9_6.blk t).view.emb y)
  Φ _ := scopedRest (Pipeline.pin (pcfgs (F := F)) adm 4).spec d
  q _ := fullShare
  owed _ := O
  recorded _ := below (F := F) d b

theorem before4_0 (d : Dev nD) (t : Fin cfg9.N) (x : (cfg9.win 0).block.Idx → Elt F (cfg9.win 0).elt) :
    (dat4 O b V G d).before 0 t x = (dat4 O b V G d).after 0 t :=
  ((dat4 O b V G d).before_in_eq_fetched 0 rfl (fun _ => rfl) (fun _ _ _ => rfl) (fun _ => rfl) t x).trans rfl

theorem before4_1 (d : Dev nD) (t : Fin cfg9.N) (x : (cfg9.win 1).block.Idx → Elt F (cfg9.win 1).elt) :
    (dat4 O b V G d).before 1 t x = (dat4 O b V G d).after 1 t :=
  ((dat4 O b V G d).before_in_eq_fetched 1 rfl (fun _ => rfl) (fun _ _ _ => rfl) (fun _ => rfl) t x).trans rfl

theorem before4_2 (d : Dev nD) (t : Fin cfg9.N) (x : (cfg9.win 2).block.Idx → Elt F (cfg9.win 2).elt) :
    (dat4 O b V G d).before 2 t x = (dat4 O b V G d).after 2 t :=
  ((dat4 O b V G d).before_in_eq_fetched 2 rfl (fun _ => rfl) (fun _ _ _ => rfl) (fun _ => rfl) t x).trans rfl

theorem before4_3 (d : Dev nD) (t : Fin cfg9.N) (x : (cfg9.win 3).block.Idx → Elt F (cfg9.win 3).elt) :
    (dat4 O b V G d).before 3 t x = (dat4 O b V G d).after 3 t :=
  ((dat4 O b V G d).before_in_eq_fetched 3 rfl (fun _ => rfl) (fun _ _ _ => rfl) (fun _ => rfl) t x).trans rfl

theorem before4_4 (d : Dev nD) (t : Fin cfg9.N) (x : (cfg9.win 4).block.Idx → Elt F (cfg9.win 4).elt) :
    (dat4 O b V G d).before 4 t x = (dat4 O b V G d).after 4 t :=
  ((dat4 O b V G d).before_in_eq_fetched 4 rfl (fun _ => rfl) (fun _ _ _ => rfl) (fun _ => rfl) t x).trans rfl

theorem before4_5 (d : Dev nD) (t : Fin cfg9.N) (x : (cfg9.win 5).block.Idx → Elt F (cfg9.win 5).elt) :
    (dat4 O b V G d).before 5 t x = (dat4 O b V G d).after 5 t :=
  ((dat4 O b V G d).before_in_eq_fetched 5 rfl (fun _ => rfl) (fun _ _ _ => rfl) (fun _ => rfl) t x).trans rfl

/-- What the body stores at every grid point is `G`'s block there. -/
def Stores4 : Prop := ∀ (d : Dev nD) (t : Fin cfg9.N),
  lnBlk ((win9_0.blk t).view.read (Elt F) (at_ V d main_v31)) ((win9_1.blk t).view.read (Elt F) (at_ V d main_v28))
      ((win9_2.blk t).view.read (Elt F) (at_ V d main_arg3)) ((win9_3.blk t).view.read (Elt F) (at_ V d main_arg4))
      ((win9_4.blk t).view.read (Elt F) (at_ V d main_v1)) ((win9_5.blk t).view.read (Elt F) (at_ V d main_v2))
    = fun y => G d ((win9_6.blk t).view.emb y)

set_option backward.isDefEq.respectTransparency.types false in
theorem body4 (h : Stores4 V G) (d : Dev nD) : BodyObligation (dat4 O b V G d) (defs₀ (F := F)) 𝒱₀ none Set.univ := fun t => by
  rw [bigSep_W9, bigSep_W9]
  rw [show (dat4 O b V G d).Φ t.succ = (dat4 O b V G d).Φ t.castSucc from rfl,
    show (dat4 O b V G d).owesAt none t.succ = (dat4 O b V G d).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  rw [before4_0 O b V G d, before4_1 O b V G d, before4_2 O b V G d, before4_3 O b V G d, before4_4 O b V G d, before4_5 O b V G d]
  iapply (ln_run d (grid9.coords t) (st9_0 t) (hstage9_0 ((cfg9.slots t 0).cast nbuf9_0)) (st9_1 t) (hstage9_1 ((cfg9.slots t 1).cast nbuf9_1)) (st9_2 t) (hstage9_2 ((cfg9.slots t 2).cast nbuf9_2))
    (st9_3 t) (hstage9_3 ((cfg9.slots t 3).cast nbuf9_3)) (st9_4 t) (hstage9_4 ((cfg9.slots t 4).cast nbuf9_4)) (st9_5 t) (hstage9_5 ((cfg9.slots t 5).cast nbuf9_5)) (st9_6 t) (hstage9_6 ((cfg9.slots t 6).cast nbuf9_6))
    ((win9_0.blk t).view.read (Elt F) (at_ V d main_v31)) ((win9_1.blk t).view.read (Elt F) (at_ V d main_v28))
    ((win9_2.blk t).view.read (Elt F) (at_ V d main_arg3)) ((win9_3.blk t).view.read (Elt F) (at_ V d main_arg4))
    ((win9_4.blk t).view.read (Elt F) (at_ V d main_v1)) ((win9_5.blk t).view.read (Elt F) (at_ V d main_v2)) _ _)
  rw [h d t]
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

theorem in_at4 : ∀ t : Fin 16, cc9_transform_1 (grid9.coords t) 0 = t.val := by decide +kernel
theorem tt_at4 : ∀ t : Fin 16, cc9_transform_2 (grid9.coords t) 0 = t.val := by decide +kernel
theorem out_at4 : ∀ t : Fin 16, cc9_transform_7 (grid9.coords t) 0 = 16 * 4 + t.val := by decide +kernel

/-- Block `t` of the results' window lies at block `16 * 4 + t` of the results. -/
theorem emb4 (t : Fin 16) (y : S8x256x128.Idx) : (win9_6.blk t).view.emb y = inAll (blkNo 4 t) y := by
  have hx := out_at4 t
  funext a
  match a with
  | ⟨0, _⟩ => refine Fin.ext ?_; show cc9_transform_7 (grid9.coords t) 0 * 8 + 1 * (y 0).val = 8 * (16 * 4 + t.val) + (y 0).val; omega
  | ⟨1, _⟩ => refine Fin.ext ?_; show 0 * 256 + 1 * (y 1).val = (y 1).val; omega
  | ⟨2, _⟩ => refine Fin.ext ?_; show 0 * 128 + 1 * (y 2).val = (y 2).val; omega

theorem embIn4 (t : Fin 16) (y : S8x256x128.Idx) : chunkIx 4 ((win9_0.blk t).view.emb y) = inAll (blkNo 4 t) y := by
  have hx := in_at4 t
  funext a
  match a with
  | ⟨0, _⟩ => refine Fin.ext ?_; show 128 * 4 + (cc9_transform_1 (grid9.coords t) 0 * 8 + 1 * (y 0).val) = 8 * (16 * 4 + t.val) + (y 0).val; omega
  | ⟨1, _⟩ => refine Fin.ext ?_; show 0 * 256 + 1 * (y 1).val = (y 1).val; omega
  | ⟨2, _⟩ => refine Fin.ext ?_; show 0 * 128 + 1 * (y 2).val = (y 2).val; omega

theorem embTt4 (t : Fin 16) (y : S8x256.Idx) : chunkIx2 4 ((win9_1.blk t).view.emb y) = inAll2 (blkNo 4 t) y := by
  have hx := tt_at4 t
  funext a
  match a with
  | ⟨0, _⟩ => refine Fin.ext ?_; show 128 * 4 + (cc9_transform_2 (grid9.coords t) 0 * 8 + 1 * (y 0).val) = 8 * (16 * 4 + t.val) + (y 0).val; omega
  | ⟨1, _⟩ => refine Fin.ext ?_; show 0 * 256 + 1 * (y 1).val = (y 1).val; omega

theorem embPos4 (t : Fin 16) (y : S256x128.Idx) : (win9_2.blk t).view.emb y = y := by
  funext a
  match a with
  | ⟨0, _⟩ => refine Fin.ext ?_; show 0 * 256 + 1 * (y 0).val = (y 0).val; omega
  | ⟨1, _⟩ => refine Fin.ext ?_; show 0 * 128 + 1 * (y 1).val = (y 1).val; omega

theorem embTe4 (t : Fin 16) (y : S2x128.Idx) : (win9_3.blk t).view.emb y = y := by
  funext a
  match a with
  | ⟨0, _⟩ => refine Fin.ext ?_; show 0 * 2 + 1 * (y 0).val = (y 0).val; omega
  | ⟨1, _⟩ => refine Fin.ext ?_; show 0 * 128 + 1 * (y 1).val = (y 1).val; omega

theorem embGam4 (t : Fin 16) (y : S1x128.Idx) : (win9_4.blk t).view.emb y = y := by
  funext a
  match a with
  | ⟨0, _⟩ => refine Fin.ext ?_; show 0 * 1 + 1 * (y 0).val = (y 0).val; omega
  | ⟨1, _⟩ => refine Fin.ext ?_; show 0 * 128 + 1 * (y 1).val = (y 1).val; omega

theorem embBet4 (t : Fin 16) (y : S1x128.Idx) : (win9_5.blk t).view.emb y = y := by
  funext a
  match a with
  | ⟨0, _⟩ => refine Fin.ext ?_; show 0 * 1 + 1 * (y 0).val = (y 0).val; omega
  | ⟨1, _⟩ => refine Fin.ext ?_; show 0 * 128 + 1 * (y 1).val = (y 1).val; omega

/-- A region whose buffers hold the chunk's rows and token types, and the tables, stores its part of `lnAll`. -/
theorem stores4 (g : Dev nD → S1024x256x128.Idx → Elt F .f32) (tt : Dev nD → S1024x256.Idx → Elt F .i32) (pos : Dev nD → S256x128.Idx → Elt F .f32)
    (te : Dev nD → S2x128.Idx → Elt F .f32) (gam bet : Dev nD → S1x128.Idx → Elt F .f32)
    (hg : ∀ d (x : S128x256x128.Idx), (at_ V d main_v31 : S128x256x128.Idx → Elt F .f32) x = g d (chunkIx 4 x))
    (ht : ∀ d (x : S128x256.Idx), (at_ V d main_v28 : S128x256.Idx → Elt F .i32) x = tt d (chunkIx2 4 x))
    (hp : ∀ d, at_ V d main_arg3 = pos d) (he : ∀ d, at_ V d main_arg4 = te d) (hm : ∀ d, at_ V d main_v1 = gam d) (hb : ∀ d, at_ V d main_v2 = bet d) :
    Stores4 V fun d => lnAll (g d) (tt d) (pos d) (te d) (gam d) (bet d) := by
  intro d t
  funext y
  rw [show (win9_2.blk t).view.read (Elt F) (at_ V d main_arg3) = pos d from funext fun y => (congrArg (at_ V d main_arg3) (embPos4 t y)).trans (congrFun (hp d) y),
    show (win9_3.blk t).view.read (Elt F) (at_ V d main_arg4) = te d from funext fun y => (congrArg (at_ V d main_arg4) (embTe4 t y)).trans (congrFun (he d) y),
    show (win9_4.blk t).view.read (Elt F) (at_ V d main_v1) = gam d from funext fun y => (congrArg (at_ V d main_v1) (embGam4 t y)).trans (congrFun (hm d) y),
    show (win9_5.blk t).view.read (Elt F) (at_ V d main_v2) = bet d from funext fun y => (congrArg (at_ V d main_v2) (embBet4 t y)).trans (congrFun (hb d) y)]
  refine (lnBlk_eq (blkNo 4 t) (g d) (tt d) (pos d) (te d) (gam d) (bet d) _ _
    (fun y => (hg d _).trans (congrArg (g d) (embIn4 t y))) (fun y => (ht d _).trans (congrArg (tt d) (embTt4 t y))) y).trans ?_
  exact congrArg (lnAll (g d) (tt d) (pos d) (te d) (gam d) (bet d)) (emb4 t y).symm

/-- The results' array after the region: `G` at the chunk's sequences, as it was at the others. -/
theorem out4 (d : Dev nD) (i : S1024x256x128.Idx) :
    ((dat4 O b V G d).arrAt 6 cfg9.N : S1024x256x128.Idx → Elt F .f32) i
      = if 16 * 4 ≤ (i 0).val / 8 ∧ (i 0).val / 8 < 16 * 4 + 16 then G d i else (at_ V d main_v32 : S1024x256x128.Idx → Elt F .f32) i :=
  (dat4 O b V G d).arrAt_apply_of_coversWhere 6 (G d) (P := fun i : S1024x256x128.Idx => 16 * 4 ≤ (i 0).val / 8 ∧ (i 0).val / 8 < 16 * 4 + 16)
    (fun β => 16 * 4 ≤ β 0 ∧ β 0 < 16 * 4 + 16) (by decide +kernel) (fun t hf y => rfl) (fun j => Iff.rfl) i (Memref.isWhole_whole _)

/-! ## Region 5 -/

def dat5 (d : Dev nD) : Dat τ (Elt F) Ix ℕ UU ℕ cfg11 d where
  A w := V d (Proc.devRef .tc (arrRef spec11 w))
  after w t := match w with
    | ⟨0, _⟩ => (win11_0.blk t).view.read (Elt F) (at_ V d main_v37)
    | ⟨1, _⟩ => (win11_1.blk t).view.read (Elt F) (at_ V d main_v34)
    | ⟨2, _⟩ => (win11_2.blk t).view.read (Elt F) (at_ V d main_arg3)
    | ⟨3, _⟩ => (win11_3.blk t).view.read (Elt F) (at_ V d main_arg4)
    | ⟨4, _⟩ => (win11_4.blk t).view.read (Elt F) (at_ V d main_v1)
    | ⟨5, _⟩ => (win11_5.blk t).view.read (Elt F) (at_ V d main_v2)
    | ⟨6, _⟩ => fun y => G d ((win11_6.blk t).view.emb y)
  Φ _ := scopedRest (Pipeline.pin (pcfgs (F := F)) adm 5).spec d
  q _ := fullShare
  owed _ := O
  recorded _ := below (F := F) d b

theorem before5_0 (d : Dev nD) (t : Fin cfg11.N) (x : (cfg11.win 0).block.Idx → Elt F (cfg11.win 0).elt) :
    (dat5 O b V G d).before 0 t x = (dat5 O b V G d).after 0 t :=
  ((dat5 O b V G d).before_in_eq_fetched 0 rfl (fun _ => rfl) (fun _ _ _ => rfl) (fun _ => rfl) t x).trans rfl

theorem before5_1 (d : Dev nD) (t : Fin cfg11.N) (x : (cfg11.win 1).block.Idx → Elt F (cfg11.win 1).elt) :
    (dat5 O b V G d).before 1 t x = (dat5 O b V G d).after 1 t :=
  ((dat5 O b V G d).before_in_eq_fetched 1 rfl (fun _ => rfl) (fun _ _ _ => rfl) (fun _ => rfl) t x).trans rfl

theorem before5_2 (d : Dev nD) (t : Fin cfg11.N) (x : (cfg11.win 2).block.Idx → Elt F (cfg11.win 2).elt) :
    (dat5 O b V G d).before 2 t x = (dat5 O b V G d).after 2 t :=
  ((dat5 O b V G d).before_in_eq_fetched 2 rfl (fun _ => rfl) (fun _ _ _ => rfl) (fun _ => rfl) t x).trans rfl

theorem before5_3 (d : Dev nD) (t : Fin cfg11.N) (x : (cfg11.win 3).block.Idx → Elt F (cfg11.win 3).elt) :
    (dat5 O b V G d).before 3 t x = (dat5 O b V G d).after 3 t :=
  ((dat5 O b V G d).before_in_eq_fetched 3 rfl (fun _ => rfl) (fun _ _ _ => rfl) (fun _ => rfl) t x).trans rfl

theorem before5_4 (d : Dev nD) (t : Fin cfg11.N) (x : (cfg11.win 4).block.Idx → Elt F (cfg11.win 4).elt) :
    (dat5 O b V G d).before 4 t x = (dat5 O b V G d).after 4 t :=
  ((dat5 O b V G d).before_in_eq_fetched 4 rfl (fun _ => rfl) (fun _ _ _ => rfl) (fun _ => rfl) t x).trans rfl

theorem before5_5 (d : Dev nD) (t : Fin cfg11.N) (x : (cfg11.win 5).block.Idx → Elt F (cfg11.win 5).elt) :
    (dat5 O b V G d).before 5 t x = (dat5 O b V G d).after 5 t :=
  ((dat5 O b V G d).before_in_eq_fetched 5 rfl (fun _ => rfl) (fun _ _ _ => rfl) (fun _ => rfl) t x).trans rfl

/-- What the body stores at every grid point is `G`'s block there. -/
def Stores5 : Prop := ∀ (d : Dev nD) (t : Fin cfg11.N),
  lnBlk ((win11_0.blk t).view.read (Elt F) (at_ V d main_v37)) ((win11_1.blk t).view.read (Elt F) (at_ V d main_v34))
      ((win11_2.blk t).view.read (Elt F) (at_ V d main_arg3)) ((win11_3.blk t).view.read (Elt F) (at_ V d main_arg4))
      ((win11_4.blk t).view.read (Elt F) (at_ V d main_v1)) ((win11_5.blk t).view.read (Elt F) (at_ V d main_v2))
    = fun y => G d ((win11_6.blk t).view.emb y)

set_option backward.isDefEq.respectTransparency.types false in
theorem body5 (h : Stores5 V G) (d : Dev nD) : BodyObligation (dat5 O b V G d) (defs₀ (F := F)) 𝒱₀ none Set.univ := fun t => by
  rw [bigSep_W11, bigSep_W11]
  rw [show (dat5 O b V G d).Φ t.succ = (dat5 O b V G d).Φ t.castSucc from rfl,
    show (dat5 O b V G d).owesAt none t.succ = (dat5 O b V G d).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  rw [before5_0 O b V G d, before5_1 O b V G d, before5_2 O b V G d, before5_3 O b V G d, before5_4 O b V G d, before5_5 O b V G d]
  iapply (ln_run d (grid11.coords t) (st11_0 t) (hstage11_0 ((cfg11.slots t 0).cast nbuf11_0)) (st11_1 t) (hstage11_1 ((cfg11.slots t 1).cast nbuf11_1)) (st11_2 t) (hstage11_2 ((cfg11.slots t 2).cast nbuf11_2))
    (st11_3 t) (hstage11_3 ((cfg11.slots t 3).cast nbuf11_3)) (st11_4 t) (hstage11_4 ((cfg11.slots t 4).cast nbuf11_4)) (st11_5 t) (hstage11_5 ((cfg11.slots t 5).cast nbuf11_5)) (st11_6 t) (hstage11_6 ((cfg11.slots t 6).cast nbuf11_6))
    ((win11_0.blk t).view.read (Elt F) (at_ V d main_v37)) ((win11_1.blk t).view.read (Elt F) (at_ V d main_v34))
    ((win11_2.blk t).view.read (Elt F) (at_ V d main_arg3)) ((win11_3.blk t).view.read (Elt F) (at_ V d main_arg4))
    ((win11_4.blk t).view.read (Elt F) (at_ V d main_v1)) ((win11_5.blk t).view.read (Elt F) (at_ V d main_v2)) _ _)
  rw [h d t]
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

theorem in_at5 : ∀ t : Fin 16, cc11_transform_1 (grid11.coords t) 0 = t.val := by decide +kernel
theorem tt_at5 : ∀ t : Fin 16, cc11_transform_2 (grid11.coords t) 0 = t.val := by decide +kernel
theorem out_at5 : ∀ t : Fin 16, cc11_transform_7 (grid11.coords t) 0 = 16 * 5 + t.val := by decide +kernel

/-- Block `t` of the results' window lies at block `16 * 5 + t` of the results. -/
theorem emb5 (t : Fin 16) (y : S8x256x128.Idx) : (win11_6.blk t).view.emb y = inAll (blkNo 5 t) y := by
  have hx := out_at5 t
  funext a
  match a with
  | ⟨0, _⟩ => refine Fin.ext ?_; show cc11_transform_7 (grid11.coords t) 0 * 8 + 1 * (y 0).val = 8 * (16 * 5 + t.val) + (y 0).val; omega
  | ⟨1, _⟩ => refine Fin.ext ?_; show 0 * 256 + 1 * (y 1).val = (y 1).val; omega
  | ⟨2, _⟩ => refine Fin.ext ?_; show 0 * 128 + 1 * (y 2).val = (y 2).val; omega

theorem embIn5 (t : Fin 16) (y : S8x256x128.Idx) : chunkIx 5 ((win11_0.blk t).view.emb y) = inAll (blkNo 5 t) y := by
  have hx := in_at5 t
  funext a
  match a with
  | ⟨0, _⟩ => refine Fin.ext ?_; show 128 * 5 + (cc11_transform_1 (grid11.coords t) 0 * 8 + 1 * (y 0).val) = 8 * (16 * 5 + t.val) + (y 0).val; omega
  | ⟨1, _⟩ => refine Fin.ext ?_; show 0 * 256 + 1 * (y 1).val = (y 1).val; omega
  | ⟨2, _⟩ => refine Fin.ext ?_; show 0 * 128 + 1 * (y 2).val = (y 2).val; omega

theorem embTt5 (t : Fin 16) (y : S8x256.Idx) : chunkIx2 5 ((win11_1.blk t).view.emb y) = inAll2 (blkNo 5 t) y := by
  have hx := tt_at5 t
  funext a
  match a with
  | ⟨0, _⟩ => refine Fin.ext ?_; show 128 * 5 + (cc11_transform_2 (grid11.coords t) 0 * 8 + 1 * (y 0).val) = 8 * (16 * 5 + t.val) + (y 0).val; omega
  | ⟨1, _⟩ => refine Fin.ext ?_; show 0 * 256 + 1 * (y 1).val = (y 1).val; omega

theorem embPos5 (t : Fin 16) (y : S256x128.Idx) : (win11_2.blk t).view.emb y = y := by
  funext a
  match a with
  | ⟨0, _⟩ => refine Fin.ext ?_; show 0 * 256 + 1 * (y 0).val = (y 0).val; omega
  | ⟨1, _⟩ => refine Fin.ext ?_; show 0 * 128 + 1 * (y 1).val = (y 1).val; omega

theorem embTe5 (t : Fin 16) (y : S2x128.Idx) : (win11_3.blk t).view.emb y = y := by
  funext a
  match a with
  | ⟨0, _⟩ => refine Fin.ext ?_; show 0 * 2 + 1 * (y 0).val = (y 0).val; omega
  | ⟨1, _⟩ => refine Fin.ext ?_; show 0 * 128 + 1 * (y 1).val = (y 1).val; omega

theorem embGam5 (t : Fin 16) (y : S1x128.Idx) : (win11_4.blk t).view.emb y = y := by
  funext a
  match a with
  | ⟨0, _⟩ => refine Fin.ext ?_; show 0 * 1 + 1 * (y 0).val = (y 0).val; omega
  | ⟨1, _⟩ => refine Fin.ext ?_; show 0 * 128 + 1 * (y 1).val = (y 1).val; omega

theorem embBet5 (t : Fin 16) (y : S1x128.Idx) : (win11_5.blk t).view.emb y = y := by
  funext a
  match a with
  | ⟨0, _⟩ => refine Fin.ext ?_; show 0 * 1 + 1 * (y 0).val = (y 0).val; omega
  | ⟨1, _⟩ => refine Fin.ext ?_; show 0 * 128 + 1 * (y 1).val = (y 1).val; omega

/-- A region whose buffers hold the chunk's rows and token types, and the tables, stores its part of `lnAll`. -/
theorem stores5 (g : Dev nD → S1024x256x128.Idx → Elt F .f32) (tt : Dev nD → S1024x256.Idx → Elt F .i32) (pos : Dev nD → S256x128.Idx → Elt F .f32)
    (te : Dev nD → S2x128.Idx → Elt F .f32) (gam bet : Dev nD → S1x128.Idx → Elt F .f32)
    (hg : ∀ d (x : S128x256x128.Idx), (at_ V d main_v37 : S128x256x128.Idx → Elt F .f32) x = g d (chunkIx 5 x))
    (ht : ∀ d (x : S128x256.Idx), (at_ V d main_v34 : S128x256.Idx → Elt F .i32) x = tt d (chunkIx2 5 x))
    (hp : ∀ d, at_ V d main_arg3 = pos d) (he : ∀ d, at_ V d main_arg4 = te d) (hm : ∀ d, at_ V d main_v1 = gam d) (hb : ∀ d, at_ V d main_v2 = bet d) :
    Stores5 V fun d => lnAll (g d) (tt d) (pos d) (te d) (gam d) (bet d) := by
  intro d t
  funext y
  rw [show (win11_2.blk t).view.read (Elt F) (at_ V d main_arg3) = pos d from funext fun y => (congrArg (at_ V d main_arg3) (embPos5 t y)).trans (congrFun (hp d) y),
    show (win11_3.blk t).view.read (Elt F) (at_ V d main_arg4) = te d from funext fun y => (congrArg (at_ V d main_arg4) (embTe5 t y)).trans (congrFun (he d) y),
    show (win11_4.blk t).view.read (Elt F) (at_ V d main_v1) = gam d from funext fun y => (congrArg (at_ V d main_v1) (embGam5 t y)).trans (congrFun (hm d) y),
    show (win11_5.blk t).view.read (Elt F) (at_ V d main_v2) = bet d from funext fun y => (congrArg (at_ V d main_v2) (embBet5 t y)).trans (congrFun (hb d) y)]
  refine (lnBlk_eq (blkNo 5 t) (g d) (tt d) (pos d) (te d) (gam d) (bet d) _ _
    (fun y => (hg d _).trans (congrArg (g d) (embIn5 t y))) (fun y => (ht d _).trans (congrArg (tt d) (embTt5 t y))) y).trans ?_
  exact congrArg (lnAll (g d) (tt d) (pos d) (te d) (gam d) (bet d)) (emb5 t y).symm

/-- The results' array after the region: `G` at the chunk's sequences, as it was at the others. -/
theorem out5 (d : Dev nD) (i : S1024x256x128.Idx) :
    ((dat5 O b V G d).arrAt 6 cfg11.N : S1024x256x128.Idx → Elt F .f32) i
      = if 16 * 5 ≤ (i 0).val / 8 ∧ (i 0).val / 8 < 16 * 5 + 16 then G d i else (at_ V d main_v38 : S1024x256x128.Idx → Elt F .f32) i :=
  (dat5 O b V G d).arrAt_apply_of_coversWhere 6 (G d) (P := fun i : S1024x256x128.Idx => 16 * 5 ≤ (i 0).val / 8 ∧ (i 0).val / 8 < 16 * 5 + 16)
    (fun β => 16 * 5 ≤ β 0 ∧ β 0 < 16 * 5 + 16) (by decide +kernel) (fun t hf y => rfl) (fun j => Iff.rfl) i (Memref.isWhole_whole _)

/-! ## Region 6 -/

def dat6 (d : Dev nD) : Dat τ (Elt F) Ix ℕ UU ℕ cfg13 d where
  A w := V d (Proc.devRef .tc (arrRef spec13 w))
  after w t := match w with
    | ⟨0, _⟩ => (win13_0.blk t).view.read (Elt F) (at_ V d main_v43)
    | ⟨1, _⟩ => (win13_1.blk t).view.read (Elt F) (at_ V d main_v40)
    | ⟨2, _⟩ => (win13_2.blk t).view.read (Elt F) (at_ V d main_arg3)
    | ⟨3, _⟩ => (win13_3.blk t).view.read (Elt F) (at_ V d main_arg4)
    | ⟨4, _⟩ => (win13_4.blk t).view.read (Elt F) (at_ V d main_v1)
    | ⟨5, _⟩ => (win13_5.blk t).view.read (Elt F) (at_ V d main_v2)
    | ⟨6, _⟩ => fun y => G d ((win13_6.blk t).view.emb y)
  Φ _ := scopedRest (Pipeline.pin (pcfgs (F := F)) adm 6).spec d
  q _ := fullShare
  owed _ := O
  recorded _ := below (F := F) d b

theorem before6_0 (d : Dev nD) (t : Fin cfg13.N) (x : (cfg13.win 0).block.Idx → Elt F (cfg13.win 0).elt) :
    (dat6 O b V G d).before 0 t x = (dat6 O b V G d).after 0 t :=
  ((dat6 O b V G d).before_in_eq_fetched 0 rfl (fun _ => rfl) (fun _ _ _ => rfl) (fun _ => rfl) t x).trans rfl

theorem before6_1 (d : Dev nD) (t : Fin cfg13.N) (x : (cfg13.win 1).block.Idx → Elt F (cfg13.win 1).elt) :
    (dat6 O b V G d).before 1 t x = (dat6 O b V G d).after 1 t :=
  ((dat6 O b V G d).before_in_eq_fetched 1 rfl (fun _ => rfl) (fun _ _ _ => rfl) (fun _ => rfl) t x).trans rfl

theorem before6_2 (d : Dev nD) (t : Fin cfg13.N) (x : (cfg13.win 2).block.Idx → Elt F (cfg13.win 2).elt) :
    (dat6 O b V G d).before 2 t x = (dat6 O b V G d).after 2 t :=
  ((dat6 O b V G d).before_in_eq_fetched 2 rfl (fun _ => rfl) (fun _ _ _ => rfl) (fun _ => rfl) t x).trans rfl

theorem before6_3 (d : Dev nD) (t : Fin cfg13.N) (x : (cfg13.win 3).block.Idx → Elt F (cfg13.win 3).elt) :
    (dat6 O b V G d).before 3 t x = (dat6 O b V G d).after 3 t :=
  ((dat6 O b V G d).before_in_eq_fetched 3 rfl (fun _ => rfl) (fun _ _ _ => rfl) (fun _ => rfl) t x).trans rfl

theorem before6_4 (d : Dev nD) (t : Fin cfg13.N) (x : (cfg13.win 4).block.Idx → Elt F (cfg13.win 4).elt) :
    (dat6 O b V G d).before 4 t x = (dat6 O b V G d).after 4 t :=
  ((dat6 O b V G d).before_in_eq_fetched 4 rfl (fun _ => rfl) (fun _ _ _ => rfl) (fun _ => rfl) t x).trans rfl

theorem before6_5 (d : Dev nD) (t : Fin cfg13.N) (x : (cfg13.win 5).block.Idx → Elt F (cfg13.win 5).elt) :
    (dat6 O b V G d).before 5 t x = (dat6 O b V G d).after 5 t :=
  ((dat6 O b V G d).before_in_eq_fetched 5 rfl (fun _ => rfl) (fun _ _ _ => rfl) (fun _ => rfl) t x).trans rfl

/-- What the body stores at every grid point is `G`'s block there. -/
def Stores6 : Prop := ∀ (d : Dev nD) (t : Fin cfg13.N),
  lnBlk ((win13_0.blk t).view.read (Elt F) (at_ V d main_v43)) ((win13_1.blk t).view.read (Elt F) (at_ V d main_v40))
      ((win13_2.blk t).view.read (Elt F) (at_ V d main_arg3)) ((win13_3.blk t).view.read (Elt F) (at_ V d main_arg4))
      ((win13_4.blk t).view.read (Elt F) (at_ V d main_v1)) ((win13_5.blk t).view.read (Elt F) (at_ V d main_v2))
    = fun y => G d ((win13_6.blk t).view.emb y)

set_option backward.isDefEq.respectTransparency.types false in
theorem body6 (h : Stores6 V G) (d : Dev nD) : BodyObligation (dat6 O b V G d) (defs₀ (F := F)) 𝒱₀ none Set.univ := fun t => by
  rw [bigSep_W13, bigSep_W13]
  rw [show (dat6 O b V G d).Φ t.succ = (dat6 O b V G d).Φ t.castSucc from rfl,
    show (dat6 O b V G d).owesAt none t.succ = (dat6 O b V G d).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  rw [before6_0 O b V G d, before6_1 O b V G d, before6_2 O b V G d, before6_3 O b V G d, before6_4 O b V G d, before6_5 O b V G d]
  iapply (ln_run d (grid13.coords t) (st13_0 t) (hstage13_0 ((cfg13.slots t 0).cast nbuf13_0)) (st13_1 t) (hstage13_1 ((cfg13.slots t 1).cast nbuf13_1)) (st13_2 t) (hstage13_2 ((cfg13.slots t 2).cast nbuf13_2))
    (st13_3 t) (hstage13_3 ((cfg13.slots t 3).cast nbuf13_3)) (st13_4 t) (hstage13_4 ((cfg13.slots t 4).cast nbuf13_4)) (st13_5 t) (hstage13_5 ((cfg13.slots t 5).cast nbuf13_5)) (st13_6 t) (hstage13_6 ((cfg13.slots t 6).cast nbuf13_6))
    ((win13_0.blk t).view.read (Elt F) (at_ V d main_v43)) ((win13_1.blk t).view.read (Elt F) (at_ V d main_v40))
    ((win13_2.blk t).view.read (Elt F) (at_ V d main_arg3)) ((win13_3.blk t).view.read (Elt F) (at_ V d main_arg4))
    ((win13_4.blk t).view.read (Elt F) (at_ V d main_v1)) ((win13_5.blk t).view.read (Elt F) (at_ V d main_v2)) _ _)
  rw [h d t]
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

theorem in_at6 : ∀ t : Fin 16, cc13_transform_1 (grid13.coords t) 0 = t.val := by decide +kernel
theorem tt_at6 : ∀ t : Fin 16, cc13_transform_2 (grid13.coords t) 0 = t.val := by decide +kernel
theorem out_at6 : ∀ t : Fin 16, cc13_transform_7 (grid13.coords t) 0 = 16 * 6 + t.val := by decide +kernel

/-- Block `t` of the results' window lies at block `16 * 6 + t` of the results. -/
theorem emb6 (t : Fin 16) (y : S8x256x128.Idx) : (win13_6.blk t).view.emb y = inAll (blkNo 6 t) y := by
  have hx := out_at6 t
  funext a
  match a with
  | ⟨0, _⟩ => refine Fin.ext ?_; show cc13_transform_7 (grid13.coords t) 0 * 8 + 1 * (y 0).val = 8 * (16 * 6 + t.val) + (y 0).val; omega
  | ⟨1, _⟩ => refine Fin.ext ?_; show 0 * 256 + 1 * (y 1).val = (y 1).val; omega
  | ⟨2, _⟩ => refine Fin.ext ?_; show 0 * 128 + 1 * (y 2).val = (y 2).val; omega

theorem embIn6 (t : Fin 16) (y : S8x256x128.Idx) : chunkIx 6 ((win13_0.blk t).view.emb y) = inAll (blkNo 6 t) y := by
  have hx := in_at6 t
  funext a
  match a with
  | ⟨0, _⟩ => refine Fin.ext ?_; show 128 * 6 + (cc13_transform_1 (grid13.coords t) 0 * 8 + 1 * (y 0).val) = 8 * (16 * 6 + t.val) + (y 0).val; omega
  | ⟨1, _⟩ => refine Fin.ext ?_; show 0 * 256 + 1 * (y 1).val = (y 1).val; omega
  | ⟨2, _⟩ => refine Fin.ext ?_; show 0 * 128 + 1 * (y 2).val = (y 2).val; omega

theorem embTt6 (t : Fin 16) (y : S8x256.Idx) : chunkIx2 6 ((win13_1.blk t).view.emb y) = inAll2 (blkNo 6 t) y := by
  have hx := tt_at6 t
  funext a
  match a with
  | ⟨0, _⟩ => refine Fin.ext ?_; show 128 * 6 + (cc13_transform_2 (grid13.coords t) 0 * 8 + 1 * (y 0).val) = 8 * (16 * 6 + t.val) + (y 0).val; omega
  | ⟨1, _⟩ => refine Fin.ext ?_; show 0 * 256 + 1 * (y 1).val = (y 1).val; omega

theorem embPos6 (t : Fin 16) (y : S256x128.Idx) : (win13_2.blk t).view.emb y = y := by
  funext a
  match a with
  | ⟨0, _⟩ => refine Fin.ext ?_; show 0 * 256 + 1 * (y 0).val = (y 0).val; omega
  | ⟨1, _⟩ => refine Fin.ext ?_; show 0 * 128 + 1 * (y 1).val = (y 1).val; omega

theorem embTe6 (t : Fin 16) (y : S2x128.Idx) : (win13_3.blk t).view.emb y = y := by
  funext a
  match a with
  | ⟨0, _⟩ => refine Fin.ext ?_; show 0 * 2 + 1 * (y 0).val = (y 0).val; omega
  | ⟨1, _⟩ => refine Fin.ext ?_; show 0 * 128 + 1 * (y 1).val = (y 1).val; omega

theorem embGam6 (t : Fin 16) (y : S1x128.Idx) : (win13_4.blk t).view.emb y = y := by
  funext a
  match a with
  | ⟨0, _⟩ => refine Fin.ext ?_; show 0 * 1 + 1 * (y 0).val = (y 0).val; omega
  | ⟨1, _⟩ => refine Fin.ext ?_; show 0 * 128 + 1 * (y 1).val = (y 1).val; omega

theorem embBet6 (t : Fin 16) (y : S1x128.Idx) : (win13_5.blk t).view.emb y = y := by
  funext a
  match a with
  | ⟨0, _⟩ => refine Fin.ext ?_; show 0 * 1 + 1 * (y 0).val = (y 0).val; omega
  | ⟨1, _⟩ => refine Fin.ext ?_; show 0 * 128 + 1 * (y 1).val = (y 1).val; omega

/-- A region whose buffers hold the chunk's rows and token types, and the tables, stores its part of `lnAll`. -/
theorem stores6 (g : Dev nD → S1024x256x128.Idx → Elt F .f32) (tt : Dev nD → S1024x256.Idx → Elt F .i32) (pos : Dev nD → S256x128.Idx → Elt F .f32)
    (te : Dev nD → S2x128.Idx → Elt F .f32) (gam bet : Dev nD → S1x128.Idx → Elt F .f32)
    (hg : ∀ d (x : S128x256x128.Idx), (at_ V d main_v43 : S128x256x128.Idx → Elt F .f32) x = g d (chunkIx 6 x))
    (ht : ∀ d (x : S128x256.Idx), (at_ V d main_v40 : S128x256.Idx → Elt F .i32) x = tt d (chunkIx2 6 x))
    (hp : ∀ d, at_ V d main_arg3 = pos d) (he : ∀ d, at_ V d main_arg4 = te d) (hm : ∀ d, at_ V d main_v1 = gam d) (hb : ∀ d, at_ V d main_v2 = bet d) :
    Stores6 V fun d => lnAll (g d) (tt d) (pos d) (te d) (gam d) (bet d) := by
  intro d t
  funext y
  rw [show (win13_2.blk t).view.read (Elt F) (at_ V d main_arg3) = pos d from funext fun y => (congrArg (at_ V d main_arg3) (embPos6 t y)).trans (congrFun (hp d) y),
    show (win13_3.blk t).view.read (Elt F) (at_ V d main_arg4) = te d from funext fun y => (congrArg (at_ V d main_arg4) (embTe6 t y)).trans (congrFun (he d) y),
    show (win13_4.blk t).view.read (Elt F) (at_ V d main_v1) = gam d from funext fun y => (congrArg (at_ V d main_v1) (embGam6 t y)).trans (congrFun (hm d) y),
    show (win13_5.blk t).view.read (Elt F) (at_ V d main_v2) = bet d from funext fun y => (congrArg (at_ V d main_v2) (embBet6 t y)).trans (congrFun (hb d) y)]
  refine (lnBlk_eq (blkNo 6 t) (g d) (tt d) (pos d) (te d) (gam d) (bet d) _ _
    (fun y => (hg d _).trans (congrArg (g d) (embIn6 t y))) (fun y => (ht d _).trans (congrArg (tt d) (embTt6 t y))) y).trans ?_
  exact congrArg (lnAll (g d) (tt d) (pos d) (te d) (gam d) (bet d)) (emb6 t y).symm

/-- The results' array after the region: `G` at the chunk's sequences, as it was at the others. -/
theorem out6 (d : Dev nD) (i : S1024x256x128.Idx) :
    ((dat6 O b V G d).arrAt 6 cfg13.N : S1024x256x128.Idx → Elt F .f32) i
      = if 16 * 6 ≤ (i 0).val / 8 ∧ (i 0).val / 8 < 16 * 6 + 16 then G d i else (at_ V d main_v44 : S1024x256x128.Idx → Elt F .f32) i :=
  (dat6 O b V G d).arrAt_apply_of_coversWhere 6 (G d) (P := fun i : S1024x256x128.Idx => 16 * 6 ≤ (i 0).val / 8 ∧ (i 0).val / 8 < 16 * 6 + 16)
    (fun β => 16 * 6 ≤ β 0 ∧ β 0 < 16 * 6 + 16) (by decide +kernel) (fun t hf y => rfl) (fun j => Iff.rfl) i (Memref.isWhole_whole _)

/-! ## Region 7 -/

def dat7 (d : Dev nD) : Dat τ (Elt F) Ix ℕ UU ℕ cfg15 d where
  A w := V d (Proc.devRef .tc (arrRef spec15 w))
  after w t := match w with
    | ⟨0, _⟩ => (win15_0.blk t).view.read (Elt F) (at_ V d main_v49)
    | ⟨1, _⟩ => (win15_1.blk t).view.read (Elt F) (at_ V d main_v46)
    | ⟨2, _⟩ => (win15_2.blk t).view.read (Elt F) (at_ V d main_arg3)
    | ⟨3, _⟩ => (win15_3.blk t).view.read (Elt F) (at_ V d main_arg4)
    | ⟨4, _⟩ => (win15_4.blk t).view.read (Elt F) (at_ V d main_v1)
    | ⟨5, _⟩ => (win15_5.blk t).view.read (Elt F) (at_ V d main_v2)
    | ⟨6, _⟩ => fun y => G d ((win15_6.blk t).view.emb y)
  Φ _ := scopedRest (Pipeline.pin (pcfgs (F := F)) adm 7).spec d
  q _ := fullShare
  owed _ := O
  recorded _ := below (F := F) d b

theorem before7_0 (d : Dev nD) (t : Fin cfg15.N) (x : (cfg15.win 0).block.Idx → Elt F (cfg15.win 0).elt) :
    (dat7 O b V G d).before 0 t x = (dat7 O b V G d).after 0 t :=
  ((dat7 O b V G d).before_in_eq_fetched 0 rfl (fun _ => rfl) (fun _ _ _ => rfl) (fun _ => rfl) t x).trans rfl

theorem before7_1 (d : Dev nD) (t : Fin cfg15.N) (x : (cfg15.win 1).block.Idx → Elt F (cfg15.win 1).elt) :
    (dat7 O b V G d).before 1 t x = (dat7 O b V G d).after 1 t :=
  ((dat7 O b V G d).before_in_eq_fetched 1 rfl (fun _ => rfl) (fun _ _ _ => rfl) (fun _ => rfl) t x).trans rfl

theorem before7_2 (d : Dev nD) (t : Fin cfg15.N) (x : (cfg15.win 2).block.Idx → Elt F (cfg15.win 2).elt) :
    (dat7 O b V G d).before 2 t x = (dat7 O b V G d).after 2 t :=
  ((dat7 O b V G d).before_in_eq_fetched 2 rfl (fun _ => rfl) (fun _ _ _ => rfl) (fun _ => rfl) t x).trans rfl

theorem before7_3 (d : Dev nD) (t : Fin cfg15.N) (x : (cfg15.win 3).block.Idx → Elt F (cfg15.win 3).elt) :
    (dat7 O b V G d).before 3 t x = (dat7 O b V G d).after 3 t :=
  ((dat7 O b V G d).before_in_eq_fetched 3 rfl (fun _ => rfl) (fun _ _ _ => rfl) (fun _ => rfl) t x).trans rfl

theorem before7_4 (d : Dev nD) (t : Fin cfg15.N) (x : (cfg15.win 4).block.Idx → Elt F (cfg15.win 4).elt) :
    (dat7 O b V G d).before 4 t x = (dat7 O b V G d).after 4 t :=
  ((dat7 O b V G d).before_in_eq_fetched 4 rfl (fun _ => rfl) (fun _ _ _ => rfl) (fun _ => rfl) t x).trans rfl

theorem before7_5 (d : Dev nD) (t : Fin cfg15.N) (x : (cfg15.win 5).block.Idx → Elt F (cfg15.win 5).elt) :
    (dat7 O b V G d).before 5 t x = (dat7 O b V G d).after 5 t :=
  ((dat7 O b V G d).before_in_eq_fetched 5 rfl (fun _ => rfl) (fun _ _ _ => rfl) (fun _ => rfl) t x).trans rfl

/-- What the body stores at every grid point is `G`'s block there. -/
def Stores7 : Prop := ∀ (d : Dev nD) (t : Fin cfg15.N),
  lnBlk ((win15_0.blk t).view.read (Elt F) (at_ V d main_v49)) ((win15_1.blk t).view.read (Elt F) (at_ V d main_v46))
      ((win15_2.blk t).view.read (Elt F) (at_ V d main_arg3)) ((win15_3.blk t).view.read (Elt F) (at_ V d main_arg4))
      ((win15_4.blk t).view.read (Elt F) (at_ V d main_v1)) ((win15_5.blk t).view.read (Elt F) (at_ V d main_v2))
    = fun y => G d ((win15_6.blk t).view.emb y)

set_option backward.isDefEq.respectTransparency.types false in
theorem body7 (h : Stores7 V G) (d : Dev nD) : BodyObligation (dat7 O b V G d) (defs₀ (F := F)) 𝒱₀ none Set.univ := fun t => by
  rw [bigSep_W15, bigSep_W15]
  rw [show (dat7 O b V G d).Φ t.succ = (dat7 O b V G d).Φ t.castSucc from rfl,
    show (dat7 O b V G d).owesAt none t.succ = (dat7 O b V G d).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  rw [before7_0 O b V G d, before7_1 O b V G d, before7_2 O b V G d, before7_3 O b V G d, before7_4 O b V G d, before7_5 O b V G d]
  iapply (ln_run d (grid15.coords t) (st15_0 t) (hstage15_0 ((cfg15.slots t 0).cast nbuf15_0)) (st15_1 t) (hstage15_1 ((cfg15.slots t 1).cast nbuf15_1)) (st15_2 t) (hstage15_2 ((cfg15.slots t 2).cast nbuf15_2))
    (st15_3 t) (hstage15_3 ((cfg15.slots t 3).cast nbuf15_3)) (st15_4 t) (hstage15_4 ((cfg15.slots t 4).cast nbuf15_4)) (st15_5 t) (hstage15_5 ((cfg15.slots t 5).cast nbuf15_5)) (st15_6 t) (hstage15_6 ((cfg15.slots t 6).cast nbuf15_6))
    ((win15_0.blk t).view.read (Elt F) (at_ V d main_v49)) ((win15_1.blk t).view.read (Elt F) (at_ V d main_v46))
    ((win15_2.blk t).view.read (Elt F) (at_ V d main_arg3)) ((win15_3.blk t).view.read (Elt F) (at_ V d main_arg4))
    ((win15_4.blk t).view.read (Elt F) (at_ V d main_v1)) ((win15_5.blk t).view.read (Elt F) (at_ V d main_v2)) _ _)
  rw [h d t]
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

theorem in_at7 : ∀ t : Fin 16, cc15_transform_1 (grid15.coords t) 0 = t.val := by decide +kernel
theorem tt_at7 : ∀ t : Fin 16, cc15_transform_2 (grid15.coords t) 0 = t.val := by decide +kernel
theorem out_at7 : ∀ t : Fin 16, cc15_transform_7 (grid15.coords t) 0 = 16 * 7 + t.val := by decide +kernel

/-- Block `t` of the results' window lies at block `16 * 7 + t` of the results. -/
theorem emb7 (t : Fin 16) (y : S8x256x128.Idx) : (win15_6.blk t).view.emb y = inAll (blkNo 7 t) y := by
  have hx := out_at7 t
  funext a
  match a with
  | ⟨0, _⟩ => refine Fin.ext ?_; show cc15_transform_7 (grid15.coords t) 0 * 8 + 1 * (y 0).val = 8 * (16 * 7 + t.val) + (y 0).val; omega
  | ⟨1, _⟩ => refine Fin.ext ?_; show 0 * 256 + 1 * (y 1).val = (y 1).val; omega
  | ⟨2, _⟩ => refine Fin.ext ?_; show 0 * 128 + 1 * (y 2).val = (y 2).val; omega

theorem embIn7 (t : Fin 16) (y : S8x256x128.Idx) : chunkIx 7 ((win15_0.blk t).view.emb y) = inAll (blkNo 7 t) y := by
  have hx := in_at7 t
  funext a
  match a with
  | ⟨0, _⟩ => refine Fin.ext ?_; show 128 * 7 + (cc15_transform_1 (grid15.coords t) 0 * 8 + 1 * (y 0).val) = 8 * (16 * 7 + t.val) + (y 0).val; omega
  | ⟨1, _⟩ => refine Fin.ext ?_; show 0 * 256 + 1 * (y 1).val = (y 1).val; omega
  | ⟨2, _⟩ => refine Fin.ext ?_; show 0 * 128 + 1 * (y 2).val = (y 2).val; omega

theorem embTt7 (t : Fin 16) (y : S8x256.Idx) : chunkIx2 7 ((win15_1.blk t).view.emb y) = inAll2 (blkNo 7 t) y := by
  have hx := tt_at7 t
  funext a
  match a with
  | ⟨0, _⟩ => refine Fin.ext ?_; show 128 * 7 + (cc15_transform_2 (grid15.coords t) 0 * 8 + 1 * (y 0).val) = 8 * (16 * 7 + t.val) + (y 0).val; omega
  | ⟨1, _⟩ => refine Fin.ext ?_; show 0 * 256 + 1 * (y 1).val = (y 1).val; omega

theorem embPos7 (t : Fin 16) (y : S256x128.Idx) : (win15_2.blk t).view.emb y = y := by
  funext a
  match a with
  | ⟨0, _⟩ => refine Fin.ext ?_; show 0 * 256 + 1 * (y 0).val = (y 0).val; omega
  | ⟨1, _⟩ => refine Fin.ext ?_; show 0 * 128 + 1 * (y 1).val = (y 1).val; omega

theorem embTe7 (t : Fin 16) (y : S2x128.Idx) : (win15_3.blk t).view.emb y = y := by
  funext a
  match a with
  | ⟨0, _⟩ => refine Fin.ext ?_; show 0 * 2 + 1 * (y 0).val = (y 0).val; omega
  | ⟨1, _⟩ => refine Fin.ext ?_; show 0 * 128 + 1 * (y 1).val = (y 1).val; omega

theorem embGam7 (t : Fin 16) (y : S1x128.Idx) : (win15_4.blk t).view.emb y = y := by
  funext a
  match a with
  | ⟨0, _⟩ => refine Fin.ext ?_; show 0 * 1 + 1 * (y 0).val = (y 0).val; omega
  | ⟨1, _⟩ => refine Fin.ext ?_; show 0 * 128 + 1 * (y 1).val = (y 1).val; omega

theorem embBet7 (t : Fin 16) (y : S1x128.Idx) : (win15_5.blk t).view.emb y = y := by
  funext a
  match a with
  | ⟨0, _⟩ => refine Fin.ext ?_; show 0 * 1 + 1 * (y 0).val = (y 0).val; omega
  | ⟨1, _⟩ => refine Fin.ext ?_; show 0 * 128 + 1 * (y 1).val = (y 1).val; omega

/-- A region whose buffers hold the chunk's rows and token types, and the tables, stores its part of `lnAll`. -/
theorem stores7 (g : Dev nD → S1024x256x128.Idx → Elt F .f32) (tt : Dev nD → S1024x256.Idx → Elt F .i32) (pos : Dev nD → S256x128.Idx → Elt F .f32)
    (te : Dev nD → S2x128.Idx → Elt F .f32) (gam bet : Dev nD → S1x128.Idx → Elt F .f32)
    (hg : ∀ d (x : S128x256x128.Idx), (at_ V d main_v49 : S128x256x128.Idx → Elt F .f32) x = g d (chunkIx 7 x))
    (ht : ∀ d (x : S128x256.Idx), (at_ V d main_v46 : S128x256.Idx → Elt F .i32) x = tt d (chunkIx2 7 x))
    (hp : ∀ d, at_ V d main_arg3 = pos d) (he : ∀ d, at_ V d main_arg4 = te d) (hm : ∀ d, at_ V d main_v1 = gam d) (hb : ∀ d, at_ V d main_v2 = bet d) :
    Stores7 V fun d => lnAll (g d) (tt d) (pos d) (te d) (gam d) (bet d) := by
  intro d t
  funext y
  rw [show (win15_2.blk t).view.read (Elt F) (at_ V d main_arg3) = pos d from funext fun y => (congrArg (at_ V d main_arg3) (embPos7 t y)).trans (congrFun (hp d) y),
    show (win15_3.blk t).view.read (Elt F) (at_ V d main_arg4) = te d from funext fun y => (congrArg (at_ V d main_arg4) (embTe7 t y)).trans (congrFun (he d) y),
    show (win15_4.blk t).view.read (Elt F) (at_ V d main_v1) = gam d from funext fun y => (congrArg (at_ V d main_v1) (embGam7 t y)).trans (congrFun (hm d) y),
    show (win15_5.blk t).view.read (Elt F) (at_ V d main_v2) = bet d from funext fun y => (congrArg (at_ V d main_v2) (embBet7 t y)).trans (congrFun (hb d) y)]
  refine (lnBlk_eq (blkNo 7 t) (g d) (tt d) (pos d) (te d) (gam d) (bet d) _ _
    (fun y => (hg d _).trans (congrArg (g d) (embIn7 t y))) (fun y => (ht d _).trans (congrArg (tt d) (embTt7 t y))) y).trans ?_
  exact congrArg (lnAll (g d) (tt d) (pos d) (te d) (gam d) (bet d)) (emb7 t y).symm

/-- The results' array after the region: `G` at the chunk's sequences, as it was at the others. -/
theorem out7 (d : Dev nD) (i : S1024x256x128.Idx) :
    ((dat7 O b V G d).arrAt 6 cfg15.N : S1024x256x128.Idx → Elt F .f32) i
      = if 16 * 7 ≤ (i 0).val / 8 ∧ (i 0).val / 8 < 16 * 7 + 16 then G d i else (at_ V d main_v50 : S1024x256x128.Idx → Elt F .f32) i :=
  (dat7 O b V G d).arrAt_apply_of_coversWhere 6 (G d) (P := fun i : S1024x256x128.Idx => 16 * 7 ≤ (i 0).val / 8 ∧ (i 0).val / 8 < 16 * 7 + 16)
    (fun β => 16 * 7 ≤ β 0 ∧ β 0 < 16 * 7 + 16) (by decide +kernel) (fun t hf y => rfl) (fun j => Iff.rfl) i (Memref.isWhole_whole _)

end Cert.Proof.Gather

end
-- ==== Proof.Parts.lean ====
/-
  A chunk's part of the whole: which rows of the word table its gathered rows are, and which token types its
  slice of them holds.

  Chunk `k` is the sequences from `128 k` on. Its indices are those from place `32768 k` of the one line of
  262144, so its gathered row `256 x + s` is that of place `s` of sequence `128 k + x`.
-/
module

public import proofs.«01_k».proof.Proof.Calls
public import proofs.«01_k».proof.Proof.Regions
public import Idealize.ShloMosaic.Lib.Pipeline.Value
public import Idealize.ShloMosaic.Lib.Pointwise.ShapeOpsCore

@[expose] public section

noncomputable section

namespace Cert.Proof.Gather

open Cert.KernelIdeal Cert.KernelIdeal.Gen
open Idealize.ShloMosaic

variable {F : FTy → Type} [FloatOps F]

variable (m : (ℓ : Loc nD τ sig) → Buf (Elt F) ℓ) (hm : InRows m) (d : Dev nD)

/-- An index of the line of all indices, and of one chunk's. -/
def flatIx (n : Fin 262144) : S262144.Idx := ValueIdx.ix1 n
def lineIx (n : Fin 32768) : S32768.Idx := ValueIdx.ix1 n

/-- Entry `j` of the word table's row `n`. -/
def wordIx (n : Fin 100000) (j : Fin 128) : S100000x128.Idx := ValueIdx.ix2 n j

/-- The word table's row of every place of every sequence. -/
def gAll : S1024x256x128.Idx → Elt F .f32 := fun i =>
  (m (tabLoc d) : S100000x128.Idx → Elt F .f32) (wordIx ⟨BitVec.toNat (m (idsLoc d) (allIx2 (i 0) (i 1))), hm d _⟩ (i 2))

theorem flatIds_at (b : Fin 1024) (s : Fin 256) (n : Fin 262144) (hn : n.val = 256 * b.val + s.val) : flatIds m d (flatIx n) = m (idsLoc d) (allIx2 b s) := by
  unfold flatIds
  refine shapeCast_apply (s := S1024x256) (t := S262144) _ _ (flatIx n) (allIx2 b s) ?_
  rw [Shape.rowMajor_val_two, Shape.rowMajor_val_one]
  show b.val * 256 + s.val = n.val
  omega

theorem chunkIds_at (k : Fin 8) (c : BitVec 32) (hc : c.toInt = ((32768 * k.val : ℕ) : ℤ)) (n : Fin 32768) :
    chunkIds m d c (lineIx n) = flatIds m d (flatIx ⟨32768 * k.val + n.val, by omega⟩) := by
  unfold chunkIds
  rw [Host.dynamicSlice_apply]
  refine congrArg (flatIds m d) (funext fun a => Fin.ext ?_)
  match a with
  | ⟨0, _⟩ =>
    show Host.clampedStart S262144 S32768 _ (fun _ => c.toInt) 0 + n.val = 32768 * k.val + n.val
    rw [Host.clampedStart_of_le _ _ _ (32768 * k.val) hc (by show 32768 * k.val + 32768 ≤ 262144; omega)]

theorem rowIds_at (c : BitVec 32) (n : Fin 32768) : rowIds m d c (rowIx n) = chunkIds m d c (lineIx n) := by
  unfold rowIds
  refine shapeCast_apply _ _ _ _ ?_
  rw [Shape.rowMajor_val_two, Shape.rowMajor_val_one]
  show n.val = 0 * 32768 + n.val
  omega

/-- The chunk's index of place `s` of its sequence `x`. -/
theorem rowIds_place (k : Fin 8) (c : BitVec 32) (hc : c.toInt = ((32768 * k.val : ℕ) : ℤ)) (x : Fin 128) (s : Fin 256) (n : Fin 32768)
    (hn : n.val = 256 * x.val + s.val) (b : Fin 1024) (hb : b.val = 128 * k.val + x.val) :
    rowIds m d c (rowIx n) = m (idsLoc d) (allIx2 b s) := by
  rw [rowIds_at, chunkIds_at m d k c hc]
  exact flatIds_at m d b s _ (by show 32768 * k.val + n.val = _; omega)

/-- An index of the gathered rows. -/
def gatIx (n : Fin 32768) (j : Fin 128) : S32768x128.Idx := ValueIdx.ix2 n j

theorem rowsOf_at (c : BitVec 32) (n : Fin 32768) (j : Fin 128) :
    rowsOf m hm d c (gatIx n j) = (m (tabLoc d) : S100000x128.Idx → Elt F .f32) (wordIx ⟨BitVec.toNat (rowIds m d c (rowIx n)), rowIds_lt m hm d c _⟩ j) := by
  unfold rowsOf taken
  refine congrArg (m (tabLoc d) : S100000x128.Idx → Elt F .f32) (funext fun a => ?_)
  match a with
  | 0 => rfl
  | 1 => rfl

theorem gAll_at (b : Fin 1024) (s : Fin 256) (j : Fin 128) :
    gAll m hm d (allIx b s j) = (m (tabLoc d) : S100000x128.Idx → Elt F .f32) (wordIx ⟨BitVec.toNat (m (idsLoc d) (allIx2 b s)), hm d _⟩ j) := rfl

/-- The chunk's gathered rows, by sequence, are its part of them all. -/
theorem rows_part (k : Fin 8) (c : BitVec 32) (hc : c.toInt = ((32768 * k.val : ℕ) : ℤ)) (x : S128x256x128.Idx) :
    shapeCast S128x256x128 (rowsOf m hm d c) shapeCasts_S32768x128_S128x256x128 x = gAll m hm d (chunkIx k x) := by
  have h0 : (x 0).val < 128 := (x 0).isLt
  have h1 : (x 1).val < 256 := (x 1).isLt
  have h2 : (x 2).val < 128 := (x 2).isLt
  refine (shapeCast_apply (rowsOf m hm d c) shapeCasts_S32768x128_S128x256x128 x (gatIx ⟨256 * (x 0).val + (x 1).val, by omega⟩ (x 2)) ?_).trans ?_
  · rw [Shape.rowMajor_val_two, Shape.rowMajor_val_three]
    show (256 * (x 0).val + (x 1).val) * 128 + (x 2).val = ((x 0).val * 256 + (x 1).val) * 128 + (x 2).val
    omega
  · refine (rowsOf_at m hm d c _ _).trans (Eq.trans ?_ (gAll_at m hm d _ _ _).symm)
    exact congrArg (fun r => (m (tabLoc d) : S100000x128.Idx → Elt F .f32) (wordIx r (x 2)))
      (Fin.ext (congrArg BitVec.toNat (rowIds_place m d k c hc (x 0) (x 1) _ rfl _ rfl)))

/-- The chunk's slice of the token types is its part of them. -/
theorem types_part (tt : S1024x256.Idx → Elt F .i32) (k : Fin 8) (start : Fin 2 → ℤ) (h0 : start 0 = ((128 * k.val : ℕ) : ℤ)) (h1 : start 1 = 0)
    (x : S128x256.Idx) : Host.dynamicSlice S128x256 tt start sliceFits_S1024x256_S128x256 x = tt (chunkIx2 k x) := by
  rw [Host.dynamicSlice_apply]
  refine congrArg tt (funext fun a => Fin.ext ?_)
  match a with
  | ⟨0, _⟩ =>
    show Host.clampedStart S1024x256 S128x256 _ start 0 + (x 0).val = 128 * k.val + (x 0).val
    rw [Host.clampedStart_of_le _ _ _ (128 * k.val) h0 (by show 128 * k.val + 128 ≤ 1024; omega)]
  | ⟨1, _⟩ =>
    show Host.clampedStart S1024x256 S128x256 _ start 1 + (x 1).val = (x 1).val
    rw [Host.clampedStart_of_le _ _ _ 0 h1 (by show 0 + 256 ≤ 256; omega)]
    omega

/-- The scale and the offset, in one row each. -/
def gamRow : S1x128.Idx → Elt F .f32 := shapeCast S1x128 (m ((SparseCore.T d).loc main_arg5)) shapeCasts_S128_S1x128
def betRow : S1x128.Idx → Elt F .f32 := shapeCast S1x128 (m ((SparseCore.T d).loc main_arg6)) shapeCasts_S128_S1x128

/-- What the kernel computes. -/
def result : S1024x256x128.Idx → Elt F .f32 :=
  lnAll (gAll m hm d) (m ((SparseCore.T d).loc main_arg1)) (m ((SparseCore.T d).loc main_arg3)) (m ((SparseCore.T d).loc main_arg4)) (gamRow m d) (betRow m d)

/-- What @main's buffers hold when `q` chunks are done: the arguments and the host's reshapes as launched, and the
    result at the sequences of those chunks. -/
structure Inv (q : ℕ) (W : Valuation τ sig (Elt F)) (R : S1024x256x128.Idx → Elt F .f32) : Prop where
  ids : W (Proc.devRef .tc main_arg0) = m (idsLoc d)
  tts : W (Proc.devRef .tc main_arg1) = m ((SparseCore.T d).loc main_arg1)
  tab : W (Proc.devRef .tc main_arg2) = m (tabLoc d)
  pos : W (Proc.devRef .tc main_arg3) = m ((SparseCore.T d).loc main_arg3)
  typ : W (Proc.devRef .tc main_arg4) = m ((SparseCore.T d).loc main_arg4)
  sca : W (Proc.devRef .tc main_arg5) = m ((SparseCore.T d).loc main_arg5)
  off : W (Proc.devRef .tc main_arg6) = m ((SparseCore.T d).loc main_arg6)
  flat : W (Proc.devRef .tc main_v0) = flatIds m d
  gam : W (Proc.devRef .tc main_v1) = gamRow m d
  bet : W (Proc.devRef .tc main_v2) = betRow m d
  res : ∀ i : S1024x256x128.Idx, (i 0).val < 128 * q → R i = result m hm d i

end Cert.Proof.Gather

end
-- ==== Proof.Lines.lean ====
/-
  @main's straight lines: what the host does before each SparseCore call, and between it and the region after it.

  Chunk `q`'s first line cuts its indices and its token types out and puts the indices in one row; its second
  puts the gathered rows by sequence and, from the second chunk on, copies the results so far into the array
  the region writes.
-/
module

public import proofs.«01_k».proof.Proof.Parts
public import Idealize.ShloMosaic.Lib.StableHlo.RunClose

@[expose] public section

noncomputable section

namespace Cert.Proof.Gather

open Cert.KernelIdeal Cert.KernelIdeal.Gen
open Idealize.ShloMosaic Idealize.ShloMosaic.StableHlo
open Idealize.ShloMosaic.Pipeline (ucRefs sub_ucRefs)

variable {F : FTy → Type} [FloatOps F]

variable (m : (ℓ : Loc nD τ sig) → Buf (Elt F) ℓ) (hm : InRows m) (d : Dev nD)

/-- The host's reshapes before the first chunk. -/
def headOps : List (HloOp τ sig (Elt F)) := [
  StableHlo.reshape main_arg0 main_v0 (rfl : (.i32 : EltTy) = .i32) shapeCasts_S1024x256_S262144,
  StableHlo.reshape main_arg5 main_v1 (rfl : (.f32 : EltTy) = .f32) shapeCasts_S128_S1x128,
  StableHlo.reshape main_arg6 main_v2 (rfl : (.f32 : EltTy) = .f32) shapeCasts_S128_S1x128]

theorem headOps_sub : ∀ op ∈ (headOps : List (HloOp τ sig (Elt F))), op.bufs ⊆ ucRefs τ sig :=
  fun op h => sub_ucRefs op (List.forall_iff_forall_mem.mp (show List.Forall (fun op : HloOp τ sig (Elt F) => op.bufs ⊆ tcRefs τ sig) headOps from ⟨reshape_bufs_sub .., reshape_bufs_sub .., reshape_bufs_sub ..⟩) op h)
theorem headOps_fresh : ∀ op ∈ (headOps : List (HloOp τ sig (Elt F))), op.fresh = ∅ :=
  List.forall_iff_forall_mem.mp (show List.Forall (fun op : HloOp τ sig (Elt F) => op.fresh = ∅) headOps from ⟨rfl, rfl, rfl⟩)
theorem headOps_keeps (W : Valuation τ sig (Elt F)) (r : Ref sig .tc) (hr : r ∉ [main_v0, main_v1, main_v2]) :
    after headOps W (Proc.devRef .tc r) = W (Proc.devRef .tc r) :=
  after_of_writes_sub headOps W (forall_writes_sub_of_map rfl) hr

theorem headOps_ids (W : Valuation τ sig (Elt F)) (h : W (Proc.devRef .tc main_arg0) = m (idsLoc d)) :
    after headOps W (Proc.devRef .tc main_v0) = flatIds m d := by
  unfold headOps
  after_results_simp
  rw [h]; rfl
theorem headOps_gam (W : Valuation τ sig (Elt F)) (h : W (Proc.devRef .tc main_arg5) = m ((SparseCore.T d).loc main_arg5)) :
    after headOps W (Proc.devRef .tc main_v1) = gamRow m d := by
  unfold headOps
  after_results_simp
  rw [h]; rfl
theorem headOps_bet (W : Valuation τ sig (Elt F)) (h : W (Proc.devRef .tc main_arg6) = m ((SparseCore.T d).loc main_arg6)) :
    after headOps W (Proc.devRef .tc main_v2) = betRow m d := by
  unfold headOps
  after_results_simp
  rw [h]; rfl

/-! ## Chunk 0 -/

/-- Chunk 0's indices and token types, cut out. -/
def slices0 : List (HloOp τ sig (Elt F)) := [
  StableHlo.nullary main_c (constantI S_ 32 0#32),
  StableHlo.unaryIndexed main_v0 ![main_c] ⟨S_, .i32⟩ main_v3 ((fun x i => Host.dynamicSlice S32768 x (fun k => (i k (Shape.Idx.first h_S_)).toInt) sliceFits_S262144_S32768) : (⟨S262144, .i32⟩ : BufTy).Contents (Elt F) → (Fin 1 → (⟨S_, .i32⟩ : BufTy).Contents (Elt F)) → (⟨S32768, .i32⟩ : BufTy).Contents (Elt F)),
  StableHlo.nullary main_c_0 (constantI S_ 32 0#32),
  StableHlo.nullary main_c_1 (constantI S_ 32 0#32),
  StableHlo.unaryIndexed main_arg1 ![main_c_0, main_c_1] ⟨S_, .i32⟩ main_v4 ((fun x i => Host.dynamicSlice S128x256 x (fun k => (i k (Shape.Idx.first h_S_)).toInt) sliceFits_S1024x256_S128x256) : (⟨S1024x256, .i32⟩ : BufTy).Contents (Elt F) → (Fin 2 → (⟨S_, .i32⟩ : BufTy).Contents (Elt F)) → (⟨S128x256, .i32⟩ : BufTy).Contents (Elt F)),
  StableHlo.reshape main_v3 main_v5 (rfl : (.i32 : EltTy) = .i32) shapeCasts_S32768_S1x32768]

theorem slices0_sub : ∀ op ∈ (slices0 : List (HloOp τ sig (Elt F))), op.bufs ⊆ ucRefs τ sig :=
  fun op h => sub_ucRefs op (List.forall_iff_forall_mem.mp (show List.Forall (fun op : HloOp τ sig (Elt F) => op.bufs ⊆ tcRefs τ sig) slices0 from ⟨nullary_bufs_sub .., unaryIndexed_bufs_sub .., nullary_bufs_sub .., nullary_bufs_sub .., unaryIndexed_bufs_sub .., reshape_bufs_sub ..⟩) op h)
theorem slices0_fresh : ∀ op ∈ (slices0 : List (HloOp τ sig (Elt F))), op.fresh = ∅ :=
  List.forall_iff_forall_mem.mp (show List.Forall (fun op : HloOp τ sig (Elt F) => op.fresh = ∅) slices0 from ⟨rfl, rfl, rfl, rfl, rfl, rfl⟩)
theorem slices0_keeps (W : Valuation τ sig (Elt F)) (r : Ref sig .tc) (hr : r ∉ [main_c, main_v3, main_c_0, main_c_1, main_v4, main_v5]) :
    after slices0 W (Proc.devRef .tc r) = W (Proc.devRef .tc r) :=
  after_of_writes_sub slices0 W (forall_writes_sub_of_map rfl) hr

theorem slices0_row (W : Valuation τ sig (Elt F)) (h : W (Proc.devRef .tc main_v0) = flatIds m d) :
    after slices0 W (Proc.devRef .tc main_v5) = rowIds m d (first 0) := by
  unfold slices0
  after_results_simp_entrywise
  rw [h]; rfl
theorem slices0_types (W : Valuation τ sig (Elt F)) (h : W (Proc.devRef .tc main_arg1) = m ((SparseCore.T d).loc main_arg1)) (x : S128x256.Idx) :
    after slices0 W (Proc.devRef .tc main_v4) x = (m ((SparseCore.T d).loc main_arg1) : S1024x256.Idx → Elt F .i32) (chunkIx2 0 x) := by
  rw [← h]
  unfold slices0
  after_results_simp_entrywise
  exact types_part (W (Proc.devRef .tc main_arg1)) 0 _ (by rfl) (by rfl) x

/-- Chunk 0's gathered rows, by sequence. -/
def casts0 : List (HloOp τ sig (Elt F)) := [
  StableHlo.reshape main_v6 main_v7 (rfl : (.f32 : EltTy) = .f32) shapeCasts_S32768x128_S128x256x128]

theorem casts0_sub : ∀ op ∈ (casts0 : List (HloOp τ sig (Elt F))), op.bufs ⊆ ucRefs τ sig :=
  fun op h => sub_ucRefs op (List.forall_iff_forall_mem.mp (show List.Forall (fun op : HloOp τ sig (Elt F) => op.bufs ⊆ tcRefs τ sig) casts0 from reshape_bufs_sub ..) op h)
theorem casts0_fresh : ∀ op ∈ (casts0 : List (HloOp τ sig (Elt F))), op.fresh = ∅ :=
  List.forall_iff_forall_mem.mp (show List.Forall (fun op : HloOp τ sig (Elt F) => op.fresh = ∅) casts0 from rfl)
theorem casts0_keeps (W : Valuation τ sig (Elt F)) (r : Ref sig .tc) (hr : r ∉ [main_v7]) :
    after casts0 W (Proc.devRef .tc r) = W (Proc.devRef .tc r) :=
  after_of_writes_sub casts0 W (forall_writes_sub_of_map rfl) hr

theorem casts0_rows (W : Valuation τ sig (Elt F)) (h : W (Proc.devRef .tc main_v6) = rowsOf m hm d (first 0)) (x : S128x256x128.Idx) :
    after casts0 W (Proc.devRef .tc main_v7) x = gAll m hm d (chunkIx 0 x) := by
  unfold casts0
  after_results_simp
  rw [h]
  exact rows_part m hm d 0 (first 0) (by decide) x

/-! ## Chunk 1 -/

/-- Chunk 1's indices and token types, cut out. -/
def slices1 : List (HloOp τ sig (Elt F)) := [
  StableHlo.nullary main_c_2 (constantI S_ 32 32768#32),
  StableHlo.unaryIndexed main_v0 ![main_c_2] ⟨S_, .i32⟩ main_v9 ((fun x i => Host.dynamicSlice S32768 x (fun k => (i k (Shape.Idx.first h_S_)).toInt) sliceFits_S262144_S32768) : (⟨S262144, .i32⟩ : BufTy).Contents (Elt F) → (Fin 1 → (⟨S_, .i32⟩ : BufTy).Contents (Elt F)) → (⟨S32768, .i32⟩ : BufTy).Contents (Elt F)),
  StableHlo.nullary main_c_3 (constantI S_ 32 128#32),
  StableHlo.nullary main_c_4 (constantI S_ 32 0#32),
  StableHlo.unaryIndexed main_arg1 ![main_c_3, main_c_4] ⟨S_, .i32⟩ main_v10 ((fun x i => Host.dynamicSlice S128x256 x (fun k => (i k (Shape.Idx.first h_S_)).toInt) sliceFits_S1024x256_S128x256) : (⟨S1024x256, .i32⟩ : BufTy).Contents (Elt F) → (Fin 2 → (⟨S_, .i32⟩ : BufTy).Contents (Elt F)) → (⟨S128x256, .i32⟩ : BufTy).Contents (Elt F)),
  StableHlo.reshape main_v9 main_v11 (rfl : (.i32 : EltTy) = .i32) shapeCasts_S32768_S1x32768]

theorem slices1_sub : ∀ op ∈ (slices1 : List (HloOp τ sig (Elt F))), op.bufs ⊆ ucRefs τ sig :=
  fun op h => sub_ucRefs op (List.forall_iff_forall_mem.mp (show List.Forall (fun op : HloOp τ sig (Elt F) => op.bufs ⊆ tcRefs τ sig) slices1 from ⟨nullary_bufs_sub .., unaryIndexed_bufs_sub .., nullary_bufs_sub .., nullary_bufs_sub .., unaryIndexed_bufs_sub .., reshape_bufs_sub ..⟩) op h)
theorem slices1_fresh : ∀ op ∈ (slices1 : List (HloOp τ sig (Elt F))), op.fresh = ∅ :=
  List.forall_iff_forall_mem.mp (show List.Forall (fun op : HloOp τ sig (Elt F) => op.fresh = ∅) slices1 from ⟨rfl, rfl, rfl, rfl, rfl, rfl⟩)
theorem slices1_keeps (W : Valuation τ sig (Elt F)) (r : Ref sig .tc) (hr : r ∉ [main_c_2, main_v9, main_c_3, main_c_4, main_v10, main_v11]) :
    after slices1 W (Proc.devRef .tc r) = W (Proc.devRef .tc r) :=
  after_of_writes_sub slices1 W (forall_writes_sub_of_map rfl) hr

theorem slices1_row (W : Valuation τ sig (Elt F)) (h : W (Proc.devRef .tc main_v0) = flatIds m d) :
    after slices1 W (Proc.devRef .tc main_v11) = rowIds m d (first 1) := by
  unfold slices1
  after_results_simp_entrywise
  rw [h]; rfl
theorem slices1_types (W : Valuation τ sig (Elt F)) (h : W (Proc.devRef .tc main_arg1) = m ((SparseCore.T d).loc main_arg1)) (x : S128x256.Idx) :
    after slices1 W (Proc.devRef .tc main_v10) x = (m ((SparseCore.T d).loc main_arg1) : S1024x256.Idx → Elt F .i32) (chunkIx2 1 x) := by
  rw [← h]
  unfold slices1
  after_results_simp_entrywise
  exact types_part (W (Proc.devRef .tc main_arg1)) 1 _ (by rfl) (by rfl) x

/-- Chunk 1's gathered rows, by sequence, and the results so far. -/
def casts1 : List (HloOp τ sig (Elt F)) := [
  StableHlo.reshape main_v12 main_v13 (rfl : (.f32 : EltTy) = .f32) shapeCasts_S32768x128_S128x256x128,
  StableHlo.unary main_v8 main_v14 id]

theorem casts1_sub : ∀ op ∈ (casts1 : List (HloOp τ sig (Elt F))), op.bufs ⊆ ucRefs τ sig :=
  fun op h => sub_ucRefs op (List.forall_iff_forall_mem.mp (show List.Forall (fun op : HloOp τ sig (Elt F) => op.bufs ⊆ tcRefs τ sig) casts1 from ⟨reshape_bufs_sub .., unary_bufs_sub ..⟩) op h)
theorem casts1_fresh : ∀ op ∈ (casts1 : List (HloOp τ sig (Elt F))), op.fresh = ∅ :=
  List.forall_iff_forall_mem.mp (show List.Forall (fun op : HloOp τ sig (Elt F) => op.fresh = ∅) casts1 from ⟨rfl, rfl⟩)
theorem casts1_keeps (W : Valuation τ sig (Elt F)) (r : Ref sig .tc) (hr : r ∉ [main_v13, main_v14]) :
    after casts1 W (Proc.devRef .tc r) = W (Proc.devRef .tc r) :=
  after_of_writes_sub casts1 W (forall_writes_sub_of_map rfl) hr

theorem casts1_rows (W : Valuation τ sig (Elt F)) (h : W (Proc.devRef .tc main_v12) = rowsOf m hm d (first 1)) (x : S128x256x128.Idx) :
    after casts1 W (Proc.devRef .tc main_v13) x = gAll m hm d (chunkIx 1 x) := by
  unfold casts1
  after_results_simp
  rw [h]
  exact rows_part m hm d 1 (first 1) (by decide) x
theorem casts1_results (W : Valuation τ sig (Elt F)) : after casts1 W (Proc.devRef .tc main_v14) = W (Proc.devRef .tc main_v8) := by
  unfold casts1
  after_results_simp
  rfl

/-! ## Chunk 2 -/

/-- Chunk 2's indices and token types, cut out. -/
def slices2 : List (HloOp τ sig (Elt F)) := [
  StableHlo.nullary main_c_5 (constantI S_ 32 65536#32),
  StableHlo.unaryIndexed main_v0 ![main_c_5] ⟨S_, .i32⟩ main_v15 ((fun x i => Host.dynamicSlice S32768 x (fun k => (i k (Shape.Idx.first h_S_)).toInt) sliceFits_S262144_S32768) : (⟨S262144, .i32⟩ : BufTy).Contents (Elt F) → (Fin 1 → (⟨S_, .i32⟩ : BufTy).Contents (Elt F)) → (⟨S32768, .i32⟩ : BufTy).Contents (Elt F)),
  StableHlo.nullary main_c_6 (constantI S_ 32 256#32),
  StableHlo.nullary main_c_7 (constantI S_ 32 0#32),
  StableHlo.unaryIndexed main_arg1 ![main_c_6, main_c_7] ⟨S_, .i32⟩ main_v16 ((fun x i => Host.dynamicSlice S128x256 x (fun k => (i k (Shape.Idx.first h_S_)).toInt) sliceFits_S1024x256_S128x256) : (⟨S1024x256, .i32⟩ : BufTy).Contents (Elt F) → (Fin 2 → (⟨S_, .i32⟩ : BufTy).Contents (Elt F)) → (⟨S128x256, .i32⟩ : BufTy).Contents (Elt F)),
  StableHlo.reshape main_v15 main_v17 (rfl : (.i32 : EltTy) = .i32) shapeCasts_S32768_S1x32768]

theorem slices2_sub : ∀ op ∈ (slices2 : List (HloOp τ sig (Elt F))), op.bufs ⊆ ucRefs τ sig :=
  fun op h => sub_ucRefs op (List.forall_iff_forall_mem.mp (show List.Forall (fun op : HloOp τ sig (Elt F) => op.bufs ⊆ tcRefs τ sig) slices2 from ⟨nullary_bufs_sub .., unaryIndexed_bufs_sub .., nullary_bufs_sub .., nullary_bufs_sub .., unaryIndexed_bufs_sub .., reshape_bufs_sub ..⟩) op h)
theorem slices2_fresh : ∀ op ∈ (slices2 : List (HloOp τ sig (Elt F))), op.fresh = ∅ :=
  List.forall_iff_forall_mem.mp (show List.Forall (fun op : HloOp τ sig (Elt F) => op.fresh = ∅) slices2 from ⟨rfl, rfl, rfl, rfl, rfl, rfl⟩)
theorem slices2_keeps (W : Valuation τ sig (Elt F)) (r : Ref sig .tc) (hr : r ∉ [main_c_5, main_v15, main_c_6, main_c_7, main_v16, main_v17]) :
    after slices2 W (Proc.devRef .tc r) = W (Proc.devRef .tc r) :=
  after_of_writes_sub slices2 W (forall_writes_sub_of_map rfl) hr

theorem slices2_row (W : Valuation τ sig (Elt F)) (h : W (Proc.devRef .tc main_v0) = flatIds m d) :
    after slices2 W (Proc.devRef .tc main_v17) = rowIds m d (first 2) := by
  unfold slices2
  after_results_simp_entrywise
  rw [h]; rfl
theorem slices2_types (W : Valuation τ sig (Elt F)) (h : W (Proc.devRef .tc main_arg1) = m ((SparseCore.T d).loc main_arg1)) (x : S128x256.Idx) :
    after slices2 W (Proc.devRef .tc main_v16) x = (m ((SparseCore.T d).loc main_arg1) : S1024x256.Idx → Elt F .i32) (chunkIx2 2 x) := by
  rw [← h]
  unfold slices2
  after_results_simp_entrywise
  exact types_part (W (Proc.devRef .tc main_arg1)) 2 _ (by rfl) (by rfl) x

/-- Chunk 2's gathered rows, by sequence, and the results so far. -/
def casts2 : List (HloOp τ sig (Elt F)) := [
  StableHlo.reshape main_v18 main_v19 (rfl : (.f32 : EltTy) = .f32) shapeCasts_S32768x128_S128x256x128,
  StableHlo.unary main_v14 main_v20 id]

theorem casts2_sub : ∀ op ∈ (casts2 : List (HloOp τ sig (Elt F))), op.bufs ⊆ ucRefs τ sig :=
  fun op h => sub_ucRefs op (List.forall_iff_forall_mem.mp (show List.Forall (fun op : HloOp τ sig (Elt F) => op.bufs ⊆ tcRefs τ sig) casts2 from ⟨reshape_bufs_sub .., unary_bufs_sub ..⟩) op h)
theorem casts2_fresh : ∀ op ∈ (casts2 : List (HloOp τ sig (Elt F))), op.fresh = ∅ :=
  List.forall_iff_forall_mem.mp (show List.Forall (fun op : HloOp τ sig (Elt F) => op.fresh = ∅) casts2 from ⟨rfl, rfl⟩)
theorem casts2_keeps (W : Valuation τ sig (Elt F)) (r : Ref sig .tc) (hr : r ∉ [main_v19, main_v20]) :
    after casts2 W (Proc.devRef .tc r) = W (Proc.devRef .tc r) :=
  after_of_writes_sub casts2 W (forall_writes_sub_of_map rfl) hr

theorem casts2_rows (W : Valuation τ sig (Elt F)) (h : W (Proc.devRef .tc main_v18) = rowsOf m hm d (first 2)) (x : S128x256x128.Idx) :
    after casts2 W (Proc.devRef .tc main_v19) x = gAll m hm d (chunkIx 2 x) := by
  unfold casts2
  after_results_simp
  rw [h]
  exact rows_part m hm d 2 (first 2) (by decide) x
theorem casts2_results (W : Valuation τ sig (Elt F)) : after casts2 W (Proc.devRef .tc main_v20) = W (Proc.devRef .tc main_v14) := by
  unfold casts2
  after_results_simp
  rfl

/-! ## Chunk 3 -/

/-- Chunk 3's indices and token types, cut out. -/
def slices3 : List (HloOp τ sig (Elt F)) := [
  StableHlo.nullary main_c_8 (constantI S_ 32 98304#32),
  StableHlo.unaryIndexed main_v0 ![main_c_8] ⟨S_, .i32⟩ main_v21 ((fun x i => Host.dynamicSlice S32768 x (fun k => (i k (Shape.Idx.first h_S_)).toInt) sliceFits_S262144_S32768) : (⟨S262144, .i32⟩ : BufTy).Contents (Elt F) → (Fin 1 → (⟨S_, .i32⟩ : BufTy).Contents (Elt F)) → (⟨S32768, .i32⟩ : BufTy).Contents (Elt F)),
  StableHlo.nullary main_c_9 (constantI S_ 32 384#32),
  StableHlo.nullary main_c_10 (constantI S_ 32 0#32),
  StableHlo.unaryIndexed main_arg1 ![main_c_9, main_c_10] ⟨S_, .i32⟩ main_v22 ((fun x i => Host.dynamicSlice S128x256 x (fun k => (i k (Shape.Idx.first h_S_)).toInt) sliceFits_S1024x256_S128x256) : (⟨S1024x256, .i32⟩ : BufTy).Contents (Elt F) → (Fin 2 → (⟨S_, .i32⟩ : BufTy).Contents (Elt F)) → (⟨S128x256, .i32⟩ : BufTy).Contents (Elt F)),
  StableHlo.reshape main_v21 main_v23 (rfl : (.i32 : EltTy) = .i32) shapeCasts_S32768_S1x32768]

theorem slices3_sub : ∀ op ∈ (slices3 : List (HloOp τ sig (Elt F))), op.bufs ⊆ ucRefs τ sig :=
  fun op h => sub_ucRefs op (List.forall_iff_forall_mem.mp (show List.Forall (fun op : HloOp τ sig (Elt F) => op.bufs ⊆ tcRefs τ sig) slices3 from ⟨nullary_bufs_sub .., unaryIndexed_bufs_sub .., nullary_bufs_sub .., nullary_bufs_sub .., unaryIndexed_bufs_sub .., reshape_bufs_sub ..⟩) op h)
theorem slices3_fresh : ∀ op ∈ (slices3 : List (HloOp τ sig (Elt F))), op.fresh = ∅ :=
  List.forall_iff_forall_mem.mp (show List.Forall (fun op : HloOp τ sig (Elt F) => op.fresh = ∅) slices3 from ⟨rfl, rfl, rfl, rfl, rfl, rfl⟩)
theorem slices3_keeps (W : Valuation τ sig (Elt F)) (r : Ref sig .tc) (hr : r ∉ [main_c_8, main_v21, main_c_9, main_c_10, main_v22, main_v23]) :
    after slices3 W (Proc.devRef .tc r) = W (Proc.devRef .tc r) :=
  after_of_writes_sub slices3 W (forall_writes_sub_of_map rfl) hr

theorem slices3_row (W : Valuation τ sig (Elt F)) (h : W (Proc.devRef .tc main_v0) = flatIds m d) :
    after slices3 W (Proc.devRef .tc main_v23) = rowIds m d (first 3) := by
  unfold slices3
  after_results_simp_entrywise
  rw [h]; rfl
theorem slices3_types (W : Valuation τ sig (Elt F)) (h : W (Proc.devRef .tc main_arg1) = m ((SparseCore.T d).loc main_arg1)) (x : S128x256.Idx) :
    after slices3 W (Proc.devRef .tc main_v22) x = (m ((SparseCore.T d).loc main_arg1) : S1024x256.Idx → Elt F .i32) (chunkIx2 3 x) := by
  rw [← h]
  unfold slices3
  after_results_simp_entrywise
  exact types_part (W (Proc.devRef .tc main_arg1)) 3 _ (by rfl) (by rfl) x

/-- Chunk 3's gathered rows, by sequence, and the results so far. -/
def casts3 : List (HloOp τ sig (Elt F)) := [
  StableHlo.reshape main_v24 main_v25 (rfl : (.f32 : EltTy) = .f32) shapeCasts_S32768x128_S128x256x128,
  StableHlo.unary main_v20 main_v26 id]

theorem casts3_sub : ∀ op ∈ (casts3 : List (HloOp τ sig (Elt F))), op.bufs ⊆ ucRefs τ sig :=
  fun op h => sub_ucRefs op (List.forall_iff_forall_mem.mp (show List.Forall (fun op : HloOp τ sig (Elt F) => op.bufs ⊆ tcRefs τ sig) casts3 from ⟨reshape_bufs_sub .., unary_bufs_sub ..⟩) op h)
theorem casts3_fresh : ∀ op ∈ (casts3 : List (HloOp τ sig (Elt F))), op.fresh = ∅ :=
  List.forall_iff_forall_mem.mp (show List.Forall (fun op : HloOp τ sig (Elt F) => op.fresh = ∅) casts3 from ⟨rfl, rfl⟩)
theorem casts3_keeps (W : Valuation τ sig (Elt F)) (r : Ref sig .tc) (hr : r ∉ [main_v25, main_v26]) :
    after casts3 W (Proc.devRef .tc r) = W (Proc.devRef .tc r) :=
  after_of_writes_sub casts3 W (forall_writes_sub_of_map rfl) hr

theorem casts3_rows (W : Valuation τ sig (Elt F)) (h : W (Proc.devRef .tc main_v24) = rowsOf m hm d (first 3)) (x : S128x256x128.Idx) :
    after casts3 W (Proc.devRef .tc main_v25) x = gAll m hm d (chunkIx 3 x) := by
  unfold casts3
  after_results_simp
  rw [h]
  exact rows_part m hm d 3 (first 3) (by decide) x
theorem casts3_results (W : Valuation τ sig (Elt F)) : after casts3 W (Proc.devRef .tc main_v26) = W (Proc.devRef .tc main_v20) := by
  unfold casts3
  after_results_simp
  rfl

/-! ## Chunk 4 -/

/-- Chunk 4's indices and token types, cut out. -/
def slices4 : List (HloOp τ sig (Elt F)) := [
  StableHlo.nullary main_c_11 (constantI S_ 32 131072#32),
  StableHlo.unaryIndexed main_v0 ![main_c_11] ⟨S_, .i32⟩ main_v27 ((fun x i => Host.dynamicSlice S32768 x (fun k => (i k (Shape.Idx.first h_S_)).toInt) sliceFits_S262144_S32768) : (⟨S262144, .i32⟩ : BufTy).Contents (Elt F) → (Fin 1 → (⟨S_, .i32⟩ : BufTy).Contents (Elt F)) → (⟨S32768, .i32⟩ : BufTy).Contents (Elt F)),
  StableHlo.nullary main_c_12 (constantI S_ 32 512#32),
  StableHlo.nullary main_c_13 (constantI S_ 32 0#32),
  StableHlo.unaryIndexed main_arg1 ![main_c_12, main_c_13] ⟨S_, .i32⟩ main_v28 ((fun x i => Host.dynamicSlice S128x256 x (fun k => (i k (Shape.Idx.first h_S_)).toInt) sliceFits_S1024x256_S128x256) : (⟨S1024x256, .i32⟩ : BufTy).Contents (Elt F) → (Fin 2 → (⟨S_, .i32⟩ : BufTy).Contents (Elt F)) → (⟨S128x256, .i32⟩ : BufTy).Contents (Elt F)),
  StableHlo.reshape main_v27 main_v29 (rfl : (.i32 : EltTy) = .i32) shapeCasts_S32768_S1x32768]

theorem slices4_sub : ∀ op ∈ (slices4 : List (HloOp τ sig (Elt F))), op.bufs ⊆ ucRefs τ sig :=
  fun op h => sub_ucRefs op (List.forall_iff_forall_mem.mp (show List.Forall (fun op : HloOp τ sig (Elt F) => op.bufs ⊆ tcRefs τ sig) slices4 from ⟨nullary_bufs_sub .., unaryIndexed_bufs_sub .., nullary_bufs_sub .., nullary_bufs_sub .., unaryIndexed_bufs_sub .., reshape_bufs_sub ..⟩) op h)
theorem slices4_fresh : ∀ op ∈ (slices4 : List (HloOp τ sig (Elt F))), op.fresh = ∅ :=
  List.forall_iff_forall_mem.mp (show List.Forall (fun op : HloOp τ sig (Elt F) => op.fresh = ∅) slices4 from ⟨rfl, rfl, rfl, rfl, rfl, rfl⟩)
theorem slices4_keeps (W : Valuation τ sig (Elt F)) (r : Ref sig .tc) (hr : r ∉ [main_c_11, main_v27, main_c_12, main_c_13, main_v28, main_v29]) :
    after slices4 W (Proc.devRef .tc r) = W (Proc.devRef .tc r) :=
  after_of_writes_sub slices4 W (forall_writes_sub_of_map rfl) hr

theorem slices4_row (W : Valuation τ sig (Elt F)) (h : W (Proc.devRef .tc main_v0) = flatIds m d) :
    after slices4 W (Proc.devRef .tc main_v29) = rowIds m d (first 4) := by
  unfold slices4
  after_results_simp_entrywise
  rw [h]; rfl
theorem slices4_types (W : Valuation τ sig (Elt F)) (h : W (Proc.devRef .tc main_arg1) = m ((SparseCore.T d).loc main_arg1)) (x : S128x256.Idx) :
    after slices4 W (Proc.devRef .tc main_v28) x = (m ((SparseCore.T d).loc main_arg1) : S1024x256.Idx → Elt F .i32) (chunkIx2 4 x) := by
  rw [← h]
  unfold slices4
  after_results_simp_entrywise
  exact types_part (W (Proc.devRef .tc main_arg1)) 4 _ (by rfl) (by rfl) x

/-- Chunk 4's gathered rows, by sequence, and the results so far. -/
def casts4 : List (HloOp τ sig (Elt F)) := [
  StableHlo.reshape main_v30 main_v31 (rfl : (.f32 : EltTy) = .f32) shapeCasts_S32768x128_S128x256x128,
  StableHlo.unary main_v26 main_v32 id]

theorem casts4_sub : ∀ op ∈ (casts4 : List (HloOp τ sig (Elt F))), op.bufs ⊆ ucRefs τ sig :=
  fun op h => sub_ucRefs op (List.forall_iff_forall_mem.mp (show List.Forall (fun op : HloOp τ sig (Elt F) => op.bufs ⊆ tcRefs τ sig) casts4 from ⟨reshape_bufs_sub .., unary_bufs_sub ..⟩) op h)
theorem casts4_fresh : ∀ op ∈ (casts4 : List (HloOp τ sig (Elt F))), op.fresh = ∅ :=
  List.forall_iff_forall_mem.mp (show List.Forall (fun op : HloOp τ sig (Elt F) => op.fresh = ∅) casts4 from ⟨rfl, rfl⟩)
theorem casts4_keeps (W : Valuation τ sig (Elt F)) (r : Ref sig .tc) (hr : r ∉ [main_v31, main_v32]) :
    after casts4 W (Proc.devRef .tc r) = W (Proc.devRef .tc r) :=
  after_of_writes_sub casts4 W (forall_writes_sub_of_map rfl) hr

theorem casts4_rows (W : Valuation τ sig (Elt F)) (h : W (Proc.devRef .tc main_v30) = rowsOf m hm d (first 4)) (x : S128x256x128.Idx) :
    after casts4 W (Proc.devRef .tc main_v31) x = gAll m hm d (chunkIx 4 x) := by
  unfold casts4
  after_results_simp
  rw [h]
  exact rows_part m hm d 4 (first 4) (by decide) x
theorem casts4_results (W : Valuation τ sig (Elt F)) : after casts4 W (Proc.devRef .tc main_v32) = W (Proc.devRef .tc main_v26) := by
  unfold casts4
  after_results_simp
  rfl

/-! ## Chunk 5 -/

/-- Chunk 5's indices and token types, cut out. -/
def slices5 : List (HloOp τ sig (Elt F)) := [
  StableHlo.nullary main_c_14 (constantI S_ 32 163840#32),
  StableHlo.unaryIndexed main_v0 ![main_c_14] ⟨S_, .i32⟩ main_v33 ((fun x i => Host.dynamicSlice S32768 x (fun k => (i k (Shape.Idx.first h_S_)).toInt) sliceFits_S262144_S32768) : (⟨S262144, .i32⟩ : BufTy).Contents (Elt F) → (Fin 1 → (⟨S_, .i32⟩ : BufTy).Contents (Elt F)) → (⟨S32768, .i32⟩ : BufTy).Contents (Elt F)),
  StableHlo.nullary main_c_15 (constantI S_ 32 640#32),
  StableHlo.nullary main_c_16 (constantI S_ 32 0#32),
  StableHlo.unaryIndexed main_arg1 ![main_c_15, main_c_16] ⟨S_, .i32⟩ main_v34 ((fun x i => Host.dynamicSlice S128x256 x (fun k => (i k (Shape.Idx.first h_S_)).toInt) sliceFits_S1024x256_S128x256) : (⟨S1024x256, .i32⟩ : BufTy).Contents (Elt F) → (Fin 2 → (⟨S_, .i32⟩ : BufTy).Contents (Elt F)) → (⟨S128x256, .i32⟩ : BufTy).Contents (Elt F)),
  StableHlo.reshape main_v33 main_v35 (rfl : (.i32 : EltTy) = .i32) shapeCasts_S32768_S1x32768]

theorem slices5_sub : ∀ op ∈ (slices5 : List (HloOp τ sig (Elt F))), op.bufs ⊆ ucRefs τ sig :=
  fun op h => sub_ucRefs op (List.forall_iff_forall_mem.mp (show List.Forall (fun op : HloOp τ sig (Elt F) => op.bufs ⊆ tcRefs τ sig) slices5 from ⟨nullary_bufs_sub .., unaryIndexed_bufs_sub .., nullary_bufs_sub .., nullary_bufs_sub .., unaryIndexed_bufs_sub .., reshape_bufs_sub ..⟩) op h)
theorem slices5_fresh : ∀ op ∈ (slices5 : List (HloOp τ sig (Elt F))), op.fresh = ∅ :=
  List.forall_iff_forall_mem.mp (show List.Forall (fun op : HloOp τ sig (Elt F) => op.fresh = ∅) slices5 from ⟨rfl, rfl, rfl, rfl, rfl, rfl⟩)
theorem slices5_keeps (W : Valuation τ sig (Elt F)) (r : Ref sig .tc) (hr : r ∉ [main_c_14, main_v33, main_c_15, main_c_16, main_v34, main_v35]) :
    after slices5 W (Proc.devRef .tc r) = W (Proc.devRef .tc r) :=
  after_of_writes_sub slices5 W (forall_writes_sub_of_map rfl) hr

theorem slices5_row (W : Valuation τ sig (Elt F)) (h : W (Proc.devRef .tc main_v0) = flatIds m d) :
    after slices5 W (Proc.devRef .tc main_v35) = rowIds m d (first 5) := by
  unfold slices5
  after_results_simp_entrywise
  rw [h]; rfl
theorem slices5_types (W : Valuation τ sig (Elt F)) (h : W (Proc.devRef .tc main_arg1) = m ((SparseCore.T d).loc main_arg1)) (x : S128x256.Idx) :
    after slices5 W (Proc.devRef .tc main_v34) x = (m ((SparseCore.T d).loc main_arg1) : S1024x256.Idx → Elt F .i32) (chunkIx2 5 x) := by
  rw [← h]
  unfold slices5
  after_results_simp_entrywise
  exact types_part (W (Proc.devRef .tc main_arg1)) 5 _ (by rfl) (by rfl) x

/-- Chunk 5's gathered rows, by sequence, and the results so far. -/
def casts5 : List (HloOp τ sig (Elt F)) := [
  StableHlo.reshape main_v36 main_v37 (rfl : (.f32 : EltTy) = .f32) shapeCasts_S32768x128_S128x256x128,
  StableHlo.unary main_v32 main_v38 id]

theorem casts5_sub : ∀ op ∈ (casts5 : List (HloOp τ sig (Elt F))), op.bufs ⊆ ucRefs τ sig :=
  fun op h => sub_ucRefs op (List.forall_iff_forall_mem.mp (show List.Forall (fun op : HloOp τ sig (Elt F) => op.bufs ⊆ tcRefs τ sig) casts5 from ⟨reshape_bufs_sub .., unary_bufs_sub ..⟩) op h)
theorem casts5_fresh : ∀ op ∈ (casts5 : List (HloOp τ sig (Elt F))), op.fresh = ∅ :=
  List.forall_iff_forall_mem.mp (show List.Forall (fun op : HloOp τ sig (Elt F) => op.fresh = ∅) casts5 from ⟨rfl, rfl⟩)
theorem casts5_keeps (W : Valuation τ sig (Elt F)) (r : Ref sig .tc) (hr : r ∉ [main_v37, main_v38]) :
    after casts5 W (Proc.devRef .tc r) = W (Proc.devRef .tc r) :=
  after_of_writes_sub casts5 W (forall_writes_sub_of_map rfl) hr

theorem casts5_rows (W : Valuation τ sig (Elt F)) (h : W (Proc.devRef .tc main_v36) = rowsOf m hm d (first 5)) (x : S128x256x128.Idx) :
    after casts5 W (Proc.devRef .tc main_v37) x = gAll m hm d (chunkIx 5 x) := by
  unfold casts5
  after_results_simp
  rw [h]
  exact rows_part m hm d 5 (first 5) (by decide) x
theorem casts5_results (W : Valuation τ sig (Elt F)) : after casts5 W (Proc.devRef .tc main_v38) = W (Proc.devRef .tc main_v32) := by
  unfold casts5
  after_results_simp
  rfl

/-! ## Chunk 6 -/

/-- Chunk 6's indices and token types, cut out. -/
def slices6 : List (HloOp τ sig (Elt F)) := [
  StableHlo.nullary main_c_17 (constantI S_ 32 196608#32),
  StableHlo.unaryIndexed main_v0 ![main_c_17] ⟨S_, .i32⟩ main_v39 ((fun x i => Host.dynamicSlice S32768 x (fun k => (i k (Shape.Idx.first h_S_)).toInt) sliceFits_S262144_S32768) : (⟨S262144, .i32⟩ : BufTy).Contents (Elt F) → (Fin 1 → (⟨S_, .i32⟩ : BufTy).Contents (Elt F)) → (⟨S32768, .i32⟩ : BufTy).Contents (Elt F)),
  StableHlo.nullary main_c_18 (constantI S_ 32 768#32),
  StableHlo.nullary main_c_19 (constantI S_ 32 0#32),
  StableHlo.unaryIndexed main_arg1 ![main_c_18, main_c_19] ⟨S_, .i32⟩ main_v40 ((fun x i => Host.dynamicSlice S128x256 x (fun k => (i k (Shape.Idx.first h_S_)).toInt) sliceFits_S1024x256_S128x256) : (⟨S1024x256, .i32⟩ : BufTy).Contents (Elt F) → (Fin 2 → (⟨S_, .i32⟩ : BufTy).Contents (Elt F)) → (⟨S128x256, .i32⟩ : BufTy).Contents (Elt F)),
  StableHlo.reshape main_v39 main_v41 (rfl : (.i32 : EltTy) = .i32) shapeCasts_S32768_S1x32768]

theorem slices6_sub : ∀ op ∈ (slices6 : List (HloOp τ sig (Elt F))), op.bufs ⊆ ucRefs τ sig :=
  fun op h => sub_ucRefs op (List.forall_iff_forall_mem.mp (show List.Forall (fun op : HloOp τ sig (Elt F) => op.bufs ⊆ tcRefs τ sig) slices6 from ⟨nullary_bufs_sub .., unaryIndexed_bufs_sub .., nullary_bufs_sub .., nullary_bufs_sub .., unaryIndexed_bufs_sub .., reshape_bufs_sub ..⟩) op h)
theorem slices6_fresh : ∀ op ∈ (slices6 : List (HloOp τ sig (Elt F))), op.fresh = ∅ :=
  List.forall_iff_forall_mem.mp (show List.Forall (fun op : HloOp τ sig (Elt F) => op.fresh = ∅) slices6 from ⟨rfl, rfl, rfl, rfl, rfl, rfl⟩)
theorem slices6_keeps (W : Valuation τ sig (Elt F)) (r : Ref sig .tc) (hr : r ∉ [main_c_17, main_v39, main_c_18, main_c_19, main_v40, main_v41]) :
    after slices6 W (Proc.devRef .tc r) = W (Proc.devRef .tc r) :=
  after_of_writes_sub slices6 W (forall_writes_sub_of_map rfl) hr

theorem slices6_row (W : Valuation τ sig (Elt F)) (h : W (Proc.devRef .tc main_v0) = flatIds m d) :
    after slices6 W (Proc.devRef .tc main_v41) = rowIds m d (first 6) := by
  unfold slices6
  after_results_simp_entrywise
  rw [h]; rfl
theorem slices6_types (W : Valuation τ sig (Elt F)) (h : W (Proc.devRef .tc main_arg1) = m ((SparseCore.T d).loc main_arg1)) (x : S128x256.Idx) :
    after slices6 W (Proc.devRef .tc main_v40) x = (m ((SparseCore.T d).loc main_arg1) : S1024x256.Idx → Elt F .i32) (chunkIx2 6 x) := by
  rw [← h]
  unfold slices6
  after_results_simp_entrywise
  exact types_part (W (Proc.devRef .tc main_arg1)) 6 _ (by rfl) (by rfl) x

/-- Chunk 6's gathered rows, by sequence, and the results so far. -/
def casts6 : List (HloOp τ sig (Elt F)) := [
  StableHlo.reshape main_v42 main_v43 (rfl : (.f32 : EltTy) = .f32) shapeCasts_S32768x128_S128x256x128,
  StableHlo.unary main_v38 main_v44 id]

theorem casts6_sub : ∀ op ∈ (casts6 : List (HloOp τ sig (Elt F))), op.bufs ⊆ ucRefs τ sig :=
  fun op h => sub_ucRefs op (List.forall_iff_forall_mem.mp (show List.Forall (fun op : HloOp τ sig (Elt F) => op.bufs ⊆ tcRefs τ sig) casts6 from ⟨reshape_bufs_sub .., unary_bufs_sub ..⟩) op h)
theorem casts6_fresh : ∀ op ∈ (casts6 : List (HloOp τ sig (Elt F))), op.fresh = ∅ :=
  List.forall_iff_forall_mem.mp (show List.Forall (fun op : HloOp τ sig (Elt F) => op.fresh = ∅) casts6 from ⟨rfl, rfl⟩)
theorem casts6_keeps (W : Valuation τ sig (Elt F)) (r : Ref sig .tc) (hr : r ∉ [main_v43, main_v44]) :
    after casts6 W (Proc.devRef .tc r) = W (Proc.devRef .tc r) :=
  after_of_writes_sub casts6 W (forall_writes_sub_of_map rfl) hr

theorem casts6_rows (W : Valuation τ sig (Elt F)) (h : W (Proc.devRef .tc main_v42) = rowsOf m hm d (first 6)) (x : S128x256x128.Idx) :
    after casts6 W (Proc.devRef .tc main_v43) x = gAll m hm d (chunkIx 6 x) := by
  unfold casts6
  after_results_simp
  rw [h]
  exact rows_part m hm d 6 (first 6) (by decide) x
theorem casts6_results (W : Valuation τ sig (Elt F)) : after casts6 W (Proc.devRef .tc main_v44) = W (Proc.devRef .tc main_v38) := by
  unfold casts6
  after_results_simp
  rfl

/-! ## Chunk 7 -/

/-- Chunk 7's indices and token types, cut out. -/
def slices7 : List (HloOp τ sig (Elt F)) := [
  StableHlo.nullary main_c_20 (constantI S_ 32 229376#32),
  StableHlo.unaryIndexed main_v0 ![main_c_20] ⟨S_, .i32⟩ main_v45 ((fun x i => Host.dynamicSlice S32768 x (fun k => (i k (Shape.Idx.first h_S_)).toInt) sliceFits_S262144_S32768) : (⟨S262144, .i32⟩ : BufTy).Contents (Elt F) → (Fin 1 → (⟨S_, .i32⟩ : BufTy).Contents (Elt F)) → (⟨S32768, .i32⟩ : BufTy).Contents (Elt F)),
  StableHlo.nullary main_c_21 (constantI S_ 32 896#32),
  StableHlo.nullary main_c_22 (constantI S_ 32 0#32),
  StableHlo.unaryIndexed main_arg1 ![main_c_21, main_c_22] ⟨S_, .i32⟩ main_v46 ((fun x i => Host.dynamicSlice S128x256 x (fun k => (i k (Shape.Idx.first h_S_)).toInt) sliceFits_S1024x256_S128x256) : (⟨S1024x256, .i32⟩ : BufTy).Contents (Elt F) → (Fin 2 → (⟨S_, .i32⟩ : BufTy).Contents (Elt F)) → (⟨S128x256, .i32⟩ : BufTy).Contents (Elt F)),
  StableHlo.reshape main_v45 main_v47 (rfl : (.i32 : EltTy) = .i32) shapeCasts_S32768_S1x32768]

theorem slices7_sub : ∀ op ∈ (slices7 : List (HloOp τ sig (Elt F))), op.bufs ⊆ ucRefs τ sig :=
  fun op h => sub_ucRefs op (List.forall_iff_forall_mem.mp (show List.Forall (fun op : HloOp τ sig (Elt F) => op.bufs ⊆ tcRefs τ sig) slices7 from ⟨nullary_bufs_sub .., unaryIndexed_bufs_sub .., nullary_bufs_sub .., nullary_bufs_sub .., unaryIndexed_bufs_sub .., reshape_bufs_sub ..⟩) op h)
theorem slices7_fresh : ∀ op ∈ (slices7 : List (HloOp τ sig (Elt F))), op.fresh = ∅ :=
  List.forall_iff_forall_mem.mp (show List.Forall (fun op : HloOp τ sig (Elt F) => op.fresh = ∅) slices7 from ⟨rfl, rfl, rfl, rfl, rfl, rfl⟩)
theorem slices7_keeps (W : Valuation τ sig (Elt F)) (r : Ref sig .tc) (hr : r ∉ [main_c_20, main_v45, main_c_21, main_c_22, main_v46, main_v47]) :
    after slices7 W (Proc.devRef .tc r) = W (Proc.devRef .tc r) :=
  after_of_writes_sub slices7 W (forall_writes_sub_of_map rfl) hr

theorem slices7_row (W : Valuation τ sig (Elt F)) (h : W (Proc.devRef .tc main_v0) = flatIds m d) :
    after slices7 W (Proc.devRef .tc main_v47) = rowIds m d (first 7) := by
  unfold slices7
  after_results_simp_entrywise
  rw [h]; rfl
theorem slices7_types (W : Valuation τ sig (Elt F)) (h : W (Proc.devRef .tc main_arg1) = m ((SparseCore.T d).loc main_arg1)) (x : S128x256.Idx) :
    after slices7 W (Proc.devRef .tc main_v46) x = (m ((SparseCore.T d).loc main_arg1) : S1024x256.Idx → Elt F .i32) (chunkIx2 7 x) := by
  rw [← h]
  unfold slices7
  after_results_simp_entrywise
  exact types_part (W (Proc.devRef .tc main_arg1)) 7 _ (by rfl) (by rfl) x

/-- Chunk 7's gathered rows, by sequence, and the results so far. -/
def casts7 : List (HloOp τ sig (Elt F)) := [
  StableHlo.reshape main_v48 main_v49 (rfl : (.f32 : EltTy) = .f32) shapeCasts_S32768x128_S128x256x128,
  StableHlo.unary main_v44 main_v50 id]

theorem casts7_sub : ∀ op ∈ (casts7 : List (HloOp τ sig (Elt F))), op.bufs ⊆ ucRefs τ sig :=
  fun op h => sub_ucRefs op (List.forall_iff_forall_mem.mp (show List.Forall (fun op : HloOp τ sig (Elt F) => op.bufs ⊆ tcRefs τ sig) casts7 from ⟨reshape_bufs_sub .., unary_bufs_sub ..⟩) op h)
theorem casts7_fresh : ∀ op ∈ (casts7 : List (HloOp τ sig (Elt F))), op.fresh = ∅ :=
  List.forall_iff_forall_mem.mp (show List.Forall (fun op : HloOp τ sig (Elt F) => op.fresh = ∅) casts7 from ⟨rfl, rfl⟩)
theorem casts7_keeps (W : Valuation τ sig (Elt F)) (r : Ref sig .tc) (hr : r ∉ [main_v49, main_v50]) :
    after casts7 W (Proc.devRef .tc r) = W (Proc.devRef .tc r) :=
  after_of_writes_sub casts7 W (forall_writes_sub_of_map rfl) hr

theorem casts7_rows (W : Valuation τ sig (Elt F)) (h : W (Proc.devRef .tc main_v48) = rowsOf m hm d (first 7)) (x : S128x256x128.Idx) :
    after casts7 W (Proc.devRef .tc main_v49) x = gAll m hm d (chunkIx 7 x) := by
  unfold casts7
  after_results_simp
  rw [h]
  exact rows_part m hm d 7 (first 7) (by decide) x
theorem casts7_results (W : Valuation τ sig (Elt F)) : after casts7 W (Proc.devRef .tc main_v50) = W (Proc.devRef .tc main_v44) := by
  unfold casts7
  after_results_simp
  rfl

end Cert.Proof.Gather

end
-- ==== Proof.Runs.lean ====
/-
  The eight regions, run from the buffers @main holds.
-/
module

public import proofs.«01_k».proof.Proof.Regions
public import proofs.«01_k».proof.Proof.Gen.KernelIdeal.Points
public import Idealize.ShloMosaic.Lib.Pipeline.ValueKit
public import Idealize.ShloMosaic.Lib.Pipeline.FrameBody

@[expose] public section

noncomputable section

namespace Cert.Proof.Gather

open Cert.KernelIdeal Cert.KernelIdeal.Gen
open Idealize.ShloMosaic Idealize.ShloMosaic.Tactic Idealize.ShloMosaic.TcCoe
open Idealize.ShloMosaic.Pipeline (Dat BodyObligation RegionSeg PLaunchFacts arrRefs arrRef ucRefs scopedRest cellsGhost toksInit afterRegion)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (O : CellTallies nD τ sig Ix) (b : ℕ) (V : Dev nD → Valuation τ sig (Elt F)) (G : Dev nD → S1024x256x128.Idx → Elt F .f32)

/-! ## The regions over what @main holds -/

/-- The proof data of the eight regions, at one valuation: region `p` is run at `p`'s. -/
def dats : (p : Fin 8) → (d : Dev nD) → Dat τ (Elt F) Ix ℕ UU ℕ (Pipeline.pin (pcfgs (F := F)) adm p) d
  | ⟨0, _⟩ => fun d => dat0 O b V G d
  | ⟨1, _⟩ => fun d => dat1 O b V G d
  | ⟨2, _⟩ => fun d => dat2 O b V G d
  | ⟨3, _⟩ => fun d => dat3 O b V G d
  | ⟨4, _⟩ => fun d => dat4 O b V G d
  | ⟨5, _⟩ => fun d => dat5 O b V G d
  | ⟨6, _⟩ => fun d => dat6 O b V G d
  | ⟨7, _⟩ => fun d => dat7 O b V G d

/-- A region's run as a call of @main's, from what the segment says of it. -/
theorem wp_of_seg {pdats : (p : Fin 8) → (d : Dev nD) → Dat τ (Elt F) Ix ℕ UU ℕ (Pipeline.pin (pcfgs (F := F)) adm p) d} {p : Fin 8}
    [∀ e, Nonempty (Elt F e)]
    (R : RegionSeg (pcfgs (F := F)) adm pdats none defs₀ 𝒱₀ (K (F := F)).L (K (F := F)).lev p) (d : Dev nD) (Φ : PUnit → sProp 𝕄) :
    iprop((iprop(boundary (d : Thread nD τ) ∗ R.post d) -∗ Φ ⟨⟩) ∗ boundary (d : Thread nD τ) ∗ R.pre d ∗ levAts (K (F := F)).L (K (F := F)).lev
        ∗ cellsGhost (Pipeline.pin (pcfgs (F := F)) adm) EP p d ∗ toksInit (Pipeline.pin (pcfgs (F := F)) adm) EP p d)
      ⊢ wp frame (wpE ((K (F := F)).defs (D (F := F))) 𝒱 (d : Thread nD τ) none) Set.univ
          (Prog.lift (.customCall (SparseCore.inner (Pipeline.entry p)) ())) Φ := by
  have h₁ := RegionSeg.wp (pcfgs (F := F)) adm pdats none cellOf_inj EP defs₀ 𝒱₀ (K (F := F)).L (K (F := F)).lev R d none
    (fun u h => nomatch h) .ret Φ
  have h₂ : wp frame (wpE (D (F := F)) 𝒱 (d : Thread nD τ) none) Set.univ (.op (.customCall (Pipeline.entry p) ()) .ret) Φ
      ⊢ wp frame (wpE ((K (F := F)).defs (D (F := F))) 𝒱 (d : Thread nD τ) none) Set.univ
          (Prog.lift (.customCall (SparseCore.inner (Pipeline.entry p)) ())) Φ :=
    (K (F := F)).wp_liftProg (D (F := F)) 𝒱 (d : Thread nD τ) Set.univ none (.op (.customCall (Pipeline.entry p) ()) .ret) Φ
  iintro ⟨Hk, Hrest⟩
  iapply h₂
  iapply h₁
  isplitl [Hk]
  · iintro H
    rw [wp_ret]
    imodintro
    iapply Hk
    iexact H
  iexact Hrest

section Runs

variable [∀ e, Nonempty (Elt F e)] (W : Valuation τ sig (Elt F)) (G₁ : S1024x256x128.Idx → Elt F .f32)

theorem inv0 (d : Dev nD) (t : Fin (cfg1.N + 1)) : (dat0 O b V G d).Φ t = scopedRest (Pipeline.pin (pcfgs (F := F)) adm 0).spec d := by
  unfold dat0; dsimp only

def seg0 (hO : ∀ g, O g none = 0) (h : Stores0 V G) : RegionSeg (pcfgs (F := F)) adm (dats O b V G) none defs₀ 𝒱₀ (K (F := F)).L (K (F := F)).lev 0 :=
  seg (dats O b V G) 0 O hO b V launch1.toP rfl (fun d => body0 O b V G h d) (fun _ _ => rfl) (fun _ _ => rfl) (inv0 O b V G)
    (fun d w => (dat0 O b V G d).share_full (fun _ => rfl) w) (fun _ _ => rfl)

/-- Region 0, entered from the buffers at `W`. -/
theorem region0 (hO : ∀ g, O g none = 0) (d : Dev nD) (Φ : PUnit → sProp 𝕄) (h : Stores0 (fun _ => W) fun _ => G₁) :
    iprop((iprop(boundary (d : Thread nD τ)
            ∗ StableHlo.held (d : Thread nD τ) (ucRefs τ sig) (afterRegion (dat0 O b (fun _ => W) (fun _ => G₁) d) W) ∗ owed O b d) -∗ Φ ⟨⟩)
        ∗ boundary (d : Thread nD τ) ∗ (StableHlo.held (d : Thread nD τ) (ucRefs τ sig) W ∗ owed O b d) ∗ levAts (K (F := F)).L (K (F := F)).lev
        ∗ cellsGhost (Pipeline.pin (pcfgs (F := F)) adm) EP 0 d ∗ toksInit (Pipeline.pin (pcfgs (F := F)) adm) EP 0 d)
      ⊢ wp frame (wpE ((K (F := F)).defs (D (F := F))) 𝒱 (d : Thread nD τ) none) Set.univ
          (Prog.lift (.customCall (SparseCore.inner (Pipeline.entry 0)) ())) Φ :=
  wp_of_seg (seg0 O b (fun _ => W) (fun _ => G₁) hO h) d Φ

/-- It leaves every buffer but the results' as it was, -/
theorem region0_keeps (d : Dev nD) (r : Ref sig .tc) (hr : r ≠ main_v8) :
    afterRegion (dat0 O b (fun _ => W) (fun _ => G₁) d) W (Proc.devRef .tc r) = W (Proc.devRef .tc r) :=
  Pipeline.afterRegion_keeps (dat0 O b (fun _ => W) (fun _ => G₁) d) W launch1.win.arr_inj (fun _ => rfl) r
    (fun w => match w with
      | ⟨0, _⟩ => fun _ => rfl
      | ⟨1, _⟩ => fun _ => rfl
      | ⟨2, _⟩ => fun _ => rfl
      | ⟨3, _⟩ => fun _ => rfl
      | ⟨4, _⟩ => fun _ => rfl
      | ⟨5, _⟩ => fun _ => rfl
      | ⟨6, _⟩ => fun h => absurd h.symm hr)

/-- and the results' at `G₁` where the chunk's sequences lie. -/
theorem region0_out (d : Dev nD) (i : S1024x256x128.Idx) :
    (afterRegion (dat0 O b (fun _ => W) (fun _ => G₁) d) W (Proc.devRef .tc main_v8) : S1024x256x128.Idx → Elt F .f32) i
      = if 16 * 0 ≤ (i 0).val / 8 ∧ (i 0).val / 8 < 16 * 0 + 16 then G₁ i else (W (Proc.devRef .tc main_v8) : S1024x256x128.Idx → Elt F .f32) i :=
  (congrFun (Pipeline.afterRegion_arr (dat0 O b (fun _ => W) (fun _ => G₁) d) W launch1.win.arr_inj 6) i).trans (out0 O b (fun _ => W) (fun _ => G₁) d i)

theorem inv1 (d : Dev nD) (t : Fin (cfg3.N + 1)) : (dat1 O b V G d).Φ t = scopedRest (Pipeline.pin (pcfgs (F := F)) adm 1).spec d := by
  unfold dat1; dsimp only

def seg1 (hO : ∀ g, O g none = 0) (h : Stores1 V G) : RegionSeg (pcfgs (F := F)) adm (dats O b V G) none defs₀ 𝒱₀ (K (F := F)).L (K (F := F)).lev 1 :=
  seg (dats O b V G) 1 O hO b V launch3.toP rfl (fun d => body1 O b V G h d) (fun _ _ => rfl) (fun _ _ => rfl) (inv1 O b V G)
    (fun d w => (dat1 O b V G d).share_full (fun _ => rfl) w) (fun _ _ => rfl)

/-- Region 1, entered from the buffers at `W`. -/
theorem region1 (hO : ∀ g, O g none = 0) (d : Dev nD) (Φ : PUnit → sProp 𝕄) (h : Stores1 (fun _ => W) fun _ => G₁) :
    iprop((iprop(boundary (d : Thread nD τ)
            ∗ StableHlo.held (d : Thread nD τ) (ucRefs τ sig) (afterRegion (dat1 O b (fun _ => W) (fun _ => G₁) d) W) ∗ owed O b d) -∗ Φ ⟨⟩)
        ∗ boundary (d : Thread nD τ) ∗ (StableHlo.held (d : Thread nD τ) (ucRefs τ sig) W ∗ owed O b d) ∗ levAts (K (F := F)).L (K (F := F)).lev
        ∗ cellsGhost (Pipeline.pin (pcfgs (F := F)) adm) EP 1 d ∗ toksInit (Pipeline.pin (pcfgs (F := F)) adm) EP 1 d)
      ⊢ wp frame (wpE ((K (F := F)).defs (D (F := F))) 𝒱 (d : Thread nD τ) none) Set.univ
          (Prog.lift (.customCall (SparseCore.inner (Pipeline.entry 1)) ())) Φ :=
  wp_of_seg (seg1 O b (fun _ => W) (fun _ => G₁) hO h) d Φ

/-- It leaves every buffer but the results' as it was, -/
theorem region1_keeps (d : Dev nD) (r : Ref sig .tc) (hr : r ≠ main_v14) :
    afterRegion (dat1 O b (fun _ => W) (fun _ => G₁) d) W (Proc.devRef .tc r) = W (Proc.devRef .tc r) :=
  Pipeline.afterRegion_keeps (dat1 O b (fun _ => W) (fun _ => G₁) d) W launch3.win.arr_inj (fun _ => rfl) r
    (fun w => match w with
      | ⟨0, _⟩ => fun _ => rfl
      | ⟨1, _⟩ => fun _ => rfl
      | ⟨2, _⟩ => fun _ => rfl
      | ⟨3, _⟩ => fun _ => rfl
      | ⟨4, _⟩ => fun _ => rfl
      | ⟨5, _⟩ => fun _ => rfl
      | ⟨6, _⟩ => fun h => absurd h.symm hr)

/-- and the results' at `G₁` where the chunk's sequences lie. -/
theorem region1_out (d : Dev nD) (i : S1024x256x128.Idx) :
    (afterRegion (dat1 O b (fun _ => W) (fun _ => G₁) d) W (Proc.devRef .tc main_v14) : S1024x256x128.Idx → Elt F .f32) i
      = if 16 * 1 ≤ (i 0).val / 8 ∧ (i 0).val / 8 < 16 * 1 + 16 then G₁ i else (W (Proc.devRef .tc main_v14) : S1024x256x128.Idx → Elt F .f32) i :=
  (congrFun (Pipeline.afterRegion_arr (dat1 O b (fun _ => W) (fun _ => G₁) d) W launch3.win.arr_inj 6) i).trans (out1 O b (fun _ => W) (fun _ => G₁) d i)

theorem inv2 (d : Dev nD) (t : Fin (cfg5.N + 1)) : (dat2 O b V G d).Φ t = scopedRest (Pipeline.pin (pcfgs (F := F)) adm 2).spec d := by
  unfold dat2; dsimp only

def seg2 (hO : ∀ g, O g none = 0) (h : Stores2 V G) : RegionSeg (pcfgs (F := F)) adm (dats O b V G) none defs₀ 𝒱₀ (K (F := F)).L (K (F := F)).lev 2 :=
  seg (dats O b V G) 2 O hO b V launch5.toP rfl (fun d => body2 O b V G h d) (fun _ _ => rfl) (fun _ _ => rfl) (inv2 O b V G)
    (fun d w => (dat2 O b V G d).share_full (fun _ => rfl) w) (fun _ _ => rfl)

/-- Region 2, entered from the buffers at `W`. -/
theorem region2 (hO : ∀ g, O g none = 0) (d : Dev nD) (Φ : PUnit → sProp 𝕄) (h : Stores2 (fun _ => W) fun _ => G₁) :
    iprop((iprop(boundary (d : Thread nD τ)
            ∗ StableHlo.held (d : Thread nD τ) (ucRefs τ sig) (afterRegion (dat2 O b (fun _ => W) (fun _ => G₁) d) W) ∗ owed O b d) -∗ Φ ⟨⟩)
        ∗ boundary (d : Thread nD τ) ∗ (StableHlo.held (d : Thread nD τ) (ucRefs τ sig) W ∗ owed O b d) ∗ levAts (K (F := F)).L (K (F := F)).lev
        ∗ cellsGhost (Pipeline.pin (pcfgs (F := F)) adm) EP 2 d ∗ toksInit (Pipeline.pin (pcfgs (F := F)) adm) EP 2 d)
      ⊢ wp frame (wpE ((K (F := F)).defs (D (F := F))) 𝒱 (d : Thread nD τ) none) Set.univ
          (Prog.lift (.customCall (SparseCore.inner (Pipeline.entry 2)) ())) Φ :=
  wp_of_seg (seg2 O b (fun _ => W) (fun _ => G₁) hO h) d Φ

/-- It leaves every buffer but the results' as it was, -/
theorem region2_keeps (d : Dev nD) (r : Ref sig .tc) (hr : r ≠ main_v20) :
    afterRegion (dat2 O b (fun _ => W) (fun _ => G₁) d) W (Proc.devRef .tc r) = W (Proc.devRef .tc r) :=
  Pipeline.afterRegion_keeps (dat2 O b (fun _ => W) (fun _ => G₁) d) W launch5.win.arr_inj (fun _ => rfl) r
    (fun w => match w with
      | ⟨0, _⟩ => fun _ => rfl
      | ⟨1, _⟩ => fun _ => rfl
      | ⟨2, _⟩ => fun _ => rfl
      | ⟨3, _⟩ => fun _ => rfl
      | ⟨4, _⟩ => fun _ => rfl
      | ⟨5, _⟩ => fun _ => rfl
      | ⟨6, _⟩ => fun h => absurd h.symm hr)

/-- and the results' at `G₁` where the chunk's sequences lie. -/
theorem region2_out (d : Dev nD) (i : S1024x256x128.Idx) :
    (afterRegion (dat2 O b (fun _ => W) (fun _ => G₁) d) W (Proc.devRef .tc main_v20) : S1024x256x128.Idx → Elt F .f32) i
      = if 16 * 2 ≤ (i 0).val / 8 ∧ (i 0).val / 8 < 16 * 2 + 16 then G₁ i else (W (Proc.devRef .tc main_v20) : S1024x256x128.Idx → Elt F .f32) i :=
  (congrFun (Pipeline.afterRegion_arr (dat2 O b (fun _ => W) (fun _ => G₁) d) W launch5.win.arr_inj 6) i).trans (out2 O b (fun _ => W) (fun _ => G₁) d i)

theorem inv3 (d : Dev nD) (t : Fin (cfg7.N + 1)) : (dat3 O b V G d).Φ t = scopedRest (Pipeline.pin (pcfgs (F := F)) adm 3).spec d := by
  unfold dat3; dsimp only

def seg3 (hO : ∀ g, O g none = 0) (h : Stores3 V G) : RegionSeg (pcfgs (F := F)) adm (dats O b V G) none defs₀ 𝒱₀ (K (F := F)).L (K (F := F)).lev 3 :=
  seg (dats O b V G) 3 O hO b V launch7.toP rfl (fun d => body3 O b V G h d) (fun _ _ => rfl) (fun _ _ => rfl) (inv3 O b V G)
    (fun d w => (dat3 O b V G d).share_full (fun _ => rfl) w) (fun _ _ => rfl)

/-- Region 3, entered from the buffers at `W`. -/
theorem region3 (hO : ∀ g, O g none = 0) (d : Dev nD) (Φ : PUnit → sProp 𝕄) (h : Stores3 (fun _ => W) fun _ => G₁) :
    iprop((iprop(boundary (d : Thread nD τ)
            ∗ StableHlo.held (d : Thread nD τ) (ucRefs τ sig) (afterRegion (dat3 O b (fun _ => W) (fun _ => G₁) d) W) ∗ owed O b d) -∗ Φ ⟨⟩)
        ∗ boundary (d : Thread nD τ) ∗ (StableHlo.held (d : Thread nD τ) (ucRefs τ sig) W ∗ owed O b d) ∗ levAts (K (F := F)).L (K (F := F)).lev
        ∗ cellsGhost (Pipeline.pin (pcfgs (F := F)) adm) EP 3 d ∗ toksInit (Pipeline.pin (pcfgs (F := F)) adm) EP 3 d)
      ⊢ wp frame (wpE ((K (F := F)).defs (D (F := F))) 𝒱 (d : Thread nD τ) none) Set.univ
          (Prog.lift (.customCall (SparseCore.inner (Pipeline.entry 3)) ())) Φ :=
  wp_of_seg (seg3 O b (fun _ => W) (fun _ => G₁) hO h) d Φ

/-- It leaves every buffer but the results' as it was, -/
theorem region3_keeps (d : Dev nD) (r : Ref sig .tc) (hr : r ≠ main_v26) :
    afterRegion (dat3 O b (fun _ => W) (fun _ => G₁) d) W (Proc.devRef .tc r) = W (Proc.devRef .tc r) :=
  Pipeline.afterRegion_keeps (dat3 O b (fun _ => W) (fun _ => G₁) d) W launch7.win.arr_inj (fun _ => rfl) r
    (fun w => match w with
      | ⟨0, _⟩ => fun _ => rfl
      | ⟨1, _⟩ => fun _ => rfl
      | ⟨2, _⟩ => fun _ => rfl
      | ⟨3, _⟩ => fun _ => rfl
      | ⟨4, _⟩ => fun _ => rfl
      | ⟨5, _⟩ => fun _ => rfl
      | ⟨6, _⟩ => fun h => absurd h.symm hr)

/-- and the results' at `G₁` where the chunk's sequences lie. -/
theorem region3_out (d : Dev nD) (i : S1024x256x128.Idx) :
    (afterRegion (dat3 O b (fun _ => W) (fun _ => G₁) d) W (Proc.devRef .tc main_v26) : S1024x256x128.Idx → Elt F .f32) i
      = if 16 * 3 ≤ (i 0).val / 8 ∧ (i 0).val / 8 < 16 * 3 + 16 then G₁ i else (W (Proc.devRef .tc main_v26) : S1024x256x128.Idx → Elt F .f32) i :=
  (congrFun (Pipeline.afterRegion_arr (dat3 O b (fun _ => W) (fun _ => G₁) d) W launch7.win.arr_inj 6) i).trans (out3 O b (fun _ => W) (fun _ => G₁) d i)

theorem inv4 (d : Dev nD) (t : Fin (cfg9.N + 1)) : (dat4 O b V G d).Φ t = scopedRest (Pipeline.pin (pcfgs (F := F)) adm 4).spec d := by
  unfold dat4; dsimp only

def seg4 (hO : ∀ g, O g none = 0) (h : Stores4 V G) : RegionSeg (pcfgs (F := F)) adm (dats O b V G) none defs₀ 𝒱₀ (K (F := F)).L (K (F := F)).lev 4 :=
  seg (dats O b V G) 4 O hO b V launch9.toP rfl (fun d => body4 O b V G h d) (fun _ _ => rfl) (fun _ _ => rfl) (inv4 O b V G)
    (fun d w => (dat4 O b V G d).share_full (fun _ => rfl) w) (fun _ _ => rfl)

/-- Region 4, entered from the buffers at `W`. -/
theorem region4 (hO : ∀ g, O g none = 0) (d : Dev nD) (Φ : PUnit → sProp 𝕄) (h : Stores4 (fun _ => W) fun _ => G₁) :
    iprop((iprop(boundary (d : Thread nD τ)
            ∗ StableHlo.held (d : Thread nD τ) (ucRefs τ sig) (afterRegion (dat4 O b (fun _ => W) (fun _ => G₁) d) W) ∗ owed O b d) -∗ Φ ⟨⟩)
        ∗ boundary (d : Thread nD τ) ∗ (StableHlo.held (d : Thread nD τ) (ucRefs τ sig) W ∗ owed O b d) ∗ levAts (K (F := F)).L (K (F := F)).lev
        ∗ cellsGhost (Pipeline.pin (pcfgs (F := F)) adm) EP 4 d ∗ toksInit (Pipeline.pin (pcfgs (F := F)) adm) EP 4 d)
      ⊢ wp frame (wpE ((K (F := F)).defs (D (F := F))) 𝒱 (d : Thread nD τ) none) Set.univ
          (Prog.lift (.customCall (SparseCore.inner (Pipeline.entry 4)) ())) Φ :=
  wp_of_seg (seg4 O b (fun _ => W) (fun _ => G₁) hO h) d Φ

/-- It leaves every buffer but the results' as it was, -/
theorem region4_keeps (d : Dev nD) (r : Ref sig .tc) (hr : r ≠ main_v32) :
    afterRegion (dat4 O b (fun _ => W) (fun _ => G₁) d) W (Proc.devRef .tc r) = W (Proc.devRef .tc r) :=
  Pipeline.afterRegion_keeps (dat4 O b (fun _ => W) (fun _ => G₁) d) W launch9.win.arr_inj (fun _ => rfl) r
    (fun w => match w with
      | ⟨0, _⟩ => fun _ => rfl
      | ⟨1, _⟩ => fun _ => rfl
      | ⟨2, _⟩ => fun _ => rfl
      | ⟨3, _⟩ => fun _ => rfl
      | ⟨4, _⟩ => fun _ => rfl
      | ⟨5, _⟩ => fun _ => rfl
      | ⟨6, _⟩ => fun h => absurd h.symm hr)

/-- and the results' at `G₁` where the chunk's sequences lie. -/
theorem region4_out (d : Dev nD) (i : S1024x256x128.Idx) :
    (afterRegion (dat4 O b (fun _ => W) (fun _ => G₁) d) W (Proc.devRef .tc main_v32) : S1024x256x128.Idx → Elt F .f32) i
      = if 16 * 4 ≤ (i 0).val / 8 ∧ (i 0).val / 8 < 16 * 4 + 16 then G₁ i else (W (Proc.devRef .tc main_v32) : S1024x256x128.Idx → Elt F .f32) i :=
  (congrFun (Pipeline.afterRegion_arr (dat4 O b (fun _ => W) (fun _ => G₁) d) W launch9.win.arr_inj 6) i).trans (out4 O b (fun _ => W) (fun _ => G₁) d i)

theorem inv5 (d : Dev nD) (t : Fin (cfg11.N + 1)) : (dat5 O b V G d).Φ t = scopedRest (Pipeline.pin (pcfgs (F := F)) adm 5).spec d := by
  unfold dat5; dsimp only

def seg5 (hO : ∀ g, O g none = 0) (h : Stores5 V G) : RegionSeg (pcfgs (F := F)) adm (dats O b V G) none defs₀ 𝒱₀ (K (F := F)).L (K (F := F)).lev 5 :=
  seg (dats O b V G) 5 O hO b V launch11.toP rfl (fun d => body5 O b V G h d) (fun _ _ => rfl) (fun _ _ => rfl) (inv5 O b V G)
    (fun d w => (dat5 O b V G d).share_full (fun _ => rfl) w) (fun _ _ => rfl)

/-- Region 5, entered from the buffers at `W`. -/
theorem region5 (hO : ∀ g, O g none = 0) (d : Dev nD) (Φ : PUnit → sProp 𝕄) (h : Stores5 (fun _ => W) fun _ => G₁) :
    iprop((iprop(boundary (d : Thread nD τ)
            ∗ StableHlo.held (d : Thread nD τ) (ucRefs τ sig) (afterRegion (dat5 O b (fun _ => W) (fun _ => G₁) d) W) ∗ owed O b d) -∗ Φ ⟨⟩)
        ∗ boundary (d : Thread nD τ) ∗ (StableHlo.held (d : Thread nD τ) (ucRefs τ sig) W ∗ owed O b d) ∗ levAts (K (F := F)).L (K (F := F)).lev
        ∗ cellsGhost (Pipeline.pin (pcfgs (F := F)) adm) EP 5 d ∗ toksInit (Pipeline.pin (pcfgs (F := F)) adm) EP 5 d)
      ⊢ wp frame (wpE ((K (F := F)).defs (D (F := F))) 𝒱 (d : Thread nD τ) none) Set.univ
          (Prog.lift (.customCall (SparseCore.inner (Pipeline.entry 5)) ())) Φ :=
  wp_of_seg (seg5 O b (fun _ => W) (fun _ => G₁) hO h) d Φ

/-- It leaves every buffer but the results' as it was, -/
theorem region5_keeps (d : Dev nD) (r : Ref sig .tc) (hr : r ≠ main_v38) :
    afterRegion (dat5 O b (fun _ => W) (fun _ => G₁) d) W (Proc.devRef .tc r) = W (Proc.devRef .tc r) :=
  Pipeline.afterRegion_keeps (dat5 O b (fun _ => W) (fun _ => G₁) d) W launch11.win.arr_inj (fun _ => rfl) r
    (fun w => match w with
      | ⟨0, _⟩ => fun _ => rfl
      | ⟨1, _⟩ => fun _ => rfl
      | ⟨2, _⟩ => fun _ => rfl
      | ⟨3, _⟩ => fun _ => rfl
      | ⟨4, _⟩ => fun _ => rfl
      | ⟨5, _⟩ => fun _ => rfl
      | ⟨6, _⟩ => fun h => absurd h.symm hr)

/-- and the results' at `G₁` where the chunk's sequences lie. -/
theorem region5_out (d : Dev nD) (i : S1024x256x128.Idx) :
    (afterRegion (dat5 O b (fun _ => W) (fun _ => G₁) d) W (Proc.devRef .tc main_v38) : S1024x256x128.Idx → Elt F .f32) i
      = if 16 * 5 ≤ (i 0).val / 8 ∧ (i 0).val / 8 < 16 * 5 + 16 then G₁ i else (W (Proc.devRef .tc main_v38) : S1024x256x128.Idx → Elt F .f32) i :=
  (congrFun (Pipeline.afterRegion_arr (dat5 O b (fun _ => W) (fun _ => G₁) d) W launch11.win.arr_inj 6) i).trans (out5 O b (fun _ => W) (fun _ => G₁) d i)

theorem inv6 (d : Dev nD) (t : Fin (cfg13.N + 1)) : (dat6 O b V G d).Φ t = scopedRest (Pipeline.pin (pcfgs (F := F)) adm 6).spec d := by
  unfold dat6; dsimp only

def seg6 (hO : ∀ g, O g none = 0) (h : Stores6 V G) : RegionSeg (pcfgs (F := F)) adm (dats O b V G) none defs₀ 𝒱₀ (K (F := F)).L (K (F := F)).lev 6 :=
  seg (dats O b V G) 6 O hO b V launch13.toP rfl (fun d => body6 O b V G h d) (fun _ _ => rfl) (fun _ _ => rfl) (inv6 O b V G)
    (fun d w => (dat6 O b V G d).share_full (fun _ => rfl) w) (fun _ _ => rfl)

/-- Region 6, entered from the buffers at `W`. -/
theorem region6 (hO : ∀ g, O g none = 0) (d : Dev nD) (Φ : PUnit → sProp 𝕄) (h : Stores6 (fun _ => W) fun _ => G₁) :
    iprop((iprop(boundary (d : Thread nD τ)
            ∗ StableHlo.held (d : Thread nD τ) (ucRefs τ sig) (afterRegion (dat6 O b (fun _ => W) (fun _ => G₁) d) W) ∗ owed O b d) -∗ Φ ⟨⟩)
        ∗ boundary (d : Thread nD τ) ∗ (StableHlo.held (d : Thread nD τ) (ucRefs τ sig) W ∗ owed O b d) ∗ levAts (K (F := F)).L (K (F := F)).lev
        ∗ cellsGhost (Pipeline.pin (pcfgs (F := F)) adm) EP 6 d ∗ toksInit (Pipeline.pin (pcfgs (F := F)) adm) EP 6 d)
      ⊢ wp frame (wpE ((K (F := F)).defs (D (F := F))) 𝒱 (d : Thread nD τ) none) Set.univ
          (Prog.lift (.customCall (SparseCore.inner (Pipeline.entry 6)) ())) Φ :=
  wp_of_seg (seg6 O b (fun _ => W) (fun _ => G₁) hO h) d Φ

/-- It leaves every buffer but the results' as it was, -/
theorem region6_keeps (d : Dev nD) (r : Ref sig .tc) (hr : r ≠ main_v44) :
    afterRegion (dat6 O b (fun _ => W) (fun _ => G₁) d) W (Proc.devRef .tc r) = W (Proc.devRef .tc r) :=
  Pipeline.afterRegion_keeps (dat6 O b (fun _ => W) (fun _ => G₁) d) W launch13.win.arr_inj (fun _ => rfl) r
    (fun w => match w with
      | ⟨0, _⟩ => fun _ => rfl
      | ⟨1, _⟩ => fun _ => rfl
      | ⟨2, _⟩ => fun _ => rfl
      | ⟨3, _⟩ => fun _ => rfl
      | ⟨4, _⟩ => fun _ => rfl
      | ⟨5, _⟩ => fun _ => rfl
      | ⟨6, _⟩ => fun h => absurd h.symm hr)

/-- and the results' at `G₁` where the chunk's sequences lie. -/
theorem region6_out (d : Dev nD) (i : S1024x256x128.Idx) :
    (afterRegion (dat6 O b (fun _ => W) (fun _ => G₁) d) W (Proc.devRef .tc main_v44) : S1024x256x128.Idx → Elt F .f32) i
      = if 16 * 6 ≤ (i 0).val / 8 ∧ (i 0).val / 8 < 16 * 6 + 16 then G₁ i else (W (Proc.devRef .tc main_v44) : S1024x256x128.Idx → Elt F .f32) i :=
  (congrFun (Pipeline.afterRegion_arr (dat6 O b (fun _ => W) (fun _ => G₁) d) W launch13.win.arr_inj 6) i).trans (out6 O b (fun _ => W) (fun _ => G₁) d i)

theorem inv7 (d : Dev nD) (t : Fin (cfg15.N + 1)) : (dat7 O b V G d).Φ t = scopedRest (Pipeline.pin (pcfgs (F := F)) adm 7).spec d := by
  unfold dat7; dsimp only

def seg7 (hO : ∀ g, O g none = 0) (h : Stores7 V G) : RegionSeg (pcfgs (F := F)) adm (dats O b V G) none defs₀ 𝒱₀ (K (F := F)).L (K (F := F)).lev 7 :=
  seg (dats O b V G) 7 O hO b V launch15.toP rfl (fun d => body7 O b V G h d) (fun _ _ => rfl) (fun _ _ => rfl) (inv7 O b V G)
    (fun d w => (dat7 O b V G d).share_full (fun _ => rfl) w) (fun _ _ => rfl)

/-- Region 7, entered from the buffers at `W`. -/
theorem region7 (hO : ∀ g, O g none = 0) (d : Dev nD) (Φ : PUnit → sProp 𝕄) (h : Stores7 (fun _ => W) fun _ => G₁) :
    iprop((iprop(boundary (d : Thread nD τ)
            ∗ StableHlo.held (d : Thread nD τ) (ucRefs τ sig) (afterRegion (dat7 O b (fun _ => W) (fun _ => G₁) d) W) ∗ owed O b d) -∗ Φ ⟨⟩)
        ∗ boundary (d : Thread nD τ) ∗ (StableHlo.held (d : Thread nD τ) (ucRefs τ sig) W ∗ owed O b d) ∗ levAts (K (F := F)).L (K (F := F)).lev
        ∗ cellsGhost (Pipeline.pin (pcfgs (F := F)) adm) EP 7 d ∗ toksInit (Pipeline.pin (pcfgs (F := F)) adm) EP 7 d)
      ⊢ wp frame (wpE ((K (F := F)).defs (D (F := F))) 𝒱 (d : Thread nD τ) none) Set.univ
          (Prog.lift (.customCall (SparseCore.inner (Pipeline.entry 7)) ())) Φ :=
  wp_of_seg (seg7 O b (fun _ => W) (fun _ => G₁) hO h) d Φ

/-- It leaves every buffer but the results' as it was, -/
theorem region7_keeps (d : Dev nD) (r : Ref sig .tc) (hr : r ≠ main_v50) :
    afterRegion (dat7 O b (fun _ => W) (fun _ => G₁) d) W (Proc.devRef .tc r) = W (Proc.devRef .tc r) :=
  Pipeline.afterRegion_keeps (dat7 O b (fun _ => W) (fun _ => G₁) d) W launch15.win.arr_inj (fun _ => rfl) r
    (fun w => match w with
      | ⟨0, _⟩ => fun _ => rfl
      | ⟨1, _⟩ => fun _ => rfl
      | ⟨2, _⟩ => fun _ => rfl
      | ⟨3, _⟩ => fun _ => rfl
      | ⟨4, _⟩ => fun _ => rfl
      | ⟨5, _⟩ => fun _ => rfl
      | ⟨6, _⟩ => fun h => absurd h.symm hr)

/-- and the results' at `G₁` where the chunk's sequences lie. -/
theorem region7_out (d : Dev nD) (i : S1024x256x128.Idx) :
    (afterRegion (dat7 O b (fun _ => W) (fun _ => G₁) d) W (Proc.devRef .tc main_v50) : S1024x256x128.Idx → Elt F .f32) i
      = if 16 * 7 ≤ (i 0).val / 8 ∧ (i 0).val / 8 < 16 * 7 + 16 then G₁ i else (W (Proc.devRef .tc main_v50) : S1024x256x128.Idx → Elt F .f32) i :=
  (congrFun (Pipeline.afterRegion_arr (dat7 O b (fun _ => W) (fun _ => G₁) d) W launch15.win.arr_inj 6) i).trans (out7 O b (fun _ => W) (fun _ => G₁) d i)

end Runs

end Cert.Proof.Gather

end
-- ==== Proof.Chunks.lean ====
/-
  The eight chunks of @main: each a straight line, the SparseCore call, a straight line, the region.

  Through a chunk @main holds every unscoped buffer of the TensorCore at one valuation. The call takes three of
  them and hands the gathered rows back; the region writes the chunk's part of the result.
-/
module

public import proofs.«01_k».proof.Proof.Lines
public import proofs.«01_k».proof.Proof.Runs

@[expose] public section

noncomputable section

namespace Cert.Proof.Gather

open Cert.KernelIdeal Cert.KernelIdeal.Gen
open Idealize.ShloMosaic Idealize.ShloMosaic.Tactic Idealize.ShloMosaic.TcCoe
open Idealize.ShloMosaic.Pipeline (ucRefs cellsGhost toksInit afterRegion)
open Idealize.ShloMosaic.SparseCore.Cfg (HIx callsFrom)
open Idealize.ShloMosaic.StableHlo (held after seq wp_seq)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (m : (ℓ : Loc nD τ sig) → Buf (Elt F) ℓ) (hm : InRows m) (d : Dev nD)

/-! ## Three of the buffers -/

theorem mem_uc (r : Ref sig .tc) (h : r.isScoped = false) : (Proc.devRef .tc r : DevRef τ sig) ∈ ucRefs τ sig :=
  Finset.mem_filter.mpr ⟨StableHlo.devRef_mem_tcRefs _, fun h' => Bool.false_ne_true (h.symm.trans h')⟩

/-- Three references' buffers. -/
def three (a b c : Ref sig .tc) : Finset (DevRef τ sig) := {Proc.devRef .tc a, Proc.devRef .tc b, Proc.devRef .tc c}

theorem three_sub (a b c : Ref sig .tc) (ha : a.isScoped = false) (hb : b.isScoped = false) (hc : c.isScoped = false) :
    three a b c ⊆ ucRefs τ sig := by
  intro x hx
  simp only [three, Finset.mem_insert, Finset.mem_singleton] at hx
  rcases hx with rfl | rfl | rfl
  · exact mem_uc a ha
  · exact mem_uc b hb
  · exact mem_uc c hc

theorem held_three (a b c : Ref sig .tc) (hab : a ≠ b) (hac : a ≠ c) (hbc : b ≠ c) (W : Valuation τ sig (Elt F)) :
    (held (SparseCore.T d) (three a b c) W : sProp 𝕄)
      = iprop(((SparseCore.T (τ := τ) d).loc a ↦{fullShare} W (Proc.devRef .tc a)) ∗ ((SparseCore.T (τ := τ) d).loc b ↦{fullShare} W (Proc.devRef .tc b))
          ∗ ((SparseCore.T (τ := τ) d).loc c ↦{fullShare} W (Proc.devRef .tc c))) := by
  have hj := Proc.devRef_injective (sig := sig) (.tc : Proc τ)
  unfold held three
  rw [SparseCore.bigSep_insert' (by simp only [Finset.mem_insert, Finset.mem_singleton, not_or]; exact ⟨fun e => hab (hj e), fun e => hac (hj e)⟩),
    SparseCore.bigSep_insert' (by simp only [Finset.mem_singleton]; exact fun e => hbc (hj e)), bigSep_singleton]

theorem take_three (a b c : Ref sig .tc) (hab : a ≠ b) (hac : a ≠ c) (hbc : b ≠ c) (hs : three a b c ⊆ ucRefs τ sig) (W : Valuation τ sig (Elt F)) :
    (held (SparseCore.T d) (ucRefs τ sig) W : sProp 𝕄)
      = iprop((((SparseCore.T (τ := τ) d).loc a ↦{fullShare} W (Proc.devRef .tc a)) ∗ ((SparseCore.T (τ := τ) d).loc b ↦{fullShare} W (Proc.devRef .tc b))
          ∗ ((SparseCore.T (τ := τ) d).loc c ↦{fullShare} W (Proc.devRef .tc c))) ∗ held (SparseCore.T d) (ucRefs τ sig \ three a b c) W) := by
  rw [StableHlo.held_sub_split (SparseCore.T d) hs W, held_three d a b c hab hac hbc W]

/-- The buffers with the third's contents replaced. -/
theorem put_three (a b c : Ref sig .tc) (hab : a ≠ b) (hac : a ≠ c) (hbc : b ≠ c) (hs : three a b c ⊆ ucRefs τ sig) (W : Valuation τ sig (Elt F))
    (f : (Proc.devRef .tc c : DevRef τ sig).ty.Contents (Elt F)) :
    (held (SparseCore.T d) (ucRefs τ sig) (Function.update W (Proc.devRef .tc c) f) : sProp 𝕄)
      = iprop((((SparseCore.T (τ := τ) d).loc a ↦{fullShare} W (Proc.devRef .tc a)) ∗ ((SparseCore.T (τ := τ) d).loc b ↦{fullShare} W (Proc.devRef .tc b))
          ∗ ((SparseCore.T (τ := τ) d).loc c ↦{fullShare} f)) ∗ held (SparseCore.T d) (ucRefs τ sig \ three a b c) W) := by
  have hj := Proc.devRef_injective (sig := sig) (.tc : Proc τ)
  rw [take_three d a b c hab hac hbc hs, Function.update_of_ne (fun e => hac (hj e)), Function.update_of_ne (fun e => hbc (hj e)), Function.update_self,
    StableHlo.held_congr (SparseCore.T d) (V := Function.update W (Proc.devRef .tc c) f) (V' := W)
      (fun x hx => Function.update_of_ne (fun e => (Finset.mem_sdiff.mp hx).2 (by rw [e]; simp [three])) _ _)]

/-! ## What @main owes -/

/-- @main's state before call `n`, without what it owes. -/
def tcRest (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_owed (n : ℕ) :
    ((K (F := F)).tcSt EH d n : sProp 𝕄) = iprop(owed ((K (F := F)).Otc d n) (8 * n) d ∗ tcRest d n) := rfl

theorem otc_none (n : ℕ) (g : GSem nD τ sig) : ((K (F := F)).Otc d n : CellTallies nD τ sig Ix) g none = 0 := by
  by_contra h
  have h1 := (K (F := F)).lev_of_Otc_pos (d := d) (n := n) (g := g) (ι := (none : HIx 8)) (Nat.pos_of_ne_zero h)
  have h2 : (K (F := F)).lev g (none : HIx 8) = 0 := rfl
  omega

/-! ## The invariant, kept -/

/-- The buffers no chunk writes. -/
abbrev fixed : List (Ref sig .tc) := [main_arg0, main_arg1, main_arg2, main_arg3, main_arg4, main_arg5, main_arg6, main_v0, main_v1, main_v2]

theorem Inv.keep {n n' : ℕ} {W W' : Valuation τ sig (Elt F)} {R R' : S1024x256x128.Idx → Elt F .f32} (h : Inv m hm d n W R)
    (hk : ∀ r ∈ fixed, W' (Proc.devRef .tc r) = W (Proc.devRef .tc r)) (hr : ∀ i : S1024x256x128.Idx, (i 0).val < 128 * n' → R' i = result m hm d i) :
    Inv m hm d n' W' R' :=
  ⟨(hk main_arg0 (by decide)).trans h.ids, (hk main_arg1 (by decide)).trans h.tts, (hk main_arg2 (by decide)).trans h.tab,
    (hk main_arg3 (by decide)).trans h.pos, (hk main_arg4 (by decide)).trans h.typ, (hk main_arg5 (by decide)).trans h.sca,
    (hk main_arg6 (by decide)).trans h.off, (hk main_v0 (by decide)).trans h.flat, (hk main_v1 (by decide)).trans h.gam,
    (hk main_v2 (by decide)).trans h.bet, hr⟩

/-! ## Chunk 0 -/

/-- The buffers when chunk 0's call has run, -/
def called0 (W : Valuation τ sig (Elt F)) : Valuation τ sig (Elt F) :=
  Function.update (after slices0 W) (Proc.devRef .tc main_v6) (rowsOf m hm d (first 0))
/-- and when its region is entered. -/
def casted0 (W : Valuation τ sig (Elt F)) : Valuation τ sig (Elt F) := after casts0 (called0 m hm d W)

theorem casted0_fixed (W : Valuation τ sig (Elt F)) (r : Ref sig .tc) (hr : r ∈ fixed) :
    casted0 m hm d W (Proc.devRef .tc r) = W (Proc.devRef .tc r) := by
  unfold casted0 called0
  rw [casts0_keeps _ r (by revert r; decide), Function.update_of_ne (fun e => absurd (Proc.devRef_injective _ e) (by revert r; decide)),
    slices0_keeps _ r (by revert r; decide)]

theorem casted0_stores (W : Valuation τ sig (Elt F)) (R : S1024x256x128.Idx → Elt F .f32) (h : Inv m hm d 0 W R) :
    Stores0 (fun _ => casted0 m hm d W) fun _ => result m hm d :=
  stores0 (fun _ => casted0 m hm d W) (fun _ => gAll m hm d) (fun _ => m ((SparseCore.T d).loc main_arg1))
    (fun _ => m ((SparseCore.T d).loc main_arg3)) (fun _ => m ((SparseCore.T d).loc main_arg4)) (fun _ => gamRow m d) (fun _ => betRow m d)
    (fun _ x => casts0_rows m hm d (called0 m hm d W) (Function.update_self _ _ _) x)
    (fun _ x => by
      show casted0 m hm d W (Proc.devRef .tc main_v4) x = _
      unfold casted0 called0
      rw [casts0_keeps _ _ (by decide), Function.update_of_ne (fun e => absurd (Proc.devRef_injective _ e) (by decide))]
      exact slices0_types m d W h.tts x)
    (fun _ => (casted0_fixed m hm d W _ (by decide)).trans h.pos) (fun _ => (casted0_fixed m hm d W _ (by decide)).trans h.typ)
    (fun _ => (casted0_fixed m hm d W _ (by decide)).trans h.gam) (fun _ => (casted0_fixed m hm d W _ (by decide)).trans h.bet)

/-- When the region is done, one chunk more is. -/
theorem inv_after0 [∀ e, Nonempty (Elt F e)] (O : CellTallies nD τ sig Ix) (b : ℕ) (W : Valuation τ sig (Elt F)) (h : Inv m hm d 0 W (result m hm d)) :
    Inv m hm d 1 (afterRegion (dat0 O b (fun _ => casted0 m hm d W) (fun _ => result m hm d) d) (casted0 m hm d W))
      (afterRegion (dat0 O b (fun _ => casted0 m hm d W) (fun _ => result m hm d) d) (casted0 m hm d W) (Proc.devRef .tc main_v8)) := by
  refine h.keep m hm d (fun r hr => ?_) (fun i hi => ?_)
  · exact (region0_keeps O b _ _ d r (by revert r; decide)).trans (casted0_fixed m hm d W r hr)
  · refine (region0_out O b _ _ d i).trans ?_
    split
    · rfl
    · rename_i hn
      omega

/-- Chunk 0 of @main. -/
def chunk0 : Prog (TpuEff nD τ sig (Elt F) (SparseCore.Sig (ΛP (F := F)) 8) .tc) PUnit :=
  seq slices0 >>= fun _ => sc.run d 0 >>= fun _ => seq casts0 >>= fun _ => Prog.lift (.customCall (SparseCore.inner (Pipeline.entry 0)) ())

theorem done0 : (bigSep Finset.univ fun c : Fin ((K (F := F)).nCore 0) => (P m hm).dn 0 d c)
    = (bigSep Finset.univ fun c : Fin 2 => dnP (tabLoc d) (rowLoc0 d) (outLoc0 d) blkSet (m (tabLoc d)) (rowIds m d (first 0))
        (rowsOf m hm d (first 0)) c : sProp 𝕄) := rfl

theorem wp_chunk0 [∀ e, Nonempty (Elt F e)] (κ : GSem nD τ sig → ℕ) (W : Valuation τ sig (Elt F)) (h : Inv m hm d 0 W (result m hm d)) :
    iprop((K (F := F)).ctx EH (P m hm) κ ∗ (K (F := F)).tcSt EH d 0 ∗ boundary (SparseCore.T (τ := τ) d) ∗ held (SparseCore.T d) (ucRefs τ sig) W
        ∗ cellsGhost (Pipeline.pin (pcfgs (F := F)) adm) EP 0 d ∗ toksInit (Pipeline.pin (pcfgs (F := F)) adm) EP 0 d)
      ⊢ wp frame (wpE ((K (F := F)).defs (D (F := F))) 𝒱 (SparseCore.T d) none) Set.univ (chunk0 d)
          fun _ => iprop(∃ W' : Valuation τ sig (Elt F), ⌜Inv m hm d 1 W' (W' (Proc.devRef .tc main_v8))⌝
            ∗ (K (F := F)).tcSt EH d 1 ∗ boundary (SparseCore.T (τ := τ) d) ∗ held (SparseCore.T d) (ucRefs τ sig) W') := by
  have htab : after slices0 W (Proc.devRef .tc main_arg2) = m (tabLoc d) := (slices0_keeps W main_arg2 (by decide)).trans h.tab
  have hrow : after slices0 W (Proc.devRef .tc main_v5) = rowIds m d (first 0) := slices0_row m d W h.flat
  have hsub := three_sub main_arg2 main_v5 main_v6 rfl rfl rfl
  have hput := put_three (F := F) d main_arg2 main_v5 main_v6 (by decide) (by decide) (by decide) hsub (after slices0 W) (rowsOf m hm d (first 0))
  have htake := take_three (F := F) d main_arg2 main_v5 main_v6 (by decide) (by decide) (by decide) hsub (after slices0 W)
  rw [htab, hrow] at hput htake
  iintro ⟨#Hctx, Hst, Hb, Hheld, Hcg, Htk⟩
  unfold chunk0
  iapply (wp_seq 𝒱 none Set.univ d (ucRefs τ sig) _ slices0 slices0_sub slices0_fresh W) $$ [Hb Hheld]
  · isplitl [Hb] <;> iassumption
  iintro ⟨Hb, Hheld⟩
  ihave Hh := (Entails.of_eq htake) $$ Hheld
  icases Hh with ⟨⟨Htab, Hrow, Hout⟩, Hrest⟩
  rw [wp_bind]
  iapply ((K (F := F)).wp_run (D (F := F)) 𝒱 (EH := EH) (P := P m hm) κ d 0) $$ [Hst Htab Hrow Hout Hb Hrest Hcg Htk]
  isplitr; · iexact Hctx
  isplitl [Hst]; · iexact Hst
  isplitl [Htab Hrow Hout]
  · iapply (deal (tabLoc d) (rowLoc0 d) (outLoc0 d) blkSet (m (tabLoc d)) (rowIds m d (first 0)) blks_disjoint blks_cover (after slices0 W (Proc.devRef .tc main_v6)))
    isplitl [Htab]; · iexact Htab
    isplitl [Hrow]; · iexact Hrow
    iexact Hout
  iintro ⟨Hst, Hdn⟩
  ihave Hdn' := (Entails.of_eq (done0 m hm d)) $$ Hdn
  ihave Hdn' := (collect (tabLoc d) (rowLoc0 d) (outLoc0 d) blkSet (m (tabLoc d)) (rowIds m d (first 0)) (rowsOf m hm d (first 0)) blks_disjoint blks_cover) $$ Hdn'
  icases Hdn' with ⟨Htab, Hrow, Hout⟩
  ihave Hheld := (Entails.of_eq hput.symm) $$ [Htab Hrow Hout Hrest]
  · isplitr [Hrest]
    · isplitl [Htab]; · iexact Htab
      isplitl [Hrow]; · iexact Hrow
      iexact Hout
    · iexact Hrest
  iapply (wp_seq 𝒱 none Set.univ d (ucRefs τ sig) _ casts0 casts0_sub casts0_fresh (called0 m hm d W)) $$ [Hb Hheld]
  · isplitl [Hb]; · iexact Hb
    iexact Hheld
  iintro ⟨Hb, Hheld⟩
  ihave Hst' := (Entails.of_eq (show ((K (F := F)).tcSt EH d ((0 : Fin 8).val + 1) : sProp 𝕄) = _ from tcSt_owed (F := F) d 1)) $$ Hst
  icases Hst' with ⟨Howed, Hrest⟩
  ihave Hlev := ((K (F := F)).ctx_levAts (P := P m hm) (EH := EH) κ) $$ Hctx
  iapply (region0 ((K (F := F)).Otc d 1) (8 * 1) (casted0 m hm d W) (result m hm d) (otc_none d 1) d _ (casted0_stores m hm d W _ h))
  isplitl [Hrest]
  · iintro ⟨Hb, Hheld, Howed⟩
    iexists (afterRegion (dat0 ((K (F := F)).Otc d 1) (8 * 1) (fun _ => casted0 m hm d W) (fun _ => result m hm d) d) (casted0 m hm d W))
    isplitr; · ipureintro; exact inv_after0 m hm d _ _ W h
    isplitl [Hrest Howed]
    · iapply (Entails.of_eq (tcSt_owed (F := F) d 1).symm)
      isplitl [Howed]; · iexact Howed
      iexact Hrest
    isplitl [Hb]; · iexact Hb
    iexact Hheld
  isplitl [Hb]; · iexact Hb
  isplitl [Hheld Howed]
  · isplitl [Hheld]; · iexact Hheld
    iexact Howed
  isplitl [Hlev]; · iexact Hlev
  isplitl [Hcg]; · iexact Hcg
  iexact Htk

/-! ## Chunk 1 -/

/-- The buffers when chunk 1's call has run, -/
def called1 (W : Valuation τ sig (Elt F)) : Valuation τ sig (Elt F) :=
  Function.update (after slices1 W) (Proc.devRef .tc main_v12) (rowsOf m hm d (first 1))
/-- and when its region is entered. -/
def casted1 (W : Valuation τ sig (Elt F)) : Valuation τ sig (Elt F) := after casts1 (called1 m hm d W)

theorem casted1_fixed (W : Valuation τ sig (Elt F)) (r : Ref sig .tc) (hr : r ∈ fixed) :
    casted1 m hm d W (Proc.devRef .tc r) = W (Proc.devRef .tc r) := by
  unfold casted1 called1
  rw [casts1_keeps _ r (by revert r; decide), Function.update_of_ne (fun e => absurd (Proc.devRef_injective _ e) (by revert r; decide)),
    slices1_keeps _ r (by revert r; decide)]

theorem casted1_stores (W : Valuation τ sig (Elt F)) (R : S1024x256x128.Idx → Elt F .f32) (h : Inv m hm d 1 W R) :
    Stores1 (fun _ => casted1 m hm d W) fun _ => result m hm d :=
  stores1 (fun _ => casted1 m hm d W) (fun _ => gAll m hm d) (fun _ => m ((SparseCore.T d).loc main_arg1))
    (fun _ => m ((SparseCore.T d).loc main_arg3)) (fun _ => m ((SparseCore.T d).loc main_arg4)) (fun _ => gamRow m d) (fun _ => betRow m d)
    (fun _ x => casts1_rows m hm d (called1 m hm d W) (Function.update_self _ _ _) x)
    (fun _ x => by
      show casted1 m hm d W (Proc.devRef .tc main_v10) x = _
      unfold casted1 called1
      rw [casts1_keeps _ _ (by decide), Function.update_of_ne (fun e => absurd (Proc.devRef_injective _ e) (by decide))]
      exact slices1_types m d W h.tts x)
    (fun _ => (casted1_fixed m hm d W _ (by decide)).trans h.pos) (fun _ => (casted1_fixed m hm d W _ (by decide)).trans h.typ)
    (fun _ => (casted1_fixed m hm d W _ (by decide)).trans h.gam) (fun _ => (casted1_fixed m hm d W _ (by decide)).trans h.bet)

theorem casted1_results (W : Valuation τ sig (Elt F)) :
    casted1 m hm d W (Proc.devRef .tc main_v14) = W (Proc.devRef .tc main_v8) := by
  unfold casted1 called1
  rw [casts1_results, Function.update_of_ne (fun e => absurd (Proc.devRef_injective _ e) (by decide)), slices1_keeps _ _ (by decide)]

/-- When the region is done, one chunk more is. -/
theorem inv_after1 [∀ e, Nonempty (Elt F e)] (O : CellTallies nD τ sig Ix) (b : ℕ) (W : Valuation τ sig (Elt F)) (h : Inv m hm d 1 W (W (Proc.devRef .tc main_v8))) :
    Inv m hm d 2 (afterRegion (dat1 O b (fun _ => casted1 m hm d W) (fun _ => result m hm d) d) (casted1 m hm d W))
      (afterRegion (dat1 O b (fun _ => casted1 m hm d W) (fun _ => result m hm d) d) (casted1 m hm d W) (Proc.devRef .tc main_v14)) := by
  refine h.keep m hm d (fun r hr => ?_) (fun i hi => ?_)
  · exact (region1_keeps O b _ _ d r (by revert r; decide)).trans (casted1_fixed m hm d W r hr)
  · refine (region1_out O b _ _ d i).trans ?_
    split
    · rfl
    · rename_i hn
      rw [casted1_results]
      exact h.res i (by omega)

/-- Chunk 1 of @main. -/
def chunk1 : Prog (TpuEff nD τ sig (Elt F) (SparseCore.Sig (ΛP (F := F)) 8) .tc) PUnit :=
  seq slices1 >>= fun _ => sc.run d 1 >>= fun _ => seq casts1 >>= fun _ => Prog.lift (.customCall (SparseCore.inner (Pipeline.entry 1)) ())

theorem done1 : (bigSep Finset.univ fun c : Fin ((K (F := F)).nCore 1) => (P m hm).dn 1 d c)
    = (bigSep Finset.univ fun c : Fin 2 => dnP (tabLoc d) (rowLoc1 d) (outLoc1 d) blkSet (m (tabLoc d)) (rowIds m d (first 1))
        (rowsOf m hm d (first 1)) c : sProp 𝕄) := rfl

theorem wp_chunk1 [∀ e, Nonempty (Elt F e)] (κ : GSem nD τ sig → ℕ) (W : Valuation τ sig (Elt F)) (h : Inv m hm d 1 W (W (Proc.devRef .tc main_v8))) :
    iprop((K (F := F)).ctx EH (P m hm) κ ∗ (K (F := F)).tcSt EH d 1 ∗ boundary (SparseCore.T (τ := τ) d) ∗ held (SparseCore.T d) (ucRefs τ sig) W
        ∗ cellsGhost (Pipeline.pin (pcfgs (F := F)) adm) EP 1 d ∗ toksInit (Pipeline.pin (pcfgs (F := F)) adm) EP 1 d)
      ⊢ wp frame (wpE ((K (F := F)).defs (D (F := F))) 𝒱 (SparseCore.T d) none) Set.univ (chunk1 d)
          fun _ => iprop(∃ W' : Valuation τ sig (Elt F), ⌜Inv m hm d 2 W' (W' (Proc.devRef .tc main_v14))⌝
            ∗ (K (F := F)).tcSt EH d 2 ∗ boundary (SparseCore.T (τ := τ) d) ∗ held (SparseCore.T d) (ucRefs τ sig) W') := by
  have htab : after slices1 W (Proc.devRef .tc main_arg2) = m (tabLoc d) := (slices1_keeps W main_arg2 (by decide)).trans h.tab
  have hrow : after slices1 W (Proc.devRef .tc main_v11) = rowIds m d (first 1) := slices1_row m d W h.flat
  have hsub := three_sub main_arg2 main_v11 main_v12 rfl rfl rfl
  have hput := put_three (F := F) d main_arg2 main_v11 main_v12 (by decide) (by decide) (by decide) hsub (after slices1 W) (rowsOf m hm d (first 1))
  have htake := take_three (F := F) d main_arg2 main_v11 main_v12 (by decide) (by decide) (by decide) hsub (after slices1 W)
  rw [htab, hrow] at hput htake
  iintro ⟨#Hctx, Hst, Hb, Hheld, Hcg, Htk⟩
  unfold chunk1
  iapply (wp_seq 𝒱 none Set.univ d (ucRefs τ sig) _ slices1 slices1_sub slices1_fresh W) $$ [Hb Hheld]
  · isplitl [Hb] <;> iassumption
  iintro ⟨Hb, Hheld⟩
  ihave Hh := (Entails.of_eq htake) $$ Hheld
  icases Hh with ⟨⟨Htab, Hrow, Hout⟩, Hrest⟩
  rw [wp_bind]
  iapply ((K (F := F)).wp_run (D (F := F)) 𝒱 (EH := EH) (P := P m hm) κ d 1) $$ [Hst Htab Hrow Hout Hb Hrest Hcg Htk]
  isplitr; · iexact Hctx
  isplitl [Hst]; · iexact Hst
  isplitl [Htab Hrow Hout]
  · iapply (deal (tabLoc d) (rowLoc1 d) (outLoc1 d) blkSet (m (tabLoc d)) (rowIds m d (first 1)) blks_disjoint blks_cover (after slices1 W (Proc.devRef .tc main_v12)))
    isplitl [Htab]; · iexact Htab
    isplitl [Hrow]; · iexact Hrow
    iexact Hout
  iintro ⟨Hst, Hdn⟩
  ihave Hdn' := (Entails.of_eq (done1 m hm d)) $$ Hdn
  ihave Hdn' := (collect (tabLoc d) (rowLoc1 d) (outLoc1 d) blkSet (m (tabLoc d)) (rowIds m d (first 1)) (rowsOf m hm d (first 1)) blks_disjoint blks_cover) $$ Hdn'
  icases Hdn' with ⟨Htab, Hrow, Hout⟩
  ihave Hheld := (Entails.of_eq hput.symm) $$ [Htab Hrow Hout Hrest]
  · isplitr [Hrest]
    · isplitl [Htab]; · iexact Htab
      isplitl [Hrow]; · iexact Hrow
      iexact Hout
    · iexact Hrest
  iapply (wp_seq 𝒱 none Set.univ d (ucRefs τ sig) _ casts1 casts1_sub casts1_fresh (called1 m hm d W)) $$ [Hb Hheld]
  · isplitl [Hb]; · iexact Hb
    iexact Hheld
  iintro ⟨Hb, Hheld⟩
  ihave Hst' := (Entails.of_eq (show ((K (F := F)).tcSt EH d ((1 : Fin 8).val + 1) : sProp 𝕄) = _ from tcSt_owed (F := F) d 2)) $$ Hst
  icases Hst' with ⟨Howed, Hrest⟩
  ihave Hlev := ((K (F := F)).ctx_levAts (P := P m hm) (EH := EH) κ) $$ Hctx
  iapply (region1 ((K (F := F)).Otc d 2) (8 * 2) (casted1 m hm d W) (result m hm d) (otc_none d 2) d _ (casted1_stores m hm d W _ h))
  isplitl [Hrest]
  · iintro ⟨Hb, Hheld, Howed⟩
    iexists (afterRegion (dat1 ((K (F := F)).Otc d 2) (8 * 2) (fun _ => casted1 m hm d W) (fun _ => result m hm d) d) (casted1 m hm d W))
    isplitr; · ipureintro; exact inv_after1 m hm d _ _ W h
    isplitl [Hrest Howed]
    · iapply (Entails.of_eq (tcSt_owed (F := F) d 2).symm)
      isplitl [Howed]; · iexact Howed
      iexact Hrest
    isplitl [Hb]; · iexact Hb
    iexact Hheld
  isplitl [Hb]; · iexact Hb
  isplitl [Hheld Howed]
  · isplitl [Hheld]; · iexact Hheld
    iexact Howed
  isplitl [Hlev]; · iexact Hlev
  isplitl [Hcg]; · iexact Hcg
  iexact Htk

/-! ## Chunk 2 -/

/-- The buffers when chunk 2's call has run, -/
def called2 (W : Valuation τ sig (Elt F)) : Valuation τ sig (Elt F) :=
  Function.update (after slices2 W) (Proc.devRef .tc main_v18) (rowsOf m hm d (first 2))
/-- and when its region is entered. -/
def casted2 (W : Valuation τ sig (Elt F)) : Valuation τ sig (Elt F) := after casts2 (called2 m hm d W)

theorem casted2_fixed (W : Valuation τ sig (Elt F)) (r : Ref sig .tc) (hr : r ∈ fixed) :
    casted2 m hm d W (Proc.devRef .tc r) = W (Proc.devRef .tc r) := by
  unfold casted2 called2
  rw [casts2_keeps _ r (by revert r; decide), Function.update_of_ne (fun e => absurd (Proc.devRef_injective _ e) (by revert r; decide)),
    slices2_keeps _ r (by revert r; decide)]

theorem casted2_stores (W : Valuation τ sig (Elt F)) (R : S1024x256x128.Idx → Elt F .f32) (h : Inv m hm d 2 W R) :
    Stores2 (fun _ => casted2 m hm d W) fun _ => result m hm d :=
  stores2 (fun _ => casted2 m hm d W) (fun _ => gAll m hm d) (fun _ => m ((SparseCore.T d).loc main_arg1))
    (fun _ => m ((SparseCore.T d).loc main_arg3)) (fun _ => m ((SparseCore.T d).loc main_arg4)) (fun _ => gamRow m d) (fun _ => betRow m d)
    (fun _ x => casts2_rows m hm d (called2 m hm d W) (Function.update_self _ _ _) x)
    (fun _ x => by
      show casted2 m hm d W (Proc.devRef .tc main_v16) x = _
      unfold casted2 called2
      rw [casts2_keeps _ _ (by decide), Function.update_of_ne (fun e => absurd (Proc.devRef_injective _ e) (by decide))]
      exact slices2_types m d W h.tts x)
    (fun _ => (casted2_fixed m hm d W _ (by decide)).trans h.pos) (fun _ => (casted2_fixed m hm d W _ (by decide)).trans h.typ)
    (fun _ => (casted2_fixed m hm d W _ (by decide)).trans h.gam) (fun _ => (casted2_fixed m hm d W _ (by decide)).trans h.bet)

theorem casted2_results (W : Valuation τ sig (Elt F)) :
    casted2 m hm d W (Proc.devRef .tc main_v20) = W (Proc.devRef .tc main_v14) := by
  unfold casted2 called2
  rw [casts2_results, Function.update_of_ne (fun e => absurd (Proc.devRef_injective _ e) (by decide)), slices2_keeps _ _ (by decide)]

/-- When the region is done, one chunk more is. -/
theorem inv_after2 [∀ e, Nonempty (Elt F e)] (O : CellTallies nD τ sig Ix) (b : ℕ) (W : Valuation τ sig (Elt F)) (h : Inv m hm d 2 W (W (Proc.devRef .tc main_v14))) :
    Inv m hm d 3 (afterRegion (dat2 O b (fun _ => casted2 m hm d W) (fun _ => result m hm d) d) (casted2 m hm d W))
      (afterRegion (dat2 O b (fun _ => casted2 m hm d W) (fun _ => result m hm d) d) (casted2 m hm d W) (Proc.devRef .tc main_v20)) := by
  refine h.keep m hm d (fun r hr => ?_) (fun i hi => ?_)
  · exact (region2_keeps O b _ _ d r (by revert r; decide)).trans (casted2_fixed m hm d W r hr)
  · refine (region2_out O b _ _ d i).trans ?_
    split
    · rfl
    · rename_i hn
      rw [casted2_results]
      exact h.res i (by omega)

/-- Chunk 2 of @main. -/
def chunk2 : Prog (TpuEff nD τ sig (Elt F) (SparseCore.Sig (ΛP (F := F)) 8) .tc) PUnit :=
  seq slices2 >>= fun _ => sc.run d 2 >>= fun _ => seq casts2 >>= fun _ => Prog.lift (.customCall (SparseCore.inner (Pipeline.entry 2)) ())

theorem done2 : (bigSep Finset.univ fun c : Fin ((K (F := F)).nCore 2) => (P m hm).dn 2 d c)
    = (bigSep Finset.univ fun c : Fin 2 => dnP (tabLoc d) (rowLoc2 d) (outLoc2 d) blkSet (m (tabLoc d)) (rowIds m d (first 2))
        (rowsOf m hm d (first 2)) c : sProp 𝕄) := rfl

theorem wp_chunk2 [∀ e, Nonempty (Elt F e)] (κ : GSem nD τ sig → ℕ) (W : Valuation τ sig (Elt F)) (h : Inv m hm d 2 W (W (Proc.devRef .tc main_v14))) :
    iprop((K (F := F)).ctx EH (P m hm) κ ∗ (K (F := F)).tcSt EH d 2 ∗ boundary (SparseCore.T (τ := τ) d) ∗ held (SparseCore.T d) (ucRefs τ sig) W
        ∗ cellsGhost (Pipeline.pin (pcfgs (F := F)) adm) EP 2 d ∗ toksInit (Pipeline.pin (pcfgs (F := F)) adm) EP 2 d)
      ⊢ wp frame (wpE ((K (F := F)).defs (D (F := F))) 𝒱 (SparseCore.T d) none) Set.univ (chunk2 d)
          fun _ => iprop(∃ W' : Valuation τ sig (Elt F), ⌜Inv m hm d 3 W' (W' (Proc.devRef .tc main_v20))⌝
            ∗ (K (F := F)).tcSt EH d 3 ∗ boundary (SparseCore.T (τ := τ) d) ∗ held (SparseCore.T d) (ucRefs τ sig) W') := by
  have htab : after slices2 W (Proc.devRef .tc main_arg2) = m (tabLoc d) := (slices2_keeps W main_arg2 (by decide)).trans h.tab
  have hrow : after slices2 W (Proc.devRef .tc main_v17) = rowIds m d (first 2) := slices2_row m d W h.flat
  have hsub := three_sub main_arg2 main_v17 main_v18 rfl rfl rfl
  have hput := put_three (F := F) d main_arg2 main_v17 main_v18 (by decide) (by decide) (by decide) hsub (after slices2 W) (rowsOf m hm d (first 2))
  have htake := take_three (F := F) d main_arg2 main_v17 main_v18 (by decide) (by decide) (by decide) hsub (after slices2 W)
  rw [htab, hrow] at hput htake
  iintro ⟨#Hctx, Hst, Hb, Hheld, Hcg, Htk⟩
  unfold chunk2
  iapply (wp_seq 𝒱 none Set.univ d (ucRefs τ sig) _ slices2 slices2_sub slices2_fresh W) $$ [Hb Hheld]
  · isplitl [Hb] <;> iassumption
  iintro ⟨Hb, Hheld⟩
  ihave Hh := (Entails.of_eq htake) $$ Hheld
  icases Hh with ⟨⟨Htab, Hrow, Hout⟩, Hrest⟩
  rw [wp_bind]
  iapply ((K (F := F)).wp_run (D (F := F)) 𝒱 (EH := EH) (P := P m hm) κ d 2) $$ [Hst Htab Hrow Hout Hb Hrest Hcg Htk]
  isplitr; · iexact Hctx
  isplitl [Hst]; · iexact Hst
  isplitl [Htab Hrow Hout]
  · iapply (deal (tabLoc d) (rowLoc2 d) (outLoc2 d) blkSet (m (tabLoc d)) (rowIds m d (first 2)) blks_disjoint blks_cover (after slices2 W (Proc.devRef .tc main_v18)))
    isplitl [Htab]; · iexact Htab
    isplitl [Hrow]; · iexact Hrow
    iexact Hout
  iintro ⟨Hst, Hdn⟩
  ihave Hdn' := (Entails.of_eq (done2 m hm d)) $$ Hdn
  ihave Hdn' := (collect (tabLoc d) (rowLoc2 d) (outLoc2 d) blkSet (m (tabLoc d)) (rowIds m d (first 2)) (rowsOf m hm d (first 2)) blks_disjoint blks_cover) $$ Hdn'
  icases Hdn' with ⟨Htab, Hrow, Hout⟩
  ihave Hheld := (Entails.of_eq hput.symm) $$ [Htab Hrow Hout Hrest]
  · isplitr [Hrest]
    · isplitl [Htab]; · iexact Htab
      isplitl [Hrow]; · iexact Hrow
      iexact Hout
    · iexact Hrest
  iapply (wp_seq 𝒱 none Set.univ d (ucRefs τ sig) _ casts2 casts2_sub casts2_fresh (called2 m hm d W)) $$ [Hb Hheld]
  · isplitl [Hb]; · iexact Hb
    iexact Hheld
  iintro ⟨Hb, Hheld⟩
  ihave Hst' := (Entails.of_eq (show ((K (F := F)).tcSt EH d ((2 : Fin 8).val + 1) : sProp 𝕄) = _ from tcSt_owed (F := F) d 3)) $$ Hst
  icases Hst' with ⟨Howed, Hrest⟩
  ihave Hlev := ((K (F := F)).ctx_levAts (P := P m hm) (EH := EH) κ) $$ Hctx
  iapply (region2 ((K (F := F)).Otc d 3) (8 * 3) (casted2 m hm d W) (result m hm d) (otc_none d 3) d _ (casted2_stores m hm d W _ h))
  isplitl [Hrest]
  · iintro ⟨Hb, Hheld, Howed⟩
    iexists (afterRegion (dat2 ((K (F := F)).Otc d 3) (8 * 3) (fun _ => casted2 m hm d W) (fun _ => result m hm d) d) (casted2 m hm d W))
    isplitr; · ipureintro; exact inv_after2 m hm d _ _ W h
    isplitl [Hrest Howed]
    · iapply (Entails.of_eq (tcSt_owed (F := F) d 3).symm)
      isplitl [Howed]; · iexact Howed
      iexact Hrest
    isplitl [Hb]; · iexact Hb
    iexact Hheld
  isplitl [Hb]; · iexact Hb
  isplitl [Hheld Howed]
  · isplitl [Hheld]; · iexact Hheld
    iexact Howed
  isplitl [Hlev]; · iexact Hlev
  isplitl [Hcg]; · iexact Hcg
  iexact Htk

/-! ## Chunk 3 -/

/-- The buffers when chunk 3's call has run, -/
def called3 (W : Valuation τ sig (Elt F)) : Valuation τ sig (Elt F) :=
  Function.update (after slices3 W) (Proc.devRef .tc main_v24) (rowsOf m hm d (first 3))
/-- and when its region is entered. -/
def casted3 (W : Valuation τ sig (Elt F)) : Valuation τ sig (Elt F) := after casts3 (called3 m hm d W)

theorem casted3_fixed (W : Valuation τ sig (Elt F)) (r : Ref sig .tc) (hr : r ∈ fixed) :
    casted3 m hm d W (Proc.devRef .tc r) = W (Proc.devRef .tc r) := by
  unfold casted3 called3
  rw [casts3_keeps _ r (by revert r; decide), Function.update_of_ne (fun e => absurd (Proc.devRef_injective _ e) (by revert r; decide)),
    slices3_keeps _ r (by revert r; decide)]

theorem casted3_stores (W : Valuation τ sig (Elt F)) (R : S1024x256x128.Idx → Elt F .f32) (h : Inv m hm d 3 W R) :
    Stores3 (fun _ => casted3 m hm d W) fun _ => result m hm d :=
  stores3 (fun _ => casted3 m hm d W) (fun _ => gAll m hm d) (fun _ => m ((SparseCore.T d).loc main_arg1))
    (fun _ => m ((SparseCore.T d).loc main_arg3)) (fun _ => m ((SparseCore.T d).loc main_arg4)) (fun _ => gamRow m d) (fun _ => betRow m d)
    (fun _ x => casts3_rows m hm d (called3 m hm d W) (Function.update_self _ _ _) x)
    (fun _ x => by
      show casted3 m hm d W (Proc.devRef .tc main_v22) x = _
      unfold casted3 called3
      rw [casts3_keeps _ _ (by decide), Function.update_of_ne (fun e => absurd (Proc.devRef_injective _ e) (by decide))]
      exact slices3_types m d W h.tts x)
    (fun _ => (casted3_fixed m hm d W _ (by decide)).trans h.pos) (fun _ => (casted3_fixed m hm d W _ (by decide)).trans h.typ)
    (fun _ => (casted3_fixed m hm d W _ (by decide)).trans h.gam) (fun _ => (casted3_fixed m hm d W _ (by decide)).trans h.bet)

theorem casted3_results (W : Valuation τ sig (Elt F)) :
    casted3 m hm d W (Proc.devRef .tc main_v26) = W (Proc.devRef .tc main_v20) := by
  unfold casted3 called3
  rw [casts3_results, Function.update_of_ne (fun e => absurd (Proc.devRef_injective _ e) (by decide)), slices3_keeps _ _ (by decide)]

/-- When the region is done, one chunk more is. -/
theorem inv_after3 [∀ e, Nonempty (Elt F e)] (O : CellTallies nD τ sig Ix) (b : ℕ) (W : Valuation τ sig (Elt F)) (h : Inv m hm d 3 W (W (Proc.devRef .tc main_v20))) :
    Inv m hm d 4 (afterRegion (dat3 O b (fun _ => casted3 m hm d W) (fun _ => result m hm d) d) (casted3 m hm d W))
      (afterRegion (dat3 O b (fun _ => casted3 m hm d W) (fun _ => result m hm d) d) (casted3 m hm d W) (Proc.devRef .tc main_v26)) := by
  refine h.keep m hm d (fun r hr => ?_) (fun i hi => ?_)
  · exact (region3_keeps O b _ _ d r (by revert r; decide)).trans (casted3_fixed m hm d W r hr)
  · refine (region3_out O b _ _ d i).trans ?_
    split
    · rfl
    · rename_i hn
      rw [casted3_results]
      exact h.res i (by omega)

/-- Chunk 3 of @main. -/
def chunk3 : Prog (TpuEff nD τ sig (Elt F) (SparseCore.Sig (ΛP (F := F)) 8) .tc) PUnit :=
  seq slices3 >>= fun _ => sc.run d 3 >>= fun _ => seq casts3 >>= fun _ => Prog.lift (.customCall (SparseCore.inner (Pipeline.entry 3)) ())

theorem done3 : (bigSep Finset.univ fun c : Fin ((K (F := F)).nCore 3) => (P m hm).dn 3 d c)
    = (bigSep Finset.univ fun c : Fin 2 => dnP (tabLoc d) (rowLoc3 d) (outLoc3 d) blkSet (m (tabLoc d)) (rowIds m d (first 3))
        (rowsOf m hm d (first 3)) c : sProp 𝕄) := rfl

theorem wp_chunk3 [∀ e, Nonempty (Elt F e)] (κ : GSem nD τ sig → ℕ) (W : Valuation τ sig (Elt F)) (h : Inv m hm d 3 W (W (Proc.devRef .tc main_v20))) :
    iprop((K (F := F)).ctx EH (P m hm) κ ∗ (K (F := F)).tcSt EH d 3 ∗ boundary (SparseCore.T (τ := τ) d) ∗ held (SparseCore.T d) (ucRefs τ sig) W
        ∗ cellsGhost (Pipeline.pin (pcfgs (F := F)) adm) EP 3 d ∗ toksInit (Pipeline.pin (pcfgs (F := F)) adm) EP 3 d)
      ⊢ wp frame (wpE ((K (F := F)).defs (D (F := F))) 𝒱 (SparseCore.T d) none) Set.univ (chunk3 d)
          fun _ => iprop(∃ W' : Valuation τ sig (Elt F), ⌜Inv m hm d 4 W' (W' (Proc.devRef .tc main_v26))⌝
            ∗ (K (F := F)).tcSt EH d 4 ∗ boundary (SparseCore.T (τ := τ) d) ∗ held (SparseCore.T d) (ucRefs τ sig) W') := by
  have htab : after slices3 W (Proc.devRef .tc main_arg2) = m (tabLoc d) := (slices3_keeps W main_arg2 (by decide)).trans h.tab
  have hrow : after slices3 W (Proc.devRef .tc main_v23) = rowIds m d (first 3) := slices3_row m d W h.flat
  have hsub := three_sub main_arg2 main_v23 main_v24 rfl rfl rfl
  have hput := put_three (F := F) d main_arg2 main_v23 main_v24 (by decide) (by decide) (by decide) hsub (after slices3 W) (rowsOf m hm d (first 3))
  have htake := take_three (F := F) d main_arg2 main_v23 main_v24 (by decide) (by decide) (by decide) hsub (after slices3 W)
  rw [htab, hrow] at hput htake
  iintro ⟨#Hctx, Hst, Hb, Hheld, Hcg, Htk⟩
  unfold chunk3
  iapply (wp_seq 𝒱 none Set.univ d (ucRefs τ sig) _ slices3 slices3_sub slices3_fresh W) $$ [Hb Hheld]
  · isplitl [Hb] <;> iassumption
  iintro ⟨Hb, Hheld⟩
  ihave Hh := (Entails.of_eq htake) $$ Hheld
  icases Hh with ⟨⟨Htab, Hrow, Hout⟩, Hrest⟩
  rw [wp_bind]
  iapply ((K (F := F)).wp_run (D (F := F)) 𝒱 (EH := EH) (P := P m hm) κ d 3) $$ [Hst Htab Hrow Hout Hb Hrest Hcg Htk]
  isplitr; · iexact Hctx
  isplitl [Hst]; · iexact Hst
  isplitl [Htab Hrow Hout]
  · iapply (deal (tabLoc d) (rowLoc3 d) (outLoc3 d) blkSet (m (tabLoc d)) (rowIds m d (first 3)) blks_disjoint blks_cover (after slices3 W (Proc.devRef .tc main_v24)))
    isplitl [Htab]; · iexact Htab
    isplitl [Hrow]; · iexact Hrow
    iexact Hout
  iintro ⟨Hst, Hdn⟩
  ihave Hdn' := (Entails.of_eq (done3 m hm d)) $$ Hdn
  ihave Hdn' := (collect (tabLoc d) (rowLoc3 d) (outLoc3 d) blkSet (m (tabLoc d)) (rowIds m d (first 3)) (rowsOf m hm d (first 3)) blks_disjoint blks_cover) $$ Hdn'
  icases Hdn' with ⟨Htab, Hrow, Hout⟩
  ihave Hheld := (Entails.of_eq hput.symm) $$ [Htab Hrow Hout Hrest]
  · isplitr [Hrest]
    · isplitl [Htab]; · iexact Htab
      isplitl [Hrow]; · iexact Hrow
      iexact Hout
    · iexact Hrest
  iapply (wp_seq 𝒱 none Set.univ d (ucRefs τ sig) _ casts3 casts3_sub casts3_fresh (called3 m hm d W)) $$ [Hb Hheld]
  · isplitl [Hb]; · iexact Hb
    iexact Hheld
  iintro ⟨Hb, Hheld⟩
  ihave Hst' := (Entails.of_eq (show ((K (F := F)).tcSt EH d ((3 : Fin 8).val + 1) : sProp 𝕄) = _ from tcSt_owed (F := F) d 4)) $$ Hst
  icases Hst' with ⟨Howed, Hrest⟩
  ihave Hlev := ((K (F := F)).ctx_levAts (P := P m hm) (EH := EH) κ) $$ Hctx
  iapply (region3 ((K (F := F)).Otc d 4) (8 * 4) (casted3 m hm d W) (result m hm d) (otc_none d 4) d _ (casted3_stores m hm d W _ h))
  isplitl [Hrest]
  · iintro ⟨Hb, Hheld, Howed⟩
    iexists (afterRegion (dat3 ((K (F := F)).Otc d 4) (8 * 4) (fun _ => casted3 m hm d W) (fun _ => result m hm d) d) (casted3 m hm d W))
    isplitr; · ipureintro; exact inv_after3 m hm d _ _ W h
    isplitl [Hrest Howed]
    · iapply (Entails.of_eq (tcSt_owed (F := F) d 4).symm)
      isplitl [Howed]; · iexact Howed
      iexact Hrest
    isplitl [Hb]; · iexact Hb
    iexact Hheld
  isplitl [Hb]; · iexact Hb
  isplitl [Hheld Howed]
  · isplitl [Hheld]; · iexact Hheld
    iexact Howed
  isplitl [Hlev]; · iexact Hlev
  isplitl [Hcg]; · iexact Hcg
  iexact Htk

/-! ## Chunk 4 -/

/-- The buffers when chunk 4's call has run, -/
def called4 (W : Valuation τ sig (Elt F)) : Valuation τ sig (Elt F) :=
  Function.update (after slices4 W) (Proc.devRef .tc main_v30) (rowsOf m hm d (first 4))
/-- and when its region is entered. -/
def casted4 (W : Valuation τ sig (Elt F)) : Valuation τ sig (Elt F) := after casts4 (called4 m hm d W)

theorem casted4_fixed (W : Valuation τ sig (Elt F)) (r : Ref sig .tc) (hr : r ∈ fixed) :
    casted4 m hm d W (Proc.devRef .tc r) = W (Proc.devRef .tc r) := by
  unfold casted4 called4
  rw [casts4_keeps _ r (by revert r; decide), Function.update_of_ne (fun e => absurd (Proc.devRef_injective _ e) (by revert r; decide)),
    slices4_keeps _ r (by revert r; decide)]

theorem casted4_stores (W : Valuation τ sig (Elt F)) (R : S1024x256x128.Idx → Elt F .f32) (h : Inv m hm d 4 W R) :
    Stores4 (fun _ => casted4 m hm d W) fun _ => result m hm d :=
  stores4 (fun _ => casted4 m hm d W) (fun _ => gAll m hm d) (fun _ => m ((SparseCore.T d).loc main_arg1))
    (fun _ => m ((SparseCore.T d).loc main_arg3)) (fun _ => m ((SparseCore.T d).loc main_arg4)) (fun _ => gamRow m d) (fun _ => betRow m d)
    (fun _ x => casts4_rows m hm d (called4 m hm d W) (Function.update_self _ _ _) x)
    (fun _ x => by
      show casted4 m hm d W (Proc.devRef .tc main_v28) x = _
      unfold casted4 called4
      rw [casts4_keeps _ _ (by decide), Function.update_of_ne (fun e => absurd (Proc.devRef_injective _ e) (by decide))]
      exact slices4_types m d W h.tts x)
    (fun _ => (casted4_fixed m hm d W _ (by decide)).trans h.pos) (fun _ => (casted4_fixed m hm d W _ (by decide)).trans h.typ)
    (fun _ => (casted4_fixed m hm d W _ (by decide)).trans h.gam) (fun _ => (casted4_fixed m hm d W _ (by decide)).trans h.bet)

theorem casted4_results (W : Valuation τ sig (Elt F)) :
    casted4 m hm d W (Proc.devRef .tc main_v32) = W (Proc.devRef .tc main_v26) := by
  unfold casted4 called4
  rw [casts4_results, Function.update_of_ne (fun e => absurd (Proc.devRef_injective _ e) (by decide)), slices4_keeps _ _ (by decide)]

/-- When the region is done, one chunk more is. -/
theorem inv_after4 [∀ e, Nonempty (Elt F e)] (O : CellTallies nD τ sig Ix) (b : ℕ) (W : Valuation τ sig (Elt F)) (h : Inv m hm d 4 W (W (Proc.devRef .tc main_v26))) :
    Inv m hm d 5 (afterRegion (dat4 O b (fun _ => casted4 m hm d W) (fun _ => result m hm d) d) (casted4 m hm d W))
      (afterRegion (dat4 O b (fun _ => casted4 m hm d W) (fun _ => result m hm d) d) (casted4 m hm d W) (Proc.devRef .tc main_v32)) := by
  refine h.keep m hm d (fun r hr => ?_) (fun i hi => ?_)
  · exact (region4_keeps O b _ _ d r (by revert r; decide)).trans (casted4_fixed m hm d W r hr)
  · refine (region4_out O b _ _ d i).trans ?_
    split
    · rfl
    · rename_i hn
      rw [casted4_results]
      exact h.res i (by omega)

/-- Chunk 4 of @main. -/
def chunk4 : Prog (TpuEff nD τ sig (Elt F) (SparseCore.Sig (ΛP (F := F)) 8) .tc) PUnit :=
  seq slices4 >>= fun _ => sc.run d 4 >>= fun _ => seq casts4 >>= fun _ => Prog.lift (.customCall (SparseCore.inner (Pipeline.entry 4)) ())

theorem done4 : (bigSep Finset.univ fun c : Fin ((K (F := F)).nCore 4) => (P m hm).dn 4 d c)
    = (bigSep Finset.univ fun c : Fin 2 => dnP (tabLoc d) (rowLoc4 d) (outLoc4 d) blkSet (m (tabLoc d)) (rowIds m d (first 4))
        (rowsOf m hm d (first 4)) c : sProp 𝕄) := rfl

theorem wp_chunk4 [∀ e, Nonempty (Elt F e)] (κ : GSem nD τ sig → ℕ) (W : Valuation τ sig (Elt F)) (h : Inv m hm d 4 W (W (Proc.devRef .tc main_v26))) :
    iprop((K (F := F)).ctx EH (P m hm) κ ∗ (K (F := F)).tcSt EH d 4 ∗ boundary (SparseCore.T (τ := τ) d) ∗ held (SparseCore.T d) (ucRefs τ sig) W
        ∗ cellsGhost (Pipeline.pin (pcfgs (F := F)) adm) EP 4 d ∗ toksInit (Pipeline.pin (pcfgs (F := F)) adm) EP 4 d)
      ⊢ wp frame (wpE ((K (F := F)).defs (D (F := F))) 𝒱 (SparseCore.T d) none) Set.univ (chunk4 d)
          fun _ => iprop(∃ W' : Valuation τ sig (Elt F), ⌜Inv m hm d 5 W' (W' (Proc.devRef .tc main_v32))⌝
            ∗ (K (F := F)).tcSt EH d 5 ∗ boundary (SparseCore.T (τ := τ) d) ∗ held (SparseCore.T d) (ucRefs τ sig) W') := by
  have htab : after slices4 W (Proc.devRef .tc main_arg2) = m (tabLoc d) := (slices4_keeps W main_arg2 (by decide)).trans h.tab
  have hrow : after slices4 W (Proc.devRef .tc main_v29) = rowIds m d (first 4) := slices4_row m d W h.flat
  have hsub := three_sub main_arg2 main_v29 main_v30 rfl rfl rfl
  have hput := put_three (F := F) d main_arg2 main_v29 main_v30 (by decide) (by decide) (by decide) hsub (after slices4 W) (rowsOf m hm d (first 4))
  have htake := take_three (F := F) d main_arg2 main_v29 main_v30 (by decide) (by decide) (by decide) hsub (after slices4 W)
  rw [htab, hrow] at hput htake
  iintro ⟨#Hctx, Hst, Hb, Hheld, Hcg, Htk⟩
  unfold chunk4
  iapply (wp_seq 𝒱 none Set.univ d (ucRefs τ sig) _ slices4 slices4_sub slices4_fresh W) $$ [Hb Hheld]
  · isplitl [Hb] <;> iassumption
  iintro ⟨Hb, Hheld⟩
  ihave Hh := (Entails.of_eq htake) $$ Hheld
  icases Hh with ⟨⟨Htab, Hrow, Hout⟩, Hrest⟩
  rw [wp_bind]
  iapply ((K (F := F)).wp_run (D (F := F)) 𝒱 (EH := EH) (P := P m hm) κ d 4) $$ [Hst Htab Hrow Hout Hb Hrest Hcg Htk]
  isplitr; · iexact Hctx
  isplitl [Hst]; · iexact Hst
  isplitl [Htab Hrow Hout]
  · iapply (deal (tabLoc d) (rowLoc4 d) (outLoc4 d) blkSet (m (tabLoc d)) (rowIds m d (first 4)) blks_disjoint blks_cover (after slices4 W (Proc.devRef .tc main_v30)))
    isplitl [Htab]; · iexact Htab
    isplitl [Hrow]; · iexact Hrow
    iexact Hout
  iintro ⟨Hst, Hdn⟩
  ihave Hdn' := (Entails.of_eq (done4 m hm d)) $$ Hdn
  ihave Hdn' := (collect (tabLoc d) (rowLoc4 d) (outLoc4 d) blkSet (m (tabLoc d)) (rowIds m d (first 4)) (rowsOf m hm d (first 4)) blks_disjoint blks_cover) $$ Hdn'
  icases Hdn' with ⟨Htab, Hrow, Hout⟩
  ihave Hheld := (Entails.of_eq hput.symm) $$ [Htab Hrow Hout Hrest]
  · isplitr [Hrest]
    · isplitl [Htab]; · iexact Htab
      isplitl [Hrow]; · iexact Hrow
      iexact Hout
    · iexact Hrest
  iapply (wp_seq 𝒱 none Set.univ d (ucRefs τ sig) _ casts4 casts4_sub casts4_fresh (called4 m hm d W)) $$ [Hb Hheld]
  · isplitl [Hb]; · iexact Hb
    iexact Hheld
  iintro ⟨Hb, Hheld⟩
  ihave Hst' := (Entails.of_eq (show ((K (F := F)).tcSt EH d ((4 : Fin 8).val + 1) : sProp 𝕄) = _ from tcSt_owed (F := F) d 5)) $$ Hst
  icases Hst' with ⟨Howed, Hrest⟩
  ihave Hlev := ((K (F := F)).ctx_levAts (P := P m hm) (EH := EH) κ) $$ Hctx
  iapply (region4 ((K (F := F)).Otc d 5) (8 * 5) (casted4 m hm d W) (result m hm d) (otc_none d 5) d _ (casted4_stores m hm d W _ h))
  isplitl [Hrest]
  · iintro ⟨Hb, Hheld, Howed⟩
    iexists (afterRegion (dat4 ((K (F := F)).Otc d 5) (8 * 5) (fun _ => casted4 m hm d W) (fun _ => result m hm d) d) (casted4 m hm d W))
    isplitr; · ipureintro; exact inv_after4 m hm d _ _ W h
    isplitl [Hrest Howed]
    · iapply (Entails.of_eq (tcSt_owed (F := F) d 5).symm)
      isplitl [Howed]; · iexact Howed
      iexact Hrest
    isplitl [Hb]; · iexact Hb
    iexact Hheld
  isplitl [Hb]; · iexact Hb
  isplitl [Hheld Howed]
  · isplitl [Hheld]; · iexact Hheld
    iexact Howed
  isplitl [Hlev]; · iexact Hlev
  isplitl [Hcg]; · iexact Hcg
  iexact Htk

/-! ## Chunk 5 -/

/-- The buffers when chunk 5's call has run, -/
def called5 (W : Valuation τ sig (Elt F)) : Valuation τ sig (Elt F) :=
  Function.update (after slices5 W) (Proc.devRef .tc main_v36) (rowsOf m hm d (first 5))
/-- and when its region is entered. -/
def casted5 (W : Valuation τ sig (Elt F)) : Valuation τ sig (Elt F) := after casts5 (called5 m hm d W)

theorem casted5_fixed (W : Valuation τ sig (Elt F)) (r : Ref sig .tc) (hr : r ∈ fixed) :
    casted5 m hm d W (Proc.devRef .tc r) = W (Proc.devRef .tc r) := by
  unfold casted5 called5
  rw [casts5_keeps _ r (by revert r; decide), Function.update_of_ne (fun e => absurd (Proc.devRef_injective _ e) (by revert r; decide)),
    slices5_keeps _ r (by revert r; decide)]

theorem casted5_stores (W : Valuation τ sig (Elt F)) (R : S1024x256x128.Idx → Elt F .f32) (h : Inv m hm d 5 W R) :
    Stores5 (fun _ => casted5 m hm d W) fun _ => result m hm d :=
  stores5 (fun _ => casted5 m hm d W) (fun _ => gAll m hm d) (fun _ => m ((SparseCore.T d).loc main_arg1))
    (fun _ => m ((SparseCore.T d).loc main_arg3)) (fun _ => m ((SparseCore.T d).loc main_arg4)) (fun _ => gamRow m d) (fun _ => betRow m d)
    (fun _ x => casts5_rows m hm d (called5 m hm d W) (Function.update_self _ _ _) x)
    (fun _ x => by
      show casted5 m hm d W (Proc.devRef .tc main_v34) x = _
      unfold casted5 called5
      rw [casts5_keeps _ _ (by decide), Function.update_of_ne (fun e => absurd (Proc.devRef_injective _ e) (by decide))]
      exact slices5_types m d W h.tts x)
    (fun _ => (casted5_fixed m hm d W _ (by decide)).trans h.pos) (fun _ => (casted5_fixed m hm d W _ (by decide)).trans h.typ)
    (fun _ => (casted5_fixed m hm d W _ (by decide)).trans h.gam) (fun _ => (casted5_fixed m hm d W _ (by decide)).trans h.bet)

theorem casted5_results (W : Valuation τ sig (Elt F)) :
    casted5 m hm d W (Proc.devRef .tc main_v38) = W (Proc.devRef .tc main_v32) := by
  unfold casted5 called5
  rw [casts5_results, Function.update_of_ne (fun e => absurd (Proc.devRef_injective _ e) (by decide)), slices5_keeps _ _ (by decide)]

/-- When the region is done, one chunk more is. -/
theorem inv_after5 [∀ e, Nonempty (Elt F e)] (O : CellTallies nD τ sig Ix) (b : ℕ) (W : Valuation τ sig (Elt F)) (h : Inv m hm d 5 W (W (Proc.devRef .tc main_v32))) :
    Inv m hm d 6 (afterRegion (dat5 O b (fun _ => casted5 m hm d W) (fun _ => result m hm d) d) (casted5 m hm d W))
      (afterRegion (dat5 O b (fun _ => casted5 m hm d W) (fun _ => result m hm d) d) (casted5 m hm d W) (Proc.devRef .tc main_v38)) := by
  refine h.keep m hm d (fun r hr => ?_) (fun i hi => ?_)
  · exact (region5_keeps O b _ _ d r (by revert r; decide)).trans (casted5_fixed m hm d W r hr)
  · refine (region5_out O b _ _ d i).trans ?_
    split
    · rfl
    · rename_i hn
      rw [casted5_results]
      exact h.res i (by omega)

/-- Chunk 5 of @main. -/
def chunk5 : Prog (TpuEff nD τ sig (Elt F) (SparseCore.Sig (ΛP (F := F)) 8) .tc) PUnit :=
  seq slices5 >>= fun _ => sc.run d 5 >>= fun _ => seq casts5 >>= fun _ => Prog.lift (.customCall (SparseCore.inner (Pipeline.entry 5)) ())

theorem done5 : (bigSep Finset.univ fun c : Fin ((K (F := F)).nCore 5) => (P m hm).dn 5 d c)
    = (bigSep Finset.univ fun c : Fin 2 => dnP (tabLoc d) (rowLoc5 d) (outLoc5 d) blkSet (m (tabLoc d)) (rowIds m d (first 5))
        (rowsOf m hm d (first 5)) c : sProp 𝕄) := rfl

theorem wp_chunk5 [∀ e, Nonempty (Elt F e)] (κ : GSem nD τ sig → ℕ) (W : Valuation τ sig (Elt F)) (h : Inv m hm d 5 W (W (Proc.devRef .tc main_v32))) :
    iprop((K (F := F)).ctx EH (P m hm) κ ∗ (K (F := F)).tcSt EH d 5 ∗ boundary (SparseCore.T (τ := τ) d) ∗ held (SparseCore.T d) (ucRefs τ sig) W
        ∗ cellsGhost (Pipeline.pin (pcfgs (F := F)) adm) EP 5 d ∗ toksInit (Pipeline.pin (pcfgs (F := F)) adm) EP 5 d)
      ⊢ wp frame (wpE ((K (F := F)).defs (D (F := F))) 𝒱 (SparseCore.T d) none) Set.univ (chunk5 d)
          fun _ => iprop(∃ W' : Valuation τ sig (Elt F), ⌜Inv m hm d 6 W' (W' (Proc.devRef .tc main_v38))⌝
            ∗ (K (F := F)).tcSt EH d 6 ∗ boundary (SparseCore.T (τ := τ) d) ∗ held (SparseCore.T d) (ucRefs τ sig) W') := by
  have htab : after slices5 W (Proc.devRef .tc main_arg2) = m (tabLoc d) := (slices5_keeps W main_arg2 (by decide)).trans h.tab
  have hrow : after slices5 W (Proc.devRef .tc main_v35) = rowIds m d (first 5) := slices5_row m d W h.flat
  have hsub := three_sub main_arg2 main_v35 main_v36 rfl rfl rfl
  have hput := put_three (F := F) d main_arg2 main_v35 main_v36 (by decide) (by decide) (by decide) hsub (after slices5 W) (rowsOf m hm d (first 5))
  have htake := take_three (F := F) d main_arg2 main_v35 main_v36 (by decide) (by decide) (by decide) hsub (after slices5 W)
  rw [htab, hrow] at hput htake
  iintro ⟨#Hctx, Hst, Hb, Hheld, Hcg, Htk⟩
  unfold chunk5
  iapply (wp_seq 𝒱 none Set.univ d (ucRefs τ sig) _ slices5 slices5_sub slices5_fresh W) $$ [Hb Hheld]
  · isplitl [Hb] <;> iassumption
  iintro ⟨Hb, Hheld⟩
  ihave Hh := (Entails.of_eq htake) $$ Hheld
  icases Hh with ⟨⟨Htab, Hrow, Hout⟩, Hrest⟩
  rw [wp_bind]
  iapply ((K (F := F)).wp_run (D (F := F)) 𝒱 (EH := EH) (P := P m hm) κ d 5) $$ [Hst Htab Hrow Hout Hb Hrest Hcg Htk]
  isplitr; · iexact Hctx
  isplitl [Hst]; · iexact Hst
  isplitl [Htab Hrow Hout]
  · iapply (deal (tabLoc d) (rowLoc5 d) (outLoc5 d) blkSet (m (tabLoc d)) (rowIds m d (first 5)) blks_disjoint blks_cover (after slices5 W (Proc.devRef .tc main_v36)))
    isplitl [Htab]; · iexact Htab
    isplitl [Hrow]; · iexact Hrow
    iexact Hout
  iintro ⟨Hst, Hdn⟩
  ihave Hdn' := (Entails.of_eq (done5 m hm d)) $$ Hdn
  ihave Hdn' := (collect (tabLoc d) (rowLoc5 d) (outLoc5 d) blkSet (m (tabLoc d)) (rowIds m d (first 5)) (rowsOf m hm d (first 5)) blks_disjoint blks_cover) $$ Hdn'
  icases Hdn' with ⟨Htab, Hrow, Hout⟩
  ihave Hheld := (Entails.of_eq hput.symm) $$ [Htab Hrow Hout Hrest]
  · isplitr [Hrest]
    · isplitl [Htab]; · iexact Htab
      isplitl [Hrow]; · iexact Hrow
      iexact Hout
    · iexact Hrest
  iapply (wp_seq 𝒱 none Set.univ d (ucRefs τ sig) _ casts5 casts5_sub casts5_fresh (called5 m hm d W)) $$ [Hb Hheld]
  · isplitl [Hb]; · iexact Hb
    iexact Hheld
  iintro ⟨Hb, Hheld⟩
  ihave Hst' := (Entails.of_eq (show ((K (F := F)).tcSt EH d ((5 : Fin 8).val + 1) : sProp 𝕄) = _ from tcSt_owed (F := F) d 6)) $$ Hst
  icases Hst' with ⟨Howed, Hrest⟩
  ihave Hlev := ((K (F := F)).ctx_levAts (P := P m hm) (EH := EH) κ) $$ Hctx
  iapply (region5 ((K (F := F)).Otc d 6) (8 * 6) (casted5 m hm d W) (result m hm d) (otc_none d 6) d _ (casted5_stores m hm d W _ h))
  isplitl [Hrest]
  · iintro ⟨Hb, Hheld, Howed⟩
    iexists (afterRegion (dat5 ((K (F := F)).Otc d 6) (8 * 6) (fun _ => casted5 m hm d W) (fun _ => result m hm d) d) (casted5 m hm d W))
    isplitr; · ipureintro; exact inv_after5 m hm d _ _ W h
    isplitl [Hrest Howed]
    · iapply (Entails.of_eq (tcSt_owed (F := F) d 6).symm)
      isplitl [Howed]; · iexact Howed
      iexact Hrest
    isplitl [Hb]; · iexact Hb
    iexact Hheld
  isplitl [Hb]; · iexact Hb
  isplitl [Hheld Howed]
  · isplitl [Hheld]; · iexact Hheld
    iexact Howed
  isplitl [Hlev]; · iexact Hlev
  isplitl [Hcg]; · iexact Hcg
  iexact Htk

/-! ## Chunk 6 -/

/-- The buffers when chunk 6's call has run, -/
def called6 (W : Valuation τ sig (Elt F)) : Valuation τ sig (Elt F) :=
  Function.update (after slices6 W) (Proc.devRef .tc main_v42) (rowsOf m hm d (first 6))
/-- and when its region is entered. -/
def casted6 (W : Valuation τ sig (Elt F)) : Valuation τ sig (Elt F) := after casts6 (called6 m hm d W)

theorem casted6_fixed (W : Valuation τ sig (Elt F)) (r : Ref sig .tc) (hr : r ∈ fixed) :
    casted6 m hm d W (Proc.devRef .tc r) = W (Proc.devRef .tc r) := by
  unfold casted6 called6
  rw [casts6_keeps _ r (by revert r; decide), Function.update_of_ne (fun e => absurd (Proc.devRef_injective _ e) (by revert r; decide)),
    slices6_keeps _ r (by revert r; decide)]

theorem casted6_stores (W : Valuation τ sig (Elt F)) (R : S1024x256x128.Idx → Elt F .f32) (h : Inv m hm d 6 W R) :
    Stores6 (fun _ => casted6 m hm d W) fun _ => result m hm d :=
  stores6 (fun _ => casted6 m hm d W) (fun _ => gAll m hm d) (fun _ => m ((SparseCore.T d).loc main_arg1))
    (fun _ => m ((SparseCore.T d).loc main_arg3)) (fun _ => m ((SparseCore.T d).loc main_arg4)) (fun _ => gamRow m d) (fun _ => betRow m d)
    (fun _ x => casts6_rows m hm d (called6 m hm d W) (Function.update_self _ _ _) x)
    (fun _ x => by
      show casted6 m hm d W (Proc.devRef .tc main_v40) x = _
      unfold casted6 called6
      rw [casts6_keeps _ _ (by decide), Function.update_of_ne (fun e => absurd (Proc.devRef_injective _ e) (by decide))]
      exact slices6_types m d W h.tts x)
    (fun _ => (casted6_fixed m hm d W _ (by decide)).trans h.pos) (fun _ => (casted6_fixed m hm d W _ (by decide)).trans h.typ)
    (fun _ => (casted6_fixed m hm d W _ (by decide)).trans h.gam) (fun _ => (casted6_fixed m hm d W _ (by decide)).trans h.bet)

theorem casted6_results (W : Valuation τ sig (Elt F)) :
    casted6 m hm d W (Proc.devRef .tc main_v44) = W (Proc.devRef .tc main_v38) := by
  unfold casted6 called6
  rw [casts6_results, Function.update_of_ne (fun e => absurd (Proc.devRef_injective _ e) (by decide)), slices6_keeps _ _ (by decide)]

/-- When the region is done, one chunk more is. -/
theorem inv_after6 [∀ e, Nonempty (Elt F e)] (O : CellTallies nD τ sig Ix) (b : ℕ) (W : Valuation τ sig (Elt F)) (h : Inv m hm d 6 W (W (Proc.devRef .tc main_v38))) :
    Inv m hm d 7 (afterRegion (dat6 O b (fun _ => casted6 m hm d W) (fun _ => result m hm d) d) (casted6 m hm d W))
      (afterRegion (dat6 O b (fun _ => casted6 m hm d W) (fun _ => result m hm d) d) (casted6 m hm d W) (Proc.devRef .tc main_v44)) := by
  refine h.keep m hm d (fun r hr => ?_) (fun i hi => ?_)
  · exact (region6_keeps O b _ _ d r (by revert r; decide)).trans (casted6_fixed m hm d W r hr)
  · refine (region6_out O b _ _ d i).trans ?_
    split
    · rfl
    · rename_i hn
      rw [casted6_results]
      exact h.res i (by omega)

/-- Chunk 6 of @main. -/
def chunk6 : Prog (TpuEff nD τ sig (Elt F) (SparseCore.Sig (ΛP (F := F)) 8) .tc) PUnit :=
  seq slices6 >>= fun _ => sc.run d 6 >>= fun _ => seq casts6 >>= fun _ => Prog.lift (.customCall (SparseCore.inner (Pipeline.entry 6)) ())

theorem done6 : (bigSep Finset.univ fun c : Fin ((K (F := F)).nCore 6) => (P m hm).dn 6 d c)
    = (bigSep Finset.univ fun c : Fin 2 => dnP (tabLoc d) (rowLoc6 d) (outLoc6 d) blkSet (m (tabLoc d)) (rowIds m d (first 6))
        (rowsOf m hm d (first 6)) c : sProp 𝕄) := rfl

theorem wp_chunk6 [∀ e, Nonempty (Elt F e)] (κ : GSem nD τ sig → ℕ) (W : Valuation τ sig (Elt F)) (h : Inv m hm d 6 W (W (Proc.devRef .tc main_v38))) :
    iprop((K (F := F)).ctx EH (P m hm) κ ∗ (K (F := F)).tcSt EH d 6 ∗ boundary (SparseCore.T (τ := τ) d) ∗ held (SparseCore.T d) (ucRefs τ sig) W
        ∗ cellsGhost (Pipeline.pin (pcfgs (F := F)) adm) EP 6 d ∗ toksInit (Pipeline.pin (pcfgs (F := F)) adm) EP 6 d)
      ⊢ wp frame (wpE ((K (F := F)).defs (D (F := F))) 𝒱 (SparseCore.T d) none) Set.univ (chunk6 d)
          fun _ => iprop(∃ W' : Valuation τ sig (Elt F), ⌜Inv m hm d 7 W' (W' (Proc.devRef .tc main_v44))⌝
            ∗ (K (F := F)).tcSt EH d 7 ∗ boundary (SparseCore.T (τ := τ) d) ∗ held (SparseCore.T d) (ucRefs τ sig) W') := by
  have htab : after slices6 W (Proc.devRef .tc main_arg2) = m (tabLoc d) := (slices6_keeps W main_arg2 (by decide)).trans h.tab
  have hrow : after slices6 W (Proc.devRef .tc main_v41) = rowIds m d (first 6) := slices6_row m d W h.flat
  have hsub := three_sub main_arg2 main_v41 main_v42 rfl rfl rfl
  have hput := put_three (F := F) d main_arg2 main_v41 main_v42 (by decide) (by decide) (by decide) hsub (after slices6 W) (rowsOf m hm d (first 6))
  have htake := take_three (F := F) d main_arg2 main_v41 main_v42 (by decide) (by decide) (by decide) hsub (after slices6 W)
  rw [htab, hrow] at hput htake
  iintro ⟨#Hctx, Hst, Hb, Hheld, Hcg, Htk⟩
  unfold chunk6
  iapply (wp_seq 𝒱 none Set.univ d (ucRefs τ sig) _ slices6 slices6_sub slices6_fresh W) $$ [Hb Hheld]
  · isplitl [Hb] <;> iassumption
  iintro ⟨Hb, Hheld⟩
  ihave Hh := (Entails.of_eq htake) $$ Hheld
  icases Hh with ⟨⟨Htab, Hrow, Hout⟩, Hrest⟩
  rw [wp_bind]
  iapply ((K (F := F)).wp_run (D (F := F)) 𝒱 (EH := EH) (P := P m hm) κ d 6) $$ [Hst Htab Hrow Hout Hb Hrest Hcg Htk]
  isplitr; · iexact Hctx
  isplitl [Hst]; · iexact Hst
  isplitl [Htab Hrow Hout]
  · iapply (deal (tabLoc d) (rowLoc6 d) (outLoc6 d) blkSet (m (tabLoc d)) (rowIds m d (first 6)) blks_disjoint blks_cover (after slices6 W (Proc.devRef .tc main_v42)))
    isplitl [Htab]; · iexact Htab
    isplitl [Hrow]; · iexact Hrow
    iexact Hout
  iintro ⟨Hst, Hdn⟩
  ihave Hdn' := (Entails.of_eq (done6 m hm d)) $$ Hdn
  ihave Hdn' := (collect (tabLoc d) (rowLoc6 d) (outLoc6 d) blkSet (m (tabLoc d)) (rowIds m d (first 6)) (rowsOf m hm d (first 6)) blks_disjoint blks_cover) $$ Hdn'
  icases Hdn' with ⟨Htab, Hrow, Hout⟩
  ihave Hheld := (Entails.of_eq hput.symm) $$ [Htab Hrow Hout Hrest]
  · isplitr [Hrest]
    · isplitl [Htab]; · iexact Htab
      isplitl [Hrow]; · iexact Hrow
      iexact Hout
    · iexact Hrest
  iapply (wp_seq 𝒱 none Set.univ d (ucRefs τ sig) _ casts6 casts6_sub casts6_fresh (called6 m hm d W)) $$ [Hb Hheld]
  · isplitl [Hb]; · iexact Hb
    iexact Hheld
  iintro ⟨Hb, Hheld⟩
  ihave Hst' := (Entails.of_eq (show ((K (F := F)).tcSt EH d ((6 : Fin 8).val + 1) : sProp 𝕄) = _ from tcSt_owed (F := F) d 7)) $$ Hst
  icases Hst' with ⟨Howed, Hrest⟩
  ihave Hlev := ((K (F := F)).ctx_levAts (P := P m hm) (EH := EH) κ) $$ Hctx
  iapply (region6 ((K (F := F)).Otc d 7) (8 * 7) (casted6 m hm d W) (result m hm d) (otc_none d 7) d _ (casted6_stores m hm d W _ h))
  isplitl [Hrest]
  · iintro ⟨Hb, Hheld, Howed⟩
    iexists (afterRegion (dat6 ((K (F := F)).Otc d 7) (8 * 7) (fun _ => casted6 m hm d W) (fun _ => result m hm d) d) (casted6 m hm d W))
    isplitr; · ipureintro; exact inv_after6 m hm d _ _ W h
    isplitl [Hrest Howed]
    · iapply (Entails.of_eq (tcSt_owed (F := F) d 7).symm)
      isplitl [Howed]; · iexact Howed
      iexact Hrest
    isplitl [Hb]; · iexact Hb
    iexact Hheld
  isplitl [Hb]; · iexact Hb
  isplitl [Hheld Howed]
  · isplitl [Hheld]; · iexact Hheld
    iexact Howed
  isplitl [Hlev]; · iexact Hlev
  isplitl [Hcg]; · iexact Hcg
  iexact Htk

/-! ## Chunk 7 -/

/-- The buffers when chunk 7's call has run, -/
def called7 (W : Valuation τ sig (Elt F)) : Valuation τ sig (Elt F) :=
  Function.update (after slices7 W) (Proc.devRef .tc main_v48) (rowsOf m hm d (first 7))
/-- and when its region is entered. -/
def casted7 (W : Valuation τ sig (Elt F)) : Valuation τ sig (Elt F) := after casts7 (called7 m hm d W)

theorem casted7_fixed (W : Valuation τ sig (Elt F)) (r : Ref sig .tc) (hr : r ∈ fixed) :
    casted7 m hm d W (Proc.devRef .tc r) = W (Proc.devRef .tc r) := by
  unfold casted7 called7
  rw [casts7_keeps _ r (by revert r; decide), Function.update_of_ne (fun e => absurd (Proc.devRef_injective _ e) (by revert r; decide)),
    slices7_keeps _ r (by revert r; decide)]

theorem casted7_stores (W : Valuation τ sig (Elt F)) (R : S1024x256x128.Idx → Elt F .f32) (h : Inv m hm d 7 W R) :
    Stores7 (fun _ => casted7 m hm d W) fun _ => result m hm d :=
  stores7 (fun _ => casted7 m hm d W) (fun _ => gAll m hm d) (fun _ => m ((SparseCore.T d).loc main_arg1))
    (fun _ => m ((SparseCore.T d).loc main_arg3)) (fun _ => m ((SparseCore.T d).loc main_arg4)) (fun _ => gamRow m d) (fun _ => betRow m d)
    (fun _ x => casts7_rows m hm d (called7 m hm d W) (Function.update_self _ _ _) x)
    (fun _ x => by
      show casted7 m hm d W (Proc.devRef .tc main_v46) x = _
      unfold casted7 called7
      rw [casts7_keeps _ _ (by decide), Function.update_of_ne (fun e => absurd (Proc.devRef_injective _ e) (by decide))]
      exact slices7_types m d W h.tts x)
    (fun _ => (casted7_fixed m hm d W _ (by decide)).trans h.pos) (fun _ => (casted7_fixed m hm d W _ (by decide)).trans h.typ)
    (fun _ => (casted7_fixed m hm d W _ (by decide)).trans h.gam) (fun _ => (casted7_fixed m hm d W _ (by decide)).trans h.bet)

theorem casted7_results (W : Valuation τ sig (Elt F)) :
    casted7 m hm d W (Proc.devRef .tc main_v50) = W (Proc.devRef .tc main_v44) := by
  unfold casted7 called7
  rw [casts7_results, Function.update_of_ne (fun e => absurd (Proc.devRef_injective _ e) (by decide)), slices7_keeps _ _ (by decide)]

/-- When the region is done, one chunk more is. -/
theorem inv_after7 [∀ e, Nonempty (Elt F e)] (O : CellTallies nD τ sig Ix) (b : ℕ) (W : Valuation τ sig (Elt F)) (h : Inv m hm d 7 W (W (Proc.devRef .tc main_v44))) :
    Inv m hm d 8 (afterRegion (dat7 O b (fun _ => casted7 m hm d W) (fun _ => result m hm d) d) (casted7 m hm d W))
      (afterRegion (dat7 O b (fun _ => casted7 m hm d W) (fun _ => result m hm d) d) (casted7 m hm d W) (Proc.devRef .tc main_v50)) := by
  refine h.keep m hm d (fun r hr => ?_) (fun i hi => ?_)
  · exact (region7_keeps O b _ _ d r (by revert r; decide)).trans (casted7_fixed m hm d W r hr)
  · refine (region7_out O b _ _ d i).trans ?_
    split
    · rfl
    · rename_i hn
      rw [casted7_results]
      exact h.res i (by omega)

/-- Chunk 7 of @main. -/
def chunk7 : Prog (TpuEff nD τ sig (Elt F) (SparseCore.Sig (ΛP (F := F)) 8) .tc) PUnit :=
  seq slices7 >>= fun _ => sc.run d 7 >>= fun _ => seq casts7 >>= fun _ => Prog.lift (.customCall (SparseCore.inner (Pipeline.entry 7)) ())

theorem done7 : (bigSep Finset.univ fun c : Fin ((K (F := F)).nCore 7) => (P m hm).dn 7 d c)
    = (bigSep Finset.univ fun c : Fin 2 => dnP (tabLoc d) (rowLoc7 d) (outLoc7 d) blkSet (m (tabLoc d)) (rowIds m d (first 7))
        (rowsOf m hm d (first 7)) c : sProp 𝕄) := rfl

theorem wp_chunk7 [∀ e, Nonempty (Elt F e)] (κ : GSem nD τ sig → ℕ) (W : Valuation τ sig (Elt F)) (h : Inv m hm d 7 W (W (Proc.devRef .tc main_v44))) :
    iprop((K (F := F)).ctx EH (P m hm) κ ∗ (K (F := F)).tcSt EH d 7 ∗ boundary (SparseCore.T (τ := τ) d) ∗ held (SparseCore.T d) (ucRefs τ sig) W
        ∗ cellsGhost (Pipeline.pin (pcfgs (F := F)) adm) EP 7 d ∗ toksInit (Pipeline.pin (pcfgs (F := F)) adm) EP 7 d)
      ⊢ wp frame (wpE ((K (F := F)).defs (D (F := F))) 𝒱 (SparseCore.T d) none) Set.univ (chunk7 d)
          fun _ => iprop(∃ W' : Valuation τ sig (Elt F), ⌜Inv m hm d 8 W' (W' (Proc.devRef .tc main_v50))⌝
            ∗ (K (F := F)).tcSt EH d 8 ∗ boundary (SparseCore.T (τ := τ) d) ∗ held (SparseCore.T d) (ucRefs τ sig) W') := by
  have htab : after slices7 W (Proc.devRef .tc main_arg2) = m (tabLoc d) := (slices7_keeps W main_arg2 (by decide)).trans h.tab
  have hrow : after slices7 W (Proc.devRef .tc main_v47) = rowIds m d (first 7) := slices7_row m d W h.flat
  have hsub := three_sub main_arg2 main_v47 main_v48 rfl rfl rfl
  have hput := put_three (F := F) d main_arg2 main_v47 main_v48 (by decide) (by decide) (by decide) hsub (after slices7 W) (rowsOf m hm d (first 7))
  have htake := take_three (F := F) d main_arg2 main_v47 main_v48 (by decide) (by decide) (by decide) hsub (after slices7 W)
  rw [htab, hrow] at hput htake
  iintro ⟨#Hctx, Hst, Hb, Hheld, Hcg, Htk⟩
  unfold chunk7
  iapply (wp_seq 𝒱 none Set.univ d (ucRefs τ sig) _ slices7 slices7_sub slices7_fresh W) $$ [Hb Hheld]
  · isplitl [Hb] <;> iassumption
  iintro ⟨Hb, Hheld⟩
  ihave Hh := (Entails.of_eq htake) $$ Hheld
  icases Hh with ⟨⟨Htab, Hrow, Hout⟩, Hrest⟩
  rw [wp_bind]
  iapply ((K (F := F)).wp_run (D (F := F)) 𝒱 (EH := EH) (P := P m hm) κ d 7) $$ [Hst Htab Hrow Hout Hb Hrest Hcg Htk]
  isplitr; · iexact Hctx
  isplitl [Hst]; · iexact Hst
  isplitl [Htab Hrow Hout]
  · iapply (deal (tabLoc d) (rowLoc7 d) (outLoc7 d) blkSet (m (tabLoc d)) (rowIds m d (first 7)) blks_disjoint blks_cover (after slices7 W (Proc.devRef .tc main_v48)))
    isplitl [Htab]; · iexact Htab
    isplitl [Hrow]; · iexact Hrow
    iexact Hout
  iintro ⟨Hst, Hdn⟩
  ihave Hdn' := (Entails.of_eq (done7 m hm d)) $$ Hdn
  ihave Hdn' := (collect (tabLoc d) (rowLoc7 d) (outLoc7 d) blkSet (m (tabLoc d)) (rowIds m d (first 7)) (rowsOf m hm d (first 7)) blks_disjoint blks_cover) $$ Hdn'
  icases Hdn' with ⟨Htab, Hrow, Hout⟩
  ihave Hheld := (Entails.of_eq hput.symm) $$ [Htab Hrow Hout Hrest]
  · isplitr [Hrest]
    · isplitl [Htab]; · iexact Htab
      isplitl [Hrow]; · iexact Hrow
      iexact Hout
    · iexact Hrest
  iapply (wp_seq 𝒱 none Set.univ d (ucRefs τ sig) _ casts7 casts7_sub casts7_fresh (called7 m hm d W)) $$ [Hb Hheld]
  · isplitl [Hb]; · iexact Hb
    iexact Hheld
  iintro ⟨Hb, Hheld⟩
  ihave Hst' := (Entails.of_eq (show ((K (F := F)).tcSt EH d ((7 : Fin 8).val + 1) : sProp 𝕄) = _ from tcSt_owed (F := F) d 8)) $$ Hst
  icases Hst' with ⟨Howed, Hrest⟩
  ihave Hlev := ((K (F := F)).ctx_levAts (P := P m hm) (EH := EH) κ) $$ Hctx
  iapply (region7 ((K (F := F)).Otc d 8) (8 * 8) (casted7 m hm d W) (result m hm d) (otc_none d 8) d _ (casted7_stores m hm d W _ h))
  isplitl [Hrest]
  · iintro ⟨Hb, Hheld, Howed⟩
    iexists (afterRegion (dat7 ((K (F := F)).Otc d 8) (8 * 8) (fun _ => casted7 m hm d W) (fun _ => result m hm d) d) (casted7 m hm d W))
    isplitr; · ipureintro; exact inv_after7 m hm d _ _ W h
    isplitl [Hrest Howed]
    · iapply (Entails.of_eq (tcSt_owed (F := F) d 8).symm)
      isplitl [Howed]; · iexact Howed
      iexact Hrest
    isplitl [Hb]; · iexact Hb
    iexact Hheld
  isplitl [Hb]; · iexact Hb
  isplitl [Hheld Howed]
  · isplitl [Hheld]; · iexact Hheld
    iexact Howed
  isplitl [Hlev]; · iexact Hlev
  isplitl [Hcg]; · iexact Hcg
  iexact Htk

end Cert.Proof.Gather

end
-- ==== Proof.Launch.lean ====
/-
  The launch: @main from the launch memory to its end, and what every final state satisfies.
-/
module

public import proofs.«01_k».proof.Proof.Chunks

@[expose] public section

noncomputable section

namespace Cert.Proof.Gather

open Cert.KernelIdeal Cert.KernelIdeal.Gen
open Idealize.ShloMosaic Idealize.ShloMosaic.Tactic Idealize.ShloMosaic.TcCoe
open Idealize.ShloMosaic.Pipeline (ucRefs cellsGhost toksInit)
open Idealize.ShloMosaic.SparseCore.Cfg (HIx)
open Idealize.ShloMosaic.StableHlo (held after seq wp_seq)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (m : (ℓ : Loc nD τ sig) → Buf (Elt F) ℓ) (ρ : Dev nD → PrngReg) (hm : InRows m)

/-! ## The ghost state at the launch -/

/-- The handshakes' rounds and the staging buffers'. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- What device `d`'s @main holds of the staging buffers' rounds: per region, its cells and its transfers' tokens. -/
def ghost (d : Dev nD) : sProp 𝕄 :=
  bigSep Finset.univ fun p : Fin 8 =>
    iprop(cellsGhost (Pipeline.pin (pcfgs (F := F)) adm) EP p d ∗ toksInit (Pipeline.pin (pcfgs (F := F)) adm) EP p d)

theorem ghost_init : (BI.own (EP (initOf (Pipeline.cells (Pipeline.pin (pcfgs (F := F)) adm) cellOf_inj)
      (Pipeline.launchToks (Pipeline.pin (pcfgs (F := F)) adm) cellOf_inj))) : sProp 𝕄)
    ⊢ iprop(|==> bigSep Finset.univ fun d : Dev nD => ghost d) := by
  iintro H
  imod (Pipeline.fund_ghost (Pipeline.pin (pcfgs (F := F)) adm) EP cellOf_inj) $$ H with ⟨Hc, Ht⟩
  imodintro
  unfold ghost
  rw [show (bigSep Finset.univ fun d : Dev nD => bigSep Finset.univ fun p : Fin 8 =>
        iprop(cellsGhost (Pipeline.pin (pcfgs (F := F)) adm) EP p d ∗ toksInit (Pipeline.pin (pcfgs (F := F)) adm) EP p d) : sProp 𝕄)
      = iprop((bigSep Finset.univ fun d : Dev nD => bigSep Finset.univ fun p : Fin 8 => cellsGhost (Pipeline.pin (pcfgs (F := F)) adm) EP p d)
          ∗ bigSep Finset.univ fun d : Dev nD => bigSep Finset.univ fun p : Fin 8 => toksInit (Pipeline.pin (pcfgs (F := F)) adm) EP p d) from by
    rw [← bigSep_sep']; exact bigSep_congr fun d _ => bigSep_sep' _ _ _]
  isplitl [Hc] <;> iassumption

theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 8 => (P m hm).x q thr) := by
  unfold u₀
  iintro Hu
  ihave H := (ownU_pair (initOf (K (F := F)).hsCells (K (F := F)).hsToks)
    ((initOf (Pipeline.cells (Pipeline.pin (pcfgs (F := F)) adm) cellOf_inj) (Pipeline.launchToks (Pipeline.pin (pcfgs (F := F)) adm) cellOf_inj), 1) : UP × Counters)) $$ Hu
  icases H with ⟨HH, HR⟩
  ihave H := (own_pair_emb (ER (F := F)) (initOf (Pipeline.cells (Pipeline.pin (pcfgs (F := F)) adm) cellOf_inj)
    (Pipeline.launchToks (Pipeline.pin (pcfgs (F := F)) adm) cellOf_inj)) (1 : Counters)) $$ HR
  icases H with ⟨HP, -⟩
  imod (show (BI.own (((Emb.inl : Emb UP (UP × Counters)).trans (ER (F := F))) (initOf (Pipeline.cells (Pipeline.pin (pcfgs (F := F)) adm) cellOf_inj)
      (Pipeline.launchToks (Pipeline.pin (pcfgs (F := F)) adm) cellOf_inj))) : sProp 𝕄) ⊢ iprop(|==> bigSep Finset.univ fun d : Dev nD => ghost d)
    from ghost_init (F := F)) $$ HP with Hg
  imodintro
  isplitl [HH]; · iexact HH
  isplitl [Hg]; · iexact Hg
  rw [show (bigSep Finset.univ fun thr : Thread nD τ => bigSep Finset.univ fun q : Fin 8 => (P (F := F) m hm).x q thr) = (iprop(emp) : sProp 𝕄) from
    (bigSep_congr fun _ _ => bigSep_emp_const _).trans (bigSep_emp_const _)]
  iempintro

/-- The regions' shares of it, one after another. -/
theorem ghost_eq (d : Dev nD) (f : Fin 8 → sProp 𝕄) :
    bigSep Finset.univ f = iprop(f 0 ∗ f 1 ∗ f 2 ∗ f 3 ∗ f 4 ∗ f 5 ∗ f 6 ∗ f 7) := by
  rw [show (Finset.univ : Finset (Fin 8)) = {0, 1, 2, 3, 4, 5, 6, 7} by decide, SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-! ## @main on the TensorCore -/

set_option maxRecDepth 16384 in
theorem main_eq (d : Dev nD) : (main d : Prog (TpuEff nD τ sig (Elt F) (SparseCore.Sig (ΛP (F := F)) 8) .tc) PUnit)
    = seq headOps >>= fun _ => chunk0 d >>= fun _ => chunk1 d >>= fun _ => chunk2 d >>= fun _ => chunk3 d >>= fun _ => chunk4 d >>= fun _ =>
        chunk5 d >>= fun _ => chunk6 d >>= fun _ => chunk7 d >>= fun _ => pure ⟨⟩ := by
  simp only [main, main_part0, main_part1, chunk0, chunk1, chunk2, chunk3, chunk4, chunk5, chunk6, chunk7, headOps, slices0, slices1, slices2, slices3,
    slices4, slices5, slices6, slices7, casts0, casts1, casts2, casts3, casts4, casts5, casts6, casts7, seq, bind_assoc, pure_bind]

/-- The launch memory, by buffer. -/
def launched (d : Dev nD) : Valuation τ sig (Elt F) := fun b => m (d, b)

/-- After the host's reshapes, no chunk is done. -/
theorem inv_head (d : Dev nD) : Inv m hm d 0 (after headOps (launched m d)) (result m hm d) :=
  ⟨headOps_keeps _ _ (by decide), headOps_keeps _ _ (by decide), headOps_keeps _ _ (by decide), headOps_keeps _ _ (by decide),
    headOps_keeps _ _ (by decide), headOps_keeps _ _ (by decide), headOps_keeps _ _ (by decide), headOps_ids m d _ rfl, headOps_gam m d _ rfl,
    headOps_bet m d _ rfl, fun _ _ => rfl⟩

/-- What @main leaves the claims. -/
abbrev FIN (d : Dev nD) : sProp 𝕄 :=
  iprop(∃ W : Valuation τ sig (Elt F), ⌜Inv m hm d 8 W (W (Proc.devRef .tc main_v50))⌝ ∗ held (SparseCore.T d) (ucRefs τ sig) W)

theorem hmain [∀ e, Nonempty (Elt F e)] (κ : GSem nD τ sig → ℕ) (d : Dev nD) :
    iprop((K (F := F)).ctx EH (P m hm) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 8 ∗ FIN m hm d ∗ (K (F := F)).tcEnd d) := by
  unfold SparseCore.Cfg.tcRes SparseCore.Cfg.tcEnd
  rw [show (unscopedBufs d (fun b => m ((SparseCore.T d).loc b)) : sProp 𝕄) = held (SparseCore.T d) (ucRefs τ sig) (launched m d) from
    Pipeline.unscopedBufs_held d (launched m d), main_eq]
  unfold ghost
  rw [ghost_eq d]
  iintro ⟨#Hctx, Hst, ⟨Hb, Hheld, Hts, -⟩, ⟨Hc0, Ht0⟩, ⟨Hc1, Ht1⟩, ⟨Hc2, Ht2⟩, ⟨Hc3, Ht3⟩, ⟨Hc4, Ht4⟩, ⟨Hc5, Ht5⟩, ⟨Hc6, Ht6⟩, ⟨Hc7, Ht7⟩⟩
  iapply (wp_seq 𝒱 none Set.univ d (ucRefs τ sig) _ headOps headOps_sub headOps_fresh (launched m d)) $$ [Hb Hheld]
  · isplitl [Hb] <;> iassumption
  iintro ⟨Hb, Hheld⟩
  have h0 := inv_head m hm d
  generalize after headOps (launched m d) = W0 at h0
  rw [wp_bind]
  iapply (wp_wand_r Idealize.ShloMosaic.frame (wpE ((K (F := F)).defs (D (F := F))) 𝒱 (SparseCore.T d) none) Set.univ)
  isplitl [Hst Hb Hheld Hc0 Ht0]
  · iapply (wp_chunk0 m hm d κ W0 h0)
    isplitr; · iexact Hctx
    isplitl [Hst]; · iexact Hst
    isplitl [Hb]; · iexact Hb
    isplitl [Hheld]; · iexact Hheld
    isplitl [Hc0] <;> iassumption
  iintro %_ ⟨%W1, %h1, Hst, Hb, Hheld⟩
  rw [wp_bind]
  iapply (wp_wand_r Idealize.ShloMosaic.frame (wpE ((K (F := F)).defs (D (F := F))) 𝒱 (SparseCore.T d) none) Set.univ)
  isplitl [Hst Hb Hheld Hc1 Ht1]
  · iapply (wp_chunk1 m hm d κ W1 h1)
    isplitr; · iexact Hctx
    isplitl [Hst]; · iexact Hst
    isplitl [Hb]; · iexact Hb
    isplitl [Hheld]; · iexact Hheld
    isplitl [Hc1] <;> iassumption
  iintro %_ ⟨%W2, %h2, Hst, Hb, Hheld⟩
  rw [wp_bind]
  iapply (wp_wand_r Idealize.ShloMosaic.frame (wpE ((K (F := F)).defs (D (F := F))) 𝒱 (SparseCore.T d) none) Set.univ)
  isplitl [Hst Hb Hheld Hc2 Ht2]
  · iapply (wp_chunk2 m hm d κ W2 h2)
    isplitr; · iexact Hctx
    isplitl [Hst]; · iexact Hst
    isplitl [Hb]; · iexact Hb
    isplitl [Hheld]; · iexact Hheld
    isplitl [Hc2] <;> iassumption
  iintro %_ ⟨%W3, %h3, Hst, Hb, Hheld⟩
  rw [wp_bind]
  iapply (wp_wand_r Idealize.ShloMosaic.frame (wpE ((K (F := F)).defs (D (F := F))) 𝒱 (SparseCore.T d) none) Set.univ)
  isplitl [Hst Hb Hheld Hc3 Ht3]
  · iapply (wp_chunk3 m hm d κ W3 h3)
    isplitr; · iexact Hctx
    isplitl [Hst]; · iexact Hst
    isplitl [Hb]; · iexact Hb
    isplitl [Hheld]; · iexact Hheld
    isplitl [Hc3] <;> iassumption
  iintro %_ ⟨%W4, %h4, Hst, Hb, Hheld⟩
  rw [wp_bind]
  iapply (wp_wand_r Idealize.ShloMosaic.frame (wpE ((K (F := F)).defs (D (F := F))) 𝒱 (SparseCore.T d) none) Set.univ)
  isplitl [Hst Hb Hheld Hc4 Ht4]
  · iapply (wp_chunk4 m hm d κ W4 h4)
    isplitr; · iexact Hctx
    isplitl [Hst]; · iexact Hst
    isplitl [Hb]; · iexact Hb
    isplitl [Hheld]; · iexact Hheld
    isplitl [Hc4] <;> iassumption
  iintro %_ ⟨%W5, %h5, Hst, Hb, Hheld⟩
  rw [wp_bind]
  iapply (wp_wand_r Idealize.ShloMosaic.frame (wpE ((K (F := F)).defs (D (F := F))) 𝒱 (SparseCore.T d) none) Set.univ)
  isplitl [Hst Hb Hheld Hc5 Ht5]
  · iapply (wp_chunk5 m hm d κ W5 h5)
    isplitr; · iexact Hctx
    isplitl [Hst]; · iexact Hst
    isplitl [Hb]; · iexact Hb
    isplitl [Hheld]; · iexact Hheld
    isplitl [Hc5] <;> iassumption
  iintro %_ ⟨%W6, %h6, Hst, Hb, Hheld⟩
  rw [wp_bind]
  iapply (wp_wand_r Idealize.ShloMosaic.frame (wpE ((K (F := F)).defs (D (F := F))) 𝒱 (SparseCore.T d) none) Set.univ)
  isplitl [Hst Hb Hheld Hc6 Ht6]
  · iapply (wp_chunk6 m hm d κ W6 h6)
    isplitr; · iexact Hctx
    isplitl [Hst]; · iexact Hst
    isplitl [Hb]; · iexact Hb
    isplitl [Hheld]; · iexact Hheld
    isplitl [Hc6] <;> iassumption
  iintro %_ ⟨%W7, %h7, Hst, Hb, Hheld⟩
  rw [wp_bind]
  iapply (wp_wand_r Idealize.ShloMosaic.frame (wpE ((K (F := F)).defs (D (F := F))) 𝒱 (SparseCore.T d) none) Set.univ)
  isplitl [Hst Hb Hheld Hc7 Ht7]
  · iapply (wp_chunk7 m hm d κ W7 h7)
    isplitr; · iexact Hctx
    isplitl [Hst]; · iexact Hst
    isplitl [Hb]; · iexact Hb
    isplitl [Hheld]; · iexact Hheld
    isplitl [Hc7] <;> iassumption
  iintro %_ ⟨%W8, %h8, Hst, Hb, Hheld⟩
  rw [wp_pure]
  imodintro
  isplitl [Hst]; · iexact Hst
  isplitl [Hheld]
  · iexists W8
    isplitr; · ipureintro; exact h8
    iexact Hheld
  isplitl [Hb] <;> iassumption

/-! ## The run -/

/-- An unscoped buffer held is what the memory holds. -/
theorem held_agree (d : Dev nD) (W : Valuation τ sig (Elt F)) (r : Ref sig .tc) (h : r.isScoped = false) (s' : Phys nD τ sig (Elt F)) :
    iprop(SI s' ∗ held (SparseCore.T d) (ucRefs τ sig) W) ⊢ (⌜s'.mem.mem ((SparseCore.T (τ := τ) d).loc r) = W (Proc.devRef .tc r)⌝ : sProp 𝕄) := by
  rw [StableHlo.held_sub_split (SparseCore.T d) (Finset.singleton_subset_iff.mpr (mem_uc r h)) W]
  unfold held
  rw [bigSep_singleton]
  iintro ⟨HSI, Hr, -⟩
  ihave H := (SI_pointsTo_agree (st := s') (ℓ := (SparseCore.T (τ := τ) d).loc r) (I := Finset.univ) (q := fullShare) (f := W (Proc.devRef .tc r))) $$ [HSI Hr]
  · isplitl [HSI]; · iexact HSI
    iexact Hr
  icases H with %H
  ipureintro; exact funext fun i => H i (Finset.mem_univ i)

/-- What the claims read of device `d`'s final memory: the arguments as launched, and the result. -/
def fq (d : Dev nD) (s' : Phys nD τ sig (Elt F)) : Prop :=
  s'.mem.mem (idsLoc d) = m (idsLoc d) ∧ s'.mem.mem ((SparseCore.T d).loc main_arg1) = m ((SparseCore.T d).loc main_arg1)
    ∧ s'.mem.mem (tabLoc d) = m (tabLoc d) ∧ s'.mem.mem ((SparseCore.T d).loc main_arg3) = m ((SparseCore.T d).loc main_arg3)
    ∧ s'.mem.mem ((SparseCore.T d).loc main_arg4) = m ((SparseCore.T d).loc main_arg4)
    ∧ s'.mem.mem ((SparseCore.T d).loc main_arg5) = m ((SparseCore.T d).loc main_arg5)
    ∧ s'.mem.mem ((SparseCore.T d).loc main_arg6) = m ((SparseCore.T d).loc main_arg6)
    ∧ s'.mem.mem ((SparseCore.T d).loc main_v50) = result m hm d

theorem hfin (d : Dev nD) (s' : Phys nD τ sig (Elt F)) : iprop(FIN m hm d ∗ SI s') ⊢ (⌜fq m hm d s'⌝ : sProp 𝕄) := by
  iintro ⟨⟨%W, %h, Hheld⟩, HSI⟩
  ihave H := (persistent_entails_right (held_agree d W main_arg0 rfl s')) $$ [HSI Hheld]
  · isplitl [HSI] <;> iassumption
  icases H with ⟨%e0, HSI, Hheld⟩
  ihave H := (persistent_entails_right (held_agree d W main_arg1 rfl s')) $$ [HSI Hheld]
  · isplitl [HSI] <;> iassumption
  icases H with ⟨%e1, HSI, Hheld⟩
  ihave H := (persistent_entails_right (held_agree d W main_arg2 rfl s')) $$ [HSI Hheld]
  · isplitl [HSI] <;> iassumption
  icases H with ⟨%e2, HSI, Hheld⟩
  ihave H := (persistent_entails_right (held_agree d W main_arg3 rfl s')) $$ [HSI Hheld]
  · isplitl [HSI] <;> iassumption
  icases H with ⟨%e3, HSI, Hheld⟩
  ihave H := (persistent_entails_right (held_agree d W main_arg4 rfl s')) $$ [HSI Hheld]
  · isplitl [HSI] <;> iassumption
  icases H with ⟨%e4, HSI, Hheld⟩
  ihave H := (persistent_entails_right (held_agree d W main_arg5 rfl s')) $$ [HSI Hheld]
  · isplitl [HSI] <;> iassumption
  icases H with ⟨%e5, HSI, Hheld⟩
  ihave H := (persistent_entails_right (held_agree d W main_arg6 rfl s')) $$ [HSI Hheld]
  · isplitl [HSI] <;> iassumption
  icases H with ⟨%e6, HSI, Hheld⟩
  ihave H := (persistent_entails_right (held_agree d W main_v50 rfl s')) $$ [HSI Hheld]
  · isplitl [HSI] <;> iassumption
  icases H with ⟨%e50, HSI, Hheld⟩
  ipureintro
  exact ⟨e0.trans h.ids, e1.trans h.tts, e2.trans h.tab, e3.trans h.pos, e4.trans h.typ, e5.trans h.sca, e6.trans h.off,
    e50.trans (funext fun i => h.res i (i 0).isLt)⟩

/-- What every final state satisfies. -/
def QC : PUnit × MemSt nD τ sig (Elt F) → Prop := fun r =>
  (∀ d : Dev nD, r.2.mem (idsLoc d) = m (idsLoc d) ∧ r.2.mem ((SparseCore.T d).loc main_arg1) = m ((SparseCore.T d).loc main_arg1)
    ∧ r.2.mem (tabLoc d) = m (tabLoc d) ∧ r.2.mem ((SparseCore.T d).loc main_arg3) = m ((SparseCore.T d).loc main_arg3)
    ∧ r.2.mem ((SparseCore.T d).loc main_arg4) = m ((SparseCore.T d).loc main_arg4)
    ∧ r.2.mem ((SparseCore.T d).loc main_arg5) = m ((SparseCore.T d).loc main_arg5)
    ∧ r.2.mem ((SparseCore.T d).loc main_arg6) = m ((SparseCore.T d).loc main_arg6)
    ∧ r.2.mem ((SparseCore.T d).loc main_v50) = result m hm d) ∧ r.2.sem = fun _ => 0

theorem not_scalar (q : Fin 8) : (K (F := F)).kind q ≠ .scScalar := match q with
  | 0 => fun h => nomatch h
  | 1 => fun h => nomatch h
  | 2 => fun h => nomatch h
  | 3 => fun h => nomatch h
  | 4 => fun h => nomatch h
  | 5 => fun h => nomatch h
  | 6 => fun h => nomatch h
  | 7 => fun h => nomatch h

theorem run_main [∀ e, Nonempty (Elt F e)] :
    θ_run (Cert.KernelIdeal.defs (F := F)) (Cert.KernelIdeal.threads (F := F)) ⟨m, fun _ => 0, ρ⟩ (QC m hm) :=
  SparseCore.Cfg.θ_run_sc_quiescent (K := K (F := F)) (D := D (F := F)) (𝒱 := 𝒱) (EH := EH) (P := P m hm) (A := ∅) facts v₀
    (fun q hq => absurd hq (not_scalar q))
    (fun q _ => tileObl m hm q)
    (fun q _ => SparseCore.Cfg.VecSplit.of_plain (vecSplit m hm q))
    m ρ main (fun d => ghost d) (FIN m hm) (u₀ (F := F)) (sep_elim_left.trans (hu₀ m hm)) (hmain m ρ hm) (fq m hm) (hfin m hm) (QC m hm)
    (fun _ h hz => ⟨h, hz⟩)

end Cert.Proof.Gather

end
-- ==== Proof.Words.lean ====
/-
  Words in a small range, as the precondition and the reference's take compare them.
-/
module

public import Idealize.ShloMosaic.Lib.StableHlo.Predicate
public import Idealize.ShloMosaic.Lib.ReduceAll

@[expose] public section

namespace Cert.Proof.Words

open Idealize.ShloMosaic Idealize.ShloMosaic.StableHlo.Predicate

/-- A word that two signed comparisons put between zero and a bound is below the bound. -/
theorem lt_of_range {v b : BitVec 32} (hb : b.toNat < 2 ^ 31)
    (h : IntOp.andi (IntOp.cmpi .sge v 0#32) (IntOp.cmpi .slt v b) = 1#1) : v.toNat < b.toNat := by
  obtain ⟨h0, h1⟩ := IntOp.andi_eq_one.1 h
  rw [IntOp.cmpi_sge] at h0
  rw [IntOp.cmpi_slt, toInt_eq_toNat_of_lt hb] at h1
  have e0 : (0#32 : BitVec 32).toInt = 0 := by decide
  rw [e0] at h0
  rw [BitVec.toInt_eq_toNat_cond] at h0 h1
  split at h0 <;> split at h1 <;> omega

/-- A small word is not mended. -/
theorem mend {v w : BitVec 32} (hv : v.toNat < 2 ^ 31) : Scalar.select (IntOp.cmpi .slt v 0#32) w v = v := by
  have h : ¬ IntOp.cmpi .slt v 0#32 = 1#1 := by
    rw [slt_iff_toNat hv (by decide)]; show ¬ v.toNat < 0; omega
  rw [(BitVec.eq_zero_or_eq_one _).resolve_right h]
  rfl

/-- A word below a bound passes the test that it is between zero and the bound's predecessor. -/
theorem within {v b : BitVec 32} (hb : b.toNat < 2 ^ 31) (hv : v.toNat ≤ b.toNat) :
    IntOp.andi (IntOp.cmpi .sge v 0#32) (IntOp.cmpi .sle v b) = 1#1 :=
  IntOp.andi_eq_one.2 ⟨(sge_iff_toNat (by omega) (by decide)).2 (Nat.zero_le _), (sle_iff_toNat (by omega) hb).2 hv⟩

end Cert.Proof.Words
-- ==== Proof.Taken.lean ====
/-
  The reference's three takes, of whole arrays. Where every index names a row of the table, no index is mended, no
  row is masked, and the result's row is the table's row that the index names.
-/
module

public import proofs.«01_k».proof.Proof.Words
public import proofs.«01_k».proof.Proof.Gen.ReferenceIdeal
public import Idealize.ShloMosaic.Lib.Pipeline.Value
public import Idealize.ShloMosaic.Lib.ValueIdxCore

@[expose] public section

noncomputable section

namespace Cert.Proof.Taken

open Cert.ReferenceIdeal Cert.ReferenceIdeal.Gen Idealize.ShloMosaic

theorem select_of_one {s : Shape} {α : Type} (c : IVec s 1) (a b : s.Idx → α) (y : s.Idx) (h : c y = 1#1) : select c a b y = a y := if_pos h

variable {F : FTy → Type} [FloatOps F]

/-- Element (b, s) of the indices, its place in their column, and element (b, s, j) of what is taken. -/
def idIx (b : Fin 1024) (s : Fin 256) : S1024x256.Idx := ValueIdx.ix2 b s
def colIx (b : Fin 1024) (s : Fin 256) : S1024x256x1.Idx := ValueIdx.ix3 b s (0 : Fin 1)
def outIx (b : Fin 1024) (s : Fin 256) (j : Fin 128) : S1024x256x128.Idx := ValueIdx.ix3 b s j

/-- An element of each table. -/
def wordIx (n : Fin 100000) (j : Fin 128) : S100000x128.Idx := ValueIdx.ix2 n j
def typeIx (n : Fin 2) (j : Fin 128) : S2x128.Idx := ValueIdx.ix2 n j
def placeIx (n : Fin 256) (j : Fin 128) : S256x128.Idx := ValueIdx.ix2 n j

/-- A place, and its place in the column of places. -/
def seqIx (s : Fin 256) : S256.Idx := ValueIdx.ix1 s
def seqColIx (s : Fin 256) : S256x1.Idx := ValueIdx.ix2 s (0 : Fin 1)

/-! ## The indices -/

/-- The indices as the reference reads them: a negative one counts from the end of a table of `N` rows. -/
abbrev mended (N : BitVec 32) (ids : IVec S1024x256 32) : IVec S1024x256 32 :=
  select (cmpi .slt ids (broadcastInDim S1024x256 ![] bcast_S_S1024x256 (constantI S_ 32 0#32)))
    (addi ids (broadcastInDim S1024x256 ![] bcast_S_S1024x256 (constantI S_ 32 N))) ids

theorem mended_eq (N : BitVec 32) (ids : IVec S1024x256 32) (n : ℕ) (hn : n ≤ 100000) (h : ∀ j, (ids j).toNat < n) : mended N ids = ids := by
  funext j
  exact Words.mend (by have := h j; omega)

abbrev column (ids : IVec S1024x256 32) : IVec S1024x256x1 32 := broadcastInDim S1024x256x1 ![0, 1] bcast_S1024x256_S1024x256x1_0_1 ids

theorem column_apply (ids : IVec S1024x256 32) (k : S1024x256x1.Idx) : column ids k = ids (idIx (k 0) (k 1)) :=
  broadcastInDim_apply _ _ _ _ _ fun a => by
    match a with
    | ⟨0, _⟩ => rfl
    | ⟨1, _⟩ => rfl

/-- Which indices the reference finds inside a table whose last row is `top`. -/
abbrev inside (top : BitVec 32) (ids : IVec S1024x256 32) : IVec S1024x256x1 1 :=
  andi (cmpi .sge (column ids) (broadcastInDim S1024x256x1 ![] bcast_S_S1024x256x1 (constantI S_ 32 0#32)))
    (cmpi .sle (column ids) (broadcastInDim S1024x256x1 ![0, 1, 2] bcast_S1x1x1_S1024x256x1_0_1_2 (broadcastInDim S1x1x1 ![2] bcast_S1_S1x1x1_2 (constantI S1 32 top))))

theorem inside_apply (top : BitVec 32) (ht : top.toNat < 2 ^ 31) (ids : IVec S1024x256 32) (h : ∀ j, (ids j).toNat ≤ top.toNat) (k : S1024x256x1.Idx) :
    inside top ids k = 1#1 := by
  have hw : IntOp.andi (IntOp.cmpi .sge (column ids k) 0#32) (IntOp.cmpi .sle (column ids k) top) = 1#1 := by
    rw [column_apply]
    exact Words.within ht (h _)
  exact hw

/-- The rows that are inside, and the value of those that are not. -/
abbrev mask (top : BitVec 32) (ids : IVec S1024x256 32) : IVec S1024x256x128 1 :=
  broadcastInDim S1024x256x128 ![0, 1] bcast_S1024x256_S1024x256x128_0_1 (Host.reduce IntOp.andi (inside top ids) (constantI S_ 1 1#1) reducesTo_S1024x256x1_S1024x256_d2 h_S_)
abbrev outside : FVec F S1024x256x128 .f32 := broadcastInDim S1024x256x128 ![] bcast_S_S1024x256x128 (constant S_ .f32 0x7FC00000#32)

theorem mask_apply (top : BitVec 32) (ht : top.toNat < 2 ^ 31) (ids : IVec S1024x256 32) (h : ∀ j, (ids j).toNat ≤ top.toNat) (y : S1024x256x128.Idx) :
    mask top ids y = 1#1 := Host.reduce_andi_one _ _ _ _ _ rfl (inside_apply top ht ids h)

/-! ## The word table's rows -/

/-- The gather read at (b, s, j), where the start index of its row is `n`. -/
theorem words_row {α : Type} (x : S100000x128.Idx → α) (idx : IVec S1024x256x1 32) (b : Fin 1024) (s : Fin 256) (j : Fin 128) (n : Fin 100000)
    (hn : BitVec.toNat (idx (colIx b s)) = n.val) : Host.gather gather_S100000x128_S1024x256x1_S1024x256x128_2_0_n_n_0_2_1128 x idx (outIx b s j) = x (wordIx n j) := by
  unfold Host.gather
  refine congrArg x (funext fun a => Fin.ext ?_)
  show gather_S100000x128_S1024x256x1_S1024x256x128_2_0_n_n_0_2_1128.start (outIx b s j) idx a + gather_S100000x128_S1024x256x1_S1024x256x128_2_0_n_n_0_2_1128.batchCoord (outIx b s j) a + gather_S100000x128_S1024x256x1_S1024x256x128_2_0_n_n_0_2_1128.offCoord (outIx b s j) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S100000x128_S1024x256x1_S1024x256x128_2_0_n_n_0_2_1128.startIndexMap from List.mem_singleton.mpr rfl)]
    have hsi : gather_S100000x128_S1024x256x1_S1024x256x128_2_0_n_n_0_2_1128.siIdx (outIx b s j)
        ⟨List.idxOf (0 : Fin 2) gather_S100000x128_S1024x256x1_S1024x256x128_2_0_n_n_0_2_1128.startIndexMap, List.idxOf_lt_length_iff.2 (List.mem_singleton.mpr rfl)⟩ = colIx b s := by
      funext c; refine Fin.ext ?_
      match c with
      | ⟨0, _⟩ => rfl
      | ⟨1, _⟩ => rfl
      | ⟨2, _⟩ => rfl
    rw [hsi, StableHlo.Predicate.toInt_eq_toNat_of_lt (by rw [hn]; have := n.isLt; omega), hn]
    show min n.val 99999 + 0 + 0 = n.val
    have := n.isLt; omega
  · have h0 : gather_S100000x128_S1024x256x1_S1024x256x128_2_0_n_n_0_2_1128.start (outIx b s j) idx 1 = 0 := by
      unfold GatherDims.start
      exact dif_neg (by decide)
    have h1 : gather_S100000x128_S1024x256x1_S1024x256x128_2_0_n_n_0_2_1128.offCoord (outIx b s j) 1 = j.val := by
      unfold GatherDims.offCoord
      exact (dif_pos (by decide)).trans rfl
    rw [h0, h1]
    show 0 + 0 + j.val = j.val
    omega

/-- What the reference takes. -/
abbrev words (ids : IVec S1024x256 32) (tab : FVec F S100000x128 .f32) : FVec F S1024x256x128 .f32 :=
  select (mask 99999#32 (mended 100000#32 ids)) (Host.gather gather_S100000x128_S1024x256x1_S1024x256x128_2_0_n_n_0_2_1128 tab (column (mended 100000#32 ids))) outside

theorem words_at (ids : IVec S1024x256 32) (tab : FVec F S100000x128 .f32) (h : ∀ j, (ids j).toNat < 100000) (b : Fin 1024) (s : Fin 256) (j : Fin 128) :
    words ids tab (outIx b s j) = tab (wordIx ⟨(ids (idIx b s)).toNat, h _⟩ j) := by
  unfold words
  rw [mended_eq 100000#32 ids 100000 (by omega) h]
  exact (select_of_one _ _ _ _ (mask_apply 99999#32 (by decide) ids (fun i => by have := h i; show _ ≤ 99999; omega) _)).trans
    (words_row tab _ b s j ⟨(ids (idIx b s)).toNat, h _⟩ (congrArg BitVec.toNat (column_apply ids (colIx b s))))

/-! ## The type table's rows -/

/-- The gather read at (b, s, j), where the start index of its row is `n`. -/
theorem types_row {α : Type} (x : S2x128.Idx → α) (idx : IVec S1024x256x1 32) (b : Fin 1024) (s : Fin 256) (j : Fin 128) (n : Fin 2)
    (hn : BitVec.toNat (idx (colIx b s)) = n.val) : Host.gather gather_S2x128_S1024x256x1_S1024x256x128_2_0_n_n_0_2_1128 x idx (outIx b s j) = x (typeIx n j) := by
  unfold Host.gather
  refine congrArg x (funext fun a => Fin.ext ?_)
  show gather_S2x128_S1024x256x1_S1024x256x128_2_0_n_n_0_2_1128.start (outIx b s j) idx a + gather_S2x128_S1024x256x1_S1024x256x128_2_0_n_n_0_2_1128.batchCoord (outIx b s j) a + gather_S2x128_S1024x256x1_S1024x256x128_2_0_n_n_0_2_1128.offCoord (outIx b s j) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S2x128_S1024x256x1_S1024x256x128_2_0_n_n_0_2_1128.startIndexMap from List.mem_singleton.mpr rfl)]
    have hsi : gather_S2x128_S1024x256x1_S1024x256x128_2_0_n_n_0_2_1128.siIdx (outIx b s j)
        ⟨List.idxOf (0 : Fin 2) gather_S2x128_S1024x256x1_S1024x256x128_2_0_n_n_0_2_1128.startIndexMap, List.idxOf_lt_length_iff.2 (List.mem_singleton.mpr rfl)⟩ = colIx b s := by
      funext c; refine Fin.ext ?_
      match c with
      | ⟨0, _⟩ => rfl
      | ⟨1, _⟩ => rfl
      | ⟨2, _⟩ => rfl
    rw [hsi, StableHlo.Predicate.toInt_eq_toNat_of_lt (by rw [hn]; have := n.isLt; omega), hn]
    show min n.val 1 + 0 + 0 = n.val
    have := n.isLt; omega
  · have h0 : gather_S2x128_S1024x256x1_S1024x256x128_2_0_n_n_0_2_1128.start (outIx b s j) idx 1 = 0 := by
      unfold GatherDims.start
      exact dif_neg (by decide)
    have h1 : gather_S2x128_S1024x256x1_S1024x256x128_2_0_n_n_0_2_1128.offCoord (outIx b s j) 1 = j.val := by
      unfold GatherDims.offCoord
      exact (dif_pos (by decide)).trans rfl
    rw [h0, h1]
    show 0 + 0 + j.val = j.val
    omega

/-- What the reference takes. -/
abbrev types (ids : IVec S1024x256 32) (tab : FVec F S2x128 .f32) : FVec F S1024x256x128 .f32 :=
  select (mask 1#32 (mended 2#32 ids)) (Host.gather gather_S2x128_S1024x256x1_S1024x256x128_2_0_n_n_0_2_1128 tab (column (mended 2#32 ids))) outside

theorem types_at (ids : IVec S1024x256 32) (tab : FVec F S2x128 .f32) (h : ∀ j, (ids j).toNat < 2) (b : Fin 1024) (s : Fin 256) (j : Fin 128) :
    types ids tab (outIx b s j) = tab (typeIx ⟨(ids (idIx b s)).toNat, h _⟩ j) := by
  unfold types
  rw [mended_eq 2#32 ids 2 (by omega) h]
  exact (select_of_one _ _ _ _ (mask_apply 1#32 (by decide) ids (fun i => by have := h i; show _ ≤ 1; omega) _)).trans
    (types_row tab _ b s j ⟨(ids (idIx b s)).toNat, h _⟩ (congrArg BitVec.toNat (column_apply ids (colIx b s))))

/-! ## The position table's rows -/

/-- The places 0, 1, … of a sequence, as indices. -/
abbrev places : IVec S256 32 := iotaInDim S256 32 0

theorem places_apply (k : S256.Idx) : (places k).toNat = (k 0).val := by
  show (BitVec.ofNat 32 (k 0).val).toNat = (k 0).val
  have h : (k 0).val < 256 := (k 0).isLt
  rw [BitVec.toNat_ofNat, Nat.mod_eq_of_lt (by omega)]

theorem places_lt (k : S256.Idx) : (places k).toNat < 256 := by
  rw [places_apply]; exact (k 0).isLt

abbrev placesMended : IVec S256 32 :=
  select (cmpi .slt places (broadcastInDim S256 ![] bcast_S_S256 (constantI S_ 32 0#32))) (addi places (broadcastInDim S256 ![] bcast_S_S256 (constantI S_ 32 256#32))) places

theorem placesMended_eq : placesMended = places := by
  funext j
  exact Words.mend (by have := places_lt j; omega)

abbrev placesColumn (ids : IVec S256 32) : IVec S256x1 32 := broadcastInDim S256x1 ![0] bcast_S256_S256x1_0 ids

theorem placesColumn_apply (ids : IVec S256 32) (k : S256x1.Idx) : placesColumn ids k = ids (seqIx (k 0)) :=
  broadcastInDim_apply _ _ _ _ _ fun a => by
    match a with
    | ⟨0, _⟩ => rfl

abbrev placesInside (ids : IVec S256 32) : IVec S256x1 1 :=
  andi (cmpi .sge (placesColumn ids) (broadcastInDim S256x1 ![] bcast_S_S256x1 (constantI S_ 32 0#32)))
    (cmpi .sle (placesColumn ids) (broadcastInDim S256x1 ![0, 1] bcast_S1x1_S256x1_0_1 (broadcastInDim S1x1 ![1] bcast_S1_S1x1_1 (constantI S1 32 255#32))))

theorem placesInside_apply (k : S256x1.Idx) : placesInside places k = 1#1 := by
  have hw : IntOp.andi (IntOp.cmpi .sge (placesColumn places k) 0#32) (IntOp.cmpi .sle (placesColumn places k) 255#32) = 1#1 := by
    rw [placesColumn_apply]
    refine Words.within (by decide) ?_
    have := places_lt (seqIx (k 0))
    show _ ≤ 255; omega
  exact hw

/-- The gather read at (s, j), where the start index of its row is `n`. -/
theorem placeRows_row {α : Type} (x : S256x128.Idx → α) (idx : IVec S256x1 32) (s : Fin 256) (j : Fin 128) (n : Fin 256)
    (hn : BitVec.toNat (idx (seqColIx s)) = n.val) : Host.gather gather_S256x128_S256x1_S256x128_1_0_n_n_0_1_1128 x idx (placeIx s j) = x (placeIx n j) := by
  unfold Host.gather
  refine congrArg x (funext fun a => Fin.ext ?_)
  show gather_S256x128_S256x1_S256x128_1_0_n_n_0_1_1128.start (placeIx s j) idx a + gather_S256x128_S256x1_S256x128_1_0_n_n_0_1_1128.batchCoord (placeIx s j) a
    + gather_S256x128_S256x1_S256x128_1_0_n_n_0_1_1128.offCoord (placeIx s j) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S256x128_S256x1_S256x128_1_0_n_n_0_1_1128.startIndexMap from List.mem_singleton.mpr rfl)]
    have hsi : gather_S256x128_S256x1_S256x128_1_0_n_n_0_1_1128.siIdx (placeIx s j)
        ⟨List.idxOf (0 : Fin 2) gather_S256x128_S256x1_S256x128_1_0_n_n_0_1_1128.startIndexMap, List.idxOf_lt_length_iff.2 (List.mem_singleton.mpr rfl)⟩ = seqColIx s := by
      funext c; refine Fin.ext ?_
      match c with
      | ⟨0, _⟩ => rfl
      | ⟨1, _⟩ => rfl
    rw [hsi, StableHlo.Predicate.toInt_eq_toNat_of_lt (by rw [hn]; have := n.isLt; omega), hn]
    show min n.val 255 + 0 + 0 = n.val
    have := n.isLt; omega
  · have h0 : gather_S256x128_S256x1_S256x128_1_0_n_n_0_1_1128.start (placeIx s j) idx 1 = 0 := by
      unfold GatherDims.start
      exact dif_neg (by decide)
    have h1 : gather_S256x128_S256x1_S256x128_1_0_n_n_0_1_1128.offCoord (placeIx s j) 1 = j.val := by
      unfold GatherDims.offCoord
      exact (dif_pos (by decide)).trans rfl
    rw [h0, h1]
    show 0 + 0 + j.val = j.val
    omega

/-- What the reference takes of the position table, one row for every place. -/
abbrev placeRows (pos : FVec F S256x128 .f32) : FVec F S256x128 .f32 :=
  select (broadcastInDim S256x128 ![0] bcast_S256_S256x128_0 (Host.reduce IntOp.andi (placesInside placesMended) (constantI S_ 1 1#1) reducesTo_S256x1_S256_d1 h_S_))
    (Host.gather gather_S256x128_S256x1_S256x128_1_0_n_n_0_1_1128 pos (placesColumn placesMended)) (broadcastInDim S256x128 ![] bcast_S_S256x128 (constant S_ .f32 0x7FC00000#32))

/-- It is the table. -/
theorem placeRows_at (pos : FVec F S256x128 .f32) (s : Fin 256) (j : Fin 128) : placeRows pos (placeIx s j) = pos (placeIx s j) := by
  unfold placeRows
  rw [placesMended_eq]
  refine (select_of_one _ _ _ _ ?_).trans (placeRows_row pos _ s j s ?_)
  · exact Host.reduce_andi_one _ _ _ _ _ rfl placesInside_apply
  · exact (congrArg BitVec.toNat (placesColumn_apply places (seqColIx s))).trans (places_apply _)

end Cert.Proof.Taken

end
-- ==== Proof.Normal.lean ====
/-
  The normalisation of one row, over the extended reals: dividing by the square root of a positive number is
  multiplying by its reciprocal square root, a variance is never negative, and so the two ways of writing a layer
  normalisation are one.
-/
module

public import Idealize.ShloMosaic.PureOps.Ideal

@[expose] public section

noncomputable section

namespace Cert.Proof.Normal

open Idealize.ShloMosaic

/-- The number 128, and the small number added to the variance. -/
abbrev c128 : EReal := Ideal.ofBits .f32 0x43000000#32
abbrev eps : EReal := Ideal.ofBits .f32 0x2B8CBCCC#32

theorem c128_eq : c128 = ((128 : ℝ) : EReal) := by
  simp [c128, Ideal.ofBits, Ideal.ieee]
  rw [← EReal.coe_mul]
  congr 1
  norm_num

theorem eps_pos : 0 < eps := by
  simp [eps, Ideal.ofBits, Ideal.ieee]
  rw [← EReal.coe_mul]
  exact_mod_cast (by positivity)

theorem sq_nonneg (x : EReal) : 0 ≤ x * x := by
  induction x with
  | bot => simp
  | top => simp
  | coe r => rw [← EReal.coe_mul]; exact_mod_cast mul_self_nonneg r

theorem div_c128_nonneg {x : EReal} (h : 0 ≤ x) : 0 ≤ Ideal.div x c128 := by
  have h0 : c128 ≠ 0 := by rw [c128_eq]; norm_num
  unfold Ideal.div
  rw [if_neg h0, c128_eq, ← EReal.coe_inv]
  exact mul_nonneg h (by exact_mod_cast (by norm_num : (0 : ℝ) ≤ (128 : ℝ)⁻¹))

/-- Dividing by a positive number's square root. -/
theorem div_sqrt {a w : EReal} (hw : 0 < w) : Ideal.div a (Ideal.sqrt w) = a * Ideal.rsqrt w := by
  induction w with
  | bot => exact absurd hw (by simp)
  | top =>
    show (if (⊤ : EReal) = 0 then _ else a * (⊤ : EReal)⁻¹) = a * 0
    rw [if_neg (by simp), EReal.inv_top]
  | coe r =>
    have hr : 0 < r := by exact_mod_cast hw
    have hs : Real.sqrt r ≠ 0 := (Real.sqrt_pos.mpr hr).ne'
    have e1 : Ideal.sqrt (r : EReal) = (Real.sqrt r : EReal) := if_neg (not_lt.mpr hr.le)
    have e2 : Ideal.rsqrt (r : EReal) = (((Real.sqrt r)⁻¹ : ℝ) : EReal) := by
      show (if r < 0 then _ else if r = 0 then _ else _) = _
      rw [if_neg (not_lt.mpr hr.le), if_neg hr.ne']
    rw [e1, e2]
    unfold Ideal.div
    rw [if_neg (by exact_mod_cast hs), EReal.coe_inv]

/-- The mean of a row, and its variance. -/
def mean (x : Fin 128 → EReal) : EReal := Ideal.div (∑ k, x k) c128
def variance (x : Fin 128 → EReal) : EReal := Ideal.div (∑ k, (x k - mean x) * (x k - mean x)) c128

theorem variance_pos (x : Fin 128 → EReal) : 0 < variance x + eps :=
  lt_of_lt_of_le eps_pos (le_add_of_nonneg_left (div_c128_nonneg (Finset.sum_nonneg fun k _ => sq_nonneg _)))

/-- The normalised row, scaled and shifted: with a reciprocal square root, -/
def scaled (x gam bet : Fin 128 → EReal) (j : Fin 128) : EReal := (x j - mean x) * Ideal.rsqrt (variance x + eps) * gam j + bet j

/-- and with a quotient. -/
def divided (x gam bet : Fin 128 → EReal) (j : Fin 128) : EReal := Ideal.div (x j - mean x) (Ideal.sqrt (variance x + eps)) * gam j + bet j

theorem divided_eq (x gam bet : Fin 128 → EReal) (j : Fin 128) : divided x gam bet j = scaled x gam bet j := by
  unfold divided scaled
  rw [div_sqrt (variance_pos x)]

/-- The type row chosen by a token type of 0 or 1: the first row, plus the type times the rows' difference. -/
theorem choose {t0 t1 : EReal} (hb : t0 ≠ ⊥) (ht : t0 ≠ ⊤) : t0 + 0 * (t1 - t0) = t0 ∧ t0 + 1 * (t1 - t0) = t1 := by
  refine ⟨by rw [zero_mul, add_zero], ?_⟩
  rw [one_mul]
  lift t0 to ℝ using ⟨ht, hb⟩
  induction t1 with
  | bot => simp
  | top => simp
  | coe r => rw [← EReal.coe_sub, ← EReal.coe_add]; congr 1; ring

end Cert.Proof.Normal

end
-- ==== Proof.Answer.lean ====
/-
  The reference's result, over the extended reals: every row of it is the normalised sum of three rows, one of the
  word table, one of the position table and one of the type table.
-/
module

public import proofs.«01_k».proof.Proof.Taken
public import proofs.«01_k».proof.Proof.Normal
public import proofs.«01_k».proof.Proof.Gen.ReferenceIdeal.Run
public import Idealize.ShloMosaic.Lib.Pointwise
public import Idealize.ShloMosaic.Lib.KernelVsHost

@[expose] public section

noncomputable section

namespace Cert.Proof.Taken

open Cert.ReferenceIdeal Cert.ReferenceIdeal.Gen Idealize.ShloMosaic Idealize.ShloMosaic.TcCoe

section
variable {F : FTy → Type} [FloatOps F]

/-- The sum of the three rows of every place of every sequence. -/
def summed (ids tts : IVec S1024x256 32) (tab : FVec F S100000x128 .f32) (pos : FVec F S256x128 .f32) (te : FVec F S2x128 .f32) : FVec F S1024x256x128 .f32 :=
  addf (addf (words ids tab) (broadcastInDim S1024x256x128 ![0, 1, 2] bcast_S1x256x128_S1024x256x128_0_1_2 (broadcastInDim S1x256x128 ![1, 2] bcast_S256x128_S1x256x128_1_2 (placeRows pos)))) (types tts te)

/-- The means of the rows, spread over them. -/
def means (x : FVec F S1024x256x128 .f32) : FVec F S1024x256x128 .f32 :=
  broadcastInDim S1024x256x128 ![0, 1, 2] bcast_S1024x256x1_S1024x256x128_0_1_2 (Host.divf (broadcastInDim S1024x256x1 ![0, 1] bcast_S1024x256_S1024x256x1_0_1 (Host.reduceAdd x (constant S_ .f32 0x00000000#32) reducesTo_S1024x256x128_S1024x256_d2 h_S_)) (broadcastInDim S1024x256x1 ![] bcast_S_S1024x256x1 (constant S_ .f32 0x43000000#32)))

/-- How many entries the variance divides by. -/
def entries : FVec F S_ .f32 := subf (constant S_ .f32 0x43000000#32) (sitofp .f32 (constantI S_ 32 0#32))

/-- The variances of the rows. -/
def variances (x : FVec F S1024x256x128 .f32) : FVec F S1024x256x1 .f32 :=
  select (broadcastInDim S1024x256x1 ![] bcast_S_S1024x256x1 (cmpf .ogt (entries (F := F)) (constant S_ .f32 0x00000000#32)))
    (Host.divf (broadcastInDim S1024x256x1 ![0, 1] bcast_S1024x256_S1024x256x1_0_1 (Host.reduceAdd (mulf (subf x (means x)) (subf x (means x))) (constant S_ .f32 0x00000000#32) reducesTo_S1024x256x128_S1024x256_d2 h_S_))
      (broadcastInDim S1024x256x1 ![] bcast_S_S1024x256x1 entries))
    (broadcastInDim S1024x256x1 ![] bcast_S_S1024x256x1 (constant S_ .f32 0x7FC00000#32))

/-- The normalised rows, scaled and shifted. -/
def normed (x : FVec F S1024x256x128 .f32) (ga be : FVec F S128 .f32) : FVec F S1024x256x128 .f32 :=
  addf (mulf (Host.divf (subf x (means x)) (broadcastInDim S1024x256x128 ![0, 1, 2] bcast_S1024x256x1_S1024x256x128_0_1_2
      (Host.sqrt (addf (variances x) (broadcastInDim S1024x256x1 ![] bcast_S_S1024x256x1 (constant S_ .f32 0x2B8CBCCC#32))))))
    (broadcastInDim S1024x256x128 ![0, 1, 2] bcast_S1x1x128_S1024x256x128_0_1_2 (broadcastInDim S1x1x128 ![2] bcast_S128_S1x1x128_2 ga)))
    (broadcastInDim S1024x256x128 ![0, 1, 2] bcast_S1x1x128_S1024x256x128_0_1_2 (broadcastInDim S1x1x128 ![2] bcast_S128_S1x1x128_2 be))

set_option maxRecDepth 8192 in
/-- The reference's result is these. -/
theorem answer_eq (m : (ℓ : Loc nD τ sig) → Buf (Elt F) ℓ) (c : Dev nD) :
    Value.res_main_v25 m c = normed (summed (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) (m ((c.tc : Thread nD τ).loc main_arg5)) (m ((c.tc : Thread nD τ).loc main_arg6)) := by
  unfold Value.res_main_v25 normed variances means entries summed
  rfl
end

theorem entries_eq (i : S_.Idx) : entries (F := Ideal) i = Normal.c128 := by
  show Normal.c128 - (Scalar.sitofp (F := Ideal) .f32 0#32 : EReal) = Normal.c128
  rw [sitofp_zero]
  simp

theorem means_at (x : S1024x256x128.Idx → EReal) (b : Fin 1024) (s : Fin 256) (j : Fin 128) :
    means (F := Ideal) x (ix3 b s j) = Normal.mean (fun k => x (ix3 b s k)) := by
  unfold Normal.mean
  pointwise [means]

theorem summed_at (ids tts : IVec S1024x256 32) (tab : S100000x128.Idx → EReal) (pos : S256x128.Idx → EReal) (te : S2x128.Idx → EReal)
    (hi : ∀ j, (ids j).toNat < 100000) (ht : ∀ j, (tts j).toNat < 2) (b : Fin 1024) (s : Fin 256) (j : Fin 128) :
    summed (F := Ideal) ids tts tab pos te (outIx b s j)
      = (tab (wordIx ⟨(ids (idIx b s)).toNat, hi _⟩ j) + pos (placeIx s j)) + te (typeIx ⟨(tts (idIx b s)).toNat, ht _⟩ j) := by
  have hp : broadcastInDim S1024x256x128 ![0, 1, 2] bcast_S1x256x128_S1024x256x128_0_1_2 (broadcastInDim S1x256x128 ![1, 2] bcast_S256x128_S1x256x128_1_2 (placeRows (F := Ideal) pos)) (outIx b s j)
      = placeRows (F := Ideal) pos (placeIx s j) := by
    refine (broadcastInDim_apply _ _ _ _ (ValueIdx.ix3 (0 : Fin 1) s j) fun a => ?_).trans (broadcastInDim_apply _ _ _ _ (placeIx s j) fun a => ?_)
    · match a with
      | ⟨0, _⟩ => rfl
      | ⟨1, _⟩ => rfl
      | ⟨2, _⟩ => rfl
    · match a with
      | ⟨0, _⟩ => rfl
      | ⟨1, _⟩ => rfl
  show (words (F := Ideal) ids tab (outIx b s j) + _) + types (F := Ideal) tts te (outIx b s j) = _
  rw [hp, words_at (F := Ideal) ids tab hi, placeRows_at (F := Ideal), types_at (F := Ideal) tts te ht]

theorem variances_at (x : S1024x256x128.Idx → EReal) (b : Fin 1024) (s : Fin 256) :
    variances (F := Ideal) x (ix3 b s (0 : Fin 1)) = Normal.variance (fun k => x (ix3 b s k)) := by
  have hc : (broadcastInDim S1024x256x1 ![] bcast_S_S1024x256x1 (cmpf .ogt (entries (F := Ideal)) (constant S_ .f32 0x00000000#32))) (ix3 b s (0 : Fin 1)) = 1#1 := by
    show BitVec.ofBool (decide (Ideal.ofBits .f32 0x00000000#32 < entries (F := Ideal) _)) = 1#1
    rw [entries_eq, Normal.c128_eq, decide_eq_true]
    · rfl
    · simp [Ideal.ofBits, Ideal.ieee]
  unfold variances
  rw [select_of_one _ _ _ _ hc]
  unfold Normal.variance
  pointwise
  simp only [means_at, entries_eq]

theorem normed_at (x : S1024x256x128.Idx → EReal) (ga be : S128.Idx → EReal) (b : Fin 1024) (s : Fin 256) (j : Fin 128) :
    normed (F := Ideal) x ga be (ix3 b s j) = Normal.divided (fun k => x (ix3 b s k)) (fun k => ga (ix1 k)) (fun k => be (ix1 k)) j := by
  unfold Normal.divided
  pointwise [normed]
  rw [means_at, variances_at]

end Cert.Proof.Taken

end
-- ==== Proof.BlockValue.lean ====
/-
  The block that the layer normalisation stores, over the extended reals: every row of it is the normalised row.
-/
module

public import proofs.«01_k».proof.Proof.Block
public import proofs.«01_k».proof.Proof.Assembled
public import proofs.«01_k».proof.Proof.Normal
public import Idealize.ShloMosaic.Lib.Pointwise

@[expose] public section

noncomputable section

namespace Cert.Proof.Gather

open Cert.KernelIdeal Cert.KernelIdeal.Gen
open Idealize.ShloMosaic

/-- The row the body normalises: a gathered row, its place's row, and the row of its token type. -/
def rowSum (g : S8x256x128.Idx → EReal) (tt : S8x256.Idx → BitVec 32) (pos : S256x128.Idx → EReal) (te : S2x128.Idx → EReal) (b : Fin 8) (s : Fin 256)
    (k : Fin 128) : EReal :=
  (g (ix3 b s k) + pos (ix2 s k)) + (te (ix2 (0 : Fin 2) k) + (Scalar.sitofp (F := Ideal) .f32 (tt (ix2 b s)) : EReal) * (te (ix2 (1 : Fin 2) k) - te (ix2 (0 : Fin 2) k)))

theorem lnBlk_at (g : S8x256x128.Idx → EReal) (tt : S8x256.Idx → BitVec 32) (pos : S256x128.Idx → EReal) (te : S2x128.Idx → EReal)
    (gam bet : S1x128.Idx → EReal) (b : Fin 8) (s : Fin 256) (j : Fin 128) :
    lnBlk (F := Ideal) g tt pos te gam bet (ix3 b s j)
      = Normal.scaled (rowSum g tt pos te b s) (fun k => gam (ix2 (0 : Fin 1) k)) (fun k => bet (ix2 (0 : Fin 1) k)) j := by
  unfold Normal.scaled Normal.variance Normal.mean rowSum
  pointwise [lnBlk, k1_pay1, k1_pay2, k1_pay3, typeRow0, typeRow1]
  rfl

end Cert.Proof.Gather

end
-- ==== Proof.Ranges.lean ====
/-
  The preconditions read back: every index is a row of the word table, every token type is 0 or 1, and the first
  row of the type table is finite.
-/
module

public import proofs.«01_k».proof.Proof.Words
public import proofs.«01_k».proof.Proof.Gen.Pre_in_range
public import proofs.«01_k».proof.Proof.Gen.Pre_in_range_finite
public import Idealize.ShloMosaic.Lib.ReduceAll
public import Idealize.ShloMosaic.Lib.Pointwise

@[expose] public section

noncomputable section

namespace Cert.Proof.Ranges

open Idealize.ShloMosaic

instance : Subsingleton Cert.Pre_in_range.S_.Idx := ⟨fun a b => funext fun i => i.elim0⟩
instance : Subsingleton Cert.Pre_in_range_finite.S_.Idx := ⟨fun a b => funext fun i => i.elim0⟩

section
open Cert.Pre_in_range Cert.Pre_in_range.Gen
variable {F : FTy → Type} [FloatOps F]

theorem ids_lt (ids tts : IVec S1024x256 32) (tab : FVec F S100000x128 .f32) (pos : FVec F S256x128 .f32) (te : FVec F S2x128 .f32) (ga be : FVec F S128 .f32)
    (h : fn (F := F) ids tts tab pos te ga be = fun _ => 1#1) (j : S1024x256.Idx) : (ids j).toNat < 100000 := by
  have e := congrFun h (fun i => i.elim0)
  unfold fn at e
  exact Words.lt_of_range (b := 100000#32) (by decide) (Host.reduce_andi_all _ _ _ _ _ (IntOp.andi_eq_one.1 e).1 j)
end

section
open Cert.Pre_in_range_finite Cert.Pre_in_range_finite.Gen

variable (ids tts : IVec S1024x256 32) (tab : FVec Ideal S100000x128 .f32) (pos : FVec Ideal S256x128 .f32) (te : FVec Ideal S2x128 .f32)
  (ga be : FVec Ideal S128 .f32) (h : fn (F := Ideal) ids tts tab pos te ga be = fun _ => 1#1)

include h

theorem ids_lt_finite (j : S1024x256.Idx) : (ids j).toNat < 100000 := by
  have e := congrFun h (fun i => i.elim0)
  unfold fn fn_part1 at e
  exact Words.lt_of_range (b := 100000#32) (by decide) (Host.reduce_andi_all _ _ _ _ _ (IntOp.andi_eq_one.1 (IntOp.andi_eq_one.1 e).1).1 j)

theorem tts_lt_finite (j : S1024x256.Idx) : (tts j).toNat < 2 := by
  have e := congrFun h (fun i => i.elim0)
  unfold fn fn_part1 at e
  exact Words.lt_of_range (b := 2#32) (by decide) (Host.reduce_andi_all _ _ _ _ _ (IntOp.andi_eq_one.1 (IntOp.andi_eq_one.1 e).1).2 j)

/-- Entry `k` of the type table's first row is neither infinity. -/
theorem row0_finite (k : Fin 128) : te (ix2 (0 : Fin 2) k) ≠ ⊥ ∧ te (ix2 (0 : Fin 2) k) ≠ ⊤ := by
  have e := congrFun h (fun i => i.elim0)
  unfold fn fn_part1 at e
  have f := Host.reduce_andi_all _ _ _ _ _ (IntOp.andi_eq_one.1 e).2 (ix1 k)
  pointwise at f
  have g : max (te (ix2 (0 : Fin 2) k)) (-te (ix2 (0 : Fin 2) k)) < Ideal.ofBits .f32 0x7F800000#32 := by
    by_contra n
    exact absurd ((congrArg BitVec.ofBool (decide_eq_false n)).symm.trans f) (by decide)
  have ht : Ideal.ofBits .f32 0x7F800000#32 = (⊤ : EReal) := by simp [Ideal.ofBits, Ideal.ieee]
  rw [ht] at g
  refine ⟨fun hb => ?_, fun hb => ?_⟩ <;> rw [hb] at g <;> simp at g
end

end Cert.Proof.Ranges

end
-- ==== Proof.Frame.lean ====
/-
  The frame of the program as printed for the machine's floats. Its text is that of the one printed for the extended
  reals, which `Gather.run_main` runs at any float values: the two body tables and the two threads are the same by
  unfolding, and the run carries over.
-/
module

public import proofs.«01_k».proof.Defs
public import proofs.«01_k».proof.Proof.Launch
public import proofs.«01_k».proof.Proof.Ranges
public import proofs.«01_k».proof.Proof.Gen.Kernel
public import proofs.«01_k».proof.Proof.Gen.KernelIdeal
public import proofs.«01_k».proof.Proof.Gen.Pre_in_range

public section

namespace Cert.Proof

open Idealize Idealize.ShloMosaic

set_option maxHeartbeats 40000000
set_option synthInstance.maxHeartbeats 2000000
set_option smartUnfolding false

theorem in_rows_bits (m : (ℓ : Loc Cert.Kernel.nD Cert.Kernel.τ Cert.Kernel.sig) → Buf (Elt Bits) ℓ) (h : Cert.Pre_Kernel m) :
    Gather.InRows (F := Bits) m := fun d j => Ranges.ids_lt (F := Bits) _ _ _ _ _ _ _ (h d) j

/-- The run of `Gather.run_main`, under the other names. -/
theorem run_kernel (m : (ℓ : Loc Cert.KernelIdeal.nD Cert.KernelIdeal.τ Cert.KernelIdeal.sig) → Buf (Elt Bits) ℓ)
    (ρ : Dev Cert.KernelIdeal.nD → PrngReg) (hm : Gather.InRows (F := Bits) m) :
    θ_run (Cert.Kernel.defs (F := Bits)) (Cert.Kernel.threads (F := Bits)) ⟨m, fun _ => 0, ρ⟩ (Gather.QC m hm) := by
  have k := Gather.run_main (F := Bits) m ρ hm
  exact k

theorem frame_kernel : Cert.quiescent_Kernel := fun m ρ h =>
  (θ_run (Cert.Kernel.defs (F := Bits)) _ _).mono
    (fun _ h => ⟨fun c => ⟨(h.1 c).1, (h.1 c).2.1, (h.1 c).2.2.1, (h.1 c).2.2.2.1, (h.1 c).2.2.2.2.1, (h.1 c).2.2.2.2.2.1, (h.1 c).2.2.2.2.2.2.1⟩, h.2⟩)
    (run_kernel m ρ (in_rows_bits m h))

end Cert.Proof

end
-- ==== Proof.lean ====
/-
  The proof of `Cert.Claim` (proofs.«01_k».proof.Defs). The kernel's run is `Gather.run_main` (Proof/Launch.lean), proved
  once for any float values, with the result as `Gather.result`; the reference's is the generated `Value.run`, its
  result read by `Taken.normed_at` (Proof/Answer.lean). Over the extended reals both are the normalised sum of three
  rows (Proof/Normal.lean).
-/
module

public import proofs.«01_k».proof.Defs
public import proofs.«01_k».proof.Proof.Launch
public import proofs.«01_k».proof.Proof.Answer
public import proofs.«01_k».proof.Proof.BlockValue
public import proofs.«01_k».proof.Proof.Ranges
public import proofs.«01_k».proof.Proof.Frame
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_finite
public import Idealize.ShloMosaic.Lib.Quiescent

@[expose] public section

noncomputable section

namespace Cert.Proof

open Idealize.ShloMosaic Idealize.SL.Sem

/-! ## The value -/

/-- A token type of 0 or 1, as a number, chooses between the two rows. -/
theorem chosen (te : Cert.KernelIdeal.S2x128.Idx → EReal) (hf : ∀ k, te (ix2 (0 : Fin 2) k) ≠ ⊥ ∧ te (ix2 (0 : Fin 2) k) ≠ ⊤) (w : BitVec 32)
    (hw : w.toNat < 2) (k : Fin 128) :
    te (ix2 (0 : Fin 2) k) + (Scalar.sitofp (F := Ideal) .f32 w : EReal) * (te (ix2 (1 : Fin 2) k) - te (ix2 (0 : Fin 2) k))
      = te (Taken.typeIx ⟨w.toNat, hw⟩ k) := by
  have hc := Normal.choose (t1 := te (ix2 (1 : Fin 2) k)) (hf k).1 (hf k).2
  have h01 : w = 0#32 ∨ w = 1#32 := by
    rcases Nat.lt_or_ge w.toNat 1 with h | h
    · exact Or.inl (BitVec.eq_of_toNat_eq (by show w.toNat = 0; omega))
    · exact Or.inr (BitVec.eq_of_toNat_eq (by show w.toNat = 1; omega))
  rcases h01 with rfl | rfl
  · have e : (Scalar.sitofp (F := Ideal) .f32 0#32 : EReal) = 0 := sitofp_zero
    rw [e]
    exact hc.1
  · have e : (Scalar.sitofp (F := Ideal) .f32 1#32 : EReal) = 1 := by
      show (((1#32 : BitVec 32).toInt : ℝ) : EReal) = 1
      have : (1#32 : BitVec 32).toInt = 1 := by decide
      rw [this]; simp
    rw [e]
    exact hc.2

section
open Cert.KernelIdeal

/-- The layer normalisation of all sequences is the reference's, where `g` holds the word table's rows. -/
theorem normed_eq (ids tts : IVec S1024x256 32) (tab : S100000x128.Idx → EReal) (pos : S256x128.Idx → EReal) (te : S2x128.Idx → EReal)
    (ga be : S128.Idx → EReal) (hi : ∀ j, (ids j).toNat < 100000) (ht : ∀ j, (tts j).toNat < 2)
    (hf : ∀ k, te (ix2 (0 : Fin 2) k) ≠ ⊥ ∧ te (ix2 (0 : Fin 2) k) ≠ ⊤)
    (g : S1024x256x128.Idx → EReal) (hg : ∀ b s k, g (Gather.allIx b s k) = tab (Taken.wordIx ⟨(ids (Gather.allIx2 b s)).toNat, hi _⟩ k))
    (gam bet : S1x128.Idx → EReal) (hgam : ∀ k : Fin 128, gam (ix2 (0 : Fin 1) k) = ga (ix1 k)) (hbet : ∀ k : Fin 128, bet (ix2 (0 : Fin 1) k) = be (ix1 k)) :
    Taken.normed (F := Ideal) (Taken.summed ids tts tab pos te) ga be = Gather.lnAll (F := Ideal) g tts pos te gam bet := by
  funext y
  obtain ⟨b, s, j, rfl⟩ : ∃ (b : Fin 1024) (s : Fin 256) (j : Fin 128), y = Gather.allIx b s j := ⟨y 0, y 1, y 2, ValueIdx.eq_ix3 y⟩
  refine (Taken.normed_at _ _ _ b s j).trans ((Normal.divided_eq _ _ _ j).trans ?_)
  refine Eq.trans ?_ (Gather.lnBlk_at _ _ _ _ _ _ (Gather.placeOf b) s j).symm
  have hb := Gather.seqOf_blockOf b
  have hx : (fun k => Taken.summed (F := Ideal) ids tts tab pos te (ix3 b s k))
      = Gather.rowSum (fun y => g (Gather.inAll (Gather.blockOf b) y)) (fun y => tts (Gather.inAll2 (Gather.blockOf b) y)) pos te (Gather.placeOf b) s := by
    funext k
    refine (Taken.summed_at ids tts tab pos te hi ht b s k).trans ?_
    have e1 : g (Gather.inAll (Gather.blockOf b) (ix3 (Gather.placeOf b) s k)) = tab (Taken.wordIx ⟨(ids (Gather.allIx2 b s)).toNat, hi _⟩ k) :=
      (congrArg (fun q => g (Gather.allIx q s k)) hb).trans (hg b s k)
    have e2 : tts (Gather.inAll2 (Gather.blockOf b) (ix2 (Gather.placeOf b) s)) = tts (Gather.allIx2 b s) := congrArg (fun q => tts (Gather.allIx2 q s)) hb
    unfold Gather.rowSum
    beta_reduce
    rw [e1, e2, chosen te hf _ (ht _) k]
    rfl
  have h1 : (fun k => ga (ix1 k)) = fun k : Fin 128 => gam (ix2 (0 : Fin 1) k) := funext fun k => (hgam k).symm
  have h2 : (fun k => be (ix1 k)) = fun k : Fin 128 => bet (ix2 (0 : Fin 1) k) := funext fun k => (hbet k).symm
  rw [hx, h1, h2]
  rfl

/-- A vector in one row, read there. -/
theorem row_apply (x : S128.Idx → EReal) (k : Fin 128) : shapeCast S1x128 x Gen.shapeCasts_S128_S1x128 (ix2 (0 : Fin 1) k) = x (ix1 k) := by
  pointwise

/-- The kernel's result is the reference's. -/
theorem results_eq (m : (ℓ : Loc nD τ sig) → Buf (Elt Ideal) ℓ) (hm : Gather.InRows m) (d : Dev nD)
    (ht : ∀ j : S1024x256.Idx, (m ((SparseCore.T (τ := τ) d).loc main_arg1) j : BitVec 32).toNat < 2)
    (hf : ∀ k, @Ne EReal (m ((SparseCore.T (τ := τ) d).loc main_arg4) (ix2 (0 : Fin 2) k)) ⊥ ∧ @Ne EReal (m ((SparseCore.T (τ := τ) d).loc main_arg4) (ix2 (0 : Fin 2) k)) ⊤) :
    Taken.normed (F := Ideal) (Taken.summed (m (Gather.idsLoc d)) (m ((SparseCore.T (τ := τ) d).loc main_arg1)) (m (Gather.tabLoc d))
        (m ((SparseCore.T (τ := τ) d).loc main_arg3)) (m ((SparseCore.T (τ := τ) d).loc main_arg4)))
        (m ((SparseCore.T (τ := τ) d).loc main_arg5)) (m ((SparseCore.T (τ := τ) d).loc main_arg6))
      = Gather.result m hm d :=
  normed_eq _ _ _ _ _ _ _ (hm d) ht hf (Gather.gAll m hm d) (Gather.gAll_at m hm d) (Gather.gamRow m d) (Gather.betRow m d)
    (row_apply (m ((SparseCore.T (τ := τ) d).loc main_arg5))) (row_apply (m ((SparseCore.T (τ := τ) d).loc main_arg6)))
end

/-! ## The frames -/

theorem in_rows (m : (ℓ : Loc Cert.KernelIdeal.nD Cert.KernelIdeal.τ Cert.KernelIdeal.sig) → Buf (Elt Ideal) ℓ) (h : Cert.Pre_KernelIdeal m) :
    Gather.InRows m := fun d j => Ranges.ids_lt (F := Ideal) _ _ _ _ _ _ _ (h d) j

theorem in_rows_finite (m : (ℓ : Loc Cert.KernelIdeal.nD Cert.KernelIdeal.τ Cert.KernelIdeal.sig) → Buf (Elt Ideal) ℓ)
    (h : Cert.Pre_KernelIdeal_in_range_finite m) : Gather.InRows m := fun d j => Ranges.ids_lt_finite _ _ _ _ _ _ _ (h d) j

theorem frame_kernelIdeal : Cert.quiescent_KernelIdeal := fun m ρ h =>
  (θ_run Cert.KernelIdeal.defs _ _).mono
    (fun _ h => ⟨fun c => ⟨(h.1 c).1, (h.1 c).2.1, (h.1 c).2.2.1, (h.1 c).2.2.2.1, (h.1 c).2.2.2.2.1, (h.1 c).2.2.2.2.2.1, (h.1 c).2.2.2.2.2.2.1⟩, h.2⟩)
    (Gather.run_main (F := Ideal) m ρ (in_rows m h))

theorem frame_kernelIdeal_finite : Cert.quiescent_KernelIdeal_pre_in_range_finite := fun m ρ h =>
  (θ_run Cert.KernelIdeal.defs _ _).mono
    (fun _ h => ⟨fun c => ⟨(h.1 c).1, (h.1 c).2.1, (h.1 c).2.2.1, (h.1 c).2.2.2.1, (h.1 c).2.2.2.2.1, (h.1 c).2.2.2.2.2.1, (h.1 c).2.2.2.2.2.2.1⟩, h.2⟩)
    (Gather.run_main (F := Ideal) m ρ (in_rows_finite m h))

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The value claim -/

theorem algebraic : Cert.algebraic_KernelIdeal_ReferenceIdeal_pre_in_range_finite := by
  intro m ρ m' ρ' h hagree
  refine ⟨fun c => Gather.result m (in_rows_finite m h) c,
    (θ_run Cert.KernelIdeal.defs _ _).mono
      (fun _ k c => by obtain ⟨h0, h1, h2, h3, h4, h5, h6, hv⟩ := k.1 c; exact ⟨hv, h0, h1, h2, h3, h4, h5, h6⟩)
      (Gather.run_main (F := Ideal) m ρ (in_rows_finite m h)), ?_⟩
  refine (θ_run Cert.ReferenceIdeal.defs _ _).mono (fun _ k c => ⟨(k c).1.trans ?_, (k c).2⟩) (Cert.ReferenceIdeal.Value.run (F := Ideal) m' ρ')
  obtain ⟨e0, e1, e2, e3, e4, e5, e6⟩ := hagree c
  rw [Taken.answer_eq, e0, e1, e2, e3, e4, e5, e6]
  exact results_eq m (in_rows_finite m h) c (Ranges.tts_lt_finite _ _ _ _ _ _ _ (h c)) (Ranges.row0_finite _ _ _ _ _ _ _ (h c))

theorem claim : Cert.Claim :=
  ⟨inferInstance, inferInstance, inferInstance, inferInstance, inferInstance,
    frame_kernel, frame_kernelIdeal, frame_kernelIdeal_finite, frame_referenceIdeal, fun m ρ _ => frame_referenceIdeal m ρ trivial, trivial, algebraic⟩

end Cert.Proof

end
